-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_merge [hPre_finite_merge : Cert.Pre_finite_merge.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_merge [hPre_finite_merge : Cert.Pre_finite_merge.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_merge [hKernel5Ideal : Cert.Kernel5Ideal.Facts] [hPre_finite_merge : Cert.Pre_finite_merge.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_merge m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_merge [hReference5Ideal : Cert.Reference5Ideal.Facts] [hPre_finite_merge : Cert.Pre_finite_merge.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_merge m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_merge [hKernel5Ideal : Cert.Kernel5Ideal.Facts] [hReference5Ideal : Cert.Reference5Ideal.Facts] [hPre_finite_merge : Cert.Pre_finite_merge.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_merge m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)) (v2 : (c : Dev Cert.Kernel5Ideal.nD) → Buf (Elt Ideal) ((c.tc : Thread Cert.Kernel5Ideal.nD Cert.Kernel5Ideal.τ).loc Cert.Kernel5Ideal.main_v17_2)) (v3 : (c : Dev Cert.Kernel5Ideal.nD) → Buf (Elt Ideal) ((c.tc : Thread Cert.Kernel5Ideal.nD Cert.Kernel5Ideal.τ).loc Cert.Kernel5Ideal.main_v17_3)) (v4 : (c : Dev Cert.Kernel5Ideal.nD) → Buf (Elt Ideal) ((c.tc : Thread Cert.Kernel5Ideal.nD Cert.Kernel5Ideal.τ).loc Cert.Kernel5Ideal.main_v17_4)) (v5 : (c : Dev Cert.Kernel5Ideal.nD) → Buf (Elt Ideal) ((c.tc : Thread Cert.Kernel5Ideal.nD Cert.Kernel5Ideal.τ).loc Cert.Kernel5Ideal.main_v17_5)) (v6 : (c : Dev Cert.Kernel5Ideal.nD) → Buf (Elt Ideal) ((c.tc : Thread Cert.Kernel5Ideal.nD Cert.Kernel5Ideal.τ).loc Cert.Kernel5Ideal.main_v17_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_v17_2) = v2 c
          ∧ r.2.mem ((c.tc : Thread Cert.Kernel5Ideal.nD Cert.Kernel5Ideal.τ).loc Cert.Kernel5Ideal.main_v17_3) = v3 c
          ∧ r.2.mem ((c.tc : Thread Cert.Kernel5Ideal.nD Cert.Kernel5Ideal.τ).loc Cert.Kernel5Ideal.main_v17_4) = v4 c
          ∧ r.2.mem ((c.tc : Thread Cert.Kernel5Ideal.nD Cert.Kernel5Ideal.τ).loc Cert.Kernel5Ideal.main_v17_5) = v5 c
          ∧ r.2.mem ((c.tc : Thread Cert.Kernel5Ideal.nD Cert.Kernel5Ideal.τ).loc Cert.Kernel5Ideal.main_v17_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v76) = v1 c
          ∧ r.2.mem ((c.tc : Thread Cert.Reference5Ideal.nD Cert.Reference5Ideal.τ).loc Cert.Reference5Ideal.main_v74) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_v82) = v4 c
          ∧ r.2.mem ((c.tc : Thread Cert.Reference5Ideal.nD Cert.Reference5Ideal.τ).loc Cert.Reference5Ideal.main_v67) = v5 c
          ∧ r.2.mem ((c.tc : Thread Cert.Reference5Ideal.nD Cert.Reference5Ideal.τ).loc Cert.Reference5Ideal.main_v61) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v8_3)) (v4 : (c : Dev Cert.Kernel6Ideal.nD) → Buf (Elt Ideal) ((c.tc : Thread Cert.Kernel6Ideal.nD Cert.Kernel6Ideal.τ).loc Cert.Kernel6Ideal.main_v8_4)) (v5 : (c : Dev Cert.Kernel6Ideal.nD) → Buf (Elt Ideal) ((c.tc : Thread Cert.Kernel6Ideal.nD Cert.Kernel6Ideal.τ).loc Cert.Kernel6Ideal.main_v8_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v8_3) = v3 c
          ∧ r.2.mem ((c.tc : Thread Cert.Kernel6Ideal.nD Cert.Kernel6Ideal.τ).loc Cert.Kernel6Ideal.main_v8_4) = v4 c
          ∧ r.2.mem ((c.tc : Thread Cert.Kernel6Ideal.nD Cert.Kernel6Ideal.τ).loc Cert.Kernel6Ideal.main_v8_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v107) = v0 c
          ∧ r.2.mem ((c.tc : Thread Cert.Reference6Ideal.nD Cert.Reference6Ideal.τ).loc Cert.Reference6Ideal.main_v108) = v1 c
          ∧ r.2.mem ((c.tc : Thread Cert.Reference6Ideal.nD Cert.Reference6Ideal.τ).loc Cert.Reference6Ideal.main_v109) = v2 c
          ∧ r.2.mem ((c.tc : Thread Cert.Reference6Ideal.nD Cert.Reference6Ideal.τ).loc Cert.Reference6Ideal.main_v110) = v3 c
          ∧ r.2.mem ((c.tc : Thread Cert.Reference6Ideal.nD Cert.Reference6Ideal.τ).loc Cert.Reference6Ideal.main_v106) = v4 c
          ∧ r.2.mem ((c.tc : Thread Cert.Reference6Ideal.nD Cert.Reference6Ideal.τ).loc Cert.Reference6Ideal.main_v112) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_merge : Cert.Pre_finite_merge.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_merge (hKernel5Ideal := hKernel5Ideal) (hPre_finite_merge := hPre_finite_merge)
    ∧ quiescent_Reference5Ideal (hReference5Ideal := hReference5Ideal)
    ∧ quiescent_Reference5Ideal_pre_finite_merge (hReference5Ideal := hReference5Ideal) (hPre_finite_merge := hPre_finite_merge)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_merge (hKernel5Ideal := hKernel5Ideal) (hReference5Ideal := hReference5Ideal) (hPre_finite_merge := hPre_finite_merge)
    ∧ preserves_Kernel6_Kernel6Ideal
    ∧ algebraic_Kernel6Ideal_Reference6Ideal (hKernel6Ideal := hKernel6Ideal) (hReference6Ideal := hReference6Ideal)
-- ==== Pre_finite.lean ====
abbrev S4096x10240 : Shape := ⟨2, ![4096, 10240]⟩
abbrev S3x1024 : Shape := ⟨2, ![3, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x10240 : S_.BroadcastsInDim S4096x10240 (![] : Fin 0 → Fin S4096x10240.rank)
  reducesTo_S4096x10240_S_d0_1 : S4096x10240.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x10240 .bf16) (main_arg1 : FVec F S3x1024 .f32) (main_arg2 : FVec F S4096x1024 .bf16) : IVec S_ 1 :=
  let main_v0 : FVec F S4096x10240 .f32 := (extf .f32 · bitsLt_bf16_f32) main_arg0
  let main_v1 : FVec F S4096x10240 .f32 := Host.absf main_v0
  let main_cst : FVec F S_ .f32 := constant S_ .f32 0x7F800000#32
  let main_v2 : FVec F S4096x10240 .f32 := broadcastInDim S4096x10240 ![] bcast_S_S4096x10240 main_cst
  let main_v3 : IVec S4096x10240 1 := cmpf .olt main_v1 main_v2
  let main_c : IVec S_ 1 := constantI S_ 1 1#1
  let main_v4 : IVec S_ 1 := (fun x v => Host.reduce IntOp.andi x v reducesTo_S4096x10240_S_d0_1 h_S_) main_v3 main_c
  let main_v5 : FVec F S3x1024 .f32 := Host.absf main_arg1
  let main_cst_0 : FVec F S_ .f32 := constant S_ .f32 0x7F800000#32
  let main_v6 : FVec F S3x1024 .f32 := broadcastInDim S3x1024 ![] bcast_S_S3x1024 main_cst_0
  let main_v7 : IVec S3x1024 1 := cmpf .olt main_v5 main_v6
  let main_c_1 : IVec S_ 1 := constantI S_ 1 1#1
  let main_v8 : IVec S_ 1 := (fun x v => Host.reduce IntOp.andi x v reducesTo_S3x1024_S_d0_1 h_S_) main_v7 main_c_1
  let main_v9 : IVec S_ 1 := andi main_v4 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  main_v15
-- ==== Pre_finite_merge.lean ====
abbrev S4096x1024 : Shape := ⟨2, ![4096, 1024]⟩
abbrev S1024x1024 : Shape := ⟨2, ![1024, 1024]⟩
abbrev S4096x10240 : Shape := ⟨2, ![4096, 10240]⟩
abbrev S2048 : Shape := ⟨1, ![2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096x10240 : S_.BroadcastsInDim S4096x10240 (![] : Fin 0 → Fin S4096x10240.rank)
  reducesTo_S4096x10240_S_d0_1 : S4096x10240.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg6 : FVec F S4096x10240 .bf16) (main_arg7 : FVec F S2048 .f32) (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  let main_v23 : FVec F S4096x10240 .f32 := (extf .f32 · bitsLt_bf16_f32) main_arg6
  let main_v24 : FVec F S4096x10240 .f32 := Host.absf main_v23
  let main_cst_6 : FVec F S_ .f32 := constant S_ .f32 0x7F800000#32
  let main_v25 : FVec F S4096x10240 .f32 := broadcastInDim S4096x10240 ![] bcast_S_S4096x10240 main_cst_6
  let main_v26 : IVec S4096x10240 1 := cmpf .olt main_v24 main_v25
  let main_c_7 : IVec S_ 1 := constantI S_ 1 1#1
  let main_v27 : IVec S_ 1 := (fun x v => Host.reduce IntOp.andi x v reducesTo_S4096x10240_S_d0_1 h_S_) main_v26 main_c_7
  let main_v28 : IVec S_ 1 := andi main_v22 main_v27
  let main_v29 : FVec F S2048 .f32 := Host.absf main_arg7
  let main_cst_8 : FVec F S_ .f32 := constant S_ .f32 0x7F800000#32
  let main_v30 : FVec F S2048 .f32 := broadcastInDim S2048 ![] bcast_S_S2048 main_cst_8
  let main_v31 : IVec S2048 1 := cmpf .olt main_v29 main_v30
  let main_c_9 : IVec S_ 1 := constantI S_ 1 1#1
  let main_v32 : IVec S_ 1 := (fun x v => Host.reduce IntOp.andi x v reducesTo_S2048_S_d0 h_S_) main_v31 main_c_9
  let main_v33 : IVec S_ 1 := andi main_v28 main_v32
  main_v33

def fn {F : FTy → Type} [FloatOps F] (main_arg0 : FVec F S4096x1024 .bf16) (main_arg1 : FVec F S1024x1024 .bf16) (main_arg2 : FVec F S1024x1024 .bf16) (main_arg3 : FVec F S1024x1024 .bf16) (main_arg4 : FVec F S4096x1024 .bf16) (main_arg5 : FVec F S4096x1024 .bf16) (main_arg6 : FVec F S4096x10240 .bf16) (main_arg7 : FVec F S2048 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1024x1024 .f32 := (extf .f32 · bitsLt_bf16_f32) main_arg3
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v10 main_v15
  let main_v17 : FVec F S4096x1024 .f32 := (extf .f32 · bitsLt_bf16_f32) main_arg5
  fn_part1 (F := F) main_arg6 main_arg7 main_v16 main_v17
-- ==== Kernel.lean ====
abbrev S4096x10240 : Shape := ⟨2, ![4096, 10240]⟩
abbrev S3x1024 : Shape := ⟨2, ![3, 1024]⟩
abbrev S4096x1024 : Shape := ⟨2, ![4096, 1024]⟩
abbrev S16x256x10240 : Shape := ⟨3, ![16, 256, 10240]⟩
abbrev S16x256x1024 : Shape := ⟨3, ![16, 256, 1024]⟩
abbrev S4x16x256x1024 : Shape := ⟨4, ![4, 16, 256, 1024]⟩
abbrev S16x256x128 : Shape := ⟨3, ![16, 256, 128]⟩
abbrev S3x128 : Shape := ⟨2, ![3, 128]⟩
abbrev S4x16x256x128 : Shape := ⟨4, ![4, 16, 256, 128]⟩
abbrev S256x128 : Shape := ⟨2, ![256, 128]⟩
abbrev S1x128 : Shape := ⟨2, ![1, 128]⟩
abbrev S1x256x128 : Shape := ⟨3, ![1, 256, 128]⟩
abbrev S1x1x256x128 : Shape := ⟨4, ![1, 1, 256, 128]⟩
abbrev S128 : Shape := ⟨1, ![128]⟩

abbrev nBuf : Space → Nat
  | .hbm => 7
  | .vmem => 17
  | .smem => 0
  | _ => 0

abbrev bufTy : (tb : Table) → Fin (tcTables nBuf tb) → BufTy
  | .hbm, ⟨0, _⟩ => ⟨S4096x10240, .bf16⟩
  | .hbm, ⟨1, _⟩ => ⟨S3x1024, .f32⟩
  | .hbm, ⟨2, _⟩ => ⟨S4096x1024, .bf16⟩
  | .hbm, ⟨3, _⟩ => ⟨S16x256x10240, .bf16⟩
  | .hbm, ⟨4, _⟩ => ⟨S16x256x1024, .bf16⟩
  | .hbm, ⟨5, _⟩ => ⟨S4x16x256x1024, .bf16⟩
  | .hbm, ⟨6, _⟩ => ⟨S3x1024, .f32⟩
  | .local _ .vmem, ⟨0, _⟩ => ⟨S16x256x128, .bf16⟩
  | .local _ .vmem, ⟨1, _⟩ => ⟨S16x256x128, .bf16⟩
  | .local _ .vmem, ⟨2, _⟩ => ⟨S16x256x128, .bf16⟩
  | .local _ .vmem, ⟨3, _⟩ => ⟨S16x256x128, .bf16⟩
  | .local _ .vmem, ⟨4, _⟩ => ⟨S16x256x128, .bf16⟩
  | .local _ .vmem, ⟨5, _⟩ => ⟨S16x256x128, .bf16⟩
  | .local _ .vmem, ⟨6, _⟩ => ⟨S16x256x128, .bf16⟩
  | .local _ .vmem, ⟨7, _⟩ => ⟨S16x256x128, .bf16⟩
  | .local _ .vmem, ⟨8, _⟩ => ⟨S3x128, .f32⟩
  | .local _ .vmem, ⟨9, _⟩ => ⟨S3x128, .f32⟩
  | .local _ .vmem, ⟨10, _⟩ => ⟨S16x256x128, .bf16⟩
  | .local _ .vmem, ⟨11, _⟩ => ⟨S16x256x128, .bf16⟩
  | .local _ .vmem, ⟨12, _⟩ => ⟨S4x16x256x128, .bf16⟩
  | .local _ .vmem, ⟨13, _⟩ => ⟨S4x16x256x128, .bf16⟩
  | .local _ .vmem, ⟨14, _⟩ => ⟨S3x128, .f32⟩
  | .local _ .vmem, ⟨15, _⟩ => ⟨S3x128, .f32⟩
  | .local _ .vmem, ⟨16, _⟩ => ⟨S16x256x128, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_1 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x16x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x10240 : Shape := ⟨2, ![4096, 10240]⟩
abbrev S3x1024 : Shape := ⟨2, ![3, 1024]⟩
abbrev S4096x1024 : Shape := ⟨2, ![4096, 1024]⟩
abbrev S16x256x1024 : Shape := ⟨3, ![16, 256, 1024]⟩
abbrev S256x16x1024 : Shape := ⟨3, ![256, 16, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S1x16x256x1024 : Shape := ⟨4, ![1, 16, 256, 1024]⟩
abbrev S4x16x256x1024 : Shape := ⟨4, ![4, 16, 256, 1024]⟩

abbrev nBuf : Space → Nat
  | .hbm => 119
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S3x1024, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S16x256x1024, .f32⟩
  | .hbm, ⟨6, _⟩ => ⟨S256x16x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S16x256x1024, .f32⟩
  | .hbm, ⟨11, _⟩ => ⟨S256x16x1024, .f32⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S16x256x1024, .f32⟩
  | .hbm, ⟨16, _⟩ => ⟨S256x16x1024, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S16x256x1024, .f32⟩
  | .hbm, ⟨21, _⟩ => ⟨S256x16x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S2x1024, .f32⟩
  | .hbm, ⟨26, _⟩ => ⟨S4098x1024, .f32⟩
  | .hbm, ⟨27, _⟩ => ⟨S_, .f32⟩
  | .hbm, ⟨28, _⟩ => ⟨S2x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S16x256x1024, .f32⟩
  | .hbm, ⟨59, _⟩ => ⟨S256x16x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S3x1024, .f32⟩
  | .hbm, ⟨85, _⟩ => ⟨S3x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S3x1024, .f32⟩
  | .hbm, ⟨94, _⟩ => ⟨S3x1024, .f32⟩
  | .hbm, ⟨95, _⟩ => ⟨S_, .f32⟩
  | .hbm, ⟨96, _⟩ => ⟨S4098x1024, .f32⟩
  | .hbm, ⟨97, _⟩ => ⟨S_, .f32⟩
  | .hbm, ⟨98, _⟩ => ⟨S4098x1024, .f32⟩
  | .hbm, ⟨99, _⟩ => ⟨S4098x1024, .f32⟩
  | .hbm, ⟨100, _⟩ => ⟨S2x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S256x16x1024, .f32⟩
  | .hbm, ⟨106, _⟩ => ⟨S16x256x1024, .f32⟩
  | .hbm, ⟨107, _⟩ => ⟨S256x16x1024, .f32⟩
  | .hbm, ⟨108, _⟩ => ⟨S16x256x1024, .f32⟩
  | .hbm, ⟨109, _⟩ => ⟨S256x16x1024, .f32⟩
  | .hbm, ⟨110, _⟩ => ⟨S16x256x1024, .f32⟩
  | .hbm, ⟨111, _⟩ => ⟨S256x16x1024, .f32⟩
  | .hbm, ⟨112, _⟩ => ⟨S16x256x1024, .f32⟩
  | .hbm, ⟨113, _⟩ => ⟨S1x16x256x1024, .f32⟩
  | .hbm, ⟨114, _⟩ => ⟨S1x16x256x1024, .f32⟩
  | .hbm, ⟨115, _⟩ => ⟨S1x16x256x1024, .f32⟩
  | .hbm, ⟨116, _⟩ => ⟨S1x16x256x1024, .f32⟩
  | .hbm, ⟨117, _⟩ => ⟨S4x16x256x1024, .f32⟩
  | .hbm, ⟨118, _⟩ => ⟨S4x16x256x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v37_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v37_1 : Ref sig .tc := ⟨.hbm, 53, rfl⟩
abbrev main_v37_0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_1 : Ref sig .tc := ⟨.hbm, 72, rfl⟩
abbrev main_v52 : Ref sig .tc := ⟨.hbm, 73, rfl⟩
abbrev main_v53 : Ref sig .tc := ⟨.hbm, 74, rfl⟩
abbrev main_cst_2 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_3 : Ref sig .tc := ⟨.hbm, 80, rfl⟩
abbrev main_v58 : Ref sig .tc := ⟨.hbm, 81, rfl⟩
abbrev main_v59 : Ref sig .tc := ⟨.hbm, 82, rfl⟩
abbrev main_cst_4 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_5 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_v67 : Ref sig .tc := ⟨.hbm, 93, rfl⟩
abbrev main_v68 : Ref sig .tc := ⟨.hbm, 94, rfl⟩
abbrev main_cst_7 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S4x4096x1024 : Shape := ⟨3, ![4, 4096, 1024]⟩
abbrev S3x4096x1024 : Shape := ⟨3, ![3, 4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4x1024x2560 : Shape := ⟨3, ![4, 1024, 2560]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 23
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x4096x1024, .bf16⟩
  | .hbm, ⟨3, _⟩ => ⟨S3x4096x1024, .bf16⟩
  | .hbm, ⟨4, _⟩ => ⟨S3x4096x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4096, .bf16⟩
  | .hbm, ⟨22, _⟩ => ⟨S4x1024x2560, .f32⟩
  | .local _ .vmem, ⟨0, _⟩ => ⟨S1024x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x1024x512, .f32⟩
  | .local _ .vmem, ⟨8, _⟩ => ⟨S1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c4_i32 : BitVec 32 := 4#32
  let v17 : BitVec 1 := Scalar.cmpi .slt v16 c4_i32
  let v18 : BitVec 32 := Scalar.extui v17
  let c0_i32_4 : BitVec 32 := 0#32
  let v19 : BitVec 1 := Scalar.cmpi .ne v18 c0_i32_4
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c4_i32_5 : BitVec 32 := 4#32
  let v20 : BitVec 1 := Scalar.cmpi .sge v16 c4_i32_5
  let c7_i32 : BitVec 32 := 7#32
  let v21 : BitVec 1 := Scalar.cmpi .slt v16 c7_i32
  let v22 : BitVec 1 := Scalar.andi v20 v21
  let v23 : BitVec 32 := Scalar.extui v22
  let c0_i32_6 : BitVec 32 := 0#32
  let v24 : BitVec 1 := Scalar.cmpi .ne v23 c0_i32_6
  v24

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c7_i32_7 : BitVec 32 := 7#32
  let v25 : BitVec 1 := Scalar.cmpi .sge v16 c7_i32_7
  let v26 : BitVec 32 := Scalar.extui v25
  let c0_i32_8 : BitVec 32 := 0#32
  let v27 : BitVec 1 := Scalar.cmpi .ne v26 c0_i32_8
  v27

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .slt v16 c0_i32_4
  let c4_i32 : BitVec 32 := 4#32
  let v18 : BitVec 1 := Scalar.cmpi .sge v16 c4_i32
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.select v18 c1_i32_11 v28
  let c0_i32_12 : BitVec 32 := 0#32
  let v30 : BitVec 32 := Scalar.select v17 c0_i32_12 v29
  let c2_i32_13 : BitVec 32 := 2#32
  let v31 : BitVec 32 := Scalar.divsi arg0 c2_i32_13
  let c0_i32_14 : BitVec 32 := 0#32
  let v32 : BitVec 1 := Scalar.cmpi .sgt arg0 c0_i32_14
  let v33 : BitVec 32 := Scalar.extui v32
  let c0_i32_15 : BitVec 32 := 0#32
  let v34 : BitVec 1 := Scalar.cmpi .slt arg0 c0_i32_15
  let v35 : BitVec 32 := Scalar.extui v34
  let v36 : BitVec 32 := Scalar.subi v33 v35
  let c0_i32_16 : BitVec 32 := 0#32
  let v37 : BitVec 1 := Scalar.cmpi .sgt c2_i32_13 c0_i32_16
  let v38 : BitVec 32 := Scalar.extui v37
  let c0_i32_17 : BitVec 32 := 0#32
  let v39 : BitVec 1 := Scalar.cmpi .slt c2_i32_13 c0_i32_17
  let v40 : BitVec 32 := Scalar.extui v39
  let v41 : BitVec 32 := Scalar.subi v38 v40
  let v42 : BitVec 1 := Scalar.cmpi .ne v36 v41
  let v43 : BitVec 32 := Scalar.remsi arg0 c2_i32_13
  let c0_i32_18 : BitVec 32 := 0#32
  let v44 : BitVec 1 := Scalar.cmpi .ne v43 c0_i32_18
  let v45 : BitVec 1 := Scalar.andi v42 v44
  let c1_i32_19 : BitVec 32 := 1#32
  let v46 : BitVec 32 := Scalar.subi v31 c1_i32_19
  let v47 : BitVec 32 := Scalar.select v45 v46 v31
  let c0_i32_20 : BitVec 32 := 0#32
  let v48 : BitVec 32 := Scalar.subi v47 c0_i32_20
  let c0_i32_21 : BitVec 32 := 0#32
  let c3_i32 : BitVec 32 := 3#32
  let v49 : BitVec 32 := Scalar.maxsi c0_i32_21 v48
  let v50 : BitVec 32 := Scalar.minsi c3_i32 v49
  let c0_i32_22 : BitVec 32 := 0#32
  let c0_i32_23 : BitVec 32 := 0#32
  ![v50.toNat, c0_i32_22.toNat, v30.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 1 := Scalar.cmpi .slt v16 c4_i32
  let c7_i32 : BitVec 32 := 7#32
  let v18 : BitVec 1 := Scalar.cmpi .sge v16 c7_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.select v18 c1_i32_10 v28
  let c0_i32_11 : BitVec 32 := 0#32
  let v30 : BitVec 32 := Scalar.select v17 c0_i32_11 v29
  let c2_i32_12 : BitVec 32 := 2#32
  let v31 : BitVec 32 := Scalar.divsi arg0 c2_i32_12
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .slt arg0 c0_i32_14
  let v35 : BitVec 32 := Scalar.extui v34
  let v36 : BitVec 32 := Scalar.subi v33 v35
  let c0_i32_15 : BitVec 32 := 0#32
  let v37 : BitVec 1 := Scalar.cmpi .sgt c2_i32_12 c0_i32_15
  let v38 : BitVec 32 := Scalar.extui v37
  let c0_i32_16 : BitVec 32 := 0#32
  let v39 : BitVec 1 := Scalar.cmpi .slt c2_i32_12 c0_i32_16
  let v40 : BitVec 32 := Scalar.extui v39
  let v41 : BitVec 32 := Scalar.subi v38 v40
  let v42 : BitVec 1 := Scalar.cmpi .ne v36 v41
  let v43 : BitVec 32 := Scalar.remsi arg0 c2_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4_i32_19 : BitVec 32 := 4#32
  let v48 : BitVec 32 := Scalar.subi v47 c4_i32_19
  let c0_i32_20 : BitVec 32 := 0#32
  let c2_i32_21 : BitVec 32 := 2#32
  let v49 : BitVec 32 := Scalar.maxsi c0_i32_20 v48
  let v50 : BitVec 32 := Scalar.minsi c2_i32_21 v49
  let c0_i32_22 : BitVec 32 := 0#32
  let c0_i32_23 : BitVec 32 := 0#32
  ![v50.toNat, c0_i32_22.toNat, v30.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let v17 : BitVec 1 := Scalar.cmpi .slt v16 c7_i32
  let c10_i32 : BitVec 32 := 10#32
  let v18 : BitVec 1 := Scalar.cmpi .sge v16 c10_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1_i32_10 : BitVec 32 := 1#32
  let v29 : BitVec 32 := Scalar.select v18 c1_i32_10 v28
  let c0_i32_11 : BitVec 32 := 0#32
  let v30 : BitVec 32 := Scalar.select v17 c0_i32_11 v29
  let c2_i32_12 : BitVec 32 := 2#32
  let v31 : BitVec 32 := Scalar.divsi arg0 c2_i32_12
  let c0_i32_13 : BitVec 32 := 0#32
  let v32 : BitVec 1 := Scalar.cmpi .sgt arg0 c0_i32_13
  let v33 : BitVec 32 := Scalar.extui v32
  let c0_i32_14 : BitVec 32 := 0#32
  let v34 : BitVec 1 := Scalar.cmpi .slt arg0 c0_i32_14
  let v35 : BitVec 32 := Scalar.extui v34
  let v36 : BitVec 32 := Scalar.subi v33 v35
  let c0_i32_15 : BitVec 32 := 0#32
  let v37 : BitVec 1 := Scalar.cmpi .sgt c2_i32_12 c0_i32_15
  let v38 : BitVec 32 := Scalar.extui v37
  let c0_i32_16 : BitVec 32 := 0#32
  let v39 : BitVec 1 := Scalar.cmpi .slt c2_i32_12 c0_i32_16
  let v40 : BitVec 32 := Scalar.extui v39
  let v41 : BitVec 32 := Scalar.subi v38 v40
  let v42 : BitVec 1 := Scalar.cmpi .ne v36 v41
  let v43 : BitVec 32 := Scalar.remsi arg0 c2_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c7_i32_19 : BitVec 32 := 7#32
  let v48 : BitVec 32 := Scalar.subi v47 c7_i32_19
  let c0_i32_20 : BitVec 32 := 0#32
  let c2_i32_21 : BitVec 32 := 2#32
  let v49 : BitVec 32 := Scalar.maxsi c0_i32_20 v48
  let v50 : BitVec 32 := Scalar.minsi c2_i32_21 v49
  let c0_i32_22 : BitVec 32 := 0#32
  let c0_i32_23 : BitVec 32 := 0#32
  ![v50.toNat, c0_i32_22.toNat, v30.toNat]

def cc0_transform_4 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4096x1024 : Shape := ⟨2, ![4096, 1024]⟩
abbrev S1x1024 : Shape := ⟨2, ![1, 1024]⟩
abbrev S4x4096x1024 : Shape := ⟨3, ![4, 4096, 1024]⟩
abbrev S3x4096x1024 : Shape := ⟨3, ![3, 4096, 1024]⟩
abbrev S_ : Shape := ⟨0, ![]⟩
abbrev S1024x10240 : Shape := ⟨2, ![1024, 10240]⟩
abbrev S4096 : Shape := ⟨1, ![4096]⟩
abbrev S4096x1 : Shape := ⟨2, ![4096, 1]⟩
abbrev S4096x10240 : Shape := ⟨2, ![4096, 10240]⟩
abbrev S10x4096x1024 : Shape := ⟨3, ![10, 4096, 1024]⟩
abbrev S4096x10x1024 : Shape := ⟨3, ![4096, 10, 1024]⟩
abbrev S10240x1024 : Shape := ⟨2, ![10240, 1024]⟩
abbrev S1024x4x2560 : Shape := ⟨3, ![1024, 4, 2560]⟩
abbrev S4x1024x2560 : Shape := ⟨3, ![4, 1024, 2560]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x4096x1024, .bf16⟩
  | .hbm, ⟨3, _⟩ => ⟨S3x4096x1024, .bf16⟩
  | .hbm, ⟨4, _⟩ => ⟨S3x4096x1024, .bf16⟩
  | .hbm, ⟨5, _⟩ => ⟨S_, .f32⟩
  | .hbm, ⟨6, _⟩ => ⟨S1024x10240, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x10240, .f32⟩
  | .hbm, ⟨23, _⟩ => ⟨S10x4096x1024, .bf16⟩
  | .hbm, ⟨24, _⟩ => ⟨S10x4096x1024, .f32⟩
  | .hbm, ⟨25, _⟩ => ⟨S4096x10x1024, .f32⟩
  | .hbm, ⟨26, _⟩ => ⟨S4096x10240, .f32⟩
  | .hbm, ⟨27, _⟩ => ⟨S10240x1024, .f32⟩
  | .hbm, ⟨28, _⟩ => ⟨S1024x10240, .f32⟩
  | .hbm, ⟨29, _⟩ => ⟨S1024x4x2560, .f32⟩
  | .hbm, ⟨30, _⟩ => ⟨S4x1024x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S4x4096x1024 : Shape := ⟨3, ![4, 4096, 1024]⟩
abbrev S3x4096x1024 : Shape := ⟨3, ![3, 4096, 1024]⟩
abbrev S4x1024x2560 : Shape := ⟨3, ![4, 1024, 2560]⟩
abbrev S4096x1024 : Shape := ⟨2, ![4096, 1024]⟩
abbrev S1x1024 : Shape := ⟨2, ![1, 1024]⟩
abbrev S2048x1024 : Shape := ⟨2, ![2048, 1024]⟩
abbrev S4x256x1024 : Shape := ⟨3, ![4, 256, 1024]⟩
abbrev S3x256x1024 : Shape := ⟨3, ![3, 256, 1024]⟩
abbrev S256x1024 : Shape := ⟨2, ![256, 1024]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x1024, .bf16⟩
  | .hbm, ⟨1, _⟩ => ⟨S3x4096x1024, .bf16⟩
  | .hbm, ⟨2, _⟩ => ⟨S3x4096x1024, .bf16⟩
  | .hbm, ⟨3, _⟩ => ⟨S4x1024x2560, .bf16⟩
  | .hbm, ⟨4, _⟩ => ⟨S4096x1024, .f32⟩
  | .hbm, ⟨5, _⟩ => ⟨S1x1024, .f32⟩
  | .hbm, ⟨6, _⟩ => ⟨S4096x1024, .bf16⟩
  | .hbm, ⟨7, _⟩ => ⟨S2048x1024, .f32⟩
  | .hbm, ⟨8, _⟩ => ⟨S1x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S3x256x1024, .bf16⟩
  | .local _ .vmem, ⟨5, _⟩ => ⟨S3x256x1024, .bf16⟩
  | .local _ .vmem, ⟨6, _⟩ => ⟨S4x1024x2560, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4x4096x1024 : Shape := ⟨3, ![4, 4096, 1024]⟩
abbrev S3x4096x1024 : Shape := ⟨3, ![3, 4096, 1024]⟩
abbrev S4x1024x2560 : Shape := ⟨3, ![4, 1024, 2560]⟩
abbrev S4096x1024 : Shape := ⟨2, ![4096, 1024]⟩
abbrev S1x1024 : Shape := ⟨2, ![1, 1024]⟩
abbrev S1024x4x2560 : Shape := ⟨3, ![1024, 4, 2560]⟩
abbrev S1024x10240 : Shape := ⟨2, ![1024, 10240]⟩
abbrev S2048x1024 : Shape := ⟨2, ![2048, 1024]⟩
abbrev S10x4096x1024 : Shape := ⟨3, ![10, 4096, 1024]⟩
abbrev S4096x10x1024 : Shape := ⟨3, ![4096, 10, 1024]⟩
abbrev S4096x10240 : Shape := ⟨2, ![4096, 10240]⟩
abbrev S2048x10240 : Shape := ⟨2, ![2048, 10240]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S3x4096x1024, .bf16⟩
  | .hbm, ⟨2, _⟩ => ⟨S3x4096x1024, .bf16⟩
  | .hbm, ⟨3, _⟩ => ⟨S4x1024x2560, .bf16⟩
  | .hbm, ⟨4, _⟩ => ⟨S4096x1024, .f32⟩
  | .hbm, ⟨5, _⟩ => ⟨S1x1024, .f32⟩
  | .hbm, ⟨6, _⟩ => ⟨S4096x1024, .bf16⟩
  | .hbm, ⟨7, _⟩ => ⟨S4x1024x2560, .f32⟩
  | .hbm, ⟨8, _⟩ => ⟨S1024x4x2560, .f32⟩
  | .hbm, ⟨9, _⟩ => ⟨S1024x10240, .f32⟩
  | .hbm, ⟨10, _⟩ => ⟨S2048x1024, .f32⟩
  | .hbm, ⟨11, _⟩ => ⟨S10x4096x1024, .bf16⟩
  | .hbm, ⟨12, _⟩ => ⟨S10x4096x1024, .f32⟩
  | .hbm, ⟨13, _⟩ => ⟨S4096x10x1024, .f32⟩
  | .hbm, ⟨14, _⟩ => ⟨S4096x10240, .f32⟩
  | .hbm, ⟨15, _⟩ => ⟨S2048x10240, .f32⟩
  | .hbm, ⟨16, _⟩ => ⟨S2048x1024, .bf16⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x10240, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel4.lean ====
abbrev S4x4096x1024 : Shape := ⟨3, ![4, 4096, 1024]⟩
abbrev S3x4096x1024 : Shape := ⟨3, ![3, 4096, 1024]⟩
abbrev S4x1024x2560 : Shape := ⟨3, ![4, 1024, 2560]⟩
abbrev S4096x1024 : Shape := ⟨2, ![4096, 1024]⟩
abbrev S1x1024 : Shape := ⟨2, ![1, 1024]⟩
abbrev S2048x1024 : Shape := ⟨2, ![2048, 1024]⟩
abbrev S4x256x1024 : Shape := ⟨3, ![4, 256, 1024]⟩
abbrev S3x256x1024 : Shape := ⟨3, ![3, 256, 1024]⟩
abbrev S256x1024 : Shape := ⟨2, ![256, 1024]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x1024, .bf16⟩
  | .hbm, ⟨1, _⟩ => ⟨S3x4096x1024, .bf16⟩
  | .hbm, ⟨2, _⟩ => ⟨S3x4096x1024, .bf16⟩
  | .hbm, ⟨3, _⟩ => ⟨S4x1024x2560, .bf16⟩
  | .hbm, ⟨4, _⟩ => ⟨S4096x1024, .f32⟩
  | .hbm, ⟨5, _⟩ => ⟨S1x1024, .f32⟩
  | .hbm, ⟨6, _⟩ => ⟨S4096x1024, .bf16⟩
  | .hbm, ⟨7, _⟩ => ⟨S2048x1024, .f32⟩
  | .hbm, ⟨8, _⟩ => ⟨S1x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S3x256x1024, .bf16⟩
  | .local _ .vmem, ⟨5, _⟩ => ⟨S3x256x1024, .bf16⟩
  | .local _ .vmem, ⟨6, _⟩ => ⟨S4x1024x2560, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4x4096x1024 : Shape := ⟨3, ![4, 4096, 1024]⟩
abbrev S3x4096x1024 : Shape := ⟨3, ![3, 4096, 1024]⟩
abbrev S4x1024x2560 : Shape := ⟨3, ![4, 1024, 2560]⟩
abbrev S4096x1024 : Shape := ⟨2, ![4096, 1024]⟩
abbrev S1x1024 : Shape := ⟨2, ![1, 1024]⟩
abbrev S1024x4x2560 : Shape := ⟨3, ![1024, 4, 2560]⟩
abbrev S1024x10240 : Shape := ⟨2, ![1024, 10240]⟩
abbrev S2048x1024 : Shape := ⟨2, ![2048, 1024]⟩
abbrev S10x4096x1024 : Shape := ⟨3, ![10, 4096, 1024]⟩
abbrev S4096x10x1024 : Shape := ⟨3, ![4096, 10, 1024]⟩
abbrev S4096x10240 : Shape := ⟨2, ![4096, 10240]⟩
abbrev S2048x10240 : Shape := ⟨2, ![2048, 10240]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S3x4096x1024, .bf16⟩
  | .hbm, ⟨2, _⟩ => ⟨S3x4096x1024, .bf16⟩
  | .hbm, ⟨3, _⟩ => ⟨S4x1024x2560, .bf16⟩
  | .hbm, ⟨4, _⟩ => ⟨S4096x1024, .f32⟩
  | .hbm, ⟨5, _⟩ => ⟨S1x1024, .f32⟩
  | .hbm, ⟨6, _⟩ => ⟨S4096x1024, .bf16⟩
  | .hbm, ⟨7, _⟩ => ⟨S4x1024x2560, .f32⟩
  | .hbm, ⟨8, _⟩ => ⟨S1024x4x2560, .f32⟩
  | .hbm, ⟨9, _⟩ => ⟨S1024x10240, .f32⟩
  | .hbm, ⟨10, _⟩ => ⟨S2048x1024, .f32⟩
  | .hbm, ⟨11, _⟩ => ⟨S10x4096x1024, .bf16⟩
  | .hbm, ⟨12, _⟩ => ⟨S10x4096x1024, .f32⟩
  | .hbm, ⟨13, _⟩ => ⟨S4096x10x1024, .f32⟩
  | .hbm, ⟨14, _⟩ => ⟨S4096x10240, .f32⟩
  | .hbm, ⟨15, _⟩ => ⟨S2048x10240, .f32⟩
  | .hbm, ⟨16, _⟩ => ⟨S2048x1024, .bf16⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x10240, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x10240 : Shape := ⟨2, ![4096, 10240]⟩
abbrev S2048 : Shape := ⟨1, ![2048]⟩
abbrev S_ : Shape := ⟨0, ![]⟩
abbrev S1x2048 : Shape := ⟨2, ![1, 2048]⟩
abbrev S1024x4096 : Shape := ⟨2, ![1024, 4096]⟩
abbrev S4096x128 : Shape := ⟨2, ![4096, 128]⟩
abbrev S3x4096x1024 : Shape := ⟨3, ![3, 4096, 1024]⟩
abbrev S512x1024 : Shape := ⟨2, ![512, 1024]⟩
abbrev S1024x512 : Shape := ⟨2, ![1024, 512]⟩
abbrev S512x128 : Shape := ⟨2, ![512, 128]⟩
abbrev S3x512x1024 : Shape := ⟨3, ![3, 512, 1024]⟩
abbrev S1024x128 : Shape := ⟨2, ![1024, 128]⟩
abbrev S256x1024 : Shape := ⟨2, ![256, 1024]⟩
abbrev S1x1024 : Shape := ⟨2, ![1, 1024]⟩
abbrev S1024 : Shape := ⟨1, ![1024]⟩
abbrev S256x128 : Shape := ⟨2, ![256, 128]⟩
abbrev S1x256x1024 : Shape := ⟨3, ![1, 256, 1024]⟩

abbrev nBuf : Space → Nat
  | .hbm => 40
  | .vmem => 35
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S4096x1024, .bf16⟩
  | .hbm, ⟨5, _⟩ => ⟨S4096x1024, .bf16⟩
  | .hbm, ⟨6, _⟩ => ⟨S4096x10240, .bf16⟩
  | .hbm, ⟨7, _⟩ => ⟨S2048, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .f32⟩
  | .hbm, ⟨23, _⟩ => ⟨S1024x1024, .f32⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S1024x1024, .f32⟩
  | .hbm, ⟨28, _⟩ => ⟨S4096x1024, .f32⟩
  | .hbm, ⟨29, _⟩ => ⟨S4096x1024, .bf16⟩
  | .hbm, ⟨30, _⟩ => ⟨S1x2048, .f32⟩
  | .hbm, ⟨31, _⟩ => ⟨S1024x4096, .bf16⟩
  | .hbm, ⟨32, _⟩ => ⟨S1024x4096, .bf16⟩
  | .hbm, ⟨33, _⟩ => ⟨S4096x1024, .bf16⟩
  | .hbm, ⟨34, _⟩ => ⟨S4096x1024, .bf16⟩
  | .hbm, ⟨35, _⟩ => ⟨S4096x128, .f32⟩
  | .hbm, ⟨36, _⟩ => ⟨S3x4096x1024, .bf16⟩
  | .hbm, ⟨37, _⟩ => ⟨S1x2048, .f32⟩
  | .hbm, ⟨38, _⟩ => ⟨S1024x1024, .f32⟩
  | .hbm, ⟨39, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x2048, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | .local _ .vmem, ⟨28, _⟩ => ⟨S3x512x1024, .bf16⟩
  | .local _ .vmem, ⟨29, _⟩ => ⟨S3x512x1024, .bf16⟩
  | .local _ .vmem, ⟨30, _⟩ => ⟨S1x2048, .f32⟩
  | .local _ .vmem, ⟨31, _⟩ => ⟨S1024x1024, .f32⟩
  | .local _ .vmem, ⟨32, _⟩ => ⟨S1024x1024, .f32⟩
  | .local _ .vmem, ⟨33, _⟩ => ⟨S512x1024, .bf16⟩
  | .local _ .vmem, ⟨34, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v17_4 : Ref sig .tc := ⟨.hbm, 37, rfl⟩
abbrev main_v17_5 : Ref sig .tc := ⟨.hbm, 38, rfl⟩
abbrev main_v17_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S3x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference5Ideal.lean ====
abbrev S4096x1024 : Shape := ⟨2, ![4096, 1024]⟩
abbrev S1024x1024 : Shape := ⟨2, ![1024, 1024]⟩
abbrev S4096x10240 : Shape := ⟨2, ![4096, 10240]⟩
abbrev S2048 : Shape := ⟨1, ![2048]⟩
abbrev S_ : Shape := ⟨0, ![]⟩
abbrev S1024 : Shape := ⟨1, ![1024]⟩
abbrev S1x1024 : Shape := ⟨2, ![1, 1024]⟩
abbrev S4096x16x64 : Shape := ⟨3, ![4096, 16, 64]⟩
abbrev S4096x16 : Shape := ⟨2, ![4096, 16]⟩
abbrev S4096x16x1 : Shape := ⟨3, ![4096, 16, 1]⟩
abbrev S4096x16x8 : Shape := ⟨3, ![4096, 16, 8]⟩
abbrev S4096x128 : Shape := ⟨2, ![4096, 128]⟩
abbrev S1x4096x1024 : Shape := ⟨3, ![1, 4096, 1024]⟩
abbrev S3x4096x1024 : Shape := ⟨3, ![3, 4096, 1024]⟩
abbrev S1x2048 : Shape := ⟨2, ![1, 2048]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S4096x1024, .bf16⟩
  | .hbm, ⟨5, _⟩ => ⟨S4096x1024, .bf16⟩
  | .hbm, ⟨6, _⟩ => ⟨S4096x10240, .bf16⟩
  | .hbm, ⟨7, _⟩ => ⟨S2048, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S4096x10240, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S2048, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S_, .f32⟩
  | .hbm, ⟨88, _⟩ => ⟨S1024, .f32⟩
  | .hbm, ⟨89, _⟩ => ⟨S_, .f32⟩
  | .hbm, ⟨90, _⟩ => ⟨S2048, .f32⟩
  | .hbm, ⟨91, _⟩ => ⟨S2048, .f32⟩
  | .hbm, ⟨92, _⟩ => ⟨S1024x1024, .f32⟩
  | .hbm, ⟨93, _⟩ => ⟨S1024x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S1024x1024, .f32⟩
  | .hbm, ⟨102, _⟩ => ⟨S1024x1024, .f32⟩
  | .hbm, ⟨103, _⟩ => ⟨S4096x1024, .f32⟩
  | .hbm, ⟨104, _⟩ => ⟨S4096x1024, .f32⟩
  | .hbm, ⟨105, _⟩ => ⟨S4096x16x64, .f32⟩
  | .hbm, ⟨106, _⟩ => ⟨S_, .f32⟩
  | .hbm, ⟨107, _⟩ => ⟨S4096x16, .f32⟩
  | .hbm, ⟨108, _⟩ => ⟨S4096x16x1, .f32⟩
  | .hbm, ⟨109, _⟩ => ⟨S4096x16x8, .f32⟩
  | .hbm, ⟨110, _⟩ => ⟨S4096x128, .f32⟩
  | .hbm, ⟨111, _⟩ => ⟨S4096x1024, .bf16⟩
  | .hbm, ⟨112, _⟩ => ⟨S4096x1024, .bf16⟩
  | .hbm, ⟨113, _⟩ => ⟨S1x4096x1024, .f32⟩
  | .hbm, ⟨114, _⟩ => ⟨S1x4096x1024, .f32⟩
  | .hbm, ⟨115, _⟩ => ⟨S1x4096x1024, .f32⟩
  | .hbm, ⟨116, _⟩ => ⟨S3x4096x1024, .f32⟩
  | .hbm, ⟨117, _⟩ => ⟨S3x4096x1024, .bf16⟩
  | .hbm, ⟨118, _⟩ => ⟨S1x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_v11_2 : Ref sig .tc := ⟨.hbm, 26, rfl⟩
abbrev main_call0_cst_1 : Ref sig .tc := ⟨.hbm, 27, rfl⟩
abbrev main_call0_v6 : Ref sig .tc := ⟨.hbm, 28, rfl⟩
abbrev main_call0_v7 : Ref sig .tc := ⟨.hbm, 29, rfl⟩
abbrev main_v11_1 : Ref sig .tc := ⟨.hbm, 30, rfl⟩
abbrev main_v11_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_cst_9 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_11 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Kernel6.lean ====
abbrev S4096x1024 : Shape := ⟨2, ![4096, 1024]⟩
abbrev S4096x10240 : Shape := ⟨2, ![4096, 10240]⟩
abbrev S1024x1024 : Shape := ⟨2, ![1024, 1024]⟩
abbrev S2048 : Shape := ⟨1, ![2048]⟩
abbrev S1024 : Shape := ⟨1, ![1024]⟩
abbrev S_ : Shape := ⟨0, ![]⟩
abbrev S1x2048 : Shape := ⟨2, ![1, 2048]⟩
abbrev S1x1024 : Shape := ⟨2, ![1, 1024]⟩
abbrev S8x128 : Shape := ⟨2, ![8, 128]⟩
abbrev S512x1024 : Shape := ⟨2, ![512, 1024]⟩
abbrev S1024x512 : Shape := ⟨2, ![1024, 512]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩
abbrev S32x8x1024 : Shape := ⟨3, ![32, 8, 1024]⟩
abbrev S8x1024 : Shape := ⟨2, ![8, 1024]⟩

abbrev nBuf : Space → Nat
  | .hbm => 32
  | .vmem => 27
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x10240, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2048, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1x2048, .f32⟩
  | .hbm, ⟨25, _⟩ => ⟨S1x1024, .f32⟩
  | .hbm, ⟨26, _⟩ => ⟨S4096x1024, .bf16⟩
  | .hbm, ⟨27, _⟩ => ⟨S4096x1024, .bf16⟩
  | .hbm, ⟨28, _⟩ => ⟨S4096x1024, .bf16⟩
  | .hbm, ⟨29, _⟩ => ⟨S1x1024, .f32⟩
  | .hbm, ⟨30, _⟩ => ⟨S8x128, .f32⟩
  | .hbm, ⟨31, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x2048, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S8x128, .f32⟩
  | .local _ .vmem, ⟨25, _⟩ => ⟨S1024x1024, .f32⟩
  | .local _ .vmem, ⟨26, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v8_3 : Ref sig .tc := ⟨.hbm, 29, rfl⟩
abbrev main_v8_4 : Ref sig .tc := ⟨.hbm, 30, rfl⟩
abbrev main_v8_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference6Ideal.lean ====
abbrev S4096x1024 : Shape := ⟨2, ![4096, 1024]⟩
abbrev S4096x10240 : Shape := ⟨2, ![4096, 10240]⟩
abbrev S1024x1024 : Shape := ⟨2, ![1024, 1024]⟩
abbrev S2048 : Shape := ⟨1, ![2048]⟩
abbrev S1024 : Shape := ⟨1, ![1024]⟩
abbrev S_ : Shape := ⟨0, ![]⟩
abbrev S1x1024 : Shape := ⟨2, ![1, 1024]⟩
abbrev S4096 : Shape := ⟨1, ![4096]⟩
abbrev S4096x1 : Shape := ⟨2, ![4096, 1]⟩
abbrev S512x8x8x128 : Shape := ⟨4, ![512, 8, 8, 128]⟩
abbrev S8x8x128 : Shape := ⟨3, ![8, 8, 128]⟩
abbrev S8x128 : Shape := ⟨2, ![8, 128]⟩

abbrev nBuf : Space → Nat
  | .hbm => 157
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x10240, .bf16⟩
  | 3 => ⟨S1024x1024, .bf16⟩
  | 4 => ⟨S1024x1024, .bf16⟩
  | 5 => ⟨S1024x1024, .bf16⟩
  | 6 => ⟨S2048, .f32⟩
  | 7 => ⟨S4096x1024, .f32⟩
  | 8 => ⟨S1024, .f32⟩
  | 9 => ⟨S4096x1024, .f32⟩
  | 10 => ⟨S4096x1024, .f32⟩
  | 11 => ⟨S4096x1024, .f32⟩
  | 12 => ⟨S4096x10240, .f32⟩
  | 13 => ⟨S1024x1024, .f32⟩
  | 14 => ⟨S1024x1024, .f32⟩
  | 15 => ⟨S1024x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S1024, .f32⟩
  | 31 => ⟨S1x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S1024, .f32⟩
  | 44 => ⟨S1x1024, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S4096, .f32⟩
  | 87 => ⟨S_, .f32⟩
  | 88 => ⟨S4096, .f32⟩
  | 89 => ⟨S4096, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S4096, .f32⟩
  | 98 => ⟨S_, .f32⟩
  | 99 => ⟨S4096, .f32⟩
  | 100 => ⟨S4096, .f32⟩
  | 101 => ⟨S4096x1024, .f32⟩
  | 102 => ⟨S4096x1024, .f32⟩
  | 103 => ⟨S4096x1024, .f32⟩
  | 104 => ⟨S_, .f32⟩
  | 105 => ⟨S1024, .f32⟩
  | 106 => ⟨S1x1024, .f32⟩
  | 107 => ⟨S4096x1024, .f32⟩
  | 108 => ⟨S4096x1024, .f32⟩
  | 109 => ⟨S_, .f32⟩
  | 110 => ⟨S1024, .f32⟩
  | 111 => ⟨S4096x1024, .f32⟩
  | 112 => ⟨S_, .f32⟩
  | 113 => ⟨S4096, .f32⟩
  | 114 => ⟨S4096x1, .f32⟩
  | 115 => ⟨S4096x1024, .f32⟩
  | 116 => ⟨S4096x1024, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .bf16⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S_, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x1, .f32⟩
  | 11 => ⟨S4096x1024, .f32⟩
  | 12 => ⟨S4096x1024, .f32⟩
  | 13 => ⟨S1x1024, .f32⟩
  | 14 => ⟨S4096x1024, .f32⟩
  | 15 => ⟨S4096x1024, .f32⟩
  | 16 => ⟨S4096x1024, .f32⟩
  | 17 => ⟨S4096x1024, .f32⟩
  | 18 => ⟨S512x8x8x128, .f32⟩
  | 19 => ⟨S_, .f32⟩
  | 20 => ⟨S8x8x128, .f32⟩
  | 21 => ⟨S_, .f32⟩
  | 22 => ⟨S8x128, .f32⟩
  | 23 => ⟨S4096x1024, .bf16⟩
  | 24 => ⟨S4096x1024, .bf16⟩
  | 25 => ⟨S4096x1024, .bf16⟩
  | 26 => ⟨S1x1024, .f32⟩
  | 27 => ⟨S1024x1024, .f32⟩
  | 28 => ⟨S1024x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_1 : Ref sig .tc := ⟨.hbm, 49, rfl⟩
abbrev main_v29 : Ref sig .tc := ⟨.hbm, 50, rfl⟩
abbrev main_v30 : Ref sig .tc := ⟨.hbm, 51, rfl⟩
abbrev main_cst_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_cst_12 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_cst_17 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_18 : Ref sig .tc := ⟨.hbm, 118, rfl⟩
abbrev main_v81 : Ref sig .tc := ⟨.hbm, 119, rfl⟩
abbrev main_v82 : Ref sig .tc := ⟨.hbm, 120, rfl⟩
abbrev main_cst_19 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_20 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_v93 : Ref sig .tc := ⟨.hbm, 134, rfl⟩
abbrev main_cst_22 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_cst_24 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩

abbrev nD : Nat := 1
abbrev τ : Topo := Topo.v7x

variable {F : FTy → Type} [FloatOps F]
-- ==== Proof.ConvBody.lean ====
module

public import proofs.«01_k».proof.Proof.Gen.KernelIdeal.Value
public import Idealize.ShloMosaic.Lib.Pointwise
public import Idealize.ShloMosaic.Lib.Pipeline.ValueKit.Tiles
public import Idealize.ShloMosaic.Lib.KernelVsHost

@[expose] public section

set_option maxRecDepth 16384

noncomputable section

namespace Cert.KernelIdeal.Own

open Cert.KernelIdeal Cert.KernelIdeal.Gen Idealize.ShloMosaic Idealize.ShloMosaic.TcCoe Idealize.SL.Sem

variable {F : FTy → Type} [FloatOps F]

/-! ## The body's values, residue by residue, as vectors -/

/-- Residue `k`'s slab of a block of sixteen. -/
def slab {e : EltTy} (x : Vec F S16x256x128 e) (k : ℕ) : Vec F S1x256x128 e :=
  fun i => x (ix3 ⟨k % 16, Nat.mod_lt _ (by decide)⟩ (i 1) (i 2))

/-- A slab without its unit axis, in f32. -/
def wide (v : Vec F S1x256x128 .bf16) : FVec F S256x128 .f32 :=
  extf .f32 (shapeCast S256x128 v shapeCasts_S1x256x128_S256x128) bitsLt_bf16_f32

/-- The row numbers. -/
def rows : IVec S256x128 32 := iota .tc S256x128 32 [0] iota_S256x128_d0_w32

/-- Each row takes the row above it; the first takes zero. -/
def down (v : FVec F S256x128 .f32) : FVec F S256x128 .f32 :=
  select (cmpi .sge rows (broadcast S256x128 1#32)) (dynamicRotate 0 1#32 none v rotates_S256x128_d0)
    (broadcast S256x128 (Scalar.ofBits .f32 0x00000000#32))

/-- Each row takes the row below it; the last takes zero. -/
def up (v : FVec F S256x128 .f32) : FVec F S256x128 .f32 :=
  select (cmpi .slt rows (broadcast S256x128 255#32)) (dynamicRotate 0 255#32 none v rotates_S256x128_d0)
    (broadcast S256x128 (Scalar.ofBits .f32 0x00000000#32))

/-- One weight row, on every row of a slab: the three of them. -/
def tap0 (w : Vec F S3x128 .f32) : FVec F S256x128 .f32 :=
  broadcastTo S256x128 (extractStridedSlice S1x128 ![0, 0] w slices_S3x128_o0_0_S1x128) broadcasts_S1x128_S256x128
def tap1 (w : Vec F S3x128 .f32) : FVec F S256x128 .f32 :=
  broadcastTo S256x128 (extractStridedSlice S1x128 ![1, 0] w slices_S3x128_o1_0_S1x128) broadcasts_S1x128_S256x128
def tap2 (w : Vec F S3x128 .f32) : FVec F S256x128 .f32 :=
  broadcastTo S256x128 (extractStridedSlice S1x128 ![2, 0] w slices_S3x128_o2_0_S1x128) broadcasts_S1x128_S256x128

/-- The constant one. -/
def ones : FVec F S256x128 .f32 := broadcast S256x128 (Scalar.ofBits .f32 0x3F800000#32)

/-- The sigmoid, as the body writes it. -/
def sgm (z : FVec F S256x128 .f32) : FVec F S256x128 .f32 :=
  divf ones (addf ones (exp (subf (broadcast S256x128 (Scalar.ofBits .f32 0x00000000#32)) z)))

section Block

variable (x0 x1 x2 x3 : Vec F S16x256x128 .bf16) (x4 : Vec F S3x128 .f32) (x5 : Vec F S16x256x128 .bf16)

/-- The convolution's input on residue `k`: the gate `x2` times the channel `x0`. -/
def inp (k : ℕ) : FVec F S256x128 .f32 := mulf (wide (slab x2 k)) (wide (slab x0 k))

/-- … one position back: the residue before, or the last residue one row down. -/
def inp1 : ℕ → FVec F S256x128 .f32
  | 0 => down (inp x0 x2 15)
  | k + 1 => inp x0 x2 k

/-- … two positions back. -/
def inp2 : ℕ → FVec F S256x128 .f32
  | 0 => down (inp x0 x2 14)
  | 1 => down (inp x0 x2 15)
  | k + 2 => inp x0 x2 k

/-- The convolution on residue `k`. -/
def conv (k : ℕ) : FVec F S256x128 .f32 :=
  addf (addf (mulf (tap0 x4) (inp2 x0 x2 k)) (mulf (tap1 x4) (inp1 x0 x2 k))) (mulf (tap2 x4) (inp x0 x2 k))

/-- The gradient at the convolution's output on residue `k`. -/
def dcv (k : ℕ) : FVec F S256x128 .f32 :=
  mulf (mulf (wide (slab x5 k)) (mulf (wide (slab x3 k)) (sgm (wide (slab x3 k))))) (wide (slab x1 k))

/-- The gradient at the gate `x1`. -/
def dbg (k : ℕ) : FVec F S256x128 .f32 :=
  mulf (mulf (wide (slab x5 k)) (mulf (wide (slab x3 k)) (sgm (wide (slab x3 k))))) (conv x0 x2 x4 k)

/-- The gradient at silu's argument `x3`. -/
def dzc (k : ℕ) : FVec F S256x128 .f32 :=
  mulf (mulf (mulf (mulf (wide (slab x5 k)) (wide (slab x1 k))) (conv x0 x2 x4 k)) (sgm (wide (slab x3 k))))
    (addf ones (mulf (wide (slab x3 k)) (subf ones (sgm (wide (slab x3 k))))))

/-- … written to the scratch and read back. -/
def scr (k : ℕ) : FVec F S256x128 .f32 :=
  shapeCast S256x128 (shapeCast S1x256x128 (dcv x1 x3 x5 k) shapeCasts_S256x128_S1x256x128) shapeCasts_S1x256x128_S256x128

/-- The gradient at the convolution's output, one position ahead. -/
def dcv1 : ℕ → FVec F S256x128 .f32
  | 15 => up (scr x1 x3 x5 0)
  | k => scr x1 x3 x5 (k + 1)

/-- … two positions ahead. -/
def dcv2 : ℕ → FVec F S256x128 .f32
  | 15 => up (scr x1 x3 x5 1)
  | 14 => up (scr x1 x3 x5 0)
  | k => scr x1 x3 x5 (k + 2)

/-- The gradient at the convolution's input. -/
def dinp (k : ℕ) : FVec F S256x128 .f32 :=
  addf (addf (mulf (tap2 x4) (scr x1 x3 x5 k)) (mulf (tap1 x4) (dcv1 x1 x3 x5 k))) (mulf (tap0 x4) (dcv2 x1 x3 x5 k))

end Block

/-- A slab's column sums. -/
def colsum (v : FVec F S256x128 .f32) : FVec F S1x128 .f32 :=
  shapeCast S1x128 (multiReduction .add [0] S128 v 0x00000000#32 reduces_S256x128_S128 (.inl rfl) rfl) shapeCasts_S128_S1x128

/-- The column sums of `v 0 … v (n - 1)`, added one by one. -/
def total (v : ℕ → FVec F S256x128 .f32) : ℕ → FVec F S1x128 .f32
  | 0 => broadcast S1x128 (Scalar.ofBits .f32 0x00000000#32)
  | n + 1 => addf (total v n) (colsum (v n))

/-- What a store of a slab into the four gradients' block writes. -/
def pack (v : FVec F S256x128 .f32) : FVec F S1x1x256x128 .bf16 :=
  shapeCast S1x1x256x128 (truncf .bf16 v bitsLt_bf16_f32) shapeCasts_S256x128_S1x1x256x128

/-! ## The body's reads -/

/-- A load of one residue's slab of an input block. -/
theorem readAt_slab (M : Memref sig .tc .vmem S16x256x128 .bf16) (h : M.IsWhole) (x : Vec F S16x256x128 .bf16) (k : ℕ)
    (inb : ∀ a, (![k, 0, 0] : Fin 3 → ℕ) a + S1x256x128.size a ≤ S16x256x128.size a) :
    View.readAt (Elt F) M.view (Rect.unit ![k, 0, 0] ![1, 256, 128] inb : Rect S16x256x128).toLoadRect (h.unread x) = slab x k := by
  have hk : k + 1 ≤ 16 := inb 0
  rw [View.readAt_eq_ld, h.read_unread]
  funext i
  refine View.ld_unit_apply_of x _ _ inb i _ fun a => ?_
  have h0 : (i 0).val < 1 := (i 0).isLt
  match a with
  | ⟨0, _⟩ => show k % 16 = k + (i 0).val; rw [Nat.mod_eq_of_lt (by omega)]; omega
  | ⟨1, _⟩ => show (i 1).val = 0 + (i 1).val; omega
  | ⟨2, _⟩ => show (i 2).val = 0 + (i 2).val; omega

/-- The load of the three weight rows. -/
theorem readAt_w (M : Memref sig .tc .vmem S3x128 .f32) (h : M.IsWhole) (x : Vec F S3x128 .f32)
    (inb : ∀ a, (![0, 0] : Fin 2 → ℕ) a + S3x128.size a ≤ S3x128.size a) :
    View.readAt (Elt F) M.view (Rect.unit ![0, 0] ![3, 128] inb : Rect S3x128).toLoadRect (h.unread x) = x := by
  rw [View.readAt_eq_ld, h.read_unread]
  exact View.ld_unit_zero (by decide) inb x

section Pieces

variable (c : Dev nD) (i : grid0.Coords)
  (arg1 : Memref sig .tc .vmem S16x256x128 .bf16) (harg1 : arg1.IsWhole) (arg2 : Memref sig .tc .vmem S16x256x128 .bf16) (harg2 : arg2.IsWhole)
  (arg3 : Memref sig .tc .vmem S16x256x128 .bf16) (harg3 : arg3.IsWhole) (arg4 : Memref sig .tc .vmem S16x256x128 .bf16) (harg4 : arg4.IsWhole)
  (arg5 : Memref sig .tc .vmem S3x128 .f32) (harg5 : arg5.IsWhole) (arg6 : Memref sig .tc .vmem S16x256x128 .bf16) (harg6 : arg6.IsWhole)
  (arg7 : Memref sig .tc .vmem S4x16x256x128 .bf16) (harg7 : arg7.IsWhole) (arg8 : Memref sig .tc .vmem S3x128 .f32) (harg8 : arg8.IsWhole)
  (arg9 : Memref sig .tc .vmem S16x256x128 .f32) (harg9 : arg9.IsWhole)
  (x0 x1 x2 x3 : Vec F S16x256x128 .bf16) (x4 : Vec F S3x128 .f32) (x5 : Vec F S16x256x128 .bf16)

theorem inb_scr (k : Fin 16) : ∀ a, (![k.val, 0, 0] : Fin 3 → ℕ) a + S1x256x128.size a ≤ S16x256x128.size a := by
  intro a
  match a with
  | ⟨0, _⟩ => show k.val + 1 ≤ 16; omega
  | ⟨1, _⟩ => show 0 + 256 ≤ 256; omega
  | ⟨2, _⟩ => show 0 + 128 ≤ 128; omega

/-- What the first loop's step `k` writes to the scratch. -/
def scrPiece (k : Fin 16) : View.Piece (Elt F) S16x256x128 .f32 :=
  ⟨Rect.unit ![k.val, 0, 0] S1x256x128.size (inb_scr k), shapeCast S1x256x128 (dcv x1 x3 x5 k) shapeCasts_S256x128_S1x256x128⟩

/-- The scratch after the first loop: the sixteen slabs, the last first. -/
theorem scratch_pieces : kernelRun0_A.sl.HS0_16 c arg2 harg2 arg4 harg4 arg6 harg6 x1 x3 x5
    = (List.finRange 16).reverse.map (scrPiece x1 x3 x5) := by
  unfold kernelRun0_A.sl.HS0_16
  sl_unfold_words
  simp only [readAt_slab]
  rfl

/-- The second loop's load of slab `k` of the scratch. -/
theorem scratch_read (k : ℕ) (inb : ∀ a, (![k, 0, 0] : Fin 3 → ℕ) a + S1x256x128.size a ≤ S16x256x128.size a) :
    arg9.view.readCov (kernelRun0_A.sl.HS0_16 c arg2 harg2 arg4 harg4 arg6 harg6 x1 x3 x5)
      (Rect.unit ![k, 0, 0] ![1, 256, 128] inb : Rect S16x256x128).toLoadRect
      = shapeCast S1x256x128 (dcv x1 x3 x5 k) shapeCasts_S256x128_S1x256x128 := by
  have hk : k < 16 := inb 0
  rw [View.readCov_eq_canon', scratch_pieces]
  funext j
  let G : Vec F S16x256x128 .f32 := fun y => dcv x1 x3 x5 (y 0).val (ix2 (y 1) (y 2))
  have hG : ∀ (n : ℕ) (inb' : ∀ a, (![n, 0, 0] : Fin 3 → ℕ) a + S1x256x128.size a ≤ S16x256x128.size a)
      (x : S1x256x128.Idx), shapeCast S1x256x128 (dcv x1 x3 x5 n) shapeCasts_S256x128_S1x256x128 x
        = G ((Rect.unit ![n, 0, 0] ![1, 256, 128] inb' : Rect S16x256x128).emb x) := by
    intro n inb' x
    have h0 : (x 0).val < 1 := (x 0).isLt
    refine (shapeCast_addUnit_apply ![256, 128] _ _ x).trans ?_
    have e0 : (((Rect.unit ![n, 0, 0] ![1, 256, 128] inb' : Rect S16x256x128).emb x) 0).val = n := by
      show n + 1 * (x 0).val = n
      omega
    show _ = dcv x1 x3 x5 _ _
    rw [e0]
    congr 1
    funext a
    apply Fin.ext
    match a with
    | ⟨0, _⟩ => show (x 1).val = 0 + 1 * (x 1).val; omega
    | ⟨1, _⟩ => show (x 2).val = 0 + 1 * (x 2).val; omega
  rw [hG k inb j]
  refine View.canon_apply_of_pieces G _ ?_ _ ?_
  · intro p hp x
    obtain ⟨q, -, rfl⟩ := List.mem_map.1 hp
    exact hG q (inb_scr q) x
  · refine ⟨scrPiece x1 x3 x5 ⟨k, hk⟩, List.mem_map.2 ⟨⟨k, hk⟩, by simp, rfl⟩, ?_⟩
    show _ ∈ (Rect.unit ![k, 0, 0] S1x256x128.size inb : Rect S16x256x128).set
    rw [Rect.mem_set_unit]
    intro a
    have ha : (j a).val < (![1, 256, 128] : Fin 3 → ℕ) a := (j a).isLt
    have e : (((Rect.unit ![k, 0, 0] ![1, 256, 128] inb : Rect S16x256x128).idx j) a).val
        = (![k, 0, 0] : Fin 3 → ℕ) a + 1 * (j a).val := rfl
    rw [e, Nat.one_mul]
    exact ⟨Nat.le_add_right _ _, Nat.add_lt_add_left ha _⟩

theorem inb_out (p : Fin 4) (k : Fin 16) :
    ∀ a, (![p.val, k.val, 0, 0] : Fin 4 → ℕ) a + S1x1x256x128.size a ≤ S4x16x256x128.size a := by
  intro a
  match a with
  | ⟨0, _⟩ => show p.val + 1 ≤ 4; omega
  | ⟨1, _⟩ => show k.val + 1 ≤ 16; omega
  | ⟨2, _⟩ => show 0 + 256 ≤ 256; omega
  | ⟨3, _⟩ => show 0 + 128 ≤ 128; omega

/-- The four gradients on residue `k`: at the channel, the gate after the convolution, the gate before it, silu's argument. -/
def grad (p k : ℕ) : FVec F S256x128 .f32 :=
  match p with
  | 0 => mulf (dinp x1 x3 x4 x5 k) (wide (slab x2 k))
  | 1 => dbg x0 x2 x3 x4 x5 k
  | 2 => mulf (dinp x1 x3 x4 x5 k) (wide (slab x0 k))
  | _ => dzc x0 x1 x2 x3 x4 x5 k

/-- The store of gradient `p` on residue `k`. -/
def outPiece (p : Fin 4) (k : Fin 16) : View.Piece (Elt F) S4x16x256x128 .bf16 :=
  ⟨Rect.unit ![p.val, k.val, 0, 0] S1x1x256x128.size (inb_out p k), pack (grad x0 x1 x2 x3 x4 x5 p k)⟩

/-- The weights' gradients: the three rows' sums over the sixteen residues. -/
def dw0 : FVec F S1x128 .f32 := total (fun k => mulf (dcv x1 x3 x5 k) (inp2 x0 x2 k)) 16
def dw1 : FVec F S1x128 .f32 := total (fun k => mulf (dcv x1 x3 x5 k) (inp1 x0 x2 k)) 16
def dw2 : FVec F S1x128 .f32 := total (fun k => mulf (dcv x1 x3 x5 k) (inp x0 x2 k)) 16

set_option maxHeartbeats 1000000 in
/-- The 64 stores to the four gradients' block, the last first. -/
theorem out_pieces : (kernelRun0_A c i arg1 harg1 arg2 harg2 arg3 harg3 arg4 harg4 arg5 harg5 arg6 harg6 arg7 harg7 arg8 harg8 arg9 harg9
      x0 x1 x2 x3 x4 x5).1
    = ((List.finRange 16).reverse.flatMap fun k => [outPiece x0 x1 x2 x3 x4 x5 2 k, outPiece x0 x1 x2 x3 x4 x5 0 k])
      ++ ((List.finRange 16).reverse.flatMap fun k => [outPiece x0 x1 x2 x3 x4 x5 3 k, outPiece x0 x1 x2 x3 x4 x5 1 k]) := by
  unfold kernelRun0_A
  simp only [
    kernelRun0_A.sl.cst_58, kernelRun0_A.sl.cst_130, kernelRun0_A.sl.r, kernelRun0_A.sl.r_1, kernelRun0_A.sl.r_2, kernelRun0_A.sl.r_3,
    kernelRun0_A.sl.r_4, kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21,
    kernelRun0_A.sl.r_22, kernelRun0_A.sl.r_23, kernelRun0_A.sl.r_24, kernelRun0_A.sl.r_25, kernelRun0_A.sl.r_26, kernelRun0_A.sl.r_27,
    kernelRun0_A.sl.r_28, kernelRun0_A.sl.r_29, kernelRun0_A.sl.r_30, kernelRun0_A.sl.r_31, kernelRun0_A.sl.r_32, kernelRun0_A.sl.r_33,
    kernelRun0_A.sl.r_34, kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44, kernelRun0_A.sl.r_45,
    kernelRun0_A.sl.r_46, kernelRun0_A.sl.r_47, kernelRun0_A.sl.r_48, kernelRun0_A.sl.r_49, kernelRun0_A.sl.r_50, kernelRun0_A.sl.r_51,
    kernelRun0_A.sl.r_52, kernelRun0_A.sl.r_53, kernelRun0_A.sl.r_54, kernelRun0_A.sl.r_55, kernelRun0_A.sl.r_56, kernelRun0_A.sl.r_57,
    kernelRun0_A.sl.r_58, kernelRun0_A.sl.r_59, kernelRun0_A.sl.r_60, kernelRun0_A.sl.r_61, kernelRun0_A.sl.r_62, kernelRun0_A.sl.r_63,
    kernelRun0_A.sl.r_64, kernelRun0_A.sl.r_65, kernelRun0_A.sl.r_66, kernelRun0_A.sl.r_67, kernelRun0_A.sl.r_68, kernelRun0_A.sl.r_69,
    kernelRun0_A.sl.r_70, kernelRun0_A.sl.r_71, kernelRun0_A.sl.r_72, kernelRun0_A.sl.r_73, kernelRun0_A.sl.r_74, kernelRun0_A.sl.r_75,
    kernelRun0_A.sl.r_76, kernelRun0_A.sl.r_77, kernelRun0_A.sl.r_78, kernelRun0_A.sl.r_79, kernelRun0_A.sl.r_80, kernelRun0_A.sl.r_81,
    kernelRun0_A.sl.r_82, kernelRun0_A.sl.r_83, kernelRun0_A.sl.r_84, kernelRun0_A.sl.r_85, kernelRun0_A.sl.r_86, kernelRun0_A.sl.r_87,
    kernelRun0_A.sl.r_88, kernelRun0_A.sl.r_89, kernelRun0_A.sl.r_90, kernelRun0_A.sl.r_91, kernelRun0_A.sl.r_92, kernelRun0_A.sl.r_93,
    kernelRun0_A.sl.r_94, kernelRun0_A.sl.r_95, kernelRun0_A.sl.r_96, kernelRun0_A.sl.r_97, kernelRun0_A.sl.r_98, kernelRun0_A.sl.r_99,
    kernelRun0_A.sl.r_100, kernelRun0_A.sl.r_101, kernelRun0_A.sl.r_102, kernelRun0_A.sl.r_103, kernelRun0_A.sl.r_104,
    kernelRun0_A.sl.r_105, kernelRun0_A.sl.r_106, kernelRun0_A.sl.r_107, kernelRun0_A.sl.r_108, kernelRun0_A.sl.r_109,
    kernelRun0_A.sl.r_110, kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118, kernelRun0_A.sl.r_119,
    kernelRun0_A.sl.r_120, kernelRun0_A.sl.r_121, kernelRun0_A.sl.r_122, kernelRun0_A.sl.r_123, kernelRun0_A.sl.r_124,
    kernelRun0_A.sl.r_125, kernelRun0_A.sl.r_126, kernelRun0_A.sl.r_127, kernelRun0_A.sl.r_128, kernelRun0_A.sl.r_129,
    kernelRun0_A.sl.r_130, kernelRun0_A.sl.r_131, kernelRun0_A.sl.r_132, kernelRun0_A.sl.r_133, kernelRun0_A.sl.r_134,
    kernelRun0_A.sl.r_135, kernelRun0_A.sl.r_136, kernelRun0_A.sl.r_137, kernelRun0_A.sl.r_138, kernelRun0_A.sl.r_139,
    kernelRun0_A.sl.r_140, kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148, kernelRun0_A.sl.r_149,
    kernelRun0_A.sl.r_150, kernelRun0_A.sl.r_151, kernelRun0_A.sl.r_152, kernelRun0_A.sl.r_153, kernelRun0_A.sl.r_154,
    kernelRun0_A.sl.r_155, kernelRun0_A.sl.r_156, kernelRun0_A.sl.r_157, kernelRun0_A.sl.r_158, kernelRun0_A.sl.r_159,
    kernelRun0_A.sl.r_160, kernelRun0_A.sl.r_161, kernelRun0_A.sl.r_162, kernelRun0_A.sl.r_163, kernelRun0_A.sl.r_164,
    kernelRun0_A.sl.r_165, kernelRun0_A.sl.r_166, kernelRun0_A.sl.r_167, kernelRun0_A.sl.r_168, kernelRun0_A.sl.r_169,
    kernelRun0_A.sl.r_170, kernelRun0_A.sl.r_171, kernelRun0_A.sl.r_172, kernelRun0_A.sl.r_173, kernelRun0_A.sl.r_174,
    kernelRun0_A.sl.r_175, kernelRun0_A.sl.r_176, kernelRun0_A.sl.r_177, kernelRun0_A.sl.r_178, kernelRun0_A.sl.r_179,
    kernelRun0_A.sl.r_180, kernelRun0_A.sl.r_181, kernelRun0_A.sl.r_182, kernelRun0_A.sl.r_183, kernelRun0_A.sl.r_184,
    kernelRun0_A.sl.r_185, kernelRun0_A.sl.v1, kernelRun0_A.sl.v1159, kernelRun0_A.sl.v1161, kernelRun0_A.sl.v1164, kernelRun0_A.sl.v1194,
    kernelRun0_A.sl.v1227, kernelRun0_A.sl.v1260, kernelRun0_A.sl.v1293, kernelRun0_A.sl.v1326, kernelRun0_A.sl.v1359,
    kernelRun0_A.sl.v1392, kernelRun0_A.sl.v1412, kernelRun0_A.sl.v1425, kernelRun0_A.sl.v1458, kernelRun0_A.sl.v1491,
    kernelRun0_A.sl.v1524, kernelRun0_A.sl.v1557, kernelRun0_A.sl.v1590,
    readAt_slab, readAt_w, scratch_read]
  rfl

theorem inb_dw (k : Fin 3) : ∀ a, (![k.val, 0] : Fin 2 → ℕ) a + S1x128.size a ≤ S3x128.size a := by
  intro a
  match a with
  | ⟨0, _⟩ => show k.val + 1 ≤ 3; omega
  | ⟨1, _⟩ => show 0 + 128 ≤ 128; omega

/-- The three stores of the weights' gradients, the last first. -/
theorem dw_pieces : (kernelRun0_A c i arg1 harg1 arg2 harg2 arg3 harg3 arg4 harg4 arg5 harg5 arg6 harg6 arg7 harg7 arg8 harg8 arg9 harg9
      x0 x1 x2 x3 x4 x5).2.1
    = [⟨Rect.unit ![2, 0] S1x128.size (inb_dw 2), dw2 x0 x1 x2 x3 x5⟩, ⟨Rect.unit ![1, 0] S1x128.size (inb_dw 1), dw1 x0 x1 x2 x3 x5⟩,
       ⟨Rect.unit ![0, 0] S1x128.size (inb_dw 0), dw0 x0 x1 x2 x3 x5⟩] := by
  unfold kernelRun0_A
  sl_unfold_words
  simp only [readAt_slab]
  rfl

end Pieces

end Cert.KernelIdeal.Own

end
-- ==== Proof.ConvSpec.lean ====
module

public import Idealize.ShloMosaic.Lib.Pointwise
public import Idealize.ShloMosaic.Lib.IdealHost

@[expose] public section

noncomputable section

/-! # The gradient of the gated short convolution, channel by channel, at a position

The arrays hold their rows residue by residue: row `r * 256 + l` is position `16 * l + r`. What the kernel computes and
what the reference computes are written below as functions of one channel's five sequences (`X` the channel, `B` the gate
after the convolution, `G` the gate before it, `Z` silu's argument, `H` the gradient that arrives) and its three
weights, and compared. -/

namespace Cert.Conv

open Idealize.ShloMosaic

/-- The row of a residue-major array that holds position `n`. -/
def row (n : ℕ) : Fin 4096 := ⟨n % 16 * 256 + n / 16 % 256, by omega⟩

/-- Column `ch` of part `p` of the projected array. -/
def col (p : ℕ) (ch : Fin 1024) : Fin 10240 := ⟨(1024 * p + ch.val) % 10240, by omega⟩

/-- One column of part `p` as a sequence over the positions. -/
def part (x : (⟨2, ![4096, 10240]⟩ : Shape).Idx → EReal) (p : ℕ) (ch : Fin 1024) (n : ℕ) : EReal := x (ix2 (row n) (col p ch))

/-- One column of the gradient that arrives, as a sequence over the positions. -/
def arrive (x : (⟨2, ![4096, 1024]⟩ : Shape).Idx → EReal) (ch : Fin 1024) (n : ℕ) : EReal := x (ix2 (row n) ch)

/-- The value `d` positions before and `d` positions after; zero outside the 4096. -/
def prev (n d : ℕ) (f : ℕ → EReal) : EReal := if d ≤ n then f (n - d) else 0
def next (n d : ℕ) (f : ℕ → EReal) : EReal := if n + d < 4096 then f (n + d) else 0

/-- The sigmoid as the kernel writes it. -/
def sg (z : EReal) : EReal := Ideal.div 1 (1 + Ideal.exp (0 - z))

section Formulas

variable (X B G Z H : ℕ → EReal) (w : Fin 3 → EReal)

/-- The convolution's input and output. -/
def u (n : ℕ) : EReal := G n * X n
def cv (n : ℕ) : EReal := w 0 * prev n 2 (u X G) + w 1 * prev n 1 (u X G) + w 2 * u X G n

/-! The kernel's formulas. -/

def kd (n : ℕ) : EReal := (H n * (Z n * sg (Z n))) * B n
def ki (n : ℕ) : EReal := w 2 * kd B Z H n + w 1 * next n 1 (kd B Z H) + w 0 * next n 2 (kd B Z H)

def kgrad (p n : ℕ) : EReal :=
  match p with
  | 0 => ki B Z H w n * G n
  | 1 => (H n * (Z n * sg (Z n))) * cv X G w n
  | 2 => ki B Z H w n * X n
  | _ => (((H n * B n) * cv X G w n) * sg (Z n)) * (1 + Z n * (1 - sg (Z n)))

def kdw (r : ℕ) : EReal := ∑ n ∈ Finset.range 4096, kd B Z H n * prev n (2 - r) (u X G)

/-! The reference's formulas. -/

def rs (z : EReal) : EReal := Ideal.div 1 (1 + Ideal.exp (-z))
def rd (n : ℕ) : EReal := ((Z n * rs (Z n)) * B n) * H n
def ri (n : ℕ) : EReal :=
  w 2 * rd B Z H n + ((if n + 2 < 4096 then w 0 * rd B Z H (n + 2) else 0) + (if n + 1 < 4096 then w 1 * rd B Z H (n + 1) else 0))
def rv (n : ℕ) : EReal := (H n * cv X G w n) * B n

def rgrad (p n : ℕ) : EReal :=
  match p with
  | 0 => G n * ri B Z H w n
  | 1 => (Z n * rs (Z n)) * (H n * cv X G w n)
  | 2 => ri B Z H w n * X n
  | _ => rv X B G H w n * rs (Z n) + (Z n * rv X B G H w n) * (rs (Z n) * (1 - rs (Z n)))

def rdw (r : ℕ) : EReal := ∑ n ∈ Finset.range 4096, rd B Z H n * prev n (2 - r) (u X G)

/-! They agree. -/

theorem sg_eq (z : EReal) : sg z = rs z := by unfold sg rs; rw [sub_eq_add_neg, zero_add]

theorem kd_eq : kd B Z H = rd B Z H := by
  funext n
  unfold kd rd
  rw [sg_eq, mul_assoc, mul_comm]

theorem ki_eq (n : ℕ) : ki B Z H w n = ri B Z H w n := by
  unfold ki ri
  rw [kd_eq, add_assoc, add_comm (w 1 * _)]
  unfold next
  split_ifs <;> simp

theorem kdw_eq (r : ℕ) : kdw X B G Z H r = rdw X B G Z H r := by
  unfold kdw rdw
  rw [kd_eq]

/-- The finite extended reals. -/
def Fin' (a : EReal) : Prop := ∃ r : ℝ, a = (r : EReal)

theorem Fin'.mul {a b : EReal} : Fin' a → Fin' b → Fin' (a * b) := by
  rintro ⟨x, rfl⟩ ⟨y, rfl⟩
  exact ⟨x * y, (EReal.coe_mul x y).symm⟩
theorem Fin'.add {a b : EReal} : Fin' a → Fin' b → Fin' (a + b) := by
  rintro ⟨x, rfl⟩ ⟨y, rfl⟩
  exact ⟨x + y, (EReal.coe_add x y).symm⟩
theorem Fin'.zero : Fin' 0 := ⟨0, rfl⟩

theorem Fin'.rs {z : EReal} : Fin' z → Fin' (rs z) := by
  rintro ⟨x, rfl⟩
  have h : (1 + Real.exp (-x)) ≠ 0 := by positivity
  have e : Ideal.exp (-(x : EReal)) = ((Real.exp (-x) : ℝ) : EReal) := by
    rw [← EReal.coe_neg]; rfl
  have e1 : (1 : EReal) + Ideal.exp (-(x : EReal)) = ((1 + Real.exp (-x) : ℝ) : EReal) := by rw [e]; rfl
  refine ⟨(1 + Real.exp (-x))⁻¹, ?_⟩
  unfold Conv.rs Ideal.div
  rw [e1, if_neg (by exact_mod_cast h), one_mul, ← EReal.coe_inv]

theorem Fin'.cv (hX : ∀ n, Fin' (X n)) (hG : ∀ n, Fin' (G n)) (hw : ∀ k, Fin' (w k)) (n : ℕ) : Fin' (cv X G w n) := by
  have hu : ∀ n, Fin' (u X G n) := fun n => (hG n).mul (hX n)
  have hp : ∀ n d, Fin' (prev n d (u X G)) := by
    intro n d
    unfold prev
    split_ifs
    · exact hu _
    · exact Fin'.zero
  exact (((hw 0).mul (hp n 2)).add ((hw 1).mul (hp n 1))).add ((hw 2).mul (hu n))

/-- The four gradients agree where nothing is infinite. -/
theorem kgrad_eq (hX : ∀ n, Fin' (X n)) (hB : ∀ n, Fin' (B n)) (hG : ∀ n, Fin' (G n)) (hZ : ∀ n, Fin' (Z n)) (hH : ∀ n, Fin' (H n))
    (hw : ∀ k, Fin' (w k)) (p n : ℕ) : kgrad X B G Z H w p n = rgrad X B G Z H w p n := by
  match p with
  | 0 =>
    show ki B Z H w n * G n = G n * ri B Z H w n
    rw [ki_eq, mul_comm]
  | 1 =>
    show (H n * (Z n * sg (Z n))) * cv X G w n = (Z n * rs (Z n)) * (H n * cv X G w n)
    rw [sg_eq, mul_comm (H n), mul_assoc]
  | 2 =>
    show ki B Z H w n * X n = ri B Z H w n * X n
    rw [ki_eq]
  | p + 3 =>
    show (((H n * B n) * cv X G w n) * sg (Z n)) * (1 + Z n * (1 - sg (Z n)))
      = ((H n * cv X G w n) * B n) * rs (Z n) + (Z n * ((H n * cv X G w n) * B n)) * (rs (Z n) * (1 - rs (Z n)))
    rw [sg_eq]
    obtain ⟨c, hc⟩ := Fin'.cv X G w hX hG hw n
    obtain ⟨b, hb⟩ := hB n
    obtain ⟨z, hz⟩ := hZ n
    obtain ⟨h, hh⟩ := hH n
    obtain ⟨s, hs⟩ := (hZ n).rs
    rw [hs, hc, hb, hz, hh]
    norm_cast
    ring

end Formulas

end Cert.Conv

end
-- ==== Proof.ConvPoint.lean ====
module

public import proofs.«01_k».proof.Proof.ConvBody
public import proofs.«01_k».proof.Proof.ConvSpec
public import Idealize.ShloMosaic.Lib.Pointwise
public import Idealize.ShloMosaic.Lib.IdealHost

@[expose] public section

set_option maxRecDepth 16384

noncomputable section

namespace Cert.KernelIdeal.Own

open Cert.KernelIdeal Cert.KernelIdeal.Gen Idealize.ShloMosaic Idealize.ShloMosaic.TcCoe Idealize.SL.Sem
open Cert.Conv (sg prev next)

/-! ## The body's vectors entry by entry, over the extended reals -/

theorem wide_apply (v : Vec Ideal S1x256x128 .bf16) (l : Fin 256) (c : Fin 128) : wide v (ix2 l c) = v (ix3 0 l c) := by
  show shapeCast S256x128 v shapeCasts_S1x256x128_S256x128 (ix2 l c) = _
  refine (shapeCast_dropUnit_apply ![256, 128] v _ (ix2 l c)).trans (congrArg v ?_)
  funext a
  match a with
  | ⟨0, _⟩ => rfl
  | ⟨1, _⟩ => rfl
  | ⟨2, _⟩ => rfl

theorem rows_apply (l : Fin 256) (c : Fin 128) : rows (ix2 l c) = BitVec.ofNat 32 l.val := by
  unfold rows
  rw [iota_apply]
  simp

theorem down_apply (v : FVec Ideal S256x128 .f32) (l : Fin 256) (c : Fin 128) :
    down v (ix2 l c) = if h : 1 ≤ l.val then v (ix2 ⟨l.val - 1, by omega⟩ c) else 0 := by
  have hc : ∀ l : Fin 256, IntOp.cmpi .sge (BitVec.ofNat 32 l.val) 1#32 = if 1 ≤ l.val then 1#1 else 0#1 := by decide +kernel
  show Scalar.select (IntOp.cmpi .sge (rows (ix2 l c)) 1#32) (dynamicRotate 0 1#32 none v rotates_S256x128_d0 (ix2 l c))
    (Ideal.ofBits .f32 0x00000000#32) = _
  rw [rows_apply, hc, Ideal.ofBits_zero_f32]
  by_cases h : 1 ≤ l.val
  · rw [if_pos h, dif_pos h]
    show dynamicRotate 0 1#32 none v rotates_S256x128_d0 (ix2 l c) = _
    refine dynamicRotate_apply 0 1#32 v _ _ _ fun b => ?_
    match b with
    | ⟨0, _⟩ => show l.val - 1 = (l.val + 256 - 1 % 256) % 256; omega
    | ⟨1, _⟩ => rfl
  · rw [if_neg h, dif_neg h]
    rfl

theorem up_apply (v : FVec Ideal S256x128 .f32) (l : Fin 256) (c : Fin 128) :
    up v (ix2 l c) = if h : l.val < 255 then v (ix2 ⟨l.val + 1, by omega⟩ c) else 0 := by
  have hc : ∀ l : Fin 256, IntOp.cmpi .slt (BitVec.ofNat 32 l.val) 255#32 = if l.val < 255 then 1#1 else 0#1 := by decide +kernel
  show Scalar.select (IntOp.cmpi .slt (rows (ix2 l c)) 255#32) (dynamicRotate 0 255#32 none v rotates_S256x128_d0 (ix2 l c))
    (Ideal.ofBits .f32 0x00000000#32) = _
  rw [rows_apply, hc, Ideal.ofBits_zero_f32]
  by_cases h : l.val < 255
  · rw [if_pos h, dif_pos h]
    show dynamicRotate 0 255#32 none v rotates_S256x128_d0 (ix2 l c) = _
    refine dynamicRotate_apply 0 255#32 v _ _ _ fun b => ?_
    match b with
    | ⟨0, _⟩ => show l.val + 1 = (l.val + 256 - 255 % 256) % 256; omega
    | ⟨1, _⟩ => rfl
  · rw [if_neg h, dif_neg h]
    rfl

/-- A weight row cut out and spread over the rows. -/
theorem tap_apply (w : Vec Ideal S3x128 .f32) (n : ℕ) (hn : n < 3) (h : S3x128.Slices ![n, 0] S1x128) (l : Fin 256) (c : Fin 128) :
    broadcastTo S256x128 (extractStridedSlice S1x128 ![n, 0] w h) broadcasts_S1x128_S256x128 (ix2 l c) = w (ix2 ⟨n, hn⟩ c) := by
  rw [broadcastTo_apply _ _ (ix2 l c) (ix2 0 c)]
  · refine extractStridedSlice_apply _ w h _ _ fun a => ?_
    match a with
    | ⟨0, _⟩ => rfl
    | ⟨1, _⟩ => show c.val = 0 + c.val; omega
  · intro a
    match a with
    | ⟨0, _⟩ => rfl
    | ⟨1, _⟩ => rfl

theorem tap0_apply (w : Vec Ideal S3x128 .f32) (l : Fin 256) (c : Fin 128) : tap0 w (ix2 l c) = w (ix2 0 c) := tap_apply w 0 (by decide) _ l c
theorem tap1_apply (w : Vec Ideal S3x128 .f32) (l : Fin 256) (c : Fin 128) : tap1 w (ix2 l c) = w (ix2 1 c) := tap_apply w 1 (by decide) _ l c
theorem tap2_apply (w : Vec Ideal S3x128 .f32) (l : Fin 256) (c : Fin 128) : tap2 w (ix2 l c) = w (ix2 2 c) := tap_apply w 2 (by decide) _ l c

theorem ones_apply (j : S256x128.Idx) : (ones : FVec Ideal S256x128 .f32) j = 1 := Ideal.ofBits_one_f32

theorem sgm_apply (z : FVec Ideal S256x128 .f32) (j : S256x128.Idx) : sgm z j = sg (z j) := by
  show Ideal.div (Ideal.ofBits .f32 0x3F800000#32) (Ideal.ofBits .f32 0x3F800000#32
    + Ideal.exp (Ideal.ofBits .f32 0x00000000#32 - z j)) = _
  rw [Ideal.ofBits_one_f32, Ideal.ofBits_zero_f32]
  rfl

theorem colsum_apply (v : FVec Ideal S256x128 .f32) (c : Fin 128) : colsum v (ix2 0 c) = ∑ l : Fin 256, v (ix2 l c) := by
  unfold colsum
  refine (shapeCast_addUnit_apply ![128] _ _ (ix2 0 c)).trans ?_
  refine (multiReduction_add_apply v _ _ _ _ _).trans ?_
  exact Ideal.reduceAdd_r2_a0 _ v _

theorem total_apply (v : ℕ → FVec Ideal S256x128 .f32) (n : ℕ) (c : Fin 128) :
    total v n (ix2 0 c) = ∑ k ∈ Finset.range n, ∑ l : Fin 256, v k (ix2 l c) := by
  induction n with
  | zero => exact Ideal.ofBits_zero_f32
  | succ n ih =>
    rw [Finset.sum_range_succ, ← ih, ← colsum_apply]
    rfl

theorem pack_apply (v : FVec Ideal S256x128 .f32) (j : S1x1x256x128.Idx) : pack v j = v (ix2 (j 2) (j 3)) := by
  unfold pack
  refine shapeCast_apply _ _ j (ix2 (j 2) (j 3)) ?_
  have h0 : (j 0).val < 1 := (j 0).isLt
  have h1 : (j 1).val < 1 := (j 1).isLt
  rw [Shape.rowMajor_val_two, Shape.rowMajor_val_four]
  show (j 2).val * 128 + (j 3).val = (((j 0).val * 1 + (j 1).val) * 256 + (j 2).val) * 128 + (j 3).val
  omega

theorem scr_eq (x1 x3 x5 : Vec Ideal S16x256x128 .bf16) (k : ℕ) : scr x1 x3 x5 k = dcv x1 x3 x5 k := by
  funext j
  unfold scr
  refine (shapeCast_dropUnit_apply ![256, 128] _ _ j).trans ((shapeCast_addUnit_apply ![256, 128] _ _ _).trans ?_)
  rfl

/-! ## … by position: row `l` of residue `k` is position `16 * l + k` -/

/-- A block's entry at position `n` of channel `c`. -/
def pos (x : Vec Ideal S16x256x128 .bf16) (c : Fin 128) (n : ℕ) : EReal :=
  x (ix3 ⟨n % 16, by omega⟩ ⟨n / 16 % 256, by omega⟩ c)

theorem wide_slab (x : Vec Ideal S16x256x128 .bf16) (k : ℕ) (hk : k < 16) (l : Fin 256) (c : Fin 128) :
    wide (slab x k) (ix2 l c) = pos x c (16 * l.val + k) := by
  rw [wide_apply]
  show x (ix3 ⟨k % 16, _⟩ l c) = x _
  refine congrArg x (funext fun a => Fin.ext ?_)
  match a with
  | ⟨0, _⟩ => show k % 16 = (16 * l.val + k) % 16; omega
  | ⟨1, _⟩ => show l.val = (16 * l.val + k) / 16 % 256; omega
  | ⟨2, _⟩ => rfl

section Positions

variable (x0 x1 x2 x3 : Vec Ideal S16x256x128 .bf16) (x4 : Vec Ideal S3x128 .f32) (x5 : Vec Ideal S16x256x128 .bf16) (c : Fin 128)

/-- The convolution's input at a position. -/
def uP (n : ℕ) : EReal := pos x2 c n * pos x0 c n

/-- The gradient at the convolution's output at a position. -/
def dP (n : ℕ) : EReal := (pos x5 c n * (pos x3 c n * sg (pos x3 c n))) * pos x1 c n

theorem inp_apply (k : ℕ) (hk : k < 16) (l : Fin 256) : inp x0 x2 k (ix2 l c) = uP x0 x2 c (16 * l.val + k) := by
  show wide (slab x2 k) (ix2 l c) * wide (slab x0 k) (ix2 l c) = _
  rw [wide_slab _ k hk, wide_slab _ k hk]
  rfl

theorem inp1_apply (k : ℕ) (hk : k < 16) (l : Fin 256) :
    inp1 x0 x2 k (ix2 l c) = prev (16 * l.val + k) 1 (uP x0 x2 c) := by
  unfold prev
  match k with
  | 0 =>
    show down (inp x0 x2 15) (ix2 l c) = _
    rw [down_apply]
    by_cases h : 1 ≤ l.val
    · rw [dif_pos h, if_pos (by omega), inp_apply _ _ _ _ (by omega)]
      exact congrArg _ (by show 16 * (l.val - 1) + 15 = _; omega)
    · rw [dif_neg h, if_neg (by omega)]
  | k + 1 =>
    show inp x0 x2 k (ix2 l c) = _
    rw [inp_apply _ _ _ _ (by omega), if_pos (by omega)]
    rfl

theorem inp2_apply (k : ℕ) (hk : k < 16) (l : Fin 256) :
    inp2 x0 x2 k (ix2 l c) = prev (16 * l.val + k) 2 (uP x0 x2 c) := by
  unfold prev
  match k with
  | 0 =>
    show down (inp x0 x2 14) (ix2 l c) = _
    rw [down_apply]
    by_cases h : 1 ≤ l.val
    · rw [dif_pos h, if_pos (by omega), inp_apply _ _ _ _ (by omega)]
      exact congrArg _ (by show 16 * (l.val - 1) + 14 = _; omega)
    · rw [dif_neg h, if_neg (by omega)]
  | 1 =>
    show down (inp x0 x2 15) (ix2 l c) = _
    rw [down_apply]
    by_cases h : 1 ≤ l.val
    · rw [dif_pos h, if_pos (by omega), inp_apply _ _ _ _ (by omega)]
      exact congrArg _ (by show 16 * (l.val - 1) + 15 = _; omega)
    · rw [dif_neg h, if_neg (by omega)]
  | k + 2 =>
    show inp x0 x2 k (ix2 l c) = _
    rw [inp_apply _ _ _ _ (by omega), if_pos (by omega)]
    rfl

/-- The convolution at a position. -/
def cP (n : ℕ) : EReal :=
  x4 (ix2 0 c) * prev n 2 (uP x0 x2 c) + x4 (ix2 1 c) * prev n 1 (uP x0 x2 c) + x4 (ix2 2 c) * uP x0 x2 c n

theorem conv_apply (k : ℕ) (hk : k < 16) (l : Fin 256) : conv x0 x2 x4 k (ix2 l c) = cP x0 x2 x4 c (16 * l.val + k) := by
  show tap0 x4 (ix2 l c) * inp2 x0 x2 k (ix2 l c) + tap1 x4 (ix2 l c) * inp1 x0 x2 k (ix2 l c)
    + tap2 x4 (ix2 l c) * inp x0 x2 k (ix2 l c) = _
  rw [tap0_apply, tap1_apply, tap2_apply, inp_apply _ _ _ k hk, inp1_apply _ _ _ k hk, inp2_apply _ _ _ k hk]
  rfl

theorem dcv_apply (k : ℕ) (hk : k < 16) (l : Fin 256) : dcv x1 x3 x5 k (ix2 l c) = dP x1 x3 x5 c (16 * l.val + k) := by
  show (wide (slab x5 k) (ix2 l c) * (wide (slab x3 k) (ix2 l c) * sgm (wide (slab x3 k)) (ix2 l c))) * wide (slab x1 k) (ix2 l c) = _
  rw [sgm_apply, wide_slab _ k hk, wide_slab _ k hk, wide_slab _ k hk]
  rfl

/-- The gradient at the gate after the convolution, at a position. -/
def bP (n : ℕ) : EReal := (pos x5 c n * (pos x3 c n * sg (pos x3 c n))) * cP x0 x2 x4 c n

theorem dbg_apply (k : ℕ) (hk : k < 16) (l : Fin 256) : dbg x0 x2 x3 x4 x5 k (ix2 l c) = bP x0 x2 x3 x4 x5 c (16 * l.val + k) := by
  show (wide (slab x5 k) (ix2 l c) * (wide (slab x3 k) (ix2 l c) * sgm (wide (slab x3 k)) (ix2 l c))) * conv x0 x2 x4 k (ix2 l c) = _
  rw [sgm_apply, wide_slab _ k hk, wide_slab _ k hk, conv_apply _ _ _ _ k hk]
  rfl

/-- The gradient at silu's argument, at a position. -/
def zP (n : ℕ) : EReal :=
  (((pos x5 c n * pos x1 c n) * cP x0 x2 x4 c n) * sg (pos x3 c n)) * (1 + pos x3 c n * (1 - sg (pos x3 c n)))

theorem dzc_apply (k : ℕ) (hk : k < 16) (l : Fin 256) :
    dzc x0 x1 x2 x3 x4 x5 k (ix2 l c) = zP x0 x1 x2 x3 x4 x5 c (16 * l.val + k) := by
  show (((wide (slab x5 k) (ix2 l c) * wide (slab x1 k) (ix2 l c)) * conv x0 x2 x4 k (ix2 l c)) * sgm (wide (slab x3 k)) (ix2 l c))
    * ((ones : FVec Ideal S256x128 .f32) (ix2 l c) + wide (slab x3 k) (ix2 l c)
      * ((ones : FVec Ideal S256x128 .f32) (ix2 l c) - sgm (wide (slab x3 k)) (ix2 l c))) = _
  rw [ones_apply, sgm_apply, wide_slab _ k hk, wide_slab _ k hk, wide_slab _ k hk, conv_apply _ _ _ _ k hk]
  rfl

theorem dcv1_apply (k : ℕ) (hk : k < 16) (l : Fin 256) :
    dcv1 x1 x3 x5 k (ix2 l c) = next (16 * l.val + k) 1 (dP x1 x3 x5 c) := by
  unfold next
  by_cases h15 : k = 15
  · subst h15
    show up (scr x1 x3 x5 0) (ix2 l c) = _
    rw [up_apply, scr_eq]
    by_cases h : l.val < 255
    · rw [dif_pos h, if_pos (by omega), dcv_apply _ _ _ _ _ (by omega)]
      exact congrArg _ (by show 16 * (l.val + 1) + 0 = _; omega)
    · rw [dif_neg h, if_neg (by omega)]
  · have e : dcv1 x1 x3 x5 k = scr x1 x3 x5 (k + 1) := dcv1.eq_2 _ _ _ _ h15
    rw [e, scr_eq, dcv_apply _ _ _ _ _ (by omega), if_pos (by omega)]
    rfl

theorem dcv2_apply (k : ℕ) (hk : k < 16) (l : Fin 256) :
    dcv2 x1 x3 x5 k (ix2 l c) = next (16 * l.val + k) 2 (dP x1 x3 x5 c) := by
  unfold next
  by_cases h15 : k = 15
  · subst h15
    show up (scr x1 x3 x5 1) (ix2 l c) = _
    rw [up_apply, scr_eq]
    by_cases h : l.val < 255
    · rw [dif_pos h, if_pos (by omega), dcv_apply _ _ _ _ _ (by omega)]
      exact congrArg _ (by show 16 * (l.val + 1) + 1 = _; omega)
    · rw [dif_neg h, if_neg (by omega)]
  by_cases h14 : k = 14
  · subst h14
    show up (scr x1 x3 x5 0) (ix2 l c) = _
    rw [up_apply, scr_eq]
    by_cases h : l.val < 255
    · rw [dif_pos h, if_pos (by omega), dcv_apply _ _ _ _ _ (by omega)]
      exact congrArg _ (by show 16 * (l.val + 1) + 0 = _; omega)
    · rw [dif_neg h, if_neg (by omega)]
  · have e : dcv2 x1 x3 x5 k = scr x1 x3 x5 (k + 2) := dcv2.eq_3 _ _ _ _ h15 h14
    rw [e, scr_eq, dcv_apply _ _ _ _ _ (by omega), if_pos (by omega)]
    rfl

/-- The gradient at the convolution's input, at a position. -/
def iP (n : ℕ) : EReal :=
  x4 (ix2 2 c) * dP x1 x3 x5 c n + x4 (ix2 1 c) * next n 1 (dP x1 x3 x5 c) + x4 (ix2 0 c) * next n 2 (dP x1 x3 x5 c)

theorem dinp_apply (k : ℕ) (hk : k < 16) (l : Fin 256) : dinp x1 x3 x4 x5 k (ix2 l c) = iP x1 x3 x4 x5 c (16 * l.val + k) := by
  show tap2 x4 (ix2 l c) * scr x1 x3 x5 k (ix2 l c) + tap1 x4 (ix2 l c) * dcv1 x1 x3 x5 k (ix2 l c)
    + tap0 x4 (ix2 l c) * dcv2 x1 x3 x5 k (ix2 l c) = _
  rw [tap0_apply, tap1_apply, tap2_apply, scr_eq, dcv_apply _ _ _ _ k hk, dcv1_apply _ _ _ _ k hk, dcv2_apply _ _ _ _ k hk]
  rfl

/-- The four gradients at a position. -/
def gradP (p n : ℕ) : EReal :=
  match p with
  | 0 => iP x1 x3 x4 x5 c n * pos x2 c n
  | 1 => bP x0 x2 x3 x4 x5 c n
  | 2 => iP x1 x3 x4 x5 c n * pos x0 c n
  | _ => zP x0 x1 x2 x3 x4 x5 c n

theorem grad_apply (p k : ℕ) (hk : k < 16) (l : Fin 256) :
    grad x0 x1 x2 x3 x4 x5 p k (ix2 l c) = gradP x0 x1 x2 x3 x4 x5 c p (16 * l.val + k) := by
  match p with
  | 0 =>
    show dinp x1 x3 x4 x5 k (ix2 l c) * wide (slab x2 k) (ix2 l c) = _
    rw [dinp_apply _ _ _ _ _ k hk, wide_slab _ k hk]
    rfl
  | 1 => exact dbg_apply _ _ _ _ _ _ k hk l
  | 2 =>
    show dinp x1 x3 x4 x5 k (ix2 l c) * wide (slab x0 k) (ix2 l c) = _
    rw [dinp_apply _ _ _ _ _ k hk, wide_slab _ k hk]
    rfl
  | p + 3 => exact dzc_apply _ _ _ _ _ _ _ k hk l

/-- A sum over residues and rows is the sum over positions. -/
theorem sum_positions (f : ℕ → EReal) :
    ∑ k ∈ Finset.range 16, ∑ l : Fin 256, f (16 * l.val + k) = ∑ n ∈ Finset.range 4096, f n := by
  have h : ∀ L : ℕ, ∑ k ∈ Finset.range 16, ∑ l ∈ Finset.range L, f (16 * l + k) = ∑ n ∈ Finset.range (16 * L), f n := by
    intro L
    induction L with
    | zero => simp
    | succ L ih =>
      rw [Nat.mul_succ, Finset.sum_range_add, ← ih, ← Finset.sum_add_distrib]
      exact Finset.sum_congr rfl fun k _ => Finset.sum_range_succ _ _
  rw [← h 256]
  exact Finset.sum_congr rfl fun k _ => (Finset.sum_range fun l => f (16 * l + k)).symm

/-- The weights' gradients, row by row: sums over the positions. -/
theorem dw0_apply : dw0 x0 x1 x2 x3 x5 (ix2 0 c) = ∑ n ∈ Finset.range 4096, dP x1 x3 x5 c n * prev n 2 (uP x0 x2 c) := by
  unfold dw0
  rw [total_apply, ← sum_positions]
  refine Finset.sum_congr rfl fun k hk => Finset.sum_congr rfl fun l _ => ?_
  rw [← dcv_apply _ _ _ _ k (Finset.mem_range.1 hk), ← inp2_apply _ _ _ k (Finset.mem_range.1 hk)]
  rfl
theorem dw1_apply : dw1 x0 x1 x2 x3 x5 (ix2 0 c) = ∑ n ∈ Finset.range 4096, dP x1 x3 x5 c n * prev n 1 (uP x0 x2 c) := by
  unfold dw1
  rw [total_apply, ← sum_positions]
  refine Finset.sum_congr rfl fun k hk => Finset.sum_congr rfl fun l _ => ?_
  rw [← dcv_apply _ _ _ _ k (Finset.mem_range.1 hk), ← inp1_apply _ _ _ k (Finset.mem_range.1 hk)]
  rfl
theorem dw2_apply : dw2 x0 x1 x2 x3 x5 (ix2 0 c) = ∑ n ∈ Finset.range 4096, dP x1 x3 x5 c n * prev n 0 (uP x0 x2 c) := by
  unfold dw2
  rw [total_apply, ← sum_positions]
  refine Finset.sum_congr rfl fun k hk => Finset.sum_congr rfl fun l _ => ?_
  show _ = dP x1 x3 x5 c (16 * l.val + k) * uP x0 x2 c (16 * l.val + k)
  rw [← dcv_apply _ _ _ _ k (Finset.mem_range.1 hk), ← inp_apply _ _ _ k (Finset.mem_range.1 hk)]
  rfl

/-- The four gradients of a block are the kernel's formulas on its columns. -/
theorem gradP_eq (p n : ℕ) : gradP x0 x1 x2 x3 x4 x5 c p n
    = Conv.kgrad (pos x0 c) (pos x1 c) (pos x2 c) (pos x3 c) (pos x5 c) (fun k => x4 (ix2 k c)) p n := by
  match p with
  | 0 => rfl
  | 1 => rfl
  | 2 => rfl
  | p + 3 => rfl

/-- The weights' gradients of a block. -/
def dwB : Vec Ideal S3x128 .f32 := fun y => Conv.kdw (pos x0 (y 1)) (pos x1 (y 1)) (pos x2 (y 1)) (pos x3 (y 1)) (pos x5 (y 1)) (y 0).val

end Positions

/-! ## What the body leaves in the two output blocks -/

section Out

variable (c : Dev nD) (i : grid0.Coords)
  (arg1 : Memref sig .tc .vmem S16x256x128 .bf16) (harg1 : arg1.IsWhole) (arg2 : Memref sig .tc .vmem S16x256x128 .bf16) (harg2 : arg2.IsWhole)
  (arg3 : Memref sig .tc .vmem S16x256x128 .bf16) (harg3 : arg3.IsWhole) (arg4 : Memref sig .tc .vmem S16x256x128 .bf16) (harg4 : arg4.IsWhole)
  (arg5 : Memref sig .tc .vmem S3x128 .f32) (harg5 : arg5.IsWhole) (arg6 : Memref sig .tc .vmem S16x256x128 .bf16) (harg6 : arg6.IsWhole)
  (arg7 : Memref sig .tc .vmem S4x16x256x128 .bf16) (harg7 : arg7.IsWhole) (arg8 : Memref sig .tc .vmem S3x128 .f32) (harg8 : arg8.IsWhole)
  (arg9 : Memref sig .tc .vmem S16x256x128 .f32) (harg9 : arg9.IsWhole)
  (x0 x1 x2 x3 : Vec Ideal S16x256x128 .bf16) (x4 : Vec Ideal S3x128 .f32) (x5 : Vec Ideal S16x256x128 .bf16)

/-- The four gradients' block. -/
def outB : Vec Ideal S4x16x256x128 .bf16 := fun y =>
  gradP x0 x1 x2 x3 x4 x5 (y 3) (y 0).val (16 * (y 2).val + (y 1).val)

/-- Each store writes its slab of that block. -/
theorem outPiece_apply (p : Fin 4) (k : Fin 16) (x : S1x1x256x128.Idx) :
    pack (grad x0 x1 x2 x3 x4 x5 p.val k.val) x
      = outB x0 x1 x2 x3 x4 x5 ((Rect.unit ![p.val, k.val, 0, 0] S1x1x256x128.size (inb_out p k) : Rect S4x16x256x128).emb x) := by
  obtain ⟨l, ch, rfl⟩ : ∃ (l : Fin 256) (ch : Fin 128), x = ix4 0 0 l ch := by
    have h0 : (x 0).val < 1 := (x 0).isLt
    have h1 : (x 1).val < 1 := (x 1).isLt
    refine ⟨x 2, x 3, funext fun a => Fin.ext ?_⟩
    match a with
    | ⟨0, _⟩ => show (x 0).val = 0; omega
    | ⟨1, _⟩ => show (x 1).val = 0; omega
    | ⟨2, _⟩ => rfl
    | ⟨3, _⟩ => rfl
  have e : (Rect.unit ![p.val, k.val, 0, 0] S1x1x256x128.size (inb_out p k) : Rect S4x16x256x128).emb (ix4 0 0 l ch) = ix4 p k l ch := by
    refine funext fun a => Fin.ext ?_
    match a with
    | ⟨0, _⟩ => show p.val + 1 * 0 = p.val; omega
    | ⟨1, _⟩ => show k.val + 1 * 0 = k.val; omega
    | ⟨2, _⟩ => show 0 + 1 * l.val = l.val; omega
    | ⟨3, _⟩ => show 0 + 1 * ch.val = ch.val; omega
  rw [e]
  exact (pack_apply _ (ix4 0 0 l ch)).trans (grad_apply x0 x1 x2 x3 x4 x5 ch p.val k.val k.isLt l)

/-- The 64 slabs fill the block. -/
theorem out_cover (y : S4x16x256x128.Idx) : y ∈ (outPiece x0 x1 x2 x3 x4 x5 (y 0) (y 1)).1.set := by
  show _ ∈ (Rect.unit ![(y 0).val, (y 1).val, 0, 0] S1x1x256x128.size (inb_out (y 0) (y 1)) : Rect S4x16x256x128).set
  rw [Rect.mem_set_unit]
  have h2 : (y 2).val < 256 := (y 2).isLt
  have h3 : (y 3).val < 128 := (y 3).isLt
  intro a
  match a with
  | ⟨0, _⟩ => exact ⟨le_refl (y 0).val, Nat.lt_succ_self (y 0).val⟩
  | ⟨1, _⟩ => exact ⟨le_refl (y 1).val, Nat.lt_succ_self (y 1).val⟩
  | ⟨2, _⟩ => exact ⟨Nat.zero_le _, by show (y 2).val < 0 + 256; omega⟩
  | ⟨3, _⟩ => exact ⟨Nat.zero_le _, by show (y 3).val < 0 + 128; omega⟩

/-- What a run leaves in the first output's staging buffer. -/
theorem out6_eq : out0_A_6 c i arg1 harg1 arg2 harg2 arg3 harg3 arg4 harg4 arg5 harg5 arg6 harg6 arg7 harg7 arg8 harg8 arg9 harg9
    x0 x1 x2 x3 x4 x5 = outB x0 x1 x2 x3 x4 x5 := by
  unfold out0_A_6
  rw [out_pieces]
  have mem : ∀ q : View.Piece (Elt Ideal) S4x16x256x128 .bf16, (∃ p k, q = outPiece x0 x1 x2 x3 x4 x5 p k) ↔
      q ∈ ((List.finRange 16).reverse.flatMap fun k => [outPiece x0 x1 x2 x3 x4 x5 2 k, outPiece x0 x1 x2 x3 x4 x5 0 k])
      ++ ((List.finRange 16).reverse.flatMap fun k => [outPiece x0 x1 x2 x3 x4 x5 3 k, outPiece x0 x1 x2 x3 x4 x5 1 k]) := by
    intro q
    simp only [List.mem_append, List.mem_flatMap, List.mem_reverse, List.mem_finRange, true_and, List.mem_cons, List.not_mem_nil, or_false]
    constructor
    · rintro ⟨p, k, rfl⟩
      match p with
      | 0 => exact .inl ⟨k, .inr rfl⟩
      | 1 => exact .inr ⟨k, .inr rfl⟩
      | 2 => exact .inl ⟨k, .inl rfl⟩
      | 3 => exact .inr ⟨k, .inl rfl⟩
    · rintro (⟨k, rfl | rfl⟩ | ⟨k, rfl | rfl⟩)
      · exact ⟨_, _, rfl⟩
      · exact ⟨_, _, rfl⟩
      · exact ⟨_, _, rfl⟩
      · exact ⟨_, _, rfl⟩
  rw [View.read_writes_eq_canon _ _ _ fun y => ⟨_, (mem _).1 ⟨y 0, y 1, rfl⟩, out_cover x0 x1 x2 x3 x4 x5 y⟩]
  funext y
  refine View.canon_apply_of_pieces (outB x0 x1 x2 x3 x4 x5) _ (fun q hq x => ?_) y ⟨_, (mem _).1 ⟨y 0, y 1, rfl⟩, out_cover x0 x1 x2 x3 x4 x5 y⟩
  obtain ⟨p, k, rfl⟩ := (mem q).2 hq
  exact outPiece_apply x0 x1 x2 x3 x4 x5 p k x

/-- What a run leaves in the second output's staging buffer. -/
theorem out7_eq : out0_A_7 c i arg1 harg1 arg2 harg2 arg3 harg3 arg4 harg4 arg5 harg5 arg6 harg6 arg7 harg7 arg8 harg8 arg9 harg9
    x0 x1 x2 x3 x4 x5 = dwB x0 x1 x2 x3 x5 := by
  unfold out0_A_7
  rw [dw_pieces]
  have hrow : ∀ (r : Fin 3) (v : FVec Ideal S1x128 .f32)
      (_ : ∀ ch : Fin 128, v (ix2 0 ch) = Conv.kdw (pos x0 ch) (pos x1 ch) (pos x2 ch) (pos x3 ch) (pos x5 ch) r.val)
      (x : S1x128.Idx), v x = dwB x0 x1 x2 x3 x5 ((Rect.unit ![r.val, 0] S1x128.size (inb_dw r) : Rect S3x128).emb x) := by
    intro r v hv x
    obtain ⟨ch, rfl⟩ : ∃ ch : Fin 128, x = ix2 0 ch := by
      have h0 : (x 0).val < 1 := (x 0).isLt
      refine ⟨x 1, funext fun a => Fin.ext ?_⟩
      match a with
      | ⟨0, _⟩ => show (x 0).val = 0; omega
      | ⟨1, _⟩ => rfl
    have e : (Rect.unit ![r.val, 0] S1x128.size (inb_dw r) : Rect S3x128).emb (ix2 0 ch) = ix2 r ch := by
      refine funext fun a => Fin.ext ?_
      match a with
      | ⟨0, _⟩ => show r.val + 1 * 0 = r.val; omega
      | ⟨1, _⟩ => show 0 + 1 * ch.val = ch.val; omega
    rw [e]
    exact hv ch
  have mem : ∀ (r : Fin 3) (y : S3x128.Idx), (y 0).val = r.val → y ∈ (Rect.unit ![r.val, 0] S1x128.size (inb_dw r) : Rect S3x128).set := by
    intro r y hy
    rw [Rect.mem_set_unit]
    have h1 : (y 1).val < 128 := (y 1).isLt
    intro a
    match a with
    | ⟨0, _⟩ => exact ⟨hy.ge, by show (y 0).val < r.val + 1; omega⟩
    | ⟨1, _⟩ => exact ⟨Nat.zero_le _, by show (y 1).val < 0 + 128; omega⟩
  have cov : ∀ y : S3x128.Idx, ∃ p ∈ ([⟨Rect.unit ![2, 0] S1x128.size (inb_dw 2), dw2 x0 x1 x2 x3 x5⟩,
      ⟨Rect.unit ![1, 0] S1x128.size (inb_dw 1), dw1 x0 x1 x2 x3 x5⟩,
      ⟨Rect.unit ![0, 0] S1x128.size (inb_dw 0), dw0 x0 x1 x2 x3 x5⟩] : List (View.Piece (Elt Ideal) S3x128 .f32)), y ∈ p.1.set := by
    intro y
    have h0 : (y 0).val < 3 := (y 0).isLt
    rcases (by omega : (y 0).val = 2 ∨ (y 0).val = 1 ∨ (y 0).val = 0) with h | h | h
    · exact ⟨_, List.mem_cons_self, mem 2 y h⟩
    · exact ⟨_, List.mem_cons_of_mem _ List.mem_cons_self, mem 1 y h⟩
    · exact ⟨_, List.mem_cons_of_mem _ (List.mem_cons_of_mem _ List.mem_cons_self), mem 0 y h⟩
  rw [View.read_writes_eq_canon _ _ _ cov]
  funext y
  refine View.canon_apply_of_pieces (dwB x0 x1 x2 x3 x5) _ (fun q hq x => ?_) y (cov y)
  simp only [List.mem_cons, List.not_mem_nil, or_false] at hq
  rcases hq with rfl | rfl | rfl
  · exact hrow 2 _ (fun ch => dw2_apply x0 x1 x2 x3 x5 ch) x
  · exact hrow 1 _ (fun ch => dw1_apply x0 x1 x2 x3 x5 ch) x
  · exact hrow 0 _ (fun ch => dw0_apply x0 x1 x2 x3 x5 ch) x

end Out

end Cert.KernelIdeal.Own

end
-- ==== Proof.ConvKernel.lean ====
module

public import proofs.«01_k».proof.Proof.ConvPoint
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## The two reshaped operands as the grid finds them -/

/-- The same place in row-major order. -/
theorem slab_place (w : ℕ) (a : Fin 16) (l : Fin 256) (C : Fin w) :
    ((⟨2, ![4096, w]⟩ : Shape).rowMajor (ix2 ⟨a.val * 256 + l.val, by omega⟩ C)).val = ((⟨3, ![16, 256, w]⟩ : Shape).rowMajor (ix3 a l C)).val := by
  rw [Shape.rowMajor_val_two, Shape.rowMajor_val_three]
  rfl

/-- The projected array seen as sixteen slabs of 256 rows. -/
theorem slabs_proj (c : Dev nD) (a : Fin 16) (l : Fin 256) (C : Fin 10240) :
    V m c main_v0 (ix3 a l C) = m ((c : Thread nD τ).loc main_arg0) (ix2 ⟨a.val * 256 + l.val, by omega⟩ C) := by
  entry_read
  refine shapeCast_apply _ _ _ _ ?_
  exact slab_place _ a l C

/-- The gradient that arrives seen as sixteen slabs of 256 rows. -/
theorem slabs_arrive (c : Dev nD) (a : Fin 16) (l : Fin 256) (C : Fin 1024) :
    V m c main_v1 (ix3 a l C) = m ((c : Thread nD τ).loc main_arg2) (ix2 ⟨a.val * 256 + l.val, by omega⟩ C) := by
  entry_read
  refine shapeCast_apply _ _ _ _ ?_
  exact slab_place _ a l C

theorem index0 : ∀ t : Fin cfg0.N, win0_0.index t = ![0, 0, t.val] := (by decide +kernel : ∀ t : Fin grid0.N, _)
theorem index1 : ∀ t : Fin cfg0.N, win0_1.index t = ![0, 0, 8 + t.val] := (by decide +kernel : ∀ t : Fin grid0.N, _)
theorem index2 : ∀ t : Fin cfg0.N, win0_2.index t = ![0, 0, 16 + t.val] := (by decide +kernel : ∀ t : Fin grid0.N, _)
theorem index3 : ∀ t : Fin cfg0.N, win0_3.index t = ![0, 0, 24 + t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, 0, t.val] := (by decide +kernel : ∀ t : Fin grid0.N, _)
theorem index6 : ∀ t : Fin cfg0.N, win0_6.index t = ![0, 0, 0, t.val] := (by decide +kernel : ∀ t : Fin grid0.N, _)
theorem index7 : ∀ t : Fin cfg0.N, win0_7.index t = ![0, t.val] := (by decide +kernel : ∀ t : Fin grid0.N, _)

/-- Column `cc` of block `t` as a column of the array. -/
def chan (t : Fin cfg0.N) (cc : Fin 128) : Fin 1024 := ⟨(128 * t.val + cc.val) % 1024, by omega⟩

/-- Window 0's block is a stretch of 128 columns of part 0. -/
theorem block0 (c : Dev nD) (t : Fin cfg0.N) (cc : Fin 128) (n : ℕ) :
    pos (iblk m c 0 t) cc n = Conv.part (m ((c : Thread nD τ).loc main_arg0)) 0 (chan t cc) n := by
  have ht : t.val < 8 := t.isLt
  unfold pos Conv.part
  refine Eq.trans ?_ (slabs_proj m c ⟨n % 16, by omega⟩ ⟨n / 16 % 256, by omega⟩ (Conv.col 0 (chan t cc)))
  blk_simp [iblk]
  refine congrArg (V m c main_v0) ?_
  blk_ext [index0, Conv.col, chan]

/-- Window 1's block is a stretch of 128 columns of part 1. -/
theorem block1 (c : Dev nD) (t : Fin cfg0.N) (cc : Fin 128) (n : ℕ) :
    pos (iblk m c 1 t) cc n = Conv.part (m ((c : Thread nD τ).loc main_arg0)) 1 (chan t cc) n := by
  have ht : t.val < 8 := t.isLt
  unfold pos Conv.part
  refine Eq.trans ?_ (slabs_proj m c ⟨n % 16, by omega⟩ ⟨n / 16 % 256, by omega⟩ (Conv.col 1 (chan t cc)))
  blk_simp [iblk]
  refine congrArg (V m c main_v0) ?_
  blk_ext [index1, Conv.col, chan]

/-- Window 2's block is a stretch of 128 columns of part 2. -/
theorem block2 (c : Dev nD) (t : Fin cfg0.N) (cc : Fin 128) (n : ℕ) :
    pos (iblk m c 2 t) cc n = Conv.part (m ((c : Thread nD τ).loc main_arg0)) 2 (chan t cc) n := by
  have ht : t.val < 8 := t.isLt
  unfold pos Conv.part
  refine Eq.trans ?_ (slabs_proj m c ⟨n % 16, by omega⟩ ⟨n / 16 % 256, by omega⟩ (Conv.col 2 (chan t cc)))
  blk_simp [iblk]
  refine congrArg (V m c main_v0) ?_
  blk_ext [index2, Conv.col, chan]

/-- Window 3's block is a stretch of 128 columns of part 3. -/
theorem block3 (c : Dev nD) (t : Fin cfg0.N) (cc : Fin 128) (n : ℕ) :
    pos (iblk m c 3 t) cc n = Conv.part (m ((c : Thread nD τ).loc main_arg0)) 3 (chan t cc) n := by
  have ht : t.val < 8 := t.isLt
  unfold pos Conv.part
  refine Eq.trans ?_ (slabs_proj m c ⟨n % 16, by omega⟩ ⟨n / 16 % 256, by omega⟩ (Conv.col 3 (chan t cc)))
  blk_simp [iblk]
  refine congrArg (V m c main_v0) ?_
  blk_ext [index3, Conv.col, chan]

/-- Window 5's block is a stretch of 128 columns of the gradient that arrives. -/
theorem block5 (c : Dev nD) (t : Fin cfg0.N) (cc : Fin 128) (n : ℕ) :
    pos (iblk m c 5 t) cc n = Conv.arrive (m ((c : Thread nD τ).loc main_arg2)) (chan t cc) n := by
  have ht : t.val < 8 := t.isLt
  unfold pos Conv.arrive
  refine Eq.trans ?_ (slabs_arrive m c ⟨n % 16, by omega⟩ ⟨n / 16 % 256, by omega⟩ (chan t cc))
  blk_simp [iblk]
  refine congrArg (V m c main_v1) ?_
  blk_ext [index5, chan]

/-- Window 4's block is a stretch of 128 columns of the convolution's weights. -/
theorem block4 (c : Dev nD) (t : Fin cfg0.N) (cc : Fin 128) (k : Fin 3) :
    iblk m c 4 t (ix2 k cc) = m ((c : Thread nD τ).loc main_arg1) (ix2 k (chan t cc)) := by
  have ht : t.val < 8 := t.isLt
  refine Eq.trans ?_ (congrFun (V_main_arg1 m c) (ix2 k (chan t cc)))
  blk_simp [iblk]
  refine congrArg (V m c main_arg1) ?_
  blk_ext [index4, chan]

/-! ## The two results -/

/-- The columns' gradients of the whole arrays, as the kernel adds them up. -/
def gradArr (x0 : S4096x10240.Idx → EReal) (x1 : S3x1024.Idx → EReal) (x2 : S4096x1024.Idx → EReal) : S4x16x256x1024.Idx → EReal :=
  fun y => Conv.kgrad (Conv.part x0 0 (y 3)) (Conv.part x0 1 (y 3)) (Conv.part x0 2 (y 3)) (Conv.part x0 3 (y 3)) (Conv.arrive x2 (y 3))
    (fun k => x1 (ix2 k (y 3))) (y 0).val (16 * (y 2).val + (y 1).val)

/-- The weights' gradients of the whole arrays, as the kernel adds them up. -/
def dwArr (x0 : S4096x10240.Idx → EReal) (x2 : S4096x1024.Idx → EReal) : S3x1024.Idx → EReal :=
  fun y => Conv.kdw (Conv.part x0 0 (y 1)) (Conv.part x0 1 (y 1)) (Conv.part x0 2 (y 1)) (Conv.part x0 3 (y 1)) (Conv.arrive x2 (y 1)) (y 0).val

theorem outB_block (c : Dev nD) (t : Fin cfg0.N) (p : Fin 4) (k : Fin 16) (l : Fin 256) (cc : Fin 128) :
    outB (iblk m c 0 t) (iblk m c 1 t) (iblk m c 2 t) (iblk m c 3 t) (iblk m c 4 t) (iblk m c 5 t) (ix4 p k l cc)
      = gradArr (m ((c : Thread nD τ).loc main_arg0)) (m ((c : Thread nD τ).loc main_arg1)) (m ((c : Thread nD τ).loc main_arg2))
        (ix4 p k l (chan t cc)) := by
  refine (gradP_eq _ _ _ _ _ _ cc p.val (16 * l.val + k.val)).trans ?_
  rw [funext (block0 m c t cc), funext (block1 m c t cc), funext (block2 m c t cc), funext (block3 m c t cc),
    funext (block5 m c t cc), funext (block4 m c t cc)]
  rfl

theorem dwB_block (c : Dev nD) (t : Fin cfg0.N) (r : Fin 3) (cc : Fin 128) :
    dwB (iblk m c 0 t) (iblk m c 1 t) (iblk m c 2 t) (iblk m c 3 t) (iblk m c 5 t) (ix2 r cc)
      = dwArr (m ((c : Thread nD τ).loc main_arg0)) (m ((c : Thread nD τ).loc main_arg2)) (ix2 r (chan t cc)) := by
  show Conv.kdw (pos (iblk m c 0 t) cc) (pos (iblk m c 1 t) cc) (pos (iblk m c 2 t) cc) (pos (iblk m c 3 t) cc) (pos (iblk m c 5 t) cc) r.val = _
  rw [funext (block0 m c t cc), funext (block1 m c t cc), funext (block2 m c t cc), funext (block3 m c t cc),
    funext (block5 m c t cc)]
  rfl

/-- What the body leaves at point `t`. -/
theorem outs_eq (c : Dev nD) (t : Fin cfg0.N) : outsAt0 m c t
    = (outB (iblk m c 0 t) (iblk m c 1 t) (iblk m c 2 t) (iblk m c 3 t) (iblk m c 4 t) (iblk m c 5 t),
       dwB (iblk m c 0 t) (iblk m c 1 t) (iblk m c 2 t) (iblk m c 3 t) (iblk m c 5 t)) := by
  unfold outsAt0
  rw [out6_eq, out7_eq]

/-- The first result after the run. -/
theorem final6 (c : Dev nD) : (dats m 0 c).arrAt 6 cfg0.N
    = gradArr (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, outs_eq]
  have ht : t.val < 8 := t.isLt
  obtain ⟨p, k, l, cc, rfl⟩ : ∃ (p : Fin 4) (k : Fin 16) (l : Fin 256) (cc : Fin 128), y = ix4 p k l cc :=
    ⟨y 0, y 1, y 2, y 3, by blk_ext []⟩
  refine (outB_block m c t p k l cc).trans ?_
  refine congrArg (gradArr _ _ _) ?_
  blk_ext [index6, chan]

/-- The second result after the run. -/
theorem final7 (c : Dev nD) : (dats m 0 c).arrAt 7 cfg0.N
    = dwArr (m ((c : Thread nD τ).loc main_arg0)) (m ((c : Thread nD τ).loc main_arg2)) := by
  refine (dats m 0 c).arrAt_eq_of_covers 7 _ (by decide +kernel) fun t hf y => ?_
  blk_simp
  rw [after0_7, outs_eq]
  have ht : t.val < 8 := t.isLt
  obtain ⟨r, cc, rfl⟩ : ∃ (r : Fin 3) (cc : Fin 128), y = ix2 r cc :=
    ⟨y 0, y 1, by blk_ext []⟩
  refine (dwB_block m c t r cc).trans ?_
  refine congrArg (dwArr _ _) ?_
  blk_ext [index7, chan]

end Cert.KernelIdeal.Own

end
-- ==== Proof.ConvRef.lean ====
module

public import proofs.«01_k».proof.Proof.ConvSpec
public import proofs.«01_k».proof.Proof.Gen.ReferenceIdeal.Read
public import Idealize.ShloMosaic.Lib.KernelVsHost

@[expose] public section

set_option maxRecDepth 16384

noncomputable section

/-! # The reference, read entry by entry -/

namespace Cert.ConvRef

open Cert.ReferenceIdeal Cert.ReferenceIdeal.Read Idealize.ShloMosaic Cert.Conv

/-- Rows of padding above and below. -/
theorem pad_rows {n n' m lo hi : ℕ} {S : Shape} (x : (⟨2, ![n, m]⟩ : Shape).Idx → EReal) (v : S.Idx → EReal)
    (h : (⟨2, ![n, m]⟩ : Shape).Pads ![lo, 0] ![hi, 0] ![0, 0] ⟨2, ![n', m]⟩) (hu : 0 < S.numel) (r : Fin n') (c : Fin m) :
    pad ⟨2, ![n', m]⟩ ![lo, 0] ![hi, 0] ![0, 0] x v h hu (ix2 r c)
      = if hr : lo ≤ r.val ∧ r.val - lo < n then x (ix2 ⟨r.val - lo, hr.2⟩ c) else v (Shape.Idx.first hu) := by
  by_cases hr : lo ≤ r.val ∧ r.val - lo < n
  · rw [dif_pos hr]
    refine pad_apply_of_inside _ _ _ x v h hu _ _ fun a => ?_
    match a with
    | ⟨0, _⟩ => show r.val = lo + (r.val - lo) * 1; omega
    | ⟨1, _⟩ => show c.val = 0 + c.val * 1; omega
  · rw [dif_neg hr]
    unfold pad
    refine dif_neg fun hin => hr ?_
    have h0 := hin 0
    have h1 : lo ≤ r.val := h0.1
    have h2 : (r.val - lo) / 1 < n := h0.2.2
    rw [Nat.div_one] at h2
    exact ⟨h1, h2⟩

/-- Four arrays, one after the other along a new first axis. -/
theorem cat4 (y0 y1 y2 y3 : S1x16x256x1024.Idx → EReal)
    (h : Shape.Concatenates ([⟨S1x16x256x1024, y0⟩, ⟨S1x16x256x1024, y1⟩, ⟨S1x16x256x1024, y2⟩, ⟨S1x16x256x1024, y3⟩].map
      fun z : (s : Shape) × (s.Idx → EReal) => z.1) S4x16x256x1024 0) (p : Fin 4) (k : Fin 16) (l : Fin 256) (ch : Fin 1024) :
    concatenate S4x16x256x1024 0 [⟨S1x16x256x1024, y0⟩, ⟨S1x16x256x1024, y1⟩, ⟨S1x16x256x1024, y2⟩, ⟨S1x16x256x1024, y3⟩] h (ix4 p k l ch)
      = (match p with | 0 => y0 | 1 => y1 | 2 => y2 | 3 => y3) (ix4 0 k l ch) := by
  have hb : ∀ b : Fin S1x16x256x1024.rank, b.cast rfl ≠ (0 : Fin S4x16x256x1024.rank)
      → ((ix4 (0 : Fin 1) k l ch : S1x16x256x1024.Idx) b).val = ((ix4 p k l ch : S4x16x256x1024.Idx) (b.cast rfl)).val := by
    intro b hb
    match b with
    | ⟨0, _⟩ => exact absurd rfl hb
    | ⟨1, _⟩ => rfl
    | ⟨2, _⟩ => rfl
    | ⟨3, _⟩ => rfl
  match p with
  | 0 => exact concatenate_apply_piece 0 _ h _ 0 (by simp) S1x16x256x1024 y0 rfl rfl 0 rfl (ix4 0 k l ch) hb rfl
  | 1 => exact concatenate_apply_piece 0 _ h _ 1 (by simp) S1x16x256x1024 y1 rfl rfl 1 rfl (ix4 0 k l ch) hb rfl
  | 2 => exact concatenate_apply_piece 0 _ h _ 2 (by simp) S1x16x256x1024 y2 rfl rfl 2 rfl (ix4 0 k l ch) hb rfl
  | 3 => exact concatenate_apply_piece 0 _ h _ 3 (by simp) S1x16x256x1024 y3 rfl rfl 3 rfl (ix4 0 k l ch) hb rfl

section

variable (x0 : Vec Ideal S4096x10240 .bf16) (x1 : Vec Ideal S3x1024 .f32) (x2 : Vec Ideal S4096x1024 .bf16) (ch : Fin 1024)

theorem v4_apply (n : Fin 4096) : val_main_v4 (F := Ideal) x0 (ix2 n ch) = (part x0 0 ch) n := by
  rw [val_main_v4_apply, val_main_v3_apply, val_main_v2_apply, val_main_v1_apply, val_main_v0_apply]
  refine congrArg x0 (funext fun a => Fin.ext ?_)
  match a with
  | ⟨0, _⟩ =>
    show (((n.val * 1024 + ch.val) / 1024 % 16 * 256 + (n.val * 1024 + ch.val) / 16384) * 1024 + (n.val * 1024 + ch.val) % 1024) / 1024
      = n.val % 16 * 256 + n.val / 16 % 256
    omega
  | ⟨1, _⟩ =>
    show (((n.val * 1024 + ch.val) / 1024 % 16 * 256 + (n.val * 1024 + ch.val) / 16384) * 1024 + (n.val * 1024 + ch.val) % 1024) % 1024
      = (1024 * 0 + ch.val) % 10240
    omega

theorem v9_apply (n : Fin 4096) : val_main_v9 (F := Ideal) x0 (ix2 n ch) = (part x0 1 ch) n := by
  rw [val_main_v9_apply, val_main_v8_apply, val_main_v7_apply, val_main_v6_apply, val_main_v5_apply]
  refine congrArg x0 (funext fun a => Fin.ext ?_)
  match a with
  | ⟨0, _⟩ =>
    show (((n.val * 1024 + ch.val) / 1024 % 16 * 256 + (n.val * 1024 + ch.val) / 16384) * 1024 + (n.val * 1024 + ch.val) % 1024) / 1024
      = n.val % 16 * 256 + n.val / 16 % 256
    omega
  | ⟨1, _⟩ =>
    show 1024 + (((n.val * 1024 + ch.val) / 1024 % 16 * 256 + (n.val * 1024 + ch.val) / 16384) * 1024 + (n.val * 1024 + ch.val) % 1024) % 1024
      = (1024 * 1 + ch.val) % 10240
    omega

theorem v14_apply (n : Fin 4096) : val_main_v14 (F := Ideal) x0 (ix2 n ch) = (part x0 2 ch) n := by
  rw [val_main_v14_apply, val_main_v13_apply, val_main_v12_apply, val_main_v11_apply, val_main_v10_apply]
  refine congrArg x0 (funext fun a => Fin.ext ?_)
  match a with
  | ⟨0, _⟩ =>
    show (((n.val * 1024 + ch.val) / 1024 % 16 * 256 + (n.val * 1024 + ch.val) / 16384) * 1024 + (n.val * 1024 + ch.val) % 1024) / 1024
      = n.val % 16 * 256 + n.val / 16 % 256
    omega
  | ⟨1, _⟩ =>
    show 2048 + (((n.val * 1024 + ch.val) / 1024 % 16 * 256 + (n.val * 1024 + ch.val) / 16384) * 1024 + (n.val * 1024 + ch.val) % 1024) % 1024
      = (1024 * 2 + ch.val) % 10240
    omega

theorem v19_apply (n : Fin 4096) : val_main_v19 (F := Ideal) x0 (ix2 n ch) = (part x0 3 ch) n := by
  rw [val_main_v19_apply, val_main_v18_apply, val_main_v17_apply, val_main_v16_apply, val_main_v15_apply]
  refine congrArg x0 (funext fun a => Fin.ext ?_)
  match a with
  | ⟨0, _⟩ =>
    show (((n.val * 1024 + ch.val) / 1024 % 16 * 256 + (n.val * 1024 + ch.val) / 16384) * 1024 + (n.val * 1024 + ch.val) % 1024) / 1024
      = n.val % 16 * 256 + n.val / 16 % 256
    omega
  | ⟨1, _⟩ =>
    show 3072 + (((n.val * 1024 + ch.val) / 1024 % 16 * 256 + (n.val * 1024 + ch.val) / 16384) * 1024 + (n.val * 1024 + ch.val) % 1024) % 1024
      = (1024 * 3 + ch.val) % 10240
    omega

theorem v43_apply (n : Fin 4096) : val_main_v43 (F := Ideal) x2 (ix2 n ch) = (arrive x2 ch) n := by
  rw [val_main_v43_apply, val_main_v42_apply, val_main_v41_apply, val_main_v40_apply]
  refine congrArg x2 (funext fun a => Fin.ext ?_)
  match a with
  | ⟨0, _⟩ =>
    show (((n.val * 1024 + ch.val) / 1024 % 16 * 256 + (n.val * 1024 + ch.val) / 16384) * 1024 + (n.val * 1024 + ch.val) % 1024) / 1024
      = n.val % 16 * 256 + n.val / 16 % 256
    omega
  | ⟨1, _⟩ =>
    show (((n.val * 1024 + ch.val) / 1024 % 16 * 256 + (n.val * 1024 + ch.val) / 16384) * 1024 + (n.val * 1024 + ch.val) % 1024) % 1024 = ch.val
    omega

theorem v20_apply (n : Fin 4096) : val_main_v20 (F := Ideal) x0 (ix2 n ch) = u (part x0 0 ch) (part x0 2 ch) n := by
  rw [val_main_v20_apply, v14_apply, v4_apply]
  rfl

/-- The convolution's input behind two rows of zeros. -/
theorem v22_apply (n : Fin 4098) : val_main_v22 (F := Ideal) x0 (ix2 n ch) = prev n 2 (u (part x0 0 ch) (part x0 2 ch)) := by
  unfold val_main_v22 prev
  by_cases h : 2 ≤ n.val
  · rw [if_pos h]
    have hn : n.val - 2 < 4096 := by omega
    refine (concatenate_pair_apply_right (s₁ := S2x1024) (s₂ := S4096x1024) 0 _ _ _ (ix2 n ch) rfl rfl (ix2 ⟨n.val - 2, hn⟩ ch) ?_ ?_).trans (v20_apply x0 ch ⟨n.val - 2, hn⟩)
    · intro b hb
      match b with
      | ⟨0, _⟩ => exact absurd rfl hb
      | ⟨1, _⟩ => rfl
    · show n.val - 2 + 2 = n.val
      omega
  · rw [if_neg h]
    refine (concatenate_pair_apply_left (s₁ := S2x1024) (s₂ := S4096x1024) 0 _ _ _ (ix2 n ch) rfl (ix2 ⟨n.val, by omega⟩ ch) ?_).trans ?_
    · intro b
      match b with
      | ⟨0, _⟩ => rfl
      | ⟨1, _⟩ => rfl
    · rw [val_main_v21_apply]
      exact Ideal.ofBits_zero_f32

theorem v25_apply (n : Fin 4096) : val_main_v25 (F := Ideal) x0 (ix2 n ch) = prev n 2 (u (part x0 0 ch) (part x0 2 ch)) := by
  rw [val_main_v25_apply]
  have hn : n.val < 4098 := by omega
  have e : idx_main_v25 (ix2 n ch) = ix2 ⟨n.val, hn⟩ ch := by
    funext a
    match a with
    | ⟨0, _⟩ => rfl
    | ⟨1, _⟩ => rfl
  rw [e]
  exact v22_apply x0 ch ⟨n.val, hn⟩

theorem v24_apply (n : Fin 4096) : val_main_v24 (F := Ideal) x0 (ix2 n ch) = prev n 1 (u (part x0 0 ch) (part x0 2 ch)) := by
  rw [val_main_v24_apply]
  have hn : 1 + n.val < 4098 := by omega
  have e : idx_main_v24 (ix2 n ch) = ix2 ⟨1 + n.val, hn⟩ ch := by
    funext a
    match a with
    | ⟨0, _⟩ => rfl
    | ⟨1, _⟩ => rfl
  rw [e]
  refine (v22_apply x0 ch ⟨1 + n.val, hn⟩).trans ?_
  unfold prev
  by_cases h : 1 ≤ n.val
  · rw [if_pos h, if_pos (by show 2 ≤ 1 + n.val; omega)]
    exact congrArg _ (by show 1 + n.val - 2 = n.val - 1; omega)
  · rw [if_neg h, if_neg (by show ¬ 2 ≤ 1 + n.val; omega)]

theorem v27_apply (n : Fin 4096) : val_main_v27 (F := Ideal) x1 (ix2 n ch) = x1 (ix2 0 ch) := by
  rw [val_main_v27_apply, val_main_v26_apply]
  exact congrArg x1 (funext fun a => Fin.ext (by match a with | ⟨0, _⟩ => rfl | ⟨1, _⟩ => rfl))
theorem v30_apply (n : Fin 4096) : val_main_v30 (F := Ideal) x1 (ix2 n ch) = x1 (ix2 1 ch) := by
  rw [val_main_v30_apply, val_main_v29_apply]
  exact congrArg x1 (funext fun a => Fin.ext (by match a with | ⟨0, _⟩ => rfl | ⟨1, _⟩ => rfl))
theorem v34_apply (n : Fin 4096) : val_main_v34 (F := Ideal) x1 (ix2 n ch) = x1 (ix2 2 ch) := by
  rw [val_main_v34_apply, val_main_v33_apply]
  exact congrArg x1 (funext fun a => Fin.ext (by match a with | ⟨0, _⟩ => rfl | ⟨1, _⟩ => rfl))

theorem v36_apply (n : Fin 4096) : val_main_v36 (F := Ideal) x0 x1 (ix2 n ch) = cv (part x0 0 ch) (part x0 2 ch) (fun k => x1 (ix2 k ch)) n := by
  rw [val_main_v36_apply, val_main_v35_apply, val_main_v32_apply, val_main_v31_apply, val_main_v28_apply, v27_apply, v30_apply,
    v34_apply, v25_apply, v24_apply, v20_apply]
  rfl

/-- The sigmoid of silu's argument. -/
theorem v37_2_apply (n : Fin 4096) : val_main_v37_2 (F := Ideal) x0 (ix2 n ch) = rs ((part x0 3 ch) n) := by
  rw [val_main_v37_2_apply, val_main_call0_v4_apply, val_main_call0_cst_0_apply, val_main_call0_v3_apply, val_main_call0_v2_apply,
    val_main_call0_cst_apply, val_main_call0_v1_apply, val_main_call0_v0_apply, v19_apply]
  show Ideal.div (Ideal.ofBits .f32 0x3F800000#32) (Ideal.ofBits .f32 0x3F800000#32 + Ideal.exp (-((part x0 3 ch) n))) = _
  rw [Ideal.ofBits_one_f32]
  rfl

theorem v37_0_apply (n : Fin 4096) : val_main_v37_0 (F := Ideal) x0 (ix2 n ch) = (part x0 3 ch) n * rs ((part x0 3 ch) n) := by
  rw [val_main_v37_0_apply, v37_2_apply, v19_apply]
  rfl

theorem v37_1_apply (n : Fin 4096) : val_main_v37_1 (F := Ideal) x0 (ix2 n ch) = rs ((part x0 3 ch) n) * (1 - rs ((part x0 3 ch) n)) := by
  rw [val_main_v37_1_apply, val_main_call0_v7_apply, val_main_call0_v6_apply, val_main_call0_cst_1_apply, v37_2_apply]
  show rs ((part x0 3 ch) n) * (Ideal.ofBits .f32 0x3F800000#32 - rs ((part x0 3 ch) n)) = _
  rw [Ideal.ofBits_one_f32]

theorem v44_apply (n : Fin 4096) : val_main_v44 (F := Ideal) x0 x2 (ix2 n ch) = rd (part x0 1 ch) (part x0 3 ch) (arrive x2 ch) n := by
  rw [val_main_v44_apply, val_main_v38_apply, v37_0_apply, v9_apply, v43_apply]
  rfl

theorem v46_apply (n : Fin 4096) : val_main_v46 (F := Ideal) x0 x1 x2 (ix2 n ch) = rgrad (part x0 0 ch) (part x0 1 ch) (part x0 2 ch) (part x0 3 ch) (arrive x2 ch) (fun k => x1 (ix2 k ch)) 1 n := by
  rw [val_main_v46_apply, val_main_v45_apply, v37_0_apply, v43_apply, v36_apply]
  rfl

theorem v47_apply (n : Fin 4096) : val_main_v47 (F := Ideal) x0 x1 x2 (ix2 n ch) = rv (part x0 0 ch) (part x0 1 ch) (part x0 2 ch) (arrive x2 ch) (fun k => x1 (ix2 k ch)) n := by
  rw [val_main_v47_apply, val_main_v45_apply, v43_apply, v36_apply, v9_apply]
  rfl

theorem v48_apply (n : Fin 4096) : val_main_v48 (F := Ideal) x0 x1 x2 (ix2 n ch) = rgrad (part x0 0 ch) (part x0 1 ch) (part x0 2 ch) (part x0 3 ch) (arrive x2 ch) (fun k => x1 (ix2 k ch)) 3 n := by
  rw [val_main_v48_apply, val_main_call1_v1_apply, val_main_call1_v2_apply, val_main_call1_v0_apply, v37_1_apply, v37_2_apply,
    v47_apply, v19_apply]
  rfl

theorem v50_apply (n : Fin 4096) : val_main_v50 (F := Ideal) x0 x1 x2 (ix2 n ch) = x1 (ix2 2 ch) * rd (part x0 1 ch) (part x0 3 ch) (arrive x2 ch) n := by
  rw [val_main_v50_apply, v44_apply]
  exact congrArg (· * _) (v34_apply x1 ch n)
theorem v56_apply (n : Fin 4096) : val_main_v56 (F := Ideal) x0 x1 x2 (ix2 n ch) = x1 (ix2 1 ch) * rd (part x0 1 ch) (part x0 3 ch) (arrive x2 ch) n := by
  rw [val_main_v56_apply, v44_apply]
  exact congrArg (· * _) (v30_apply x1 ch n)
theorem v63_apply (n : Fin 4096) : val_main_v63 (F := Ideal) x0 x1 x2 (ix2 n ch) = x1 (ix2 0 ch) * rd (part x0 1 ch) (part x0 3 ch) (arrive x2 ch) n := by
  rw [val_main_v63_apply, v44_apply]
  exact congrArg (· * _) (v27_apply x1 ch n)

/-- The convolution's transpose. -/
theorem v74_apply (n : Fin 4096) : val_main_v74 (F := Ideal) x0 x1 x2 (ix2 n ch) = ri (part x0 1 ch) (part x0 3 ch) (arrive x2 ch) (fun k => x1 (ix2 k ch)) n := by
  rw [val_main_v74_apply, v50_apply, val_main_v73_apply, val_main_v71_apply]
  have hn : 2 + n.val < 4098 := by omega
  have e : idx_main_v73 (ix2 n ch) = ix2 ⟨2 + n.val, hn⟩ ch := by
    funext a
    match a with
    | ⟨0, _⟩ => rfl
    | ⟨1, _⟩ => rfl
  rw [e]
  unfold val_main_v69 val_main_v70
  rw [pad_rows, pad_rows, val_main_cst_7_apply, val_main_cst_8_apply]
  show x1 (ix2 2 ch) * rd (part x0 1 ch) (part x0 3 ch) (arrive x2 ch) n + ((dite _ _ fun _ => Ideal.ofBits .f32 0x00000000#32) + (dite _ _ fun _ => Ideal.ofBits .f32 0x00000000#32)) = _
  rw [Ideal.ofBits_zero_f32]
  unfold ri
  refine congrArg (_ + ·) (congrArg₂ (· + ·) ?_ ?_)
  · by_cases h : n.val + 2 < 4096
    · rw [if_pos h, dif_pos ⟨Nat.zero_le _, by show 2 + n.val - 0 < 4096; omega⟩, v63_apply]
      show x1 (ix2 0 ch) * rd (part x0 1 ch) (part x0 3 ch) (arrive x2 ch) (2 + n.val - 0) = _
      rw [show 2 + n.val - 0 = n.val + 2 by omega]
    · rw [if_neg h, dif_neg (by show ¬ (0 ≤ 2 + n.val ∧ 2 + n.val - 0 < 4096); omega)]
  · by_cases h : n.val + 1 < 4096
    · rw [if_pos h, dif_pos ⟨by show 1 ≤ 2 + n.val; omega, by show 2 + n.val - 1 < 4096; omega⟩, v56_apply]
      show x1 (ix2 1 ch) * rd (part x0 1 ch) (part x0 3 ch) (arrive x2 ch) (2 + n.val - 1) = _
      rw [show 2 + n.val - 1 = n.val + 1 by omega]
    · rw [if_neg h, dif_neg (by show ¬ (1 ≤ 2 + n.val ∧ 2 + n.val - 1 < 4096); omega)]

theorem v75_apply (n : Fin 4096) : val_main_v75 (F := Ideal) x0 x1 x2 (ix2 n ch) = rgrad (part x0 0 ch) (part x0 1 ch) (part x0 2 ch) (part x0 3 ch) (arrive x2 ch) (fun k => x1 (ix2 k ch)) 0 n := by
  rw [val_main_v75_apply, v14_apply, v74_apply]
  rfl
theorem v76_apply (n : Fin 4096) : val_main_v76 (F := Ideal) x0 x1 x2 (ix2 n ch) = rgrad (part x0 0 ch) (part x0 1 ch) (part x0 2 ch) (part x0 3 ch) (arrive x2 ch) (fun k => x1 (ix2 k ch)) 2 n := by
  rw [val_main_v76_apply, v74_apply, v4_apply]
  rfl

/-- Residue `k`, row `l` of a four-axis index is position `16 * l + k`. -/
def at4 (k : Fin 16) (l : Fin 256) : Fin 4096 := ⟨16 * l.val + k.val, by omega⟩

theorem v85_apply (k : Fin 16) (l : Fin 256) : val_main_v85 (F := Ideal) x0 x1 x2 (ix4 0 k l ch)
    = rgrad (part x0 0 ch) (part x0 1 ch) (part x0 2 ch) (part x0 3 ch) (arrive x2 ch) (fun k => x1 (ix2 k ch)) 0 (16 * l.val + k.val) := by
  rw [val_main_v85_apply, val_main_v78_apply, val_main_v77_apply]
  refine Eq.trans (congrArg _ (funext fun a => Fin.ext ?_)) (v75_apply x0 x1 x2 ch (at4 k l))
  match a with
  | ⟨0, _⟩ => show ((l.val * 16 + k.val) * 1024 + ch.val) / 1024 = 16 * l.val + k.val; omega
  | ⟨1, _⟩ => show ((l.val * 16 + k.val) * 1024 + ch.val) % 1024 = ch.val; omega
theorem v86_apply (k : Fin 16) (l : Fin 256) : val_main_v86 (F := Ideal) x0 x1 x2 (ix4 0 k l ch)
    = rgrad (part x0 0 ch) (part x0 1 ch) (part x0 2 ch) (part x0 3 ch) (arrive x2 ch) (fun k => x1 (ix2 k ch)) 1 (16 * l.val + k.val) := by
  rw [val_main_v86_apply, val_main_v80_apply, val_main_v79_apply]
  refine Eq.trans (congrArg _ (funext fun a => Fin.ext ?_)) (v46_apply x0 x1 x2 ch (at4 k l))
  match a with
  | ⟨0, _⟩ => show ((l.val * 16 + k.val) * 1024 + ch.val) / 1024 = 16 * l.val + k.val; omega
  | ⟨1, _⟩ => show ((l.val * 16 + k.val) * 1024 + ch.val) % 1024 = ch.val; omega
theorem v87_apply (k : Fin 16) (l : Fin 256) : val_main_v87 (F := Ideal) x0 x1 x2 (ix4 0 k l ch)
    = rgrad (part x0 0 ch) (part x0 1 ch) (part x0 2 ch) (part x0 3 ch) (arrive x2 ch) (fun k => x1 (ix2 k ch)) 2 (16 * l.val + k.val) := by
  rw [val_main_v87_apply, val_main_v82_apply, val_main_v81_apply]
  refine Eq.trans (congrArg _ (funext fun a => Fin.ext ?_)) (v76_apply x0 x1 x2 ch (at4 k l))
  match a with
  | ⟨0, _⟩ => show ((l.val * 16 + k.val) * 1024 + ch.val) / 1024 = 16 * l.val + k.val; omega
  | ⟨1, _⟩ => show ((l.val * 16 + k.val) * 1024 + ch.val) % 1024 = ch.val; omega
theorem v88_apply (k : Fin 16) (l : Fin 256) : val_main_v88 (F := Ideal) x0 x1 x2 (ix4 0 k l ch)
    = rgrad (part x0 0 ch) (part x0 1 ch) (part x0 2 ch) (part x0 3 ch) (arrive x2 ch) (fun k => x1 (ix2 k ch)) 3 (16 * l.val + k.val) := by
  rw [val_main_v88_apply, val_main_v84_apply, val_main_v83_apply]
  refine Eq.trans (congrArg _ (funext fun a => Fin.ext ?_)) (v48_apply x0 x1 x2 ch (at4 k l))
  match a with
  | ⟨0, _⟩ => show ((l.val * 16 + k.val) * 1024 + ch.val) / 1024 = 16 * l.val + k.val; omega
  | ⟨1, _⟩ => show ((l.val * 16 + k.val) * 1024 + ch.val) % 1024 = ch.val; omega

/-- The reference's first result: the four gradients. -/
theorem v90_apply (p : Fin 4) (k : Fin 16) (l : Fin 256) : val_main_v90 (F := Ideal) x0 x1 x2 (ix4 p k l ch)
    = rgrad (part x0 0 ch) (part x0 1 ch) (part x0 2 ch) (part x0 3 ch) (arrive x2 ch) (fun k => x1 (ix2 k ch)) p.val (16 * l.val + k.val) := by
  show val_main_v89 (F := Ideal) x0 x1 x2 (ix4 p k l ch) = _
  unfold val_main_v89
  refine (cat4 _ _ _ _ _ p k l ch).trans ?_
  match p with
  | 0 => exact v85_apply x0 x1 x2 ch k l
  | 1 => exact v86_apply x0 x1 x2 ch k l
  | 2 => exact v87_apply x0 x1 x2 ch k l
  | 3 => exact v88_apply x0 x1 x2 ch k l

theorem v53_apply : val_main_v53 (F := Ideal) x0 x2 (ix2 0 ch)
    = rdw (part x0 0 ch) (part x0 1 ch) (part x0 2 ch) (part x0 3 ch) (arrive x2 ch) 2 := by
  rw [val_main_v53_apply, val_main_v52_apply]
  show Ideal.ofBits .f32 0x00000000#32 + _ = _
  rw [Ideal.ofBits_zero_f32, zero_add]
  unfold rdw
  rw [Finset.sum_range]
  refine Finset.sum_congr rfl fun n _ => ?_
  have e : idx_main_v52 (idx_main_v53 (ix2 0 ch)) n = ix2 n ch := by
    refine funext fun a => Fin.ext ?_
    match a with
    | ⟨0, _⟩ => rfl
    | ⟨1, _⟩ => show 0 * 1024 + ch.val = ch.val; omega
  rw [e, val_main_v51_apply, v44_apply, v20_apply]
  rfl
theorem v59_apply : val_main_v59 (F := Ideal) x0 x2 (ix2 0 ch)
    = rdw (part x0 0 ch) (part x0 1 ch) (part x0 2 ch) (part x0 3 ch) (arrive x2 ch) 1 := by
  rw [val_main_v59_apply, val_main_v58_apply]
  show Ideal.ofBits .f32 0x00000000#32 + _ = _
  rw [Ideal.ofBits_zero_f32, zero_add]
  unfold rdw
  rw [Finset.sum_range]
  refine Finset.sum_congr rfl fun n _ => ?_
  have e : idx_main_v58 (idx_main_v59 (ix2 0 ch)) n = ix2 n ch := by
    refine funext fun a => Fin.ext ?_
    match a with
    | ⟨0, _⟩ => rfl
    | ⟨1, _⟩ => show 0 * 1024 + ch.val = ch.val; omega
  rw [e, val_main_v57_apply, v44_apply, v24_apply]
  rfl
theorem v66_apply : val_main_v66 (F := Ideal) x0 x2 (ix2 0 ch)
    = rdw (part x0 0 ch) (part x0 1 ch) (part x0 2 ch) (part x0 3 ch) (arrive x2 ch) 0 := by
  rw [val_main_v66_apply, val_main_v65_apply]
  show Ideal.ofBits .f32 0x00000000#32 + _ = _
  rw [Ideal.ofBits_zero_f32, zero_add]
  unfold rdw
  rw [Finset.sum_range]
  refine Finset.sum_congr rfl fun n _ => ?_
  have e : idx_main_v65 (idx_main_v66 (ix2 0 ch)) n = ix2 n ch := by
    refine funext fun a => Fin.ext ?_
    match a with
    | ⟨0, _⟩ => rfl
    | ⟨1, _⟩ => show 0 * 1024 + ch.val = ch.val; omega
  rw [e, val_main_v64_apply, v44_apply, v25_apply]
  rfl

/-- The reference's second result: the weights' gradients. -/
theorem v68_apply (r : Fin 3) : val_main_v68 (F := Ideal) x0 x2 (ix2 r ch)
    = rdw (part x0 0 ch) (part x0 1 ch) (part x0 2 ch) (part x0 3 ch) (arrive x2 ch) r.val := by
  rw [val_main_v68_apply, val_main_v61_apply]
  unfold val_main_v54 val_main_v60 val_main_v67
  rw [pad_rows, pad_rows, pad_rows, val_main_cst_2_apply, val_main_cst_4_apply, val_main_cst_6_apply]
  show ((dite _ _ fun _ => Ideal.ofBits .f32 0x00000000#32) + (dite _ _ fun _ => Ideal.ofBits .f32 0x00000000#32))
    + (dite _ _ fun _ => Ideal.ofBits .f32 0x00000000#32) = _
  rw [Ideal.ofBits_zero_f32]
  match r with
  | 0 =>
    rw [dif_neg (by decide), dif_neg (by decide), dif_pos (by decide), zero_add, zero_add]
    exact v66_apply x0 x2 ch
  | 1 =>
    rw [dif_neg (by decide), dif_pos (by decide), dif_neg (by decide), zero_add, add_zero]
    exact v59_apply x0 x2 ch
  | 2 =>
    rw [dif_pos (by decide), dif_neg (by decide), dif_neg (by decide), add_zero, add_zero]
    exact v53_apply x0 x2 ch

end

end Cert.ConvRef

end
-- ==== Proof.Finite.lean ====
module

public import proofs.«01_k».proof.Proof.ConvSpec
public import proofs.«01_k».proof.Pre_finite
public import Idealize.ShloMosaic.Lib.ReduceAll
public import Idealize.ShloMosaic.Lib.IdealHost
public import Idealize.ShloMosaic.Lib.Pointwise
public import Idealize.ShloMosaic.Lib.StableHlo.Predicate

@[expose] public section

set_option maxRecDepth 16384

noncomputable section

namespace Cert.Pre_finite.Own

open Cert.Pre_finite Idealize.ShloMosaic

/-- The shape facts of the printed precondition. -/
instance facts : Facts where
  bitsLt_bf16_f32 := by decide
  bcast_S_S4096x10240 := by decide
  reducesTo_S4096x10240_S_d0_1 := by decide
  h_S_ := by decide
  bcast_S_S3x1024 := by decide
  reducesTo_S3x1024_S_d0_1 := by decide
  bcast_S_S4096x1024 := by decide
  reducesTo_S4096x1024_S_d0_1 := by decide

/-- The word of positive infinity. -/
theorem inf_word : FloatOps.ofBits (F := Ideal) (φ := .f32) 0x7F800000#32 = (⊤ : EReal) := by
  show Ideal.ieee 8 23 0x7F800000#32 = ⊤
  have h1 : ((0x7F800000#32).extractLsb' 23 8).toNat = 2 ^ 8 - 1 := by decide
  have h2 : ((0x7F800000#32).extractLsb' 0 23).toNat = 0 := by decide
  have h3 : ((0x7F800000#32).extractLsb' (8 + 23) 1 == 1#1) = false := by decide
  unfold Ideal.ieee
  simp only [h1, h2, h3]
  simp

/-- An extended real below infinity in absolute value is a real number. -/
theorem real_of_lt (a : EReal) (h : Ideal.cmp .olt (max a (-a)) (⊤ : EReal) = 1#1) : Conv.Fin' a := by
  have hlt : max a (-a) < ⊤ := by
    by_contra hn
    simp [Ideal.cmp, hn] at h
  induction a with
  | bot => simp at hlt
  | top => simp at hlt
  | coe r => exact ⟨r, rfl⟩

variable [Facts]

/-- Where the precondition holds, every entry of the three arguments is a real number. -/
theorem finite (x0 : S4096x10240.Idx → EReal) (x1 : S3x1024.Idx → EReal) (x2 : S4096x1024.Idx → EReal) (j : S_.Idx)
    (h : fn (F := Ideal) x0 x1 x2 j = 1#1) :
    (∀ i, Conv.Fin' (x0 i)) ∧ (∀ i, Conv.Fin' (x1 i)) ∧ ∀ i, Conv.Fin' (x2 i) := by
  haveI : Subsingleton S_.Idx := ⟨fun a b => funext fun k => k.elim0⟩
  unfold fn at h
  obtain ⟨h01, h2⟩ := IntOp.andi_eq_one.1 h
  obtain ⟨h0, h1⟩ := IntOp.andi_eq_one.1 h01
  refine ⟨fun i => real_of_lt _ ?_, fun i => real_of_lt _ ?_, fun i => real_of_lt _ ?_⟩
  · have := Host.reduce_andi_all _ _ _ _ j h0 i
    rw [← inf_word]; exact this
  · have := Host.reduce_andi_all _ _ _ _ j h1 i
    rw [← inf_word]; exact this
  · have := Host.reduce_andi_all _ _ _ _ j h2 i
    rw [← inf_word]; exact this

end Cert.Pre_finite.Own

end
-- ==== Proof.ConvClaim.lean ====
module

public import proofs.«01_k».proof.Defs
public import proofs.«01_k».proof.Proof.ConvKernel
public import proofs.«01_k».proof.Proof.ConvRef
public import proofs.«01_k».proof.Proof.Finite
public import proofs.«01_k».proof.Proof.Gen.ReferenceIdeal.Run
public import Idealize.ShloMosaic.Lib.Quiescent

@[expose] public section

set_option maxRecDepth 16384

noncomputable section

namespace Cert.ConvClaim

open Idealize.ShloMosaic Idealize.ShloMosaic.TcCoe Idealize.SL.Sem

/-! ## The claims about the convolution's backward call -/

/-- The reference runs, keeps its arguments, and declares no semaphore. -/
theorem frame_ref : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- A two-axis index is its coordinates. -/
theorem eta2 {a b : ℕ} (y : (⟨2, ![a, b]⟩ : Shape).Idx) : y = ix2 (y 0) (y 1) :=
  funext fun | ⟨0, _⟩ => rfl | ⟨1, _⟩ => rfl

/-- A four-axis index is its coordinates. -/
theorem eta4 {a b c d : ℕ} (y : (⟨4, ![a, b, c, d]⟩ : Shape).Idx) : y = ix4 (y 0) (y 1) (y 2) (y 3) :=
  funext fun | ⟨0, _⟩ => rfl | ⟨1, _⟩ => rfl | ⟨2, _⟩ => rfl | ⟨3, _⟩ => rfl

/-- Of real numbers, the kernel's gradients with respect to the four parts are the reference's. -/
theorem grads_eq (x0 : Cert.KernelIdeal.S4096x10240.Idx → EReal) (x1 : Cert.KernelIdeal.S3x1024.Idx → EReal) (x2 : Cert.KernelIdeal.S4096x1024.Idx → EReal)
    (h0 : ∀ i, Conv.Fin' (x0 i)) (h1 : ∀ i, Conv.Fin' (x1 i)) (h2 : ∀ i, Conv.Fin' (x2 i)) :
    Cert.ReferenceIdeal.Read.val_main_v90 (F := Ideal) x0 x1 x2 = Cert.KernelIdeal.Own.gradArr x0 x1 x2 := by
  funext y
  obtain ⟨p, k, l, ch, rfl⟩ : ∃ (p : Fin 4) (k : Fin 16) (l : Fin 256) (ch : Fin 1024), y = ix4 p k l ch :=
    ⟨y 0, y 1, y 2, y 3, eta4 y⟩
  refine (ConvRef.v90_apply x0 x1 x2 ch p k l).trans ?_
  exact (Conv.kgrad_eq _ _ _ _ _ _ (fun n => h0 _) (fun n => h0 _) (fun n => h0 _) (fun n => h0 _) (fun n => h2 _) (fun k => h1 _)
    p.val (16 * l.val + k.val)).symm

/-- The kernel's gradients with respect to the convolution's weights are the reference's. -/
theorem dws_eq (x0 : Cert.KernelIdeal.S4096x10240.Idx → EReal) (x2 : Cert.KernelIdeal.S4096x1024.Idx → EReal) :
    Cert.ReferenceIdeal.Read.val_main_v68 (F := Ideal) x0 x2 = Cert.KernelIdeal.Own.dwArr x0 x2 := by
  funext y
  obtain ⟨r, ch, rfl⟩ : ∃ (r : Fin 3) (ch : Fin 1024), y = ix2 r ch := ⟨y 0, y 1, eta2 y⟩
  refine (ConvRef.v68_apply x0 x2 ch r).trans ?_
  exact (Conv.kdw_eq _ _ _ _ _ r.val).symm

/-- Kernel and reference end with equal results wherever every entry of the arguments is a real number. -/
theorem algebraic : Cert.algebraic_KernelIdeal_ReferenceIdeal_pre_finite := by
  intro m g m' g' hpre hargs
  refine ⟨fun c => Cert.KernelIdeal.Own.gradArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.KernelIdeal.Own.dwArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Value.run_blocks (F := Ideal) m g)
    obtain ⟨h6, h7, h⟩ := h c
    exact ⟨h6.trans (Cert.KernelIdeal.Own.final6 m c), h7.trans (Cert.KernelIdeal.Own.final7 m c), h⟩
  · refine (θ_run Cert.ReferenceIdeal.defs _ _).mono (fun r h c => ?_) (Cert.ReferenceIdeal.Value.run (F := Ideal) m' g')
    obtain ⟨e90, e68, hk⟩ := h c
    obtain ⟨a0, a1, a2⟩ := hargs c
    obtain ⟨f0, f1, f2⟩ := Cert.Pre_finite.Own.finite _ _ _ ix0 (congrFun (hpre c) _)
    refine ⟨e90.trans ?_, e68.trans ?_, hk⟩
    · rw [Cert.ReferenceIdeal.Read.val_main_v90_eq, a0, a1, a2]
      exact grads_eq _ _ _ f0 f1 f2
    · rw [Cert.ReferenceIdeal.Read.val_main_v68_eq, a0, a2]
      exact dws_eq _ _

end Cert.ConvClaim

end
-- ==== Proof.Parts.lean ====
module

public import Idealize.ShloMosaic.Lib.Pointwise
public import Idealize.ShloMosaic.Lib.Pipeline.Value
public import Idealize.ShloMosaic.Lib.IdealHost

@[expose] public section

set_option maxRecDepth 16384

noncomputable section

namespace Cert.Parts

open Idealize.ShloMosaic

/-! ## The ten gradients of the projected parts, side by side -/

/-- Entry `(s, C)` of the ten arrays `[n, 1024]` laid side by side as columns: the four of `a`, the three of `b`, the three of `d`. -/
def cols {n : ℕ} (a : (⟨3, ![4, n, 1024]⟩ : Shape).Idx → EReal) (b d : (⟨3, ![3, n, 1024]⟩ : Shape).Idx → EReal)
    (s : Fin n) (C : Fin 10240) : EReal :=
  if C.val / 1024 < 4 then a (ix3 ⟨C.val / 1024 % 4, by omega⟩ s ⟨C.val % 1024, by omega⟩)
  else if C.val / 1024 < 7 then b (ix3 ⟨(C.val / 1024 - 4) % 3, by omega⟩ s ⟨C.val % 1024, by omega⟩)
  else d (ix3 ⟨(C.val / 1024 - 7) % 3, by omega⟩ s ⟨C.val % 1024, by omega⟩)

variable {n : ℕ} (a : (⟨3, ![4, n, 1024]⟩ : Shape).Idx → EReal) (b d : (⟨3, ![3, n, 1024]⟩ : Shape).Idx → EReal)

theorem cols_a (s : Fin n) (C : Fin 10240) (h : C.val / 1024 < 4) :
    cols a b d s C = a (ix3 ⟨C.val / 1024 % 4, by omega⟩ s ⟨C.val % 1024, by omega⟩) := if_pos h

theorem cols_b (s : Fin n) (C : Fin 10240) (h : ¬C.val / 1024 < 4) (h' : C.val / 1024 < 7) :
    cols a b d s C = b (ix3 ⟨(C.val / 1024 - 4) % 3, by omega⟩ s ⟨C.val % 1024, by omega⟩) := (if_neg h).trans (if_pos h')

theorem cols_d (s : Fin n) (C : Fin 10240) (h : ¬C.val / 1024 < 4) (h' : ¬C.val / 1024 < 7) :
    cols a b d s C = d (ix3 ⟨(C.val / 1024 - 7) % 3, by omega⟩ s ⟨C.val % 1024, by omega⟩) := (if_neg h).trans (if_neg h')

/-- The ten arrays laid one after another, read at part `p`. -/
theorem concat_apply (h : Shape.Concatenates ([⟨⟨3, ![4, n, 1024]⟩, a⟩, ⟨⟨3, ![3, n, 1024]⟩, b⟩, ⟨⟨3, ![3, n, 1024]⟩, d⟩].map
      fun z : (s : Shape) × (s.Idx → EReal) => z.1) (⟨3, ![10, n, 1024]⟩ : Shape) 0)
    (s : Fin n) (C : Fin 10240) :
    concatenate (⟨3, ![10, n, 1024]⟩ : Shape) 0 [⟨⟨3, ![4, n, 1024]⟩, a⟩, ⟨⟨3, ![3, n, 1024]⟩, b⟩, ⟨⟨3, ![3, n, 1024]⟩, d⟩] h
      (ix3 ⟨C.val / 1024, by omega⟩ s ⟨C.val % 1024, by omega⟩) = cols a b d s C := by
  have hC := C.isLt
  by_cases h4 : C.val / 1024 < 4
  · rw [cols_a a b d s C h4]
    refine concatenate_apply_piece 0 _ h _ 0 (by simp) _ a rfl rfl 0 rfl (ix3 ⟨C.val / 1024 % 4, by omega⟩ s ⟨C.val % 1024, by omega⟩) ?_ ?_
    · intro b hb
      match b with
      | ⟨0, _⟩ => exact absurd rfl hb
      | ⟨1, _⟩ => rfl
      | ⟨2, _⟩ => rfl
    · show 0 + C.val / 1024 % 4 = C.val / 1024
      omega
  · by_cases h7 : C.val / 1024 < 7
    · rw [cols_b a b d s C h4 h7]
      refine concatenate_apply_piece 0 _ h _ 1 (by simp) _ b rfl rfl 4 rfl (ix3 ⟨(C.val / 1024 - 4) % 3, by omega⟩ s ⟨C.val % 1024, by omega⟩) ?_ ?_
      · intro b hb
        match b with
        | ⟨0, _⟩ => exact absurd rfl hb
        | ⟨1, _⟩ => rfl
        | ⟨2, _⟩ => rfl
      · show 4 + (C.val / 1024 - 4) % 3 = C.val / 1024
        omega
    · rw [cols_d a b d s C h4 h7]
      refine concatenate_apply_piece 0 _ h _ 2 (by simp) _ d rfl rfl 7 rfl (ix3 ⟨(C.val / 1024 - 7) % 3, by omega⟩ s ⟨C.val % 1024, by omega⟩) ?_ ?_
      · intro b hb
        match b with
        | ⟨0, _⟩ => exact absurd rfl hb
        | ⟨1, _⟩ => rfl
        | ⟨2, _⟩ => rfl
      · show 7 + (C.val / 1024 - 7) % 3 = C.val / 1024
        omega

end Cert.Parts

end
-- ==== Proof.DwKernel.lean ====
module

public import proofs.«01_k».proof.Proof.Parts
public import proofs.«01_k».proof.Proof.Gen.Kernel2Ideal.Value
public import proofs.«01_k».proof.Proof.Gen.Reference2Ideal.Read
public import Idealize.ShloMosaic.Lib.MatmulPlain
public import Idealize.ShloMosaic.Lib.Pipeline.ValueKit
public import Idealize.ShloMosaic.Lib.Claim

@[expose] public section

set_option maxRecDepth 16384

noncomputable section

namespace Cert.Kernel2Ideal.Own

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-! ## What one grid point computes: the product of the transposed rows with its block of columns -/

theorem hz : (![0, 0, 0] : Fin 3 → ℕ) = 0 := by funext a; fin_cases a <;> rfl
theorem hz2 : (![0, 0] : Fin 2 → ℕ) = 0 := by funext a; fin_cases a <;> rfl

/-- The product of a point at an entry. -/
theorem product_apply (u : Vec Ideal S1024x4096 .bf16) (p : Vec Ideal S1x4096x512 .bf16) (d : Fin 1024) (k : Fin 512) :
    k0_pay1 u p (ix3 0 d k) = ∑ s : Fin 4096, u (ix2 d s) * p (ix3 0 s k) := by
  unfold k0_pay1
  refine (shapeCast_addUnit_apply ![1024, 512] _ _ (ix3 0 d k)).trans ?_
  refine Eq.trans (congrArg _ (?_ : _ = ix2 d k)) ?_
  · funext a
    match a with
    | ⟨0, _⟩ => rfl
    | ⟨1, _⟩ => rfl
  refine (Ideal.matmul_plain_apply none _ _ _ d k).trans ?_
  rw [shapeCast_self]
  refine Eq.trans (congrArg (· + _) (Ideal.ofBits_zero_f32)) ?_
  rw [zero_add]
  refine Finset.sum_congr rfl fun s _ => congrArg (u (ix2 d s) * ·) ?_
  refine (shapeCast_dropUnit_apply ![4096, 512] p _ (ix2 s k)).trans (congrArg p ?_)
  funext a
  match a with
  | ⟨0, _⟩ => rfl
  | ⟨1, _⟩ => rfl
  | ⟨2, _⟩ => rfl

section Cases

variable (c : Dev nD) (i : grid0.Coords) (arg1 : Memref sig .tc .vmem S1024x4096 .bf16) (harg1 : arg1.IsWhole)
  (arg2 : Memref sig .tc .vmem S1x4096x512 .bf16) (harg2 : arg2.IsWhole) (arg3 : Memref sig .tc .vmem S1x4096x512 .bf16) (harg3 : arg3.IsWhole)
  (arg4 : Memref sig .tc .vmem S1x4096x512 .bf16) (harg4 : arg4.IsWhole) (arg5 : Memref sig .tc .vmem S1x1024x512 .f32) (harg5 : arg5.IsWhole)
  (x0 : Vec Ideal S1024x4096 .bf16) (x1 x2 x3 : Vec Ideal S1x4096x512 .bf16)

/-- At a point of the first eight the product is with the first operand's block. -/
theorem outA (hc0 : cond0_0 i) (hc1 : ¬cond0_1 i) (hc2 : ¬cond0_2 i) :
    out0_A_4 c i arg1 harg1 arg2 harg2 arg3 harg3 arg4 harg4 arg5 harg5 hc0 hc1 hc2 x0 x1 x2 x3 = k0_pay1 x0 x1 := by
  unfold out0_A_4
  rw [View.read_writes_eq_canon _ _ _ (cover0_A_4 c i arg1 harg1 arg2 harg2 arg3 harg3 arg4 harg4 arg5 harg5 hc0 hc1 hc2 x0 x1 x2 x3)]
  unfold kernelRun0_A
  dsimp only
  sl_unfold_words
  rw [View.canon_unit_zero (S := S1x1024x512) hz]
  simp only [View.readAt_eq_ld, harg1.read_unread, harg2.read_unread, View.ld_unit_zero (S := S1024x4096) hz2, View.ld_unit_zero (S := S1x4096x512) hz]

/-- At a point of the next six the product is with the second operand's block. -/
theorem outB (hc0 : ¬cond0_0 i) (hc1 : cond0_1 i) (hc2 : ¬cond0_2 i) :
    out0_B_4 c i arg1 harg1 arg2 harg2 arg3 harg3 arg4 harg4 arg5 harg5 hc0 hc1 hc2 x0 x1 x2 x3 = k0_pay1 x0 x2 := by
  unfold out0_B_4
  rw [View.read_writes_eq_canon _ _ _ (cover0_B_4 c i arg1 harg1 arg2 harg2 arg3 harg3 arg4 harg4 arg5 harg5 hc0 hc1 hc2 x0 x1 x2 x3)]
  unfold kernelRun0_B
  dsimp only
  sl_unfold_words
  rw [View.canon_unit_zero (S := S1x1024x512) hz]
  simp only [View.readAt_eq_ld, harg1.read_unread, harg3.read_unread, View.ld_unit_zero (S := S1024x4096) hz2, View.ld_unit_zero (S := S1x4096x512) hz]
  rfl

/-- At a point of the last six the product is with the third operand's block. -/
theorem outC (hc0 : ¬cond0_0 i) (hc1 : ¬cond0_1 i) (hc2 : cond0_2 i) :
    out0_C_4 c i arg1 harg1 arg2 harg2 arg3 harg3 arg4 harg4 arg5 harg5 hc0 hc1 hc2 x0 x1 x2 x3 = k0_pay1 x0 x3 := by
  unfold out0_C_4
  rw [View.read_writes_eq_canon _ _ _ (cover0_C_4 c i arg1 harg1 arg2 harg2 arg3 harg3 arg4 harg4 arg5 harg5 hc0 hc1 hc2 x0 x1 x2 x3)]
  unfold kernelRun0_C
  dsimp only
  sl_unfold_words
  rw [View.canon_unit_zero (S := S1x1024x512) hz]
  simp only [View.readAt_eq_ld, harg1.read_unread, harg4.read_unread, View.ld_unit_zero (S := S1024x4096) hz2, View.ld_unit_zero (S := S1x4096x512) hz]
  rfl

end Cases

/-! ## The blocks a point reads, as entries of the arguments -/

/-- The transposed normalised rows as the grid finds them. -/
theorem rows (c : Dev nD) (d : Fin 1024) (s : Fin 4096) :
    V m c main_v13 (ix2 d s) = Cert.Reference2Ideal.Read.val_main_v12 (F := Ideal) (m ((c : Thread nD τ).loc main_arg0)) (m ((c : Thread nD τ).loc main_arg1)) (ix2 s d) := by
  entry_read
  refine (transpose_apply [1, 0] _ _ (ix2 d s) (ix2 s d) (fun b => match b with
    | ⟨0, _⟩ => rfl
    | ⟨1, _⟩ => rfl)).trans ?_
  rfl

theorem index0 : ∀ t : Fin cfg0.N, win0_0.index t = ![0, 0] := (by decide +kernel : ∀ t : Fin grid0.N, _)
theorem index1 : ∀ t : Fin cfg0.N, t.val < 8 → win0_1.index t = ![t.val / 2, 0, t.val % 2] := (by decide +kernel : ∀ t : Fin grid0.N, _)
theorem index2 : ∀ t : Fin cfg0.N, 8 ≤ t.val → t.val < 14 → win0_2.index t = ![(t.val - 8) / 2, 0, t.val % 2] := (by decide +kernel : ∀ t : Fin grid0.N, _)
theorem index3 : ∀ t : Fin cfg0.N, 14 ≤ t.val → win0_3.index t = ![(t.val - 14) / 2, 0, t.val % 2] := (by decide +kernel : ∀ t : Fin grid0.N, _)
theorem index4 : ∀ t : Fin cfg0.N, win0_4.index t = ![t.val / 5, 0, t.val % 5] := (by decide +kernel : ∀ t : Fin grid0.N, _)

/-- Column `k` of block `t` among the 10240 columns. -/
def colOf (t : Fin cfg0.N) (k : Fin 512) : Fin 10240 := ⟨t.val * 512 + k.val, by have ht : t.val < 20 := t.isLt; omega⟩

theorem block0 (c : Dev nD) (t : Fin cfg0.N) (d : Fin 1024) (s : Fin 4096) :
    iblk m c 0 t (ix2 d s) = Cert.Reference2Ideal.Read.val_main_v12 (F := Ideal) (m ((c : Thread nD τ).loc main_arg0)) (m ((c : Thread nD τ).loc main_arg1)) (ix2 s d) := by
  refine Eq.trans ?_ (rows m c d s)
  blk_simp [iblk]
  refine congrArg (V m c main_v13) ?_
  blk_ext [index0]

/-- The columns of the gradients at a device's arguments. -/
def colsAt (c : Dev nD) (s : Fin 4096) (C : Fin 10240) : EReal :=
  Parts.cols (m ((c : Thread nD τ).loc main_arg2)) (m ((c : Thread nD τ).loc main_arg3)) (m ((c : Thread nD τ).loc main_arg4)) s C

theorem block1 (c : Dev nD) (t : Fin cfg0.N) (ht : t.val < 8) (s : Fin 4096) (k : Fin 512) :
    iblk m c 1 t (ix3 0 s k) = colsAt m c s (colOf t k) := by
  unfold colsAt
  rw [Parts.cols_a _ _ _ s (colOf t k) (by show (t.val * 512 + k.val) / 1024 < 4; omega)]
  refine Eq.trans ?_ (congrFun (V_main_arg2 m c) _)
  blk_simp [iblk]
  refine congrArg (V m c main_arg2) ?_
  blk_ext [index1 t ht, colOf]

theorem block2 (c : Dev nD) (t : Fin cfg0.N) (ht : 8 ≤ t.val) (ht' : t.val < 14) (s : Fin 4096) (k : Fin 512) :
    iblk m c 2 t (ix3 0 s k) = colsAt m c s (colOf t k) := by
  unfold colsAt
  rw [Parts.cols_b _ _ _ s (colOf t k) (by show ¬(t.val * 512 + k.val) / 1024 < 4; omega) (by show (t.val * 512 + k.val) / 1024 < 7; omega)]
  refine Eq.trans ?_ (congrFun (V_main_arg3 m c) _)
  blk_simp [iblk]
  refine congrArg (V m c main_arg3) ?_
  blk_ext [index2 t ht ht', colOf]

theorem block3 (c : Dev nD) (t : Fin cfg0.N) (ht : 14 ≤ t.val) (s : Fin 4096) (k : Fin 512) :
    iblk m c 3 t (ix3 0 s k) = colsAt m c s (colOf t k) := by
  have hN : t.val < 20 := t.isLt
  unfold colsAt
  rw [Parts.cols_d _ _ _ s (colOf t k) (by show ¬(t.val * 512 + k.val) / 1024 < 4; omega) (by show ¬(t.val * 512 + k.val) / 1024 < 7; omega)]
  refine Eq.trans ?_ (congrFun (V_main_arg4 m c) _)
  blk_simp [iblk]
  refine congrArg (V m c main_arg4) ?_
  blk_ext [index3 t ht, colOf]

/-! ## The result -/

/-- The gradient with respect to the projection's weights, in four slices of 2560 columns. -/
def dwArr (x0 : S4096x1024.Idx → EReal) (x1 : S1x1024.Idx → EReal) (x2 : S4x4096x1024.Idx → EReal) (x3 x4 : S3x4096x1024.Idx → EReal) : S4x1024x2560.Idx → EReal :=
  fun y => ∑ s : Fin 4096, Cert.Reference2Ideal.Read.val_main_v12 (F := Ideal) x0 x1 (ix2 s (y 1))
    * Parts.cols x2 x3 x4 s ⟨(y 0).val * 2560 + (y 2).val, by have h0 : (y 0).val < 4 := (y 0).isLt; have h2 : (y 2).val < 2560 := (y 2).isLt; omega⟩

/-- What the body leaves at point `t`. -/
theorem outs_apply (c : Dev nD) (t : Fin cfg0.N) (d : Fin 1024) (k : Fin 512) : outsAt0 m c t.val t.isLt (ix3 0 d k)
    = ∑ s : Fin 4096, Cert.Reference2Ideal.Read.val_main_v12 (F := Ideal) (m ((c : Thread nD τ).loc main_arg0)) (m ((c : Thread nD τ).loc main_arg1)) (ix2 s d)
      * colsAt m c s (colOf t k) := by
  have ht : t.val < 20 := t.isLt
  by_cases h8 : t.val < 8
  · rw [outsAt0_A m c t h8 (by omega) (by omega), outA, product_apply]
    exact Finset.sum_congr rfl fun s _ => by rw [block0, block1 m c t h8]
  · by_cases h14 : t.val < 14
    · rw [outsAt0_B m c t h8 (by omega) (by omega), outB, product_apply]
      exact Finset.sum_congr rfl fun s _ => by rw [block0, block2 m c t (by omega) h14]
    · rw [outsAt0_C m c t h8 (by omega) (by omega), outC, product_apply]
      exact Finset.sum_congr rfl fun s _ => by rw [block0, block3 m c t (by omega)]

/-- The result after the run. -/
theorem final4 (c : Dev nD) : (dats m 0 c).arrAt 4 cfg0.N
    = dwArr (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 4 _ (by decide +kernel) fun t hf y => ?_
  blk_simp
  rw [after0_4]
  have ht : t.val < 20 := t.isLt
  obtain ⟨d, k, rfl⟩ : ∃ (d : Fin 1024) (k : Fin 512), y = ix3 0 d k := ⟨y 1, y 2, by blk_ext []⟩
  refine (outs_apply m c t d k).trans ?_
  refine Eq.trans (?_ : _ = dwArr _ _ _ _ _ (ix3 ⟨t.val / 5, by omega⟩ d ⟨t.val % 5 * 512 + k.val, by omega⟩)) (congrArg (dwArr _ _ _ _ _) ?_)
  · refine Finset.sum_congr rfl fun s _ => congrArg (_ * ·) (congrArg (colsAt m c s) (Fin.ext ?_))
    show t.val * 512 + k.val = t.val / 5 * 2560 + (t.val % 5 * 512 + k.val)
    omega
  · blk_ext [index4]

end Cert.Kernel2Ideal.Own

end
-- ==== Proof.DwClaim.lean ====
module

public import proofs.«01_k».proof.Defs
public import proofs.«01_k».proof.Proof.DwKernel
public import proofs.«01_k».proof.Proof.Gen.Reference2Ideal.Run
public import Idealize.ShloMosaic.Lib.Quiescent

@[expose] public section

set_option maxRecDepth 16384

noncomputable section

namespace Cert.DwClaim

open Idealize.ShloMosaic Idealize.ShloMosaic.TcCoe Idealize.SL.Sem
open Cert.Reference2Ideal Cert.Reference2Ideal.Read

/-! ## The reference's result at an entry -/

variable (x0 : S4096x1024.Idx → EReal) (x1 : S1x1024.Idx → EReal) (x2 : S4x4096x1024.Idx → EReal) (x3 x4 : S3x4096x1024.Idx → EReal)

/-- The ten parts side by side, as the reference lays them. -/
theorem side_by_side (s : Fin 4096) (C : Fin 10240) : val_main_v17 (F := Ideal) x2 x3 x4 (ix2 s C) = Parts.cols x2 x3 x4 s C := by
  have hC := C.isLt
  rw [val_main_v17_apply, val_main_v16_apply, val_main_v15_apply]
  refine Eq.trans (congrArg (val_main_v14 (F := Ideal) x2 x3 x4) (?_ : _ = ix3 ⟨C.val / 1024, by omega⟩ s ⟨C.val % 1024, by omega⟩)) ?_
  · funext a
    match a with
    | ⟨0, _⟩ => exact Fin.ext (by show (s.val * 10240 + C.val) / 1024 % 10 = C.val / 1024; omega)
    | ⟨1, _⟩ => exact Fin.ext (by show (s.val * 10240 + C.val) / 10240 = s.val; omega)
    | ⟨2, _⟩ => exact Fin.ext (by show (s.val * 10240 + C.val) % 1024 = C.val % 1024; omega)
  · exact Parts.concat_apply x2 x3 x4 _ s C

/-- Of every argument, the reference's gradient is the kernel's. -/
theorem dw_eq : val_main_v21 (F := Ideal) x0 x1 x2 x3 x4 = Cert.Kernel2Ideal.Own.dwArr x0 x1 x2 x3 x4 := by
  funext y
  obtain ⟨a, d, k, rfl⟩ : ∃ (a : Fin 4) (d : Fin 1024) (k : Fin 2560), y = ix3 a d k :=
    ⟨y 0, y 1, y 2, funext fun | ⟨0, _⟩ => rfl | ⟨1, _⟩ => rfl | ⟨2, _⟩ => rfl⟩
  rw [val_main_v21_apply, val_main_v20_apply, val_main_v19_apply]
  refine Eq.trans (congrArg (val_main_v18 (F := Ideal) x0 x1 x2 x3 x4) (?_ : _ = ix2 ⟨a.val * 2560 + k.val, by omega⟩ d)) ?_
  · funext b
    match b with
    | ⟨0, _⟩ => exact Fin.ext (by show ((d.val * 4 + a.val) * 2560 + k.val) % 10240 = a.val * 2560 + k.val; omega)
    | ⟨1, _⟩ => exact Fin.ext (by show ((d.val * 4 + a.val) * 2560 + k.val) / 10240 = d.val; omega)
  rw [val_main_v18_apply]
  refine Finset.sum_congr rfl fun s _ => ?_
  refine (mul_comm _ _).trans (congrArg₂ (· * ·) (congrArg (val_main_v12 (F := Ideal) x0 x1) ?_) ?_)
  · funext b
    match b with
    | ⟨0, _⟩ => rfl
    | ⟨1, _⟩ => rfl
  · refine Eq.trans (congrArg (val_main_v17 (F := Ideal) x2 x3 x4) ?_) (side_by_side x2 x3 x4 s ⟨a.val * 2560 + k.val, by omega⟩)
    funext b
    match b with
    | ⟨0, _⟩ => rfl
    | ⟨1, _⟩ => rfl

/-! ## The claims about the call that computes the gradient with respect to the projection's weights -/

/-- The reference runs, keeps its arguments, and declares no semaphore. -/
theorem frame_ref : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Kernel and reference end with equal results, of every argument. -/
theorem algebraic : Cert.algebraic_Kernel2Ideal_Reference2Ideal := by
  intro m g m' g' _ hargs
  refine ⟨fun c => Cert.Kernel2Ideal.Own.dwArr (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4)), ?_, ?_⟩
  · refine (θ_run Cert.Kernel2Ideal.defs _ _).mono (fun r h c => ?_) (Cert.Kernel2Ideal.Value.run_blocks (F := Ideal) m g)
    obtain ⟨h4, h⟩ := h c
    exact ⟨h4.trans (Cert.Kernel2Ideal.Own.final4 m c), h⟩
  · refine (θ_run Cert.Reference2Ideal.defs _ _).mono (fun r h c => ?_) (Cert.Reference2Ideal.Value.run (F := Ideal) m' g')
    obtain ⟨e, hk⟩ := h c
    obtain ⟨a0, a1, a2, a3, a4⟩ := hargs c
    refine ⟨e.trans ?_, hk⟩
    rw [val_main_v21_eq, a0, a1, a2, a3, a4]
    exact dw_eq _ _ _ _ _

end Cert.DwClaim

end
-- ==== Proof.RmsBack.lean ====
module

public import Idealize.ShloMosaic.Lib.Pointwise
public import Idealize.ShloMosaic.Lib.IdealHost

@[expose] public section

noncomputable section

namespace Cert.Rms

open Idealize.ShloMosaic

/-! ## The backward pass of the mean-square normalisation of one row, two ways -/

theorem sq_nonneg (a : EReal) : 0 ≤ a * a := by
  induction a using EReal.rec with
  | bot => rw [EReal.bot_mul_bot]; exact le_top
  | top => rw [EReal.top_mul_top]; exact le_top
  | coe r => exact_mod_cast mul_self_nonneg r

/-- A nonnegative real factor distributes over any sum. -/
theorem coe_mul_add {r : ℝ} (hr : 0 ≤ r) (a b : EReal) : (r : EReal) * (a + b) = r * a + r * b :=
  EReal.left_distrib_of_nonneg_of_ne_top (by exact_mod_cast hr) (EReal.coe_ne_top r) a b

/-- A finite nonnegative factor of a sum's terms is a factor of the sum. -/
theorem mul_sum {ι : Type} (s : Finset ι) (f : ι → EReal) (r : ℝ) (hr : 0 ≤ r) : ∑ j ∈ s, (r : EReal) * f j = r * ∑ j ∈ s, f j := by
  classical
  induction s using Finset.induction_on with
  | empty => simp
  | insert a s ha ih => rw [Finset.sum_insert ha, Finset.sum_insert ha, ih, coe_mul_add hr]

theorem twice (a : EReal) : a + a = ((2 : ℝ) : EReal) * a := by
  induction a using EReal.rec with
  | bot => rw [EReal.coe_mul_bot_of_pos (by norm_num), EReal.bot_add]
  | top => rw [EReal.coe_mul_top_of_pos (by norm_num), EReal.top_add_top]
  | coe r => rw [← EReal.coe_add, ← EReal.coe_mul, two_mul]

/-- The mean square of a row plus a positive number is infinite, or the row is real and it is a positive real number. -/
theorem mean_sq {n : ℕ} (x : Fin n → EReal) (N e : ℝ) (hN : 0 < N) (he : 0 < e) :
    Ideal.div (∑ j, x j * x j) (N : EReal) + (e : EReal) = ⊤
      ∨ ∃ v : ℝ, 0 < v ∧ Ideal.div (∑ j, x j * x j) (N : EReal) + (e : EReal) = (v : EReal) ∧ ∀ j, ∃ y : ℝ, x j = y := by
  have h0 : (0 : EReal) ≤ ∑ j, x j * x j := Finset.sum_nonneg fun j _ => sq_nonneg (x j)
  have hle : ∀ j, x j * x j ≤ ∑ j, x j * x j := fun j =>
    Finset.single_le_sum (f := fun j => x j * x j) (fun j _ => sq_nonneg (x j)) (Finset.mem_univ j)
  have hi : 0 < 1 / N := by positivity
  rw [Ideal.div_coe hN.ne']
  generalize (∑ j, x j * x j : EReal) = S at h0 hle
  induction S using EReal.rec with
  | bot => exact absurd h0 (by simp)
  | top => exact .inl (by rw [EReal.top_mul_coe_of_pos hi, EReal.top_add_coe])
  | coe s =>
    have hs : 0 ≤ s := by exact_mod_cast h0
    refine .inr ⟨s * (1 / N) + e, by positivity, by norm_cast, fun j => ?_⟩
    have h := hle j
    generalize x j = a at h
    induction a using EReal.rec with
    | bot => rw [EReal.bot_mul_bot] at h; exact absurd h (by simp)
    | coe y => exact ⟨y, rfl⟩
    | top => rw [EReal.top_mul_top] at h; exact absurd h (by simp)

/-- The kernel's line for the gradient with respect to a row is what differentiating the normalisation gives. -/
theorem back {n : ℕ} (D x : Fin n → EReal) (dh v r : EReal) (N e : ℝ) (hN : 0 < N) (he : 0 < e)
    (hv : v = Ideal.div (∑ j, x j * x j) (N : EReal) + (e : EReal)) (hr : r = Ideal.rsqrt v) (d : Fin n) :
    dh + r * (D d - (x d * r) * Ideal.div (∑ j, D j * (x j * r)) (N : EReal))
      = ((dh + D d * r) + x d * Ideal.div ((∑ j, x j * D j) * (((-(1 / 2) : ℝ) : EReal) * Ideal.div r v)) (N : EReal))
        + Ideal.div ((∑ j, x j * D j) * (((-(1 / 2) : ℝ) : EReal) * Ideal.div r v)) (N : EReal) * x d := by
  rw [Ideal.div_coe hN.ne', Ideal.div_coe hN.ne']
  rcases mean_sq x N e hN he with h | ⟨w, hw, h, hx⟩
  · rw [h] at hv
    rw [hv, Ideal.rsqrt_top] at hr
    have hz : Ideal.div (0 : EReal) v = 0 := Ideal.zero_div (by rw [hv]; exact EReal.top_ne_zero)
    rw [hr, hz]
    simp only [mul_zero, zero_mul, add_zero]
  · rw [h] at hv
    have hs : 0 < Real.sqrt w := Real.sqrt_pos.mpr hw
    have hr' : r = (((Real.sqrt w)⁻¹ : ℝ) : EReal) := by
      rw [hr, hv, Ideal.rsqrt_coe, if_neg (by linarith), if_neg hw.ne']
    obtain ⟨q, hq0, hq2, rfl⟩ : ∃ q : ℝ, 0 < q ∧ q * q * w = 1 ∧ r = (q : EReal) := by
      refine ⟨(Real.sqrt w)⁻¹, by positivity, ?_, hr'⟩
      have := Real.mul_self_sqrt hw.le
      field_simp
      nlinarith
    obtain ⟨y, hy⟩ := hx d
    have hdiv : Ideal.div (q : EReal) v = ((q * q * q : ℝ) : EReal) := by
      rw [hv, Ideal.div_coe hw.ne', ← EReal.coe_mul]
      congr 1
      field_simp
      nlinarith
    have hsum : ∑ j, D j * (x j * (q : EReal)) = (q : EReal) * ∑ j, x j * D j := by
      rw [← mul_sum _ _ q hq0.le]
      exact Finset.sum_congr rfl fun j _ => by rw [← mul_assoc, mul_comm, mul_comm (D j)]
    rw [hdiv, hsum, hy]
    generalize (∑ j, x j * D j : EReal) = T
    have hk : (y : EReal) * (T * (((-(1 / 2) : ℝ) : EReal) * ((q * q * q : ℝ) : EReal)) * ((1 / N : ℝ) : EReal))
        = ((-(1 / 2) * (y * (q * q * q) * (1 / N)) : ℝ) : EReal) * T := by
      rw [← EReal.coe_mul, mul_comm T, mul_right_comm, ← EReal.coe_mul, ← mul_assoc, ← EReal.coe_mul]
      congr 2
      ring
    have hk' : (T * (((-(1 / 2) : ℝ) : EReal) * ((q * q * q : ℝ) : EReal)) * ((1 / N : ℝ) : EReal)) * (y : EReal)
        = ((-(1 / 2) * (y * (q * q * q) * (1 / N)) : ℝ) : EReal) * T := by rw [mul_comm, hk]
    have hl : (y : EReal) * (q : EReal) * ((q : EReal) * T * ((1 / N : ℝ) : EReal)) = ((y * (q * q) * (1 / N) : ℝ) : EReal) * T := by
      rw [← EReal.coe_mul, mul_right_comm, ← EReal.coe_mul, ← mul_assoc, ← EReal.coe_mul]
      congr 2
      ring
    rw [hk, hk', hl, add_assoc (dh + D d * q), twice, ← mul_assoc ((2 : ℝ) : EReal), ← EReal.coe_mul, add_assoc]
    refine congrArg (dh + ·) ?_
    rw [sub_eq_add_neg, coe_mul_add hq0.le, mul_comm (D d), ← EReal.neg_mul, ← EReal.coe_neg,
      ← mul_assoc (q : EReal), ← EReal.coe_mul]
    congr 3
    ring

end Cert.Rms

end
-- ==== Proof.InMath.lean ====
module

public import proofs.«01_k».proof.Proof.Parts
public import proofs.«01_k».proof.Proof.RmsBack
public import Idealize.ShloMosaic.Lib.Claim

@[expose] public section

noncomputable section

namespace Cert.Parts

open Idealize.ShloMosaic

/-! ## Sums in blocks -/

/-- A sum over `n` blocks of `b` terms, block after block. -/
theorem sum_range_blocks (f : ℕ → EReal) (b : ℕ) : ∀ n, ∑ i ∈ Finset.range (b * n), f i = ∑ k ∈ Finset.range n, ∑ j ∈ Finset.range b, f (b * k + j)
  | 0 => by simp
  | n + 1 => by rw [Nat.mul_succ, Finset.sum_range_add, sum_range_blocks f b n, Finset.sum_range_succ]

/-- A sum of 10240 terms as twenty sums of 512, added from left to right. -/
theorem sum_twenty (f : ℕ → EReal) (T : ℕ → EReal) (hT : ∀ k, T k = ∑ j : Fin 512, f (512 * k + j.val)) :
    T 0 + T 1 + T 2 + T 3 + T 4 + T 5 + T 6 + T 7 + T 8 + T 9 + T 10 + T 11 + T 12 + T 13 + T 14 + T 15 + T 16 + T 17 + T 18 + T 19
      = ∑ C : Fin 10240, f C.val := by
  rw [Fin.sum_univ_eq_sum_range f 10240, show (10240 : ℕ) = 512 * 20 from rfl, sum_range_blocks]
  have h : ∀ k, ∑ j ∈ Finset.range 512, f (512 * k + j) = T k := fun k => by
    rw [hT k, ← Fin.sum_univ_eq_sum_range (fun j => f (512 * k + j)) 512]
  simp only [h, Finset.sum_range_succ, Finset.sum_range_zero, zero_add]

/-! ## The gradient of the rows' normalisation, written on rows -/

/-- The number of columns, and the small number added to the mean square. -/
def width : EReal := Ideal.ofBits .f32 0x44800000#32
def small : EReal := Ideal.ofBits .f32 0x358637BD#32

theorem width_eq : width = ((1024 : ℝ) : EReal) := by
  unfold width; simp [Ideal.ofBits, Ideal.ieee, -EReal.coe_mul]; norm_num

theorem small_eq : ∃ e : ℝ, 0 < e ∧ small = (e : EReal) :=
  ⟨8796093 / 8796093022208, by norm_num, by unfold small; simp [Ideal.ofBits, Ideal.ieee, -EReal.coe_mul]; norm_num⟩

theorem half_eq : Ideal.ofBits .f32 0xBF000000#32 = ((-(1/2) : ℝ) : EReal) := by
  simp [Ideal.ofBits, Ideal.ieee, -EReal.coe_mul]; norm_num

variable {n : ℕ} (a : (⟨3, ![4, n, 1024]⟩ : Shape).Idx → EReal) (b d : (⟨3, ![3, n, 1024]⟩ : Shape).Idx → EReal)
  (w : (⟨3, ![4, 1024, 2560]⟩ : Shape).Idx → EReal) (x : (⟨2, ![n, 1024]⟩ : Shape).Idx → EReal)
  (g : (⟨2, ![1, 1024]⟩ : Shape).Idx → EReal) (dh : (⟨2, ![n, 1024]⟩ : Shape).Idx → EReal)

/-- Column `C` of the ten parts times column `C` of the weights, for the product's entry `(s, e)`. -/
def term (s : Fin n) (e : Fin 1024) (C : Fin 10240) : EReal :=
  cols a b d s C * w (ix3 ⟨C.val / 2560, by omega⟩ e ⟨C.val % 2560, by omega⟩)

/-- The gradient of the projection's input. -/
def du (s : Fin n) (e : Fin 1024) : EReal := ∑ C : Fin 10240, term a b d w s e C

/-- The mean square of a row, with the small number. -/
def meanSq (s : Fin n) : EReal := Ideal.div (∑ j : Fin 1024, x (ix2 s j) * x (ix2 s j)) width + small

def scale (s : Fin n) : EReal := Ideal.rsqrt (meanSq x s)

/-- The gradient of the scale, before its sum over the rows. -/
def dgAt (s : Fin n) (e : Fin 1024) : EReal := du a b d w s e * (x (ix2 s e) * scale x s)

/-- The gradient of the rows. -/
def gxAt (s : Fin n) (e : Fin 1024) : EReal :=
  dh (ix2 s e) + scale x s * (du a b d w s e * g (ix2 0 e)
    - (x (ix2 s e) * scale x s) * Ideal.div (∑ j : Fin 1024, (du a b d w s j * g (ix2 0 j)) * (x (ix2 s j) * scale x s)) width)

section Congr

variable {n' : ℕ} {a} {b} {d} {x} {dh} {a' : (⟨3, ![4, n', 1024]⟩ : Shape).Idx → EReal} {b' d' : (⟨3, ![3, n', 1024]⟩ : Shape).Idx → EReal}
  {x' : (⟨2, ![n', 1024]⟩ : Shape).Idx → EReal} {dh' : (⟨2, ![n', 1024]⟩ : Shape).Idx → EReal} {s : Fin n} {s' : Fin n'}

/-- Rows that agree give the same. -/
theorem cols_congr (ha : ∀ p q, a (ix3 p s q) = a' (ix3 p s' q)) (hb : ∀ p q, b (ix3 p s q) = b' (ix3 p s' q))
    (hd : ∀ p q, d (ix3 p s q) = d' (ix3 p s' q)) (C : Fin 10240) : cols a b d s C = cols a' b' d' s' C := by
  unfold cols
  rw [ha, hb, hd]

theorem du_congr (ha : ∀ p q, a (ix3 p s q) = a' (ix3 p s' q)) (hb : ∀ p q, b (ix3 p s q) = b' (ix3 p s' q))
    (hd : ∀ p q, d (ix3 p s q) = d' (ix3 p s' q)) (e : Fin 1024) : du a b d w s e = du a' b' d' w s' e :=
  Finset.sum_congr rfl fun C _ => by unfold term; rw [cols_congr ha hb hd C]

theorem scale_congr (hx : ∀ q, x (ix2 s q) = x' (ix2 s' q)) : scale x s = scale x' s' := by
  unfold scale meanSq
  simp only [hx]

theorem dgAt_congr (ha : ∀ p q, a (ix3 p s q) = a' (ix3 p s' q)) (hb : ∀ p q, b (ix3 p s q) = b' (ix3 p s' q))
    (hd : ∀ p q, d (ix3 p s q) = d' (ix3 p s' q)) (hx : ∀ q, x (ix2 s q) = x' (ix2 s' q)) (e : Fin 1024) :
    dgAt a b d w x s e = dgAt a' b' d' w x' s' e := by
  unfold dgAt
  rw [du_congr w ha hb hd, hx, scale_congr hx]

theorem gxAt_congr (ha : ∀ p q, a (ix3 p s q) = a' (ix3 p s' q)) (hb : ∀ p q, b (ix3 p s q) = b' (ix3 p s' q))
    (hd : ∀ p q, d (ix3 p s q) = d' (ix3 p s' q)) (hx : ∀ q, x (ix2 s q) = x' (ix2 s' q)) (hdh : ∀ q, dh (ix2 s q) = dh' (ix2 s' q))
    (e : Fin 1024) : gxAt a b d w x g dh s e = gxAt a' b' d' w x' g dh' s' e := by
  unfold gxAt
  simp only [du_congr w ha hb hd, hx, scale_congr hx, hdh]

end Congr

end Cert.Parts

end
-- ==== Proof.InBody.lean ====
module

public import proofs.«01_k».proof.Proof.Parts
public import proofs.«01_k».proof.Proof.Gen.Kernel3Ideal.Value
public import Idealize.ShloMosaic.Lib.MatmulPlain
public import Idealize.ShloMosaic.Lib.Pipeline.ValueKit
public import Idealize.ShloMosaic.Lib.Claim

@[expose] public section

set_option maxRecDepth 16384

noncomputable section

namespace Cert.Kernel3Ideal.Own

open Cert.Kernel3Ideal Cert.Kernel3Ideal.Gen Idealize.ShloMosaic Idealize.ShloMosaic.TcCoe Idealize.SL.Sem
open Idealize.ShloMosaic.Pipeline (Dat)

theorem hz3 : (![0, 0, 0] : Fin 3 → ℕ) = 0 := by funext a; fin_cases a <;> rfl
theorem hz2 : (![0, 0] : Fin 2 → ℕ) = 0 := by funext a; fin_cases a <;> rfl

/-! ## The slabs of the blocks that the twenty products read -/

/-- 512 columns, from column `o` on, of part `p` of a block of four parts. -/
def sl4 (x : Vec Ideal S4x256x1024 .bf16) (p o : ℕ) : Vec Ideal S1x256x512 .bf16 :=
  fun y => x (ix3 ⟨p % 4, by omega⟩ (y 1) ⟨(o + (y 2).val) % 1024, by omega⟩)

/-- The same of a block of three parts. -/
def sl3 (x : Vec Ideal S3x256x1024 .bf16) (p o : ℕ) : Vec Ideal S1x256x512 .bf16 :=
  fun y => x (ix3 ⟨p % 3, by omega⟩ (y 1) ⟨(o + (y 2).val) % 1024, by omega⟩)

/-- 512 columns, from column `o` on, of shard `a` of the weights. -/
def slw (x : Vec Ideal S4x1024x2560 .bf16) (a o : ℕ) : Vec Ideal S1x1024x512 .bf16 :=
  fun y => x (ix3 ⟨a % 4, by omega⟩ (y 1) ⟨(o + (y 2).val) % 2560, by omega⟩)

theorem readAt4 (M : Memref sig .tc .vmem S4x256x1024 .bf16) (h : M.IsWhole) (x : Vec Ideal S4x256x1024 .bf16) (p o : ℕ)
    (inb : ∀ a, (![p, 0, o] : Fin 3 → ℕ) a + S1x256x512.size a ≤ S4x256x1024.size a) :
    View.readAt (Elt Ideal) M.view (Rect.unit ![p, 0, o] ![1, 256, 512] inb : Rect S4x256x1024).toLoadRect (h.unread x) = sl4 x p o := by
  have hp : p + 1 ≤ 4 := inb 0
  have ho : o + 512 ≤ 1024 := inb 2
  rw [View.readAt_eq_ld, h.read_unread]
  funext i
  refine View.ld_unit_apply_of x _ _ inb i _ fun a => ?_
  have h0 : (i 0).val < 1 := (i 0).isLt
  have h2 : (i 2).val < 512 := (i 2).isLt
  match a with
  | ⟨0, _⟩ => show p % 4 = p + (i 0).val; omega
  | ⟨1, _⟩ => show (i 1).val = 0 + (i 1).val; omega
  | ⟨2, _⟩ => show (o + (i 2).val) % 1024 = o + (i 2).val; omega

theorem readAt3 (M : Memref sig .tc .vmem S3x256x1024 .bf16) (h : M.IsWhole) (x : Vec Ideal S3x256x1024 .bf16) (p o : ℕ)
    (inb : ∀ a, (![p, 0, o] : Fin 3 → ℕ) a + S1x256x512.size a ≤ S3x256x1024.size a) :
    View.readAt (Elt Ideal) M.view (Rect.unit ![p, 0, o] ![1, 256, 512] inb : Rect S3x256x1024).toLoadRect (h.unread x) = sl3 x p o := by
  have hp : p + 1 ≤ 3 := inb 0
  have ho : o + 512 ≤ 1024 := inb 2
  rw [View.readAt_eq_ld, h.read_unread]
  funext i
  refine View.ld_unit_apply_of x _ _ inb i _ fun a => ?_
  have h0 : (i 0).val < 1 := (i 0).isLt
  have h2 : (i 2).val < 512 := (i 2).isLt
  match a with
  | ⟨0, _⟩ => show p % 3 = p + (i 0).val; omega
  | ⟨1, _⟩ => show (i 1).val = 0 + (i 1).val; omega
  | ⟨2, _⟩ => show (o + (i 2).val) % 1024 = o + (i 2).val; omega

theorem readAtW (M : Memref sig .tc .vmem S4x1024x2560 .bf16) (h : M.IsWhole) (x : Vec Ideal S4x1024x2560 .bf16) (p o : ℕ)
    (inb : ∀ a, (![p, 0, o] : Fin 3 → ℕ) a + S1x1024x512.size a ≤ S4x1024x2560.size a) :
    View.readAt (Elt Ideal) M.view (Rect.unit ![p, 0, o] ![1, 1024, 512] inb : Rect S4x1024x2560).toLoadRect (h.unread x) = slw x p o := by
  have hp : p + 1 ≤ 4 := inb 0
  have ho : o + 512 ≤ 2560 := inb 2
  rw [View.readAt_eq_ld, h.read_unread]
  funext i
  refine View.ld_unit_apply_of x _ _ inb i _ fun a => ?_
  have h0 : (i 0).val < 1 := (i 0).isLt
  have h2 : (i 2).val < 512 := (i 2).isLt
  match a with
  | ⟨0, _⟩ => show p % 4 = p + (i 0).val; omega
  | ⟨1, _⟩ => show (i 1).val = 0 + (i 1).val; omega
  | ⟨2, _⟩ => show (o + (i 2).val) % 2560 = o + (i 2).val; omega

/-! ## What the body computes, as functions of its blocks -/

section Blocks

variable (x0 : Vec Ideal S4x256x1024 .bf16) (x1 x2 : Vec Ideal S3x256x1024 .bf16) (x3 : Vec Ideal S4x1024x2560 .bf16)
  (x4 : Vec Ideal S256x1024 .f32) (x5 : Vec Ideal S1x1024 .f32) (x6 : Vec Ideal S256x1024 .bf16)

/-- The first eighteen products, added from left to right. -/
def du18 : FVec Ideal S256x1024 .f32 :=
  k0_pay9
    (k0_pay7
      (k0_pay4 (k0_pay3 (sl4 x0 0 0) (slw x3 0 0) (sl4 x0 0 512) (slw x3 0 512) (sl4 x0 1 0) (slw x3 0 1024) (sl4 x0 1 512) (slw x3 0 1536))
        (sl4 x0 2 0) (slw x3 0 2048) (sl4 x0 2 512) (slw x3 1 0) (sl4 x0 3 0) (slw x3 1 512) (sl4 x0 3 512) (slw x3 1 1024))
      (k0_pay5 (sl3 x1 0 0)) (k0_pay6 (slw x3 1 1536)) (sl3 x1 0 512) (slw x3 1 2048) (sl3 x1 1 0) (slw x3 2 0) (sl3 x1 1 512) (slw x3 2 512) (sl3 x1 2 0) (slw x3 2 1024))
    (k0_pay8 (sl3 x1 2 512)) (slw x3 2 1536) (sl3 x2 0 0) (slw x3 2 2048) (sl3 x2 0 512) (slw x3 3 0) (sl3 x2 1 0) (slw x3 3 512) (sl3 x2 1 512) (slw x3 3 1024)

/-- The block of the gradient of the rows that the body stores. -/
def gxB : FVec Ideal S256x1024 .f32 :=
  k0_pay1 (k0_pay11 x4) (k0_pay12 x4) (k0_pay14 (du18 x0 x1 x2 x3) (sl3 x2 2 0) (slw x3 3 1536) (sl3 x2 2 512) (slw x3 3 2048) x5) x6

/-- The gradient of the scale: what the buffer held, and the block's sum over its rows. -/
def dgB (acc : Vec Ideal S1x1024 .f32) : FVec Ideal S1x1024 .f32 :=
  k0_pay13 (du18 x0 x1 x2 x3) (sl3 x2 2 0) (slw x3 3 1536) (sl3 x2 2 512) (slw x3 3 2048) x4 acc

section Cases

variable (c : Dev nD) (i : grid0.Coords) (arg1 : Memref sig .tc .vmem S4x256x1024 .bf16) (harg1 : arg1.IsWhole)
  (arg2 : Memref sig .tc .vmem S3x256x1024 .bf16) (harg2 : arg2.IsWhole) (arg3 : Memref sig .tc .vmem S3x256x1024 .bf16) (harg3 : arg3.IsWhole)
  (arg4 : Memref sig .tc .vmem S4x1024x2560 .bf16) (harg4 : arg4.IsWhole) (arg5 : Memref sig .tc .vmem S256x1024 .f32) (harg5 : arg5.IsWhole)
  (arg6 : Memref sig .tc .vmem S1x1024 .f32) (harg6 : arg6.IsWhole) (arg7 : Memref sig .tc .vmem S256x1024 .bf16) (harg7 : arg7.IsWhole)
  (arg8 : Memref sig .tc .vmem S256x1024 .f32) (harg8 : arg8.IsWhole) (arg9 : Memref sig .tc .vmem S1x1024 .f32) (harg9 : arg9.IsWhole)

theorem out_A_7 (hc0 : cond0_0 i) :
    out0_A_7 c i arg1 harg1 arg2 harg2 arg3 harg3 arg4 harg4 arg5 harg5 arg6 harg6 arg7 harg7 arg8 harg8 arg9 harg9 hc0 x0 x1 x2 x3 x4 x5 x6 = gxB x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero (S := S256x1024) hz2]
  simp only [readAt4, readAt3, readAtW]
  simp only [View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2]
  rfl

theorem out_A_8 (hc0 : cond0_0 i) :
    out0_A_8 c i arg1 harg1 arg2 harg2 arg3 harg3 arg4 harg4 arg5 harg5 arg6 harg6 arg7 harg7 arg8 harg8 arg9 harg9 hc0 x0 x1 x2 x3 x4 x5 x6 = dgB x0 x1 x2 x3 x4 (k0_pay2 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x1024) hz2, View.readCov_unit_zero (S := S1x1024) _ hz2]
  simp only [readAt4, readAt3, readAtW]
  simp only [View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2]
  rfl

theorem out_B_7 (hc0 : ¬cond0_0 i) (xo8 : Vec Ideal S1x1024 .f32) :
    out0_B_7 c i arg1 harg1 arg2 harg2 arg3 harg3 arg4 harg4 arg5 harg5 arg6 harg6 arg7 harg7 arg8 harg8 arg9 harg9 hc0 x0 x1 x2 x3 x4 x5 x6 xo8 = gxB x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  rw [View.canon_unit_zero (S := S256x1024) hz2]
  simp only [readAt4, readAt3, readAtW]
  simp only [View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2]
  rfl

theorem out_B_8 (hc0 : ¬cond0_0 i) (xo8 : Vec Ideal S1x1024 .f32) :
    out0_B_8 c i arg1 harg1 arg2 harg2 arg3 harg3 arg4 harg4 arg5 harg5 arg6 harg6 arg7 harg7 arg8 harg8 arg9 harg9 hc0 x0 x1 x2 x3 x4 x5 x6 xo8 = dgB x0 x1 x2 x3 x4 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  rw [View.canon_unit_zero (S := S1x1024) hz2]
  simp only [readAt4, readAt3, readAtW]
  simp only [View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2]
  rfl

end Cases

end Blocks

end Cert.Kernel3Ideal.Own

end
-- ==== Proof.InSum.lean ====
module

public import proofs.«01_k».proof.Proof.InMath
public import proofs.«01_k».proof.Proof.InBody

@[expose] public section

set_option maxRecDepth 16384

noncomputable section

namespace Cert.Kernel3Ideal.Own

open Cert.Kernel3Ideal Cert.Kernel3Ideal.Gen Idealize.ShloMosaic Idealize.ShloMosaic.TcCoe Idealize.SL.Sem

/-! ## The operations of the body at an entry -/

/-- The product of two slabs, the second transposed. -/
def prod (v : Vec Ideal S1x256x512 .bf16) (u : Vec Ideal S1x1024x512 .bf16) (l : Fin 256) (e : Fin 1024) : EReal :=
  ∑ j : Fin 512, v (ix3 0 l j) * u (ix3 0 e j)

theorem product_apply (v : Vec Ideal S1x256x512 .bf16) (u : Vec Ideal S1x1024x512 .bf16) (h : S1x256x512.ShapeCasts S256x512)
    (h' : S1x1024x512.ShapeCasts S1024x512) (l : Fin 256) (e : Fin 1024) :
    matmul (F := Ideal) (φ₁ := .bf16) (φ₂ := .bf16) dot_S256x512_S1024x512_S256x1024_1_1_0_0_n_n none (shapeCast S256x512 v h) (shapeCast S1024x512 u h')
      (constant (F := Ideal) S256x1024 .f32 0x00000000#32) (ix2 l e) = prod v u l e := by
  refine (Ideal.matmul_transposedRhs_apply none _ _ _ l e).trans ?_
  refine Eq.trans (congrArg (· + _) (Ideal.ofBits_zero_f32)) ?_
  rw [zero_add]
  refine Finset.sum_congr rfl fun j _ => congrArg₂ (· * ·) ?_ ?_
  · refine (shapeCast_dropUnit_apply ![256, 512] v _ (ix2 l j)).trans (congrArg v ?_)
    funext a
    match a with
    | ⟨0, _⟩ => rfl
    | ⟨1, _⟩ => rfl
    | ⟨2, _⟩ => rfl
  · refine (shapeCast_dropUnit_apply ![1024, 512] u _ (ix2 e j)).trans (congrArg u ?_)
    funext a
    match a with
    | ⟨0, _⟩ => rfl
    | ⟨1, _⟩ => rfl
    | ⟨2, _⟩ => rfl

theorem add_at (p q : FVec Ideal S256x1024 .f32) (i : S256x1024.Idx) : addf p q i = p i + q i := rfl

/-- A row's sum, kept as a column. -/
theorem rowSum_apply (v : FVec Ideal S256x1024 .f32) (h : S256x1024.Reduces [1] S256) (hc : S256.ShapeCasts S256x1) (l : Fin 256) :
    shapeCast S256x1 (multiReduction (F := Ideal) .add [1] S256 v 0x00000000#32 h (.inl rfl) rfl) hc (ix2 l 0)
      = ∑ j : Fin 1024, v (ix2 l j) := by
  refine (shapeCast_apply _ hc (ix2 l 0) (ix1 l) ?_).trans ?_
  · rw [Shape.rowMajor_val_one, Shape.rowMajor_val_two]
    show l.val = l.val * 1 + 0
    omega
  · refine (Ideal.multiReduction_add_single v _ h _ _ (ix1 l)).trans ?_
    refine Finset.sum_congr rfl fun j _ => congrArg v ?_
    funext a
    match a with
    | ⟨0, _⟩ => rfl
    | ⟨1, _⟩ => rfl

/-- A column's sum, kept as a row. -/
theorem colSum_apply (v : FVec Ideal S256x1024 .f32) (h : S256x1024.Reduces [0] S1024) (hc : S1024.ShapeCasts S1x1024) (e : Fin 1024) :
    shapeCast S1x1024 (multiReduction (F := Ideal) .add [0] S1024 v 0x00000000#32 h (.inl rfl) rfl) hc (ix2 0 e)
      = ∑ l : Fin 256, v (ix2 l e) := by
  refine (shapeCast_apply _ hc (ix2 0 e) (ix1 e) ?_).trans ?_
  · rw [Shape.rowMajor_val_one, Shape.rowMajor_val_two]
    show e.val = 0 * 1024 + e.val
    omega
  · refine (Ideal.multiReduction_add_single v _ h _ _ (ix1 e)).trans ?_
    refine Finset.sum_congr rfl fun j _ => congrArg v ?_
    funext a
    match a with
    | ⟨0, _⟩ => rfl
    | ⟨1, _⟩ => rfl

theorem column_at (v : FVec Ideal S256x1 .f32) (h : S256x1.Broadcasts S256x1024) (l : Fin 256) (e : Fin 1024) :
    broadcastTo S256x1024 v h (ix2 l e) = v (ix2 l 0) :=
  broadcastTo_apply v h (ix2 l e) (ix2 l 0) fun a => match a with
    | ⟨0, _⟩ => rfl
    | ⟨1, _⟩ => rfl

theorem row_at (v : FVec Ideal S1x1024 .f32) (h : S1x1024.Broadcasts S256x1024) (l : Fin 256) (e : Fin 1024) :
    broadcastTo S256x1024 v h (ix2 l e) = v (ix2 0 e) :=
  broadcastTo_apply v h (ix2 l e) (ix2 0 e) fun a => match a with
    | ⟨0, _⟩ => rfl
    | ⟨1, _⟩ => rfl

section Blocks

variable (x0 : Vec Ideal S4x256x1024 .bf16) (x1 x2 : Vec Ideal S3x256x1024 .bf16) (x3 : Vec Ideal S4x1024x2560 .bf16)
  (x4 : Vec Ideal S256x1024 .f32) (x5 : Vec Ideal S1x1024 .f32) (x6 : Vec Ideal S256x1024 .bf16)

/-! ## The twenty products as one sum over 10240 columns -/

/-- A term of the sum by the column's number. -/
def termN (l : Fin 256) (e : Fin 1024) (C : ℕ) : EReal := Parts.term x0 x1 x2 x3 l e ⟨C % 10240, by omega⟩

theorem prod4 (l : Fin 256) (e : Fin 1024) (k p o q r : ℕ) (hk : k < 20) (hp : p < 4) (ho : o + 512 ≤ 1024) (hr : r + 512 ≤ 2560)
    (h1 : 512 * k = 1024 * p + o) (h2 : 512 * k = 2560 * q + r) :
    prod (sl4 x0 p o) (slw x3 q r) l e = ∑ j : Fin 512, termN x0 x1 x2 x3 l e (512 * k + j.val) := by
  refine Finset.sum_congr rfl fun j _ => ?_
  have hj := j.isLt
  have hC : (512 * k + j.val) % 10240 = 512 * k + j.val := Nat.mod_eq_of_lt (by omega)
  unfold termN Parts.term
  rw [Parts.cols_a x0 x1 x2 l _ (by show (512 * k + j.val) % 10240 / 1024 < 4; omega)]
  refine congrArg₂ (· * ·) (congrArg x0 (congrArg₂ (fun u v => ix3 u l v) (Fin.ext ?_) (Fin.ext ?_))) (congrArg x3 (congrArg₂ (fun u v => ix3 u e v) (Fin.ext ?_) (Fin.ext ?_)))
  · show p % 4 = (512 * k + j.val) % 10240 / 1024 % 4; omega
  · show (o + j.val) % 1024 = (512 * k + j.val) % 10240 % 1024; omega
  · show q % 4 = (512 * k + j.val) % 10240 / 2560; omega
  · show (r + j.val) % 2560 = (512 * k + j.val) % 10240 % 2560; omega

theorem prod3 (l : Fin 256) (e : Fin 1024) (k p o q r : ℕ) (hk : k < 20) (hp : p < 3) (ho : o + 512 ≤ 1024) (hr : r + 512 ≤ 2560)
    (h1 : 512 * k = 1024 * (p + 4) + o) (h2 : 512 * k = 2560 * q + r) :
    prod (sl3 x1 p o) (slw x3 q r) l e = ∑ j : Fin 512, termN x0 x1 x2 x3 l e (512 * k + j.val) := by
  refine Finset.sum_congr rfl fun j _ => ?_
  have hj := j.isLt
  have hC : (512 * k + j.val) % 10240 = 512 * k + j.val := Nat.mod_eq_of_lt (by omega)
  unfold termN Parts.term
  rw [Parts.cols_b x0 x1 x2 l _ (by show ¬(512 * k + j.val) % 10240 / 1024 < 4; omega) (by show (512 * k + j.val) % 10240 / 1024 < 7; omega)]
  refine congrArg₂ (· * ·) (congrArg x1 (congrArg₂ (fun u v => ix3 u l v) (Fin.ext ?_) (Fin.ext ?_))) (congrArg x3 (congrArg₂ (fun u v => ix3 u e v) (Fin.ext ?_) (Fin.ext ?_)))
  · show p % 3 = ((512 * k + j.val) % 10240 / 1024 - 4) % 3; omega
  · show (o + j.val) % 1024 = (512 * k + j.val) % 10240 % 1024; omega
  · show q % 4 = (512 * k + j.val) % 10240 / 2560; omega
  · show (r + j.val) % 2560 = (512 * k + j.val) % 10240 % 2560; omega

theorem prod3' (l : Fin 256) (e : Fin 1024) (k p o q r : ℕ) (hk : k < 20) (hp : p < 3) (ho : o + 512 ≤ 1024) (hr : r + 512 ≤ 2560)
    (h1 : 512 * k = 1024 * (p + 7) + o) (h2 : 512 * k = 2560 * q + r) :
    prod (sl3 x2 p o) (slw x3 q r) l e = ∑ j : Fin 512, termN x0 x1 x2 x3 l e (512 * k + j.val) := by
  refine Finset.sum_congr rfl fun j _ => ?_
  have hj := j.isLt
  have hC : (512 * k + j.val) % 10240 = 512 * k + j.val := Nat.mod_eq_of_lt (by omega)
  unfold termN Parts.term
  rw [Parts.cols_d x0 x1 x2 l _ (by show ¬(512 * k + j.val) % 10240 / 1024 < 4; omega) (by show ¬(512 * k + j.val) % 10240 / 1024 < 7; omega)]
  refine congrArg₂ (· * ·) (congrArg x2 (congrArg₂ (fun u v => ix3 u l v) (Fin.ext ?_) (Fin.ext ?_))) (congrArg x3 (congrArg₂ (fun u v => ix3 u e v) (Fin.ext ?_) (Fin.ext ?_)))
  · show p % 3 = ((512 * k + j.val) % 10240 / 1024 - 7) % 3; omega
  · show (o + j.val) % 1024 = (512 * k + j.val) % 10240 % 1024; omega
  · show q % 4 = (512 * k + j.val) % 10240 / 2560; omega
  · show (r + j.val) % 2560 = (512 * k + j.val) % 10240 % 2560; omega

/-- The twenty products, added from left to right, are the sum over all columns. -/
theorem du_apply (l : Fin 256) (e : Fin 1024) :
    k0_pay10 (du18 x0 x1 x2 x3) (sl3 x2 2 0) (slw x3 3 1536) (sl3 x2 2 512) (slw x3 3 2048) (ix2 l e) = Parts.du x0 x1 x2 x3 l e := by
  unfold k0_pay10 du18 k0_pay9 k0_pay8 k0_pay7 k0_pay6 k0_pay5 k0_pay4 k0_pay3
  dsimp only
  simp only [add_at]
  refine Eq.trans (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (((product_apply _ _ _ _ l e).trans (prod4 x0 x1 x2 x3 l e 0 0 0 0 0 (by omega) (by omega) (by omega) (by omega) (by omega) (by omega))))
    ((product_apply _ _ _ _ l e).trans (prod4 x0 x1 x2 x3 l e 1 0 512 0 512 (by omega) (by omega) (by omega) (by omega) (by omega) (by omega))))
    ((product_apply _ _ _ _ l e).trans (prod4 x0 x1 x2 x3 l e 2 1 0 0 1024 (by omega) (by omega) (by omega) (by omega) (by omega) (by omega))))
    ((product_apply _ _ _ _ l e).trans (prod4 x0 x1 x2 x3 l e 3 1 512 0 1536 (by omega) (by omega) (by omega) (by omega) (by omega) (by omega))))
    ((product_apply _ _ _ _ l e).trans (prod4 x0 x1 x2 x3 l e 4 2 0 0 2048 (by omega) (by omega) (by omega) (by omega) (by omega) (by omega))))
    ((product_apply _ _ _ _ l e).trans (prod4 x0 x1 x2 x3 l e 5 2 512 1 0 (by omega) (by omega) (by omega) (by omega) (by omega) (by omega))))
    ((product_apply _ _ _ _ l e).trans (prod4 x0 x1 x2 x3 l e 6 3 0 1 512 (by omega) (by omega) (by omega) (by omega) (by omega) (by omega))))
    ((product_apply _ _ _ _ l e).trans (prod4 x0 x1 x2 x3 l e 7 3 512 1 1024 (by omega) (by omega) (by omega) (by omega) (by omega) (by omega))))
    ((product_apply _ _ _ _ l e).trans (prod3 x0 x1 x2 x3 l e 8 0 0 1 1536 (by omega) (by omega) (by omega) (by omega) (by omega) (by omega))))
    ((product_apply _ _ _ _ l e).trans (prod3 x0 x1 x2 x3 l e 9 0 512 1 2048 (by omega) (by omega) (by omega) (by omega) (by omega) (by omega))))
    ((product_apply _ _ _ _ l e).trans (prod3 x0 x1 x2 x3 l e 10 1 0 2 0 (by omega) (by omega) (by omega) (by omega) (by omega) (by omega))))
    ((product_apply _ _ _ _ l e).trans (prod3 x0 x1 x2 x3 l e 11 1 512 2 512 (by omega) (by omega) (by omega) (by omega) (by omega) (by omega))))
    ((product_apply _ _ _ _ l e).trans (prod3 x0 x1 x2 x3 l e 12 2 0 2 1024 (by omega) (by omega) (by omega) (by omega) (by omega) (by omega))))
    ((product_apply _ _ _ _ l e).trans (prod3 x0 x1 x2 x3 l e 13 2 512 2 1536 (by omega) (by omega) (by omega) (by omega) (by omega) (by omega))))
    ((product_apply _ _ _ _ l e).trans (prod3' x0 x1 x2 x3 l e 14 0 0 2 2048 (by omega) (by omega) (by omega) (by omega) (by omega) (by omega))))
    ((product_apply _ _ _ _ l e).trans (prod3' x0 x1 x2 x3 l e 15 0 512 3 0 (by omega) (by omega) (by omega) (by omega) (by omega) (by omega))))
    ((product_apply _ _ _ _ l e).trans (prod3' x0 x1 x2 x3 l e 16 1 0 3 512 (by omega) (by omega) (by omega) (by omega) (by omega) (by omega))))
    ((product_apply _ _ _ _ l e).trans (prod3' x0 x1 x2 x3 l e 17 1 512 3 1024 (by omega) (by omega) (by omega) (by omega) (by omega) (by omega))))
    ((product_apply _ _ _ _ l e).trans (prod3' x0 x1 x2 x3 l e 18 2 0 3 1536 (by omega) (by omega) (by omega) (by omega) (by omega) (by omega))))
    ((product_apply _ _ _ _ l e).trans (prod3' x0 x1 x2 x3 l e 19 2 512 3 2048 (by omega) (by omega) (by omega) (by omega) (by omega) (by omega)))) ?_
  refine (Parts.sum_twenty (termN x0 x1 x2 x3 l e) (fun k => ∑ j : Fin 512, termN x0 x1 x2 x3 l e (512 * k + j.val)) (fun _ => rfl)).trans ?_
  unfold Parts.du termN
  refine Finset.sum_congr rfl fun C _ => congrArg _ (Fin.ext ?_)
  show C.val % 10240 = C.val
  have := C.isLt
  omega

/-! ## The two results of a block -/

theorem scale_apply (l : Fin 256) : k0_pay11 x4 (ix2 l 0) = Parts.scale x4 l := by
  unfold k0_pay11
  dsimp only
  unfold Parts.scale Parts.meanSq
  refine congrArg Ideal.rsqrt (congrArg (· + Parts.small) (congrArg (Ideal.div · Parts.width) ?_))
  exact rowSum_apply _ _ _ l

theorem norm_apply (l : Fin 256) (e : Fin 1024) : k0_pay12 x4 (ix2 l e) = x4 (ix2 l e) * Parts.scale x4 l := by
  unfold k0_pay12
  exact congrArg (x4 (ix2 l e) * ·) ((column_at _ _ l e).trans (scale_apply x4 l))

/-- The gradient of the scale: what was there, and the sum over the block's rows. -/
theorem dg_apply (acc : Vec Ideal S1x1024 .f32) (e : Fin 1024) :
    dgB x0 x1 x2 x3 x4 acc (ix2 0 e) = acc (ix2 0 e) + ∑ l : Fin 256, Parts.dgAt x0 x1 x2 x3 x4 l e := by
  unfold dgB k0_pay13
  dsimp only
  refine congrArg₂ (· + ·) (congrFun (shapeCast_self acc _) _) ((colSum_apply _ _ _ e).trans (Finset.sum_congr rfl fun l _ => ?_))
  exact congrArg₂ (· * ·) (du_apply x0 x1 x2 x3 l e) (norm_apply x4 l e)

/-- `du * g` at an entry. -/
theorem dn_apply (l : Fin 256) (e : Fin 1024) : k0_pay14 (du18 x0 x1 x2 x3) (sl3 x2 2 0) (slw x3 3 1536) (sl3 x2 2 512) (slw x3 3 2048) x5 (ix2 l e)
    = Parts.du x0 x1 x2 x3 l e * x5 (ix2 0 e) := by
  unfold k0_pay14
  exact congrArg₂ (· * ·) (du_apply x0 x1 x2 x3 l e) (row_at _ _ l e)

/-- The gradient of the rows. -/
theorem gx_apply (l : Fin 256) (e : Fin 1024) :
    gxB x0 x1 x2 x3 x4 x5 x6 (ix2 l e) = Parts.gxAt x0 x1 x2 x3 x4 x5 x6 l e := by
  unfold gxB k0_pay1
  dsimp only
  unfold Parts.gxAt
  refine congrArg (x6 (ix2 l e) + ·) (congrArg₂ (· * ·) ((column_at _ _ l e).trans (scale_apply x4 l)) ?_)
  refine congrArg₂ (· - ·) (dn_apply x0 x1 x2 x3 x5 l e) (congrArg₂ (· * ·) (norm_apply x4 l e) ?_)
  refine (column_at _ _ l e).trans (congrArg (Ideal.div · Parts.width) ((rowSum_apply _ _ _ l).trans ?_))
  exact Finset.sum_congr rfl fun j _ => congrArg₂ (· * ·) (dn_apply x0 x1 x2 x3 x5 l j) (norm_apply x4 l j)

end Blocks

end Cert.Kernel3Ideal.Own

end
-- ==== Proof.InKernel.lean ====
module

public import proofs.«01_k».proof.Proof.InSum

@[expose] public section

set_option maxRecDepth 16384

noncomputable section

namespace Cert.Kernel3Ideal.Own

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-! ## What the blocks of a grid point hold -/

theorem index0 : ∀ t : Fin cfg0.N, win0_0.index t = ![0, t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)

/-- Row `l` of block `t` among all rows. -/
def rowOf (t : Fin cfg0.N) (l : Fin 256) : Fin 4096 := ⟨0 + (256 * t.val + l.val), by have ht : t.val < 8 := t.isLt; omega⟩

theorem block0 (c : Dev nD) (t : Fin cfg0.N) (p : Fin 4) (l : Fin 256) (q : Fin 1024) :
    iblk m c 0 t (ix3 p l q) = m ((c : Thread nD τ).loc main_arg0) (ix3 p (rowOf t l) q) := by
  refine Eq.trans ?_ (congrFun (V_main_arg0 m c) _)
  blk_simp [iblk]
  refine congrArg (V m c main_arg0) ?_
  blk_ext [index0, rowOf]

theorem block1 (c : Dev nD) (t : Fin cfg0.N) (p : Fin 3) (l : Fin 256) (q : Fin 1024) :
    iblk m c 1 t (ix3 p l q) = m ((c : Thread nD τ).loc main_arg1) (ix3 p (rowOf t l) q) := by
  refine Eq.trans ?_ (congrFun (V_main_arg1 m c) _)
  blk_simp [iblk]
  refine congrArg (V m c main_arg1) ?_
  blk_ext [index1, rowOf]

theorem block2 (c : Dev nD) (t : Fin cfg0.N) (p : Fin 3) (l : Fin 256) (q : Fin 1024) :
    iblk m c 2 t (ix3 p l q) = m ((c : Thread nD τ).loc main_arg2) (ix3 p (rowOf t l) q) := by
  refine Eq.trans ?_ (congrFun (V_main_arg2 m c) _)
  blk_simp [iblk]
  refine congrArg (V m c main_arg2) ?_
  blk_ext [index2, rowOf]

theorem block3 (c : Dev nD) (t : Fin cfg0.N) : iblk m c 3 t = m ((c : Thread nD τ).loc main_arg3) := by
  funext y
  refine Eq.trans ?_ (congrFun (V_main_arg3 m c) _)
  blk_simp [iblk]
  refine congrArg (V m c main_arg3) ?_
  blk_ext [index3]

theorem block4 (c : Dev nD) (t : Fin cfg0.N) (l : Fin 256) (q : Fin 1024) :
    iblk m c 4 t (ix2 l q) = m ((c : Thread nD τ).loc main_arg4) (ix2 (rowOf t l) q) := by
  refine Eq.trans ?_ (congrFun (V_main_arg4 m c) _)
  blk_simp [iblk]
  refine congrArg (V m c main_arg4) ?_
  blk_ext [index4, rowOf]

theorem block5 (c : Dev nD) (t : Fin cfg0.N) : iblk m c 5 t = m ((c : Thread nD τ).loc main_arg5) := by
  funext y
  refine Eq.trans ?_ (congrFun (V_main_arg5 m c) _)
  blk_simp [iblk]
  refine congrArg (V m c main_arg5) ?_
  blk_ext [index5]

theorem block6 (c : Dev nD) (t : Fin cfg0.N) (l : Fin 256) (q : Fin 1024) :
    iblk m c 6 t (ix2 l q) = m ((c : Thread nD τ).loc main_arg6) (ix2 (rowOf t l) q) := by
  refine Eq.trans ?_ (congrFun (V_main_arg6 m c) _)
  blk_simp [iblk]
  refine congrArg (V m c main_arg6) ?_
  blk_ext [index6, rowOf]

/-! ## The results -/

/-- The gradient of the rows of this half. -/
def gxArr (x0 : S4x4096x1024.Idx → EReal) (x1 x2 : S3x4096x1024.Idx → EReal) (x3 : S4x1024x2560.Idx → EReal)
    (x4 : S4096x1024.Idx → EReal) (x5 : S1x1024.Idx → EReal) (x6 : S4096x1024.Idx → EReal) : S2048x1024.Idx → EReal :=
  fun y => Parts.gxAt x0 x1 x2 x3 x4 x5 x6 ⟨0 + (y 0).val, by have h0 : (y 0).val < 2048 := (y 0).isLt; omega⟩ (y 1)

/-- The gradient of the scale, summed over the rows of this half. -/
def dgArr (x0 : S4x4096x1024.Idx → EReal) (x1 x2 : S3x4096x1024.Idx → EReal) (x3 : S4x1024x2560.Idx → EReal)
    (x4 : S4096x1024.Idx → EReal) : S1x1024.Idx → EReal :=
  fun y => ∑ s : Fin 2048, Parts.dgAt x0 x1 x2 x3 x4 ⟨0 + s.val, by have := s.isLt; omega⟩ (y 1)

/-- The rows' terms of the scale's gradient by number. -/
def dgN (c : Dev nD) (e : Fin 1024) (i : ℕ) : EReal :=
  Parts.dgAt (m ((c : Thread nD τ).loc main_arg0)) (m ((c : Thread nD τ).loc main_arg1)) (m ((c : Thread nD τ).loc main_arg2)) (m ((c : Thread nD τ).loc main_arg3)) (m ((c : Thread nD τ).loc main_arg4)) ⟨(0 + i) % 4096, by omega⟩ e

theorem blockSum (c : Dev nD) (t : Fin cfg0.N) (e : Fin 1024) :
    ∑ l : Fin 256, Parts.dgAt (iblk m c 0 t) (iblk m c 1 t) (iblk m c 2 t) (iblk m c 3 t) (iblk m c 4 t) l e
      = ∑ l ∈ Finset.range 256, dgN m c e (256 * t.val + l) := by
  rw [← Fin.sum_univ_eq_sum_range (fun l => dgN m c e (256 * t.val + l)) 256]
  refine Finset.sum_congr rfl fun l _ => ?_
  have ht : t.val < 8 := t.isLt
  rw [block3]
  refine (Parts.dgAt_congr _ (fun p q => block0 m c t p l q) (fun p q => block1 m c t p l q) (fun p q => block2 m c t p l q)
    (fun q => block4 m c t l q) e).trans ?_
  unfold dgN
  refine congrArg (fun s => Parts.dgAt (m ((c : Thread nD τ).loc main_arg0)) (m ((c : Thread nD τ).loc main_arg1)) (m ((c : Thread nD τ).loc main_arg2)) (m ((c : Thread nD τ).loc main_arg3)) (m ((c : Thread nD τ).loc main_arg4)) s e) (Fin.ext ?_)
  have hl := l.isLt
  show 0 + (256 * t.val + l.val) = (0 + (256 * t.val + l.val)) % 4096
  omega

/-- What the body leaves at a point of either case. -/
theorem outs1 (c : Dev nD) (t : Fin cfg0.N) : (outsAt0 m c t.val t.isLt).1 = gxB (iblk m c 0 t) (iblk m c 1 t) (iblk m c 2 t) (iblk m c 3 t) (iblk m c 4 t) (iblk m c 5 t) (iblk m c 6 t) := by
  by_cases h : t.val % 8 = 0
  · rw [outsAt0_A m c t h]
    dsimp only
    rw [out_A_7]
  · rw [outsAt0_B m c t h]
    dsimp only
    rw [out_B_7]

theorem outs2_A (c : Dev nD) (t : Fin cfg0.N) (h : t.val % 8 = 0) :
    (outsAt0 m c t.val t.isLt).2 = dgB (iblk m c 0 t) (iblk m c 1 t) (iblk m c 2 t) (iblk m c 3 t) (iblk m c 4 t) (k0_pay2 (F := Ideal)) := by
  rw [outsAt0_A m c t h]
  dsimp only
  rw [out_A_8]

theorem outs2_B (c : Dev nD) (t : Fin cfg0.N) (h : ¬t.val % 8 = 0) :
    (outsAt0 m c t.val t.isLt).2 = dgB (iblk m c 0 t) (iblk m c 1 t) (iblk m c 2 t) (iblk m c 3 t) (iblk m c 4 t) (outsAt0 m c (t.val - 1) (by have := t.isLt; omega)).2 := by
  rw [outsAt0_B m c t h]
  dsimp only
  rw [out_B_8]

/-- What the scale's buffer holds after point `n`: the sum over the rows so far. -/
theorem dg_outs (c : Dev nD) (e : Fin 1024) : ∀ (n : ℕ) (hn : n < cfg0.N),
    (outsAt0 m c n hn).2 (ix2 0 e) = ∑ i ∈ Finset.range (256 * (n + 1)), dgN m c e i
  | 0, hn => by
    rw [outs2_A m c ⟨0, hn⟩ rfl, dg_apply, blockSum]
    refine Eq.trans (congrArg (· + _) (Ideal.ofBits_zero_f32)) ?_
    rw [zero_add]
    simp only [Nat.mul_zero, Nat.zero_add, Nat.mul_one]
  | n + 1, hn => by
    have h8 : n + 1 < 8 := hn
    have hB : ¬(⟨n + 1, hn⟩ : Fin cfg0.N).val % 8 = 0 := by dsimp only; omega
    rw [outs2_B m c ⟨n + 1, hn⟩ hB, dg_apply, blockSum, show 256 * (n + 1 + 1) = 256 * (n + 1) + 256 from rfl, Finset.sum_range_add]
    exact congrArg (· + _) (dg_outs c e n (Nat.lt_of_succ_lt hn))

/-- What the body leaves of the rows' gradient at a point. -/
theorem gx_outs (c : Dev nD) (t : Fin cfg0.N) (l : Fin 256) (e : Fin 1024) : (outsAt0 m c t.val t.isLt).1 (ix2 l e)
    = Parts.gxAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowOf t l) e := by
  rw [outs1, gx_apply, block3, block5]
  exact Parts.gxAt_congr _ _ (fun p q => block0 m c t p l q) (fun p q => block1 m c t p l q) (fun p q => block2 m c t p l q)
    (fun q => block4 m c t l q) (fun q => block6 m c t l q) e

/-- The gradient of the rows after the run. -/
theorem final7 (c : Dev nD) : (dats m 0 c).arrAt 7 cfg0.N
    = gxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have ht : t.val < 8 := t.isLt
  obtain ⟨l, e, rfl⟩ : ∃ (l : Fin 256) (e : Fin 1024), y = ix2 l e := ⟨y 0, y 1, by blk_ext []⟩
  have hl := l.isLt
  refine (gx_outs m c t l e).trans ?_
  refine Eq.trans (?_ : _ = gxArr _ _ _ _ _ _ _ (ix2 ⟨256 * t.val + l.val, by omega⟩ e)) (congrArg (gxArr _ _ _ _ _ _ _) ?_)
  · rfl
  · blk_ext [index7]

/-- The gradient of the scale after the run. -/
theorem final8 (c : Dev nD) : (dats m 0 c).arrAt 8 cfg0.N
    = dgArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ (fun y => ?_)
  blk_simp
  rw [after0_8]
  obtain ⟨e, rfl⟩ : ∃ e : Fin 1024, y = ix2 0 e := ⟨y 1, by blk_ext []⟩
  refine (dg_outs m c e 7 t0_7.isLt).trans ?_
  refine Eq.trans (?_ : _ = dgArr _ _ _ _ _ (ix2 0 e)) (congrArg (dgArr _ _ _ _ _) ?_)
  · rw [show 256 * (7 + 1) = 2048 from rfl, ← Fin.sum_univ_eq_sum_range (fun i => dgN m c e i) 2048]
    refine Finset.sum_congr rfl fun s _ => ?_
    unfold dgN
    refine congrArg (fun s => Parts.dgAt (m ((c : Thread nD τ).loc main_arg0)) (m ((c : Thread nD τ).loc main_arg1)) (m ((c : Thread nD τ).loc main_arg2)) (m ((c : Thread nD τ).loc main_arg3)) (m ((c : Thread nD τ).loc main_arg4)) s e) (Fin.ext ?_)
    have hs := s.isLt
    show (0 + s.val) % 4096 = 0 + s.val
    omega
  · blk_ext [index8]

end Cert.Kernel3Ideal.Own

end
-- ==== Proof.InClaim.lean ====
module

public import proofs.«01_k».proof.Proof.InKernel
public import proofs.«01_k».proof.Proof.Gen.Reference3Ideal.Read
public import proofs.«01_k».proof.Defs

@[expose] public section

set_option maxRecDepth 16384

noncomputable section

namespace Cert.InClaim

open Idealize.ShloMosaic Idealize.ShloMosaic.TcCoe Idealize.SL.Sem
open Cert.Reference3Ideal Cert.Reference3Ideal.Read

section Values

variable (x0 : S4x4096x1024.Idx → EReal) (x1 x2 : S3x4096x1024.Idx → EReal) (x3 : S4x1024x2560.Idx → EReal)
  (x4 : S4096x1024.Idx → EReal) (x5 : S1x1024.Idx → EReal) (x6 : S4096x1024.Idx → EReal)

/-! ## The reference's intermediate values -/

/-- Row `s` of this half among all rows. -/
def row (s : Fin 2048) : Fin 4096 := ⟨0 + s.val, by have := s.isLt; omega⟩

/-- The weights, their four slices side by side. -/
theorem weights (e : Fin 1024) (C : Fin 10240) : val_main_v2 (F := Ideal) x3 (ix2 e C) = x3 (ix3 ⟨C.val / 2560, by omega⟩ e ⟨C.val % 2560, by omega⟩) := by
  have hC := C.isLt
  rw [val_main_v2_apply, val_main_v1_apply, val_main_v0_apply]
  refine congrArg x3 ?_
  funext a
  match a with
  | ⟨0, _⟩ => exact Fin.ext (by show (e.val * 10240 + C.val) / 2560 % 4 = C.val / 2560; omega)
  | ⟨1, _⟩ => exact Fin.ext (by show (e.val * 10240 + C.val) / 10240 = e.val; omega)
  | ⟨2, _⟩ => exact Fin.ext (by show (e.val * 10240 + C.val) % 2560 = C.val % 2560; omega)

/-- The ten parts side by side. -/
theorem side_by_side (s : Fin 4096) (C : Fin 10240) : val_main_v7 (F := Ideal) x0 x1 x2 (ix2 s C) = Parts.cols x0 x1 x2 s C := by
  have hC := C.isLt
  rw [val_main_v7_apply, val_main_v6_apply, val_main_v5_apply]
  refine Eq.trans (congrArg (val_main_v4 (F := Ideal) x0 x1 x2) (?_ : _ = ix3 ⟨C.val / 1024, by omega⟩ s ⟨C.val % 1024, by omega⟩)) ?_
  · funext a
    match a with
    | ⟨0, _⟩ => exact Fin.ext (by show (s.val * 10240 + C.val) / 1024 % 10 = C.val / 1024; omega)
    | ⟨1, _⟩ => exact Fin.ext (by show (s.val * 10240 + C.val) / 10240 = s.val; omega)
    | ⟨2, _⟩ => exact Fin.ext (by show (s.val * 10240 + C.val) % 1024 = C.val % 1024; omega)
  · exact Parts.concat_apply x0 x1 x2 _ s C

theorem parts_row (s : Fin 2048) (C : Fin 10240) : val_main_v8 (F := Ideal) x0 x1 x2 (ix2 s C) = Parts.cols x0 x1 x2 (row s) C := by
  rw [val_main_v8_apply]
  refine Eq.trans (congrArg (val_main_v7 (F := Ideal) x0 x1 x2) (?_ : _ = ix2 (row s) C)) (side_by_side x0 x1 x2 _ C)
  funext a
  match a with
  | ⟨0, _⟩ => exact Fin.ext (by show s.val = 0 + s.val; omega)
  | ⟨1, _⟩ => rfl

theorem x_row (s : Fin 2048) (e : Fin 1024) : val_main_v3 (F := Ideal) x4 (ix2 s e) = x4 (ix2 (row s) e) := by
  rw [val_main_v3_apply]
  refine congrArg x4 ?_
  funext a
  match a with
  | ⟨0, _⟩ => exact Fin.ext (by show s.val = 0 + s.val; omega)
  | ⟨1, _⟩ => rfl

theorem dh_row (s : Fin 2048) (e : Fin 1024) : val_main_v10 (F := Ideal) x6 (ix2 s e) = x6 (ix2 (row s) e) := by
  rw [val_main_v10_apply, val_main_v9_apply]
  refine congrArg x6 ?_
  funext a
  match a with
  | ⟨0, _⟩ => exact Fin.ext (by show s.val = 0 + s.val; omega)
  | ⟨1, _⟩ => rfl

/-- The gradient of the projection's input. -/
theorem du_row (s : Fin 2048) (e : Fin 1024) : val_main_v27 (F := Ideal) x0 x1 x2 x3 (ix2 s e) = Parts.du x0 x1 x2 x3 (row s) e := by
  rw [val_main_v27_apply]
  refine Finset.sum_congr rfl fun C _ => congrArg₂ (· * ·) ?_ ?_
  · refine Eq.trans (congrArg (val_main_v8 (F := Ideal) x0 x1 x2) (?_ : _ = ix2 s C)) (parts_row x0 x1 x2 s C)
    funext a
    match a with
    | ⟨0, _⟩ => rfl
    | ⟨1, _⟩ => rfl
  · refine Eq.trans (congrArg (val_main_v2 (F := Ideal) x3) (?_ : _ = ix2 e C)) (weights x3 e C)
    funext a
    match a with
    | ⟨0, _⟩ => rfl
    | ⟨1, _⟩ => rfl

/-- The mean square of a row, with the small number. -/
theorem meanSq_row (s : Fin 2048) : val_main_v17 (F := Ideal) x4 (ix2 s 0) = Parts.meanSq x4 (row s) := by
  rw [val_main_v17_apply, val_main_v15_apply, val_main_v13_apply, val_main_v12_apply]
  unfold Parts.meanSq
  refine congrArg (· + Parts.small) (congrArg (Ideal.div · Parts.width) ?_)
  refine Eq.trans (congrArg (· + _) (Ideal.ofBits_zero_f32)) ?_
  rw [zero_add]
  refine Finset.sum_congr rfl fun j _ => ?_
  rw [val_main_v11_apply]
  have h : ∀ i : S2048x1024.Idx, i = ix2 s j → val_main_v3 (F := Ideal) x4 i = x4 (ix2 (row s) j) := fun i hi => hi ▸ x_row x4 s j
  refine congrArg₂ (· * ·) (h _ ?_) (h _ ?_) <;>
  · funext a
    match a with
    | ⟨0, _⟩ => rfl
    | ⟨1, _⟩ => rfl

theorem scale_row (s : Fin 2048) : val_main_v18 (F := Ideal) x4 (ix2 s 0) = Parts.scale x4 (row s) := by
  rw [val_main_v18_apply]
  exact congrArg Ideal.rsqrt (meanSq_row x4 s)

/-- The normalised rows. -/
theorem norm_row (s : Fin 2048) (e : Fin 1024) : val_main_v23 (F := Ideal) x4 (ix2 s e) = x4 (ix2 (row s) e) * Parts.scale x4 (row s) := by
  rw [val_main_v23_apply]
  refine congrArg₂ (· * ·) (x_row x4 s e) ?_
  rw [val_main_v22_apply]
  refine Eq.trans (congrArg (val_main_v18 (F := Ideal) x4) (?_ : _ = ix2 s 0)) (scale_row x4 s)
  funext a
  match a with
  | ⟨0, _⟩ => rfl
  | ⟨1, _⟩ => rfl

theorem dn_row (s : Fin 2048) (e : Fin 1024) : val_main_v32 (F := Ideal) x0 x1 x2 x3 x5 (ix2 s e) = Parts.du x0 x1 x2 x3 (row s) e * x5 (ix2 0 e) := by
  rw [val_main_v32_apply]
  refine congrArg₂ (· * ·) (du_row x0 x1 x2 x3 s e) ?_
  rw [val_main_v31_apply]
  refine congrArg x5 ?_
  funext a
  match a with
  | ⟨0, _⟩ => rfl
  | ⟨1, _⟩ => rfl

/-! ## The two results -/

/-- Of every argument, the reference's gradient of the scale is the kernel's. -/
theorem dg_eq : val_main_v30 (F := Ideal) x0 x1 x2 x3 x4 = Cert.Kernel3Ideal.Own.dgArr x0 x1 x2 x3 x4 := by
  funext y
  obtain ⟨e, rfl⟩ : ∃ e : Fin 1024, y = ix2 0 e :=
    ⟨y 1, funext fun | ⟨0, _⟩ => Fin.ext (by have h : (y 0).val < 1 := (y 0).isLt; show (y 0).val = 0; omega) | ⟨1, _⟩ => rfl⟩
  rw [val_main_v30_apply, val_main_v29_apply]
  refine Eq.trans (congrArg (· + _) (Ideal.ofBits_zero_f32)) ?_
  rw [zero_add]
  refine Finset.sum_congr rfl fun s _ => ?_
  refine Eq.trans (congrArg (val_main_v28 (F := Ideal) x0 x1 x2 x3 x4) (?_ : _ = ix2 s e)) ?_
  · funext a
    match a with
    | ⟨0, _⟩ => rfl
    | ⟨1, _⟩ => exact Fin.ext (by show 0 * 1024 + e.val = e.val; omega)
  · rw [val_main_v28_apply]
    refine Eq.trans (congrArg₂ (· * ·) (norm_row x4 s e) (du_row x0 x1 x2 x3 s e)) ?_
    exact mul_comm _ _

/-- The factor that the reference multiplies a row with, coming through the mean square. -/
def factor (s : Fin 2048) : EReal :=
  Ideal.div ((∑ j : Fin 1024, x4 (ix2 (row s) j) * (Parts.du x0 x1 x2 x3 (row s) j * x5 (ix2 0 j)))
    * (((-(1/2) : ℝ) : EReal) * Ideal.div (Parts.scale x4 (row s)) (Parts.meanSq x4 (row s)))) ((1024 : ℝ) : EReal)

theorem factor_row (s : Fin 2048) (e : Fin 1024) : val_main_v43 (F := Ideal) x0 x1 x2 x3 x4 x5 (ix2 s e) = factor x0 x1 x2 x3 x4 x5 s := by
  rw [val_main_v43_apply, val_main_v42_apply]
  refine Eq.trans (congrArg (· + _) (Ideal.ofBits_zero_f32)) ?_
  rw [zero_add, Fin.sum_univ_one, val_main_v41_apply]
  unfold factor
  refine congrArg₂ Ideal.div ?_ Parts.width_eq
  rw [val_main_v39_apply]
  refine congrArg₂ (· * ·) ?_ ?_
  · rw [val_main_v35_apply, val_main_v34_apply]
    refine Eq.trans (congrArg (· + _) (Ideal.ofBits_zero_f32)) ?_
    rw [zero_add]
    refine Finset.sum_congr rfl fun j _ => ?_
    refine Eq.trans (congrArg (val_main_v33 (F := Ideal) x0 x1 x2 x3 x4 x5) (?_ : _ = ix2 s j)) ?_
    · funext a
      match a with
      | ⟨0, _⟩ => exact Fin.ext (by show s.val * 1 + 0 = s.val; omega)
      | ⟨1, _⟩ => rfl
    · rw [val_main_v33_apply]
      exact congrArg₂ (· * ·) (x_row x4 s j) (dn_row x0 x1 x2 x3 x5 s j)
  · rw [val_main_v21_apply]
    refine congrArg₂ (· * ·) Parts.half_eq ?_
    rw [val_main_v19_apply]
    refine congrArg₂ Ideal.div (Eq.trans (congrArg (val_main_v18 (F := Ideal) x4) (?_ : _ = ix2 s 0)) (scale_row x4 s))
      (Eq.trans (congrArg (val_main_v17 (F := Ideal) x4) (?_ : _ = ix2 s 0)) (meanSq_row x4 s)) <;>
    · funext a
      match a with
      | ⟨0, _⟩ => rfl
      | ⟨1, _⟩ => rfl

/-- Of every argument, the reference's gradient of the rows is the kernel's. -/
theorem gx_eq : val_main_v47 (F := Ideal) x0 x1 x2 x3 x4 x5 x6 = Cert.Kernel3Ideal.Own.gxArr x0 x1 x2 x3 x4 x5 x6 := by
  funext y
  obtain ⟨s, e, rfl⟩ : ∃ (s : Fin 2048) (e : Fin 1024), y = ix2 s e := ⟨y 0, y 1, funext fun | ⟨0, _⟩ => rfl | ⟨1, _⟩ => rfl⟩
  refine Eq.trans (b := ((x6 (ix2 (row s) e) + Parts.du x0 x1 x2 x3 (row s) e * x5 (ix2 0 e) * Parts.scale x4 (row s)) + x4 (ix2 (row s) e) * factor x0 x1 x2 x3 x4 x5 s)
      + factor x0 x1 x2 x3 x4 x5 s * x4 (ix2 (row s) e)) ?_ (?_ : _ = Parts.gxAt x0 x1 x2 x3 x4 x5 x6 (row s) e)
  · rw [val_main_v47_apply]
    refine congrArg₂ (· + ·) ?_ ?_
    · rw [val_main_v45_apply]
      refine congrArg₂ (· + ·) ?_ ?_
      · rw [val_main_v38_apply]
        refine congrArg₂ (· + ·) (dh_row x6 s e) ?_
        rw [val_main_v37_apply]
        refine congrArg₂ (· * ·) (dn_row x0 x1 x2 x3 x5 s e) ?_
        rw [val_main_v36_apply]
        refine Eq.trans (congrArg (val_main_v18 (F := Ideal) x4) (?_ : _ = ix2 s 0)) (scale_row x4 s)
        funext a
        match a with
        | ⟨0, _⟩ => rfl
        | ⟨1, _⟩ => rfl
      · rw [val_main_v44_apply]
        exact congrArg₂ (· * ·) (x_row x4 s e) (factor_row x0 x1 x2 x3 x4 x5 s e)
    · rw [val_main_v46_apply]
      exact congrArg₂ (· * ·) (factor_row x0 x1 x2 x3 x4 x5 s e) (x_row x4 s e)
  · obtain ⟨ε, hε, hs⟩ := Parts.small_eq
    refine Eq.symm ?_
    unfold Parts.gxAt
    rw [Parts.width_eq]
    refine Rms.back (fun j => Parts.du x0 x1 x2 x3 (row s) j * x5 (ix2 0 j)) (fun j => x4 (ix2 (row s) j)) (x6 (ix2 (row s) e))
      (Parts.meanSq x4 (row s)) (Parts.scale x4 (row s)) 1024 ε (by norm_num) hε ?_ rfl e
    unfold Parts.meanSq
    rw [Parts.width_eq, hs]

end Values

/-! ## The claims about the call that computes the first half of the rows' gradient -/

/-- The reference runs, keeps its arguments, and declares no semaphore. -/
theorem frame_ref : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- Kernel and reference end with equal results, of every argument. -/
theorem algebraic : Cert.algebraic_Kernel3Ideal_Reference3Ideal := by
  intro m g m' g' _ hargs
  refine ⟨fun c => Cert.Kernel3Ideal.Own.gxArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    fun c => Cert.Kernel3Ideal.Own.dgArr (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · refine (θ_run Cert.Kernel3Ideal.defs _ _).mono (fun r h c => ?_) (Cert.Kernel3Ideal.Value.run_blocks (F := Ideal) m g)
    obtain ⟨h7, h8, h⟩ := h c
    exact ⟨h7.trans (Cert.Kernel3Ideal.Own.final7 m c), h8.trans (Cert.Kernel3Ideal.Own.final8 m c), h⟩
  · refine (θ_run Cert.Reference3Ideal.defs _ _).mono (fun r h c => ?_) (Cert.Reference3Ideal.Value.run (F := Ideal) m' g')
    obtain ⟨e7, e8, hk⟩ := h c
    obtain ⟨a0, a1, a2, a3, a4, a5, a6⟩ := hargs c
    refine ⟨e7.trans ?_, e8.trans ?_, hk⟩
    · rw [val_main_v47_eq, a0, a1, a2, a3, a4, a5, a6]
      exact gx_eq _ _ _ _ _ _ _
    · rw [val_main_v30_eq, a0, a1, a2, a3, a4]
      exact dg_eq _ _ _ _ _

end Cert.InClaim

end
-- ==== Proof.InBody4.lean ====
module

public import proofs.«01_k».proof.Proof.Parts
public import proofs.«01_k».proof.Proof.Gen.Kernel4Ideal.Value
public import Idealize.ShloMosaic.Lib.MatmulPlain
public import Idealize.ShloMosaic.Lib.Pipeline.ValueKit
public import Idealize.ShloMosaic.Lib.Claim

@[expose] public section

set_option maxRecDepth 16384

noncomputable section

namespace Cert.Kernel4Ideal.Own

open Cert.Kernel4Ideal Cert.Kernel4Ideal.Gen Idealize.ShloMosaic Idealize.ShloMosaic.TcCoe Idealize.SL.Sem
open Idealize.ShloMosaic.Pipeline (Dat)

theorem hz3 : (![0, 0, 0] : Fin 3 → ℕ) = 0 := by funext a; fin_cases a <;> rfl
theorem hz2 : (![0, 0] : Fin 2 → ℕ) = 0 := by funext a; fin_cases a <;> rfl

/-! ## The slabs of the blocks that the twenty products read -/

/-- 512 columns, from column `o` on, of part `p` of a block of four parts. -/
def sl4 (x : Vec Ideal S4x256x1024 .bf16) (p o : ℕ) : Vec Ideal S1x256x512 .bf16 :=
  fun y => x (ix3 ⟨p % 4, by omega⟩ (y 1) ⟨(o + (y 2).val) % 1024, by omega⟩)

/-- The same of a block of three parts. -/
def sl3 (x : Vec Ideal S3x256x1024 .bf16) (p o : ℕ) : Vec Ideal S1x256x512 .bf16 :=
  fun y => x (ix3 ⟨p % 3, by omega⟩ (y 1) ⟨(o + (y 2).val) % 1024, by omega⟩)

/-- 512 columns, from column `o` on, of shard `a` of the weights. -/
def slw (x : Vec Ideal S4x1024x2560 .bf16) (a o : ℕ) : Vec Ideal S1x1024x512 .bf16 :=
  fun y => x (ix3 ⟨a % 4, by omega⟩ (y 1) ⟨(o + (y 2).val) % 2560, by omega⟩)

theorem readAt4 (M : Memref sig .tc .vmem S4x256x1024 .bf16) (h : M.IsWhole) (x : Vec Ideal S4x256x1024 .bf16) (p o : ℕ)
    (inb : ∀ a, (![p, 0, o] : Fin 3 → ℕ) a + S1x256x512.size a ≤ S4x256x1024.size a) :
    View.readAt (Elt Ideal) M.view (Rect.unit ![p, 0, o] ![1, 256, 512] inb : Rect S4x256x1024).toLoadRect (h.unread x) = sl4 x p o := by
  have hp : p + 1 ≤ 4 := inb 0
  have ho : o + 512 ≤ 1024 := inb 2
  rw [View.readAt_eq_ld, h.read_unread]
  funext i
  refine View.ld_unit_apply_of x _ _ inb i _ fun a => ?_
  have h0 : (i 0).val < 1 := (i 0).isLt
  have h2 : (i 2).val < 512 := (i 2).isLt
  match a with
  | ⟨0, _⟩ => show p % 4 = p + (i 0).val; omega
  | ⟨1, _⟩ => show (i 1).val = 0 + (i 1).val; omega
  | ⟨2, _⟩ => show (o + (i 2).val) % 1024 = o + (i 2).val; omega

theorem readAt3 (M : Memref sig .tc .vmem S3x256x1024 .bf16) (h : M.IsWhole) (x : Vec Ideal S3x256x1024 .bf16) (p o : ℕ)
    (inb : ∀ a, (![p, 0, o] : Fin 3 → ℕ) a + S1x256x512.size a ≤ S3x256x1024.size a) :
    View.readAt (Elt Ideal) M.view (Rect.unit ![p, 0, o] ![1, 256, 512] inb : Rect S3x256x1024).toLoadRect (h.unread x) = sl3 x p o := by
  have hp : p + 1 ≤ 3 := inb 0
  have ho : o + 512 ≤ 1024 := inb 2
  rw [View.readAt_eq_ld, h.read_unread]
  funext i
  refine View.ld_unit_apply_of x _ _ inb i _ fun a => ?_
  have h0 : (i 0).val < 1 := (i 0).isLt
  have h2 : (i 2).val < 512 := (i 2).isLt
  match a with
  | ⟨0, _⟩ => show p % 3 = p + (i 0).val; omega
  | ⟨1, _⟩ => show (i 1).val = 0 + (i 1).val; omega
  | ⟨2, _⟩ => show (o + (i 2).val) % 1024 = o + (i 2).val; omega

theorem readAtW (M : Memref sig .tc .vmem S4x1024x2560 .bf16) (h : M.IsWhole) (x : Vec Ideal S4x1024x2560 .bf16) (p o : ℕ)
    (inb : ∀ a, (![p, 0, o] : Fin 3 → ℕ) a + S1x1024x512.size a ≤ S4x1024x2560.size a) :
    View.readAt (Elt Ideal) M.view (Rect.unit ![p, 0, o] ![1, 1024, 512] inb : Rect S4x1024x2560).toLoadRect (h.unread x) = slw x p o := by
  have hp : p + 1 ≤ 4 := inb 0
  have ho : o + 512 ≤ 2560 := inb 2
  rw [View.readAt_eq_ld, h.read_unread]
  funext i
  refine View.ld_unit_apply_of x _ _ inb i _ fun a => ?_
  have h0 : (i 0).val < 1 := (i 0).isLt
  have h2 : (i 2).val < 512 := (i 2).isLt
  match a with
  | ⟨0, _⟩ => show p % 4 = p + (i 0).val; omega
  | ⟨1, _⟩ => show (i 1).val = 0 + (i 1).val; omega
  | ⟨2, _⟩ => show (o + (i 2).val) % 2560 = o + (i 2).val; omega

/-! ## What the body computes, as functions of its blocks -/

section Blocks

variable (x0 : Vec Ideal S4x256x1024 .bf16) (x1 x2 : Vec Ideal S3x256x1024 .bf16) (x3 : Vec Ideal S4x1024x2560 .bf16)
  (x4 : Vec Ideal S256x1024 .f32) (x5 : Vec Ideal S1x1024 .f32) (x6 : Vec Ideal S256x1024 .bf16)

/-- The first eighteen products, added from left to right. -/
def du18 : FVec Ideal S256x1024 .f32 :=
  k0_pay9
    (k0_pay7
      (k0_pay4 (k0_pay3 (sl4 x0 0 0) (slw x3 0 0) (sl4 x0 0 512) (slw x3 0 512) (sl4 x0 1 0) (slw x3 0 1024) (sl4 x0 1 512) (slw x3 0 1536))
        (sl4 x0 2 0) (slw x3 0 2048) (sl4 x0 2 512) (slw x3 1 0) (sl4 x0 3 0) (slw x3 1 512) (sl4 x0 3 512) (slw x3 1 1024))
      (k0_pay5 (sl3 x1 0 0)) (k0_pay6 (slw x3 1 1536)) (sl3 x1 0 512) (slw x3 1 2048) (sl3 x1 1 0) (slw x3 2 0) (sl3 x1 1 512) (slw x3 2 512) (sl3 x1 2 0) (slw x3 2 1024))
    (k0_pay8 (sl3 x1 2 512)) (slw x3 2 1536) (sl3 x2 0 0) (slw x3 2 2048) (sl3 x2 0 512) (slw x3 3 0) (sl3 x2 1 0) (slw x3 3 512) (sl3 x2 1 512) (slw x3 3 1024)

/-- The block of the gradient of the rows that the body stores. -/
def gxB : FVec Ideal S256x1024 .f32 :=
  k0_pay1 (k0_pay11 x4) (k0_pay12 x4) (k0_pay14 (du18 x0 x1 x2 x3) (sl3 x2 2 0) (slw x3 3 1536) (sl3 x2 2 512) (slw x3 3 2048) x5) x6

/-- The gradient of the scale: what the buffer held, and the block's sum over its rows. -/
def dgB (acc : Vec Ideal S1x1024 .f32) : FVec Ideal S1x1024 .f32 :=
  k0_pay13 (du18 x0 x1 x2 x3) (sl3 x2 2 0) (slw x3 3 1536) (sl3 x2 2 512) (slw x3 3 2048) x4 acc

section Cases

variable (c : Dev nD) (i : grid0.Coords) (arg1 : Memref sig .tc .vmem S4x256x1024 .bf16) (harg1 : arg1.IsWhole)
  (arg2 : Memref sig .tc .vmem S3x256x1024 .bf16) (harg2 : arg2.IsWhole) (arg3 : Memref sig .tc .vmem S3x256x1024 .bf16) (harg3 : arg3.IsWhole)
  (arg4 : Memref sig .tc .vmem S4x1024x2560 .bf16) (harg4 : arg4.IsWhole) (arg5 : Memref sig .tc .vmem S256x1024 .f32) (harg5 : arg5.IsWhole)
  (arg6 : Memref sig .tc .vmem S1x1024 .f32) (harg6 : arg6.IsWhole) (arg7 : Memref sig .tc .vmem S256x1024 .bf16) (harg7 : arg7.IsWhole)
  (arg8 : Memref sig .tc .vmem S256x1024 .f32) (harg8 : arg8.IsWhole) (arg9 : Memref sig .tc .vmem S1x1024 .f32) (harg9 : arg9.IsWhole)

theorem out_A_7 (hc0 : cond0_0 i) :
    out0_A_7 c i arg1 harg1 arg2 harg2 arg3 harg3 arg4 harg4 arg5 harg5 arg6 harg6 arg7 harg7 arg8 harg8 arg9 harg9 hc0 x0 x1 x2 x3 x4 x5 x6 = gxB x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero (S := S256x1024) hz2]
  simp only [readAt4, readAt3, readAtW]
  simp only [View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2]
  rfl

theorem out_A_8 (hc0 : cond0_0 i) :
    out0_A_8 c i arg1 harg1 arg2 harg2 arg3 harg3 arg4 harg4 arg5 harg5 arg6 harg6 arg7 harg7 arg8 harg8 arg9 harg9 hc0 x0 x1 x2 x3 x4 x5 x6 = dgB x0 x1 x2 x3 x4 (k0_pay2 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S1x1024) hz2, View.readCov_unit_zero (S := S1x1024) _ hz2]
  simp only [readAt4, readAt3, readAtW]
  simp only [View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2]
  rfl

theorem out_B_7 (hc0 : ¬cond0_0 i) (xo8 : Vec Ideal S1x1024 .f32) :
    out0_B_7 c i arg1 harg1 arg2 harg2 arg3 harg3 arg4 harg4 arg5 harg5 arg6 harg6 arg7 harg7 arg8 harg8 arg9 harg9 hc0 x0 x1 x2 x3 x4 x5 x6 xo8 = gxB x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  rw [View.canon_unit_zero (S := S256x1024) hz2]
  simp only [readAt4, readAt3, readAtW]
  simp only [View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2]
  rfl

theorem out_B_8 (hc0 : ¬cond0_0 i) (xo8 : Vec Ideal S1x1024 .f32) :
    out0_B_8 c i arg1 harg1 arg2 harg2 arg3 harg3 arg4 harg4 arg5 harg5 arg6 harg6 arg7 harg7 arg8 harg8 arg9 harg9 hc0 x0 x1 x2 x3 x4 x5 x6 xo8 = dgB x0 x1 x2 x3 x4 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 x6 xo8)]
  unfold kernelRun0_B
  dsimp only
  sl_unfold_words
  rw [View.canon_unit_zero (S := S1x1024) hz2]
  simp only [readAt4, readAt3, readAtW]
  simp only [View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2]
  rfl

end Cases

end Blocks

end Cert.Kernel4Ideal.Own

end
-- ==== Proof.InSum4.lean ====
module

public import proofs.«01_k».proof.Proof.InMath
public import proofs.«01_k».proof.Proof.InBody4

@[expose] public section

set_option maxRecDepth 16384

noncomputable section

namespace Cert.Kernel4Ideal.Own

open Cert.Kernel4Ideal Cert.Kernel4Ideal.Gen Idealize.ShloMosaic Idealize.ShloMosaic.TcCoe Idealize.SL.Sem

/-! ## The operations of the body at an entry -/

/-- The product of two slabs, the second transposed. -/
def prod (v : Vec Ideal S1x256x512 .bf16) (u : Vec Ideal S1x1024x512 .bf16) (l : Fin 256) (e : Fin 1024) : EReal :=
  ∑ j : Fin 512, v (ix3 0 l j) * u (ix3 0 e j)

theorem product_apply (v : Vec Ideal S1x256x512 .bf16) (u : Vec Ideal S1x1024x512 .bf16) (h : S1x256x512.ShapeCasts S256x512)
    (h' : S1x1024x512.ShapeCasts S1024x512) (l : Fin 256) (e : Fin 1024) :
    matmul (F := Ideal) (φ₁ := .bf16) (φ₂ := .bf16) dot_S256x512_S1024x512_S256x1024_1_1_0_0_n_n none (shapeCast S256x512 v h) (shapeCast S1024x512 u h')
      (constant (F := Ideal) S256x1024 .f32 0x00000000#32) (ix2 l e) = prod v u l e := by
  refine (Ideal.matmul_transposedRhs_apply none _ _ _ l e).trans ?_
  refine Eq.trans (congrArg (· + _) (Ideal.ofBits_zero_f32)) ?_
  rw [zero_add]
  refine Finset.sum_congr rfl fun j _ => congrArg₂ (· * ·) ?_ ?_
  · refine (shapeCast_dropUnit_apply ![256, 512] v _ (ix2 l j)).trans (congrArg v ?_)
    funext a
    match a with
    | ⟨0, _⟩ => rfl
    | ⟨1, _⟩ => rfl
    | ⟨2, _⟩ => rfl
  · refine (shapeCast_dropUnit_apply ![1024, 512] u _ (ix2 e j)).trans (congrArg u ?_)
    funext a
    match a with
    | ⟨0, _⟩ => rfl
    | ⟨1, _⟩ => rfl
    | ⟨2, _⟩ => rfl

theorem add_at (p q : FVec Ideal S256x1024 .f32) (i : S256x1024.Idx) : addf p q i = p i + q i := rfl

/-- A row's sum, kept as a column. -/
theorem rowSum_apply (v : FVec Ideal S256x1024 .f32) (h : S256x1024.Reduces [1] S256) (hc : S256.ShapeCasts S256x1) (l : Fin 256) :
    shapeCast S256x1 (multiReduction (F := Ideal) .add [1] S256 v 0x00000000#32 h (.inl rfl) rfl) hc (ix2 l 0)
      = ∑ j : Fin 1024, v (ix2 l j) := by
  refine (shapeCast_apply _ hc (ix2 l 0) (ix1 l) ?_).trans ?_
  · rw [Shape.rowMajor_val_one, Shape.rowMajor_val_two]
    show l.val = l.val * 1 + 0
    omega
  · refine (Ideal.multiReduction_add_single v _ h _ _ (ix1 l)).trans ?_
    refine Finset.sum_congr rfl fun j _ => congrArg v ?_
    funext a
    match a with
    | ⟨0, _⟩ => rfl
    | ⟨1, _⟩ => rfl

/-- A column's sum, kept as a row. -/
theorem colSum_apply (v : FVec Ideal S256x1024 .f32) (h : S256x1024.Reduces [0] S1024) (hc : S1024.ShapeCasts S1x1024) (e : Fin 1024) :
    shapeCast S1x1024 (multiReduction (F := Ideal) .add [0] S1024 v 0x00000000#32 h (.inl rfl) rfl) hc (ix2 0 e)
      = ∑ l : Fin 256, v (ix2 l e) := by
  refine (shapeCast_apply _ hc (ix2 0 e) (ix1 e) ?_).trans ?_
  · rw [Shape.rowMajor_val_one, Shape.rowMajor_val_two]
    show e.val = 0 * 1024 + e.val
    omega
  · refine (Ideal.multiReduction_add_single v _ h _ _ (ix1 e)).trans ?_
    refine Finset.sum_congr rfl fun j _ => congrArg v ?_
    funext a
    match a with
    | ⟨0, _⟩ => rfl
    | ⟨1, _⟩ => rfl

theorem column_at (v : FVec Ideal S256x1 .f32) (h : S256x1.Broadcasts S256x1024) (l : Fin 256) (e : Fin 1024) :
    broadcastTo S256x1024 v h (ix2 l e) = v (ix2 l 0) :=
  broadcastTo_apply v h (ix2 l e) (ix2 l 0) fun a => match a with
    | ⟨0, _⟩ => rfl
    | ⟨1, _⟩ => rfl

theorem row_at (v : FVec Ideal S1x1024 .f32) (h : S1x1024.Broadcasts S256x1024) (l : Fin 256) (e : Fin 1024) :
    broadcastTo S256x1024 v h (ix2 l e) = v (ix2 0 e) :=
  broadcastTo_apply v h (ix2 l e) (ix2 0 e) fun a => match a with
    | ⟨0, _⟩ => rfl
    | ⟨1, _⟩ => rfl

section Blocks

variable (x0 : Vec Ideal S4x256x1024 .bf16) (x1 x2 : Vec Ideal S3x256x1024 .bf16) (x3 : Vec Ideal S4x1024x2560 .bf16)
  (x4 : Vec Ideal S256x1024 .f32) (x5 : Vec Ideal S1x1024 .f32) (x6 : Vec Ideal S256x1024 .bf16)

/-! ## The twenty products as one sum over 10240 columns -/

/-- A term of the sum by the column's number. -/
def termN (l : Fin 256) (e : Fin 1024) (C : ℕ) : EReal := Parts.term x0 x1 x2 x3 l e ⟨C % 10240, by omega⟩

theorem prod4 (l : Fin 256) (e : Fin 1024) (k p o q r : ℕ) (hk : k < 20) (hp : p < 4) (ho : o + 512 ≤ 1024) (hr : r + 512 ≤ 2560)
    (h1 : 512 * k = 1024 * p + o) (h2 : 512 * k = 2560 * q + r) :
    prod (sl4 x0 p o) (slw x3 q r) l e = ∑ j : Fin 512, termN x0 x1 x2 x3 l e (512 * k + j.val) := by
  refine Finset.sum_congr rfl fun j _ => ?_
  have hj := j.isLt
  have hC : (512 * k + j.val) % 10240 = 512 * k + j.val := Nat.mod_eq_of_lt (by omega)
  unfold termN Parts.term
  rw [Parts.cols_a x0 x1 x2 l _ (by show (512 * k + j.val) % 10240 / 1024 < 4; omega)]
  refine congrArg₂ (· * ·) (congrArg x0 (congrArg₂ (fun u v => ix3 u l v) (Fin.ext ?_) (Fin.ext ?_))) (congrArg x3 (congrArg₂ (fun u v => ix3 u e v) (Fin.ext ?_) (Fin.ext ?_)))
  · show p % 4 = (512 * k + j.val) % 10240 / 1024 % 4; omega
  · show (o + j.val) % 1024 = (512 * k + j.val) % 10240 % 1024; omega
  · show q % 4 = (512 * k + j.val) % 10240 / 2560; omega
  · show (r + j.val) % 2560 = (512 * k + j.val) % 10240 % 2560; omega

theorem prod3 (l : Fin 256) (e : Fin 1024) (k p o q r : ℕ) (hk : k < 20) (hp : p < 3) (ho : o + 512 ≤ 1024) (hr : r + 512 ≤ 2560)
    (h1 : 512 * k = 1024 * (p + 4) + o) (h2 : 512 * k = 2560 * q + r) :
    prod (sl3 x1 p o) (slw x3 q r) l e = ∑ j : Fin 512, termN x0 x1 x2 x3 l e (512 * k + j.val) := by
  refine Finset.sum_congr rfl fun j _ => ?_
  have hj := j.isLt
  have hC : (512 * k + j.val) % 10240 = 512 * k + j.val := Nat.mod_eq_of_lt (by omega)
  unfold termN Parts.term
  rw [Parts.cols_b x0 x1 x2 l _ (by show ¬(512 * k + j.val) % 10240 / 1024 < 4; omega) (by show (512 * k + j.val) % 10240 / 1024 < 7; omega)]
  refine congrArg₂ (· * ·) (congrArg x1 (congrArg₂ (fun u v => ix3 u l v) (Fin.ext ?_) (Fin.ext ?_))) (congrArg x3 (congrArg₂ (fun u v => ix3 u e v) (Fin.ext ?_) (Fin.ext ?_)))
  · show p % 3 = ((512 * k + j.val) % 10240 / 1024 - 4) % 3; omega
  · show (o + j.val) % 1024 = (512 * k + j.val) % 10240 % 1024; omega
  · show q % 4 = (512 * k + j.val) % 10240 / 2560; omega
  · show (r + j.val) % 2560 = (512 * k + j.val) % 10240 % 2560; omega

theorem prod3' (l : Fin 256) (e : Fin 1024) (k p o q r : ℕ) (hk : k < 20) (hp : p < 3) (ho : o + 512 ≤ 1024) (hr : r + 512 ≤ 2560)
    (h1 : 512 * k = 1024 * (p + 7) + o) (h2 : 512 * k = 2560 * q + r) :
    prod (sl3 x2 p o) (slw x3 q r) l e = ∑ j : Fin 512, termN x0 x1 x2 x3 l e (512 * k + j.val) := by
  refine Finset.sum_congr rfl fun j _ => ?_
  have hj := j.isLt
  have hC : (512 * k + j.val) % 10240 = 512 * k + j.val := Nat.mod_eq_of_lt (by omega)
  unfold termN Parts.term
  rw [Parts.cols_d x0 x1 x2 l _ (by show ¬(512 * k + j.val) % 10240 / 1024 < 4; omega) (by show ¬(512 * k + j.val) % 10240 / 1024 < 7; omega)]
  refine congrArg₂ (· * ·) (congrArg x2 (congrArg₂ (fun u v => ix3 u l v) (Fin.ext ?_) (Fin.ext ?_))) (congrArg x3 (congrArg₂ (fun u v => ix3 u e v) (Fin.ext ?_) (Fin.ext ?_)))
  · show p % 3 = ((512 * k + j.val) % 10240 / 1024 - 7) % 3; omega
  · show (o + j.val) % 1024 = (512 * k + j.val) % 10240 % 1024; omega
  · show q % 4 = (512 * k + j.val) % 10240 / 2560; omega
  · show (r + j.val) % 2560 = (512 * k + j.val) % 10240 % 2560; omega

/-- The twenty products, added from left to right, are the sum over all columns. -/
theorem du_apply (l : Fin 256) (e : Fin 1024) :
    k0_pay10 (du18 x0 x1 x2 x3) (sl3 x2 2 0) (slw x3 3 1536) (sl3 x2 2 512) (slw x3 3 2048) (ix2 l e) = Parts.du x0 x1 x2 x3 l e := by
  unfold k0_pay10 du18 k0_pay9 k0_pay8 k0_pay7 k0_pay6 k0_pay5 k0_pay4 k0_pay3
  dsimp only
  simp only [add_at]
  refine Eq.trans (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (((product_apply _ _ _ _ l e).trans (prod4 x0 x1 x2 x3 l e 0 0 0 0 0 (by omega) (by omega) (by omega) (by omega) (by omega) (by omega))))
    ((product_apply _ _ _ _ l e).trans (prod4 x0 x1 x2 x3 l e 1 0 512 0 512 (by omega) (by omega) (by omega) (by omega) (by omega) (by omega))))
    ((product_apply _ _ _ _ l e).trans (prod4 x0 x1 x2 x3 l e 2 1 0 0 1024 (by omega) (by omega) (by omega) (by omega) (by omega) (by omega))))
    ((product_apply _ _ _ _ l e).trans (prod4 x0 x1 x2 x3 l e 3 1 512 0 1536 (by omega) (by omega) (by omega) (by omega) (by omega) (by omega))))
    ((product_apply _ _ _ _ l e).trans (prod4 x0 x1 x2 x3 l e 4 2 0 0 2048 (by omega) (by omega) (by omega) (by omega) (by omega) (by omega))))
    ((product_apply _ _ _ _ l e).trans (prod4 x0 x1 x2 x3 l e 5 2 512 1 0 (by omega) (by omega) (by omega) (by omega) (by omega) (by omega))))
    ((product_apply _ _ _ _ l e).trans (prod4 x0 x1 x2 x3 l e 6 3 0 1 512 (by omega) (by omega) (by omega) (by omega) (by omega) (by omega))))
    ((product_apply _ _ _ _ l e).trans (prod4 x0 x1 x2 x3 l e 7 3 512 1 1024 (by omega) (by omega) (by omega) (by omega) (by omega) (by omega))))
    ((product_apply _ _ _ _ l e).trans (prod3 x0 x1 x2 x3 l e 8 0 0 1 1536 (by omega) (by omega) (by omega) (by omega) (by omega) (by omega))))
    ((product_apply _ _ _ _ l e).trans (prod3 x0 x1 x2 x3 l e 9 0 512 1 2048 (by omega) (by omega) (by omega) (by omega) (by omega) (by omega))))
    ((product_apply _ _ _ _ l e).trans (prod3 x0 x1 x2 x3 l e 10 1 0 2 0 (by omega) (by omega) (by omega) (by omega) (by omega) (by omega))))
    ((product_apply _ _ _ _ l e).trans (prod3 x0 x1 x2 x3 l e 11 1 512 2 512 (by omega) (by omega) (by omega) (by omega) (by omega) (by omega))))
    ((product_apply _ _ _ _ l e).trans (prod3 x0 x1 x2 x3 l e 12 2 0 2 1024 (by omega) (by omega) (by omega) (by omega) (by omega) (by omega))))
    ((product_apply _ _ _ _ l e).trans (prod3 x0 x1 x2 x3 l e 13 2 512 2 1536 (by omega) (by omega) (by omega) (by omega) (by omega) (by omega))))
    ((product_apply _ _ _ _ l e).trans (prod3' x0 x1 x2 x3 l e 14 0 0 2 2048 (by omega) (by omega) (by omega) (by omega) (by omega) (by omega))))
    ((product_apply _ _ _ _ l e).trans (prod3' x0 x1 x2 x3 l e 15 0 512 3 0 (by omega) (by omega) (by omega) (by omega) (by omega) (by omega))))
    ((product_apply _ _ _ _ l e).trans (prod3' x0 x1 x2 x3 l e 16 1 0 3 512 (by omega) (by omega) (by omega) (by omega) (by omega) (by omega))))
    ((product_apply _ _ _ _ l e).trans (prod3' x0 x1 x2 x3 l e 17 1 512 3 1024 (by omega) (by omega) (by omega) (by omega) (by omega) (by omega))))
    ((product_apply _ _ _ _ l e).trans (prod3' x0 x1 x2 x3 l e 18 2 0 3 1536 (by omega) (by omega) (by omega) (by omega) (by omega) (by omega))))
    ((product_apply _ _ _ _ l e).trans (prod3' x0 x1 x2 x3 l e 19 2 512 3 2048 (by omega) (by omega) (by omega) (by omega) (by omega) (by omega)))) ?_
  refine (Parts.sum_twenty (termN x0 x1 x2 x3 l e) (fun k => ∑ j : Fin 512, termN x0 x1 x2 x3 l e (512 * k + j.val)) (fun _ => rfl)).trans ?_
  unfold Parts.du termN
  refine Finset.sum_congr rfl fun C _ => congrArg _ (Fin.ext ?_)
  show C.val % 10240 = C.val
  have := C.isLt
  omega

/-! ## The two results of a block -/

theorem scale_apply (l : Fin 256) : k0_pay11 x4 (ix2 l 0) = Parts.scale x4 l := by
  unfold k0_pay11
  dsimp only
  unfold Parts.scale Parts.meanSq
  refine congrArg Ideal.rsqrt (congrArg (· + Parts.small) (congrArg (Ideal.div · Parts.width) ?_))
  exact rowSum_apply _ _ _ l

theorem norm_apply (l : Fin 256) (e : Fin 1024) : k0_pay12 x4 (ix2 l e) = x4 (ix2 l e) * Parts.scale x4 l := by
  unfold k0_pay12
  exact congrArg (x4 (ix2 l e) * ·) ((column_at _ _ l e).trans (scale_apply x4 l))

/-- The gradient of the scale: what was there, and the sum over the block's rows. -/
theorem dg_apply (acc : Vec Ideal S1x1024 .f32) (e : Fin 1024) :
    dgB x0 x1 x2 x3 x4 acc (ix2 0 e) = acc (ix2 0 e) + ∑ l : Fin 256, Parts.dgAt x0 x1 x2 x3 x4 l e := by
  unfold dgB k0_pay13
  dsimp only
  refine congrArg₂ (· + ·) (congrFun (shapeCast_self acc _) _) ((colSum_apply _ _ _ e).trans (Finset.sum_congr rfl fun l _ => ?_))
  exact congrArg₂ (· * ·) (du_apply x0 x1 x2 x3 l e) (norm_apply x4 l e)

/-- `du * g` at an entry. -/
theorem dn_apply (l : Fin 256) (e : Fin 1024) : k0_pay14 (du18 x0 x1 x2 x3) (sl3 x2 2 0) (slw x3 3 1536) (sl3 x2 2 512) (slw x3 3 2048) x5 (ix2 l e)
    = Parts.du x0 x1 x2 x3 l e * x5 (ix2 0 e) := by
  unfold k0_pay14
  exact congrArg₂ (· * ·) (du_apply x0 x1 x2 x3 l e) (row_at _ _ l e)

/-- The gradient of the rows. -/
theorem gx_apply (l : Fin 256) (e : Fin 1024) :
    gxB x0 x1 x2 x3 x4 x5 x6 (ix2 l e) = Parts.gxAt x0 x1 x2 x3 x4 x5 x6 l e := by
  unfold gxB k0_pay1
  dsimp only
  unfold Parts.gxAt
  refine congrArg (x6 (ix2 l e) + ·) (congrArg₂ (· * ·) ((column_at _ _ l e).trans (scale_apply x4 l)) ?_)
  refine congrArg₂ (· - ·) (dn_apply x0 x1 x2 x3 x5 l e) (congrArg₂ (· * ·) (norm_apply x4 l e) ?_)
  refine (column_at _ _ l e).trans (congrArg (Ideal.div · Parts.width) ((rowSum_apply _ _ _ l).trans ?_))
  exact Finset.sum_congr rfl fun j _ => congrArg₂ (· * ·) (dn_apply x0 x1 x2 x3 x5 l j) (norm_apply x4 l j)

end Blocks

end Cert.Kernel4Ideal.Own

end
-- ==== Proof.InKernel4.lean ====
module

public import proofs.«01_k».proof.Proof.InSum4

@[expose] public section

set_option maxRecDepth 16384

noncomputable section

namespace Cert.Kernel4Ideal.Own

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-! ## What the blocks of a grid point hold -/

theorem index0 : ∀ t : Fin cfg0.N, win0_0.index t = ![0, t.val + 8, 0] := (by decide +kernel : ∀ t : Fin grid0.N, _)
theorem index1 : ∀ t : Fin cfg0.N, win0_1.index t = ![0, t.val + 8, 0] := (by decide +kernel : ∀ t : Fin grid0.N, _)
theorem index2 : ∀ t : Fin cfg0.N, win0_2.index t = ![0, t.val + 8, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![t.val + 8, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val + 8, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)

/-- Row `l` of block `t` among all rows. -/
def rowOf (t : Fin cfg0.N) (l : Fin 256) : Fin 4096 := ⟨2048 + (256 * t.val + l.val), by have ht : t.val < 8 := t.isLt; omega⟩

theorem block0 (c : Dev nD) (t : Fin cfg0.N) (p : Fin 4) (l : Fin 256) (q : Fin 1024) :
    iblk m c 0 t (ix3 p l q) = m ((c : Thread nD τ).loc main_arg0) (ix3 p (rowOf t l) q) := by
  refine Eq.trans ?_ (congrFun (V_main_arg0 m c) _)
  blk_simp [iblk]
  refine congrArg (V m c main_arg0) ?_
  blk_ext [index0, rowOf]

theorem block1 (c : Dev nD) (t : Fin cfg0.N) (p : Fin 3) (l : Fin 256) (q : Fin 1024) :
    iblk m c 1 t (ix3 p l q) = m ((c : Thread nD τ).loc main_arg1) (ix3 p (rowOf t l) q) := by
  refine Eq.trans ?_ (congrFun (V_main_arg1 m c) _)
  blk_simp [iblk]
  refine congrArg (V m c main_arg1) ?_
  blk_ext [index1, rowOf]

theorem block2 (c : Dev nD) (t : Fin cfg0.N) (p : Fin 3) (l : Fin 256) (q : Fin 1024) :
    iblk m c 2 t (ix3 p l q) = m ((c : Thread nD τ).loc main_arg2) (ix3 p (rowOf t l) q) := by
  refine Eq.trans ?_ (congrFun (V_main_arg2 m c) _)
  blk_simp [iblk]
  refine congrArg (V m c main_arg2) ?_
  blk_ext [index2, rowOf]

theorem block3 (c : Dev nD) (t : Fin cfg0.N) : iblk m c 3 t = m ((c : Thread nD τ).loc main_arg3) := by
  funext y
  refine Eq.trans ?_ (congrFun (V_main_arg3 m c) _)
  blk_simp [iblk]
  refine congrArg (V m c main_arg3) ?_
  blk_ext [index3]

theorem block4 (c : Dev nD) (t : Fin cfg0.N) (l : Fin 256) (q : Fin 1024) :
    iblk m c 4 t (ix2 l q) = m ((c : Thread nD τ).loc main_arg4) (ix2 (rowOf t l) q) := by
  refine Eq.trans ?_ (congrFun (V_main_arg4 m c) _)
  blk_simp [iblk]
  refine congrArg (V m c main_arg4) ?_
  blk_ext [index4, rowOf]

theorem block5 (c : Dev nD) (t : Fin cfg0.N) : iblk m c 5 t = m ((c : Thread nD τ).loc main_arg5) := by
  funext y
  refine Eq.trans ?_ (congrFun (V_main_arg5 m c) _)
  blk_simp [iblk]
  refine congrArg (V m c main_arg5) ?_
  blk_ext [index5]

theorem block6 (c : Dev nD) (t : Fin cfg0.N) (l : Fin 256) (q : Fin 1024) :
    iblk m c 6 t (ix2 l q) = m ((c : Thread nD τ).loc main_arg6) (ix2 (rowOf t l) q) := by
  refine Eq.trans ?_ (congrFun (V_main_arg6 m c) _)
  blk_simp [iblk]
  refine congrArg (V m c main_arg6) ?_
  blk_ext [index6, rowOf]

/-! ## The results -/

/-- The gradient of the rows of this half. -/
def gxArr (x0 : S4x4096x1024.Idx → EReal) (x1 x2 : S3x4096x1024.Idx → EReal) (x3 : S4x1024x2560.Idx → EReal)
    (x4 : S4096x1024.Idx → EReal) (x5 : S1x1024.Idx → EReal) (x6 : S4096x1024.Idx → EReal) : S2048x1024.Idx → EReal :=
  fun y => Parts.gxAt x0 x1 x2 x3 x4 x5 x6 ⟨2048 + (y 0).val, by have h0 : (y 0).val < 2048 := (y 0).isLt; omega⟩ (y 1)

/-- The gradient of the scale, summed over the rows of this half. -/
def dgArr (x0 : S4x4096x1024.Idx → EReal) (x1 x2 : S3x4096x1024.Idx → EReal) (x3 : S4x1024x2560.Idx → EReal)
    (x4 : S4096x1024.Idx → EReal) : S1x1024.Idx → EReal :=
  fun y => ∑ s : Fin 2048, Parts.dgAt x0 x1 x2 x3 x4 ⟨2048 + s.val, by have := s.isLt; omega⟩ (y 1)

/-- The rows' terms of the scale's gradient by number. -/
def dgN (c : Dev nD) (e : Fin 1024) (i : ℕ) : EReal :=
  Parts.dgAt (m ((c : Thread nD τ).loc main_arg0)) (m ((c : Thread nD τ).loc main_arg1)) (m ((c : Thread nD τ).loc main_arg2)) (m ((c : Thread nD τ).loc main_arg3)) (m ((c : Thread nD τ).loc main_arg4)) ⟨(2048 + i) % 4096, by omega⟩ e

theorem blockSum (c : Dev nD) (t : Fin cfg0.N) (e : Fin 1024) :
    ∑ l : Fin 256, Parts.dgAt (iblk m c 0 t) (iblk m c 1 t) (iblk m c 2 t) (iblk m c 3 t) (iblk m c 4 t) l e
      = ∑ l ∈ Finset.range 256, dgN m c e (256 * t.val + l) := by
  rw [← Fin.sum_univ_eq_sum_range (fun l => dgN m c e (256 * t.val + l)) 256]
  refine Finset.sum_congr rfl fun l _ => ?_
  have ht : t.val < 8 := t.isLt
  rw [block3]
  refine (Parts.dgAt_congr _ (fun p q => block0 m c t p l q) (fun p q => block1 m c t p l q) (fun p q => block2 m c t p l q)
    (fun q => block4 m c t l q) e).trans ?_
  unfold dgN
  refine congrArg (fun s => Parts.dgAt (m ((c : Thread nD τ).loc main_arg0)) (m ((c : Thread nD τ).loc main_arg1)) (m ((c : Thread nD τ).loc main_arg2)) (m ((c : Thread nD τ).loc main_arg3)) (m ((c : Thread nD τ).loc main_arg4)) s e) (Fin.ext ?_)
  have hl := l.isLt
  show 2048 + (256 * t.val + l.val) = (2048 + (256 * t.val + l.val)) % 4096
  omega

/-- What the body leaves at a point of either case. -/
theorem outs1 (c : Dev nD) (t : Fin cfg0.N) : (outsAt0 m c t.val t.isLt).1 = gxB (iblk m c 0 t) (iblk m c 1 t) (iblk m c 2 t) (iblk m c 3 t) (iblk m c 4 t) (iblk m c 5 t) (iblk m c 6 t) := by
  by_cases h : t.val % 8 = 0
  · rw [outsAt0_A m c t h]
    dsimp only
    rw [out_A_7]
  · rw [outsAt0_B m c t h]
    dsimp only
    rw [out_B_7]

theorem outs2_A (c : Dev nD) (t : Fin cfg0.N) (h : t.val % 8 = 0) :
    (outsAt0 m c t.val t.isLt).2 = dgB (iblk m c 0 t) (iblk m c 1 t) (iblk m c 2 t) (iblk m c 3 t) (iblk m c 4 t) (k0_pay2 (F := Ideal)) := by
  rw [outsAt0_A m c t h]
  dsimp only
  rw [out_A_8]

theorem outs2_B (c : Dev nD) (t : Fin cfg0.N) (h : ¬t.val % 8 = 0) :
    (outsAt0 m c t.val t.isLt).2 = dgB (iblk m c 0 t) (iblk m c 1 t) (iblk m c 2 t) (iblk m c 3 t) (iblk m c 4 t) (outsAt0 m c (t.val - 1) (by have := t.isLt; omega)).2 := by
  rw [outsAt0_B m c t h]
  dsimp only
  rw [out_B_8]

/-- What the scale's buffer holds after point `n`: the sum over the rows so far. -/
theorem dg_outs (c : Dev nD) (e : Fin 1024) : ∀ (n : ℕ) (hn : n < cfg0.N),
    (outsAt0 m c n hn).2 (ix2 0 e) = ∑ i ∈ Finset.range (256 * (n + 1)), dgN m c e i
  | 0, hn => by
    rw [outs2_A m c ⟨0, hn⟩ rfl, dg_apply, blockSum]
    refine Eq.trans (congrArg (· + _) (Ideal.ofBits_zero_f32)) ?_
    rw [zero_add]
    simp only [Nat.mul_zero, Nat.zero_add, Nat.mul_one]
  | n + 1, hn => by
    have h8 : n + 1 < 8 := hn
    have hB : ¬(⟨n + 1, hn⟩ : Fin cfg0.N).val % 8 = 0 := by dsimp only; omega
    rw [outs2_B m c ⟨n + 1, hn⟩ hB, dg_apply, blockSum, show 256 * (n + 1 + 1) = 256 * (n + 1) + 256 from rfl, Finset.sum_range_add]
    exact congrArg (· + _) (dg_outs c e n (Nat.lt_of_succ_lt hn))

/-- What the body leaves of the rows' gradient at a point. -/
theorem gx_outs (c : Dev nD) (t : Fin cfg0.N) (l : Fin 256) (e : Fin 1024) : (outsAt0 m c t.val t.isLt).1 (ix2 l e)
    = Parts.gxAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowOf t l) e := by
  rw [outs1, gx_apply, block3, block5]
  exact Parts.gxAt_congr _ _ (fun p q => block0 m c t p l q) (fun p q => block1 m c t p l q) (fun p q => block2 m c t p l q)
    (fun q => block4 m c t l q) (fun q => block6 m c t l q) e

/-- The gradient of the rows after the run. -/
theorem final7 (c : Dev nD) : (dats m 0 c).arrAt 7 cfg0.N
    = gxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have ht : t.val < 8 := t.isLt
  obtain ⟨l, e, rfl⟩ : ∃ (l : Fin 256) (e : Fin 1024), y = ix2 l e := ⟨y 0, y 1, by blk_ext []⟩
  have hl := l.isLt
  refine (gx_outs m c t l e).trans ?_
  refine Eq.trans (?_ : _ = gxArr _ _ _ _ _ _ _ (ix2 ⟨256 * t.val + l.val, by omega⟩ e)) (congrArg (gxArr _ _ _ _ _ _ _) ?_)
  · rfl
  · blk_ext [index7]

/-- The gradient of the scale after the run. -/
theorem final8 (c : Dev nD) : (dats m 0 c).arrAt 8 cfg0.N
    = dgArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ (fun y => ?_)
  blk_simp
  rw [after0_8]
  obtain ⟨e, rfl⟩ : ∃ e : Fin 1024, y = ix2 0 e := ⟨y 1, by blk_ext []⟩
  refine (dg_outs m c e 7 t0_7.isLt).trans ?_
  refine Eq.trans (?_ : _ = dgArr _ _ _ _ _ (ix2 0 e)) (congrArg (dgArr _ _ _ _ _) ?_)
  · rw [show 256 * (7 + 1) = 2048 from rfl, ← Fin.sum_univ_eq_sum_range (fun i => dgN m c e i) 2048]
    refine Finset.sum_congr rfl fun s _ => ?_
    unfold dgN
    refine congrArg (fun s => Parts.dgAt (m ((c : Thread nD τ).loc main_arg0)) (m ((c : Thread nD τ).loc main_arg1)) (m ((c : Thread nD τ).loc main_arg2)) (m ((c : Thread nD τ).loc main_arg3)) (m ((c : Thread nD τ).loc main_arg4)) s e) (Fin.ext ?_)
    have hs := s.isLt
    show (2048 + s.val) % 4096 = 2048 + s.val
    omega
  · blk_ext [index8]

end Cert.Kernel4Ideal.Own

end
-- ==== Proof.InClaim4.lean ====
module

public import proofs.«01_k».proof.Proof.InKernel4
public import proofs.«01_k».proof.Proof.Gen.Reference4Ideal.Read
public import proofs.«01_k».proof.Defs

@[expose] public section

set_option maxRecDepth 16384

noncomputable section

namespace Cert.InClaim4

open Idealize.ShloMosaic Idealize.ShloMosaic.TcCoe Idealize.SL.Sem
open Cert.Reference4Ideal Cert.Reference4Ideal.Read

section Values

variable (x0 : S4x4096x1024.Idx → EReal) (x1 x2 : S3x4096x1024.Idx → EReal) (x3 : S4x1024x2560.Idx → EReal)
  (x4 : S4096x1024.Idx → EReal) (x5 : S1x1024.Idx → EReal) (x6 : S4096x1024.Idx → EReal)

/-! ## The reference's intermediate values -/

/-- Row `s` of this half among all rows. -/
def row (s : Fin 2048) : Fin 4096 := ⟨2048 + s.val, by have := s.isLt; omega⟩

/-- The weights, their four slices side by side. -/
theorem weights (e : Fin 1024) (C : Fin 10240) : val_main_v2 (F := Ideal) x3 (ix2 e C) = x3 (ix3 ⟨C.val / 2560, by omega⟩ e ⟨C.val % 2560, by omega⟩) := by
  have hC := C.isLt
  rw [val_main_v2_apply, val_main_v1_apply, val_main_v0_apply]
  refine congrArg x3 ?_
  funext a
  match a with
  | ⟨0, _⟩ => exact Fin.ext (by show (e.val * 10240 + C.val) / 2560 % 4 = C.val / 2560; omega)
  | ⟨1, _⟩ => exact Fin.ext (by show (e.val * 10240 + C.val) / 10240 = e.val; omega)
  | ⟨2, _⟩ => exact Fin.ext (by show (e.val * 10240 + C.val) % 2560 = C.val % 2560; omega)

/-- The ten parts side by side. -/
theorem side_by_side (s : Fin 4096) (C : Fin 10240) : val_main_v7 (F := Ideal) x0 x1 x2 (ix2 s C) = Parts.cols x0 x1 x2 s C := by
  have hC := C.isLt
  rw [val_main_v7_apply, val_main_v6_apply, val_main_v5_apply]
  refine Eq.trans (congrArg (val_main_v4 (F := Ideal) x0 x1 x2) (?_ : _ = ix3 ⟨C.val / 1024, by omega⟩ s ⟨C.val % 1024, by omega⟩)) ?_
  · funext a
    match a with
    | ⟨0, _⟩ => exact Fin.ext (by show (s.val * 10240 + C.val) / 1024 % 10 = C.val / 1024; omega)
    | ⟨1, _⟩ => exact Fin.ext (by show (s.val * 10240 + C.val) / 10240 = s.val; omega)
    | ⟨2, _⟩ => exact Fin.ext (by show (s.val * 10240 + C.val) % 1024 = C.val % 1024; omega)
  · exact Parts.concat_apply x0 x1 x2 _ s C

theorem parts_row (s : Fin 2048) (C : Fin 10240) : val_main_v8 (F := Ideal) x0 x1 x2 (ix2 s C) = Parts.cols x0 x1 x2 (row s) C := by
  rw [val_main_v8_apply]
  refine Eq.trans (congrArg (val_main_v7 (F := Ideal) x0 x1 x2) (?_ : _ = ix2 (row s) C)) (side_by_side x0 x1 x2 _ C)
  funext a
  match a with
  | ⟨0, _⟩ => exact Fin.ext (by show 2048 + s.val = 2048 + s.val; omega)
  | ⟨1, _⟩ => rfl

theorem x_row (s : Fin 2048) (e : Fin 1024) : val_main_v3 (F := Ideal) x4 (ix2 s e) = x4 (ix2 (row s) e) := by
  rw [val_main_v3_apply]
  refine congrArg x4 ?_
  funext a
  match a with
  | ⟨0, _⟩ => exact Fin.ext (by show 2048 + s.val = 2048 + s.val; omega)
  | ⟨1, _⟩ => rfl

theorem dh_row (s : Fin 2048) (e : Fin 1024) : val_main_v10 (F := Ideal) x6 (ix2 s e) = x6 (ix2 (row s) e) := by
  rw [val_main_v10_apply, val_main_v9_apply]
  refine congrArg x6 ?_
  funext a
  match a with
  | ⟨0, _⟩ => exact Fin.ext (by show 2048 + s.val = 2048 + s.val; omega)
  | ⟨1, _⟩ => rfl

/-- The gradient of the projection's input. -/
theorem du_row (s : Fin 2048) (e : Fin 1024) : val_main_v27 (F := Ideal) x0 x1 x2 x3 (ix2 s e) = Parts.du x0 x1 x2 x3 (row s) e := by
  rw [val_main_v27_apply]
  refine Finset.sum_congr rfl fun C _ => congrArg₂ (· * ·) ?_ ?_
  · refine Eq.trans (congrArg (val_main_v8 (F := Ideal) x0 x1 x2) (?_ : _ = ix2 s C)) (parts_row x0 x1 x2 s C)
    funext a
    match a with
    | ⟨0, _⟩ => rfl
    | ⟨1, _⟩ => rfl
  · refine Eq.trans (congrArg (val_main_v2 (F := Ideal) x3) (?_ : _ = ix2 e C)) (weights x3 e C)
    funext a
    match a with
    | ⟨0, _⟩ => rfl
    | ⟨1, _⟩ => rfl

/-- The mean square of a row, with the small number. -/
theorem meanSq_row (s : Fin 2048) : val_main_v17 (F := Ideal) x4 (ix2 s 0) = Parts.meanSq x4 (row s) := by
  rw [val_main_v17_apply, val_main_v15_apply, val_main_v13_apply, val_main_v12_apply]
  unfold Parts.meanSq
  refine congrArg (· + Parts.small) (congrArg (Ideal.div · Parts.width) ?_)
  refine Eq.trans (congrArg (· + _) (Ideal.ofBits_zero_f32)) ?_
  rw [zero_add]
  refine Finset.sum_congr rfl fun j _ => ?_
  rw [val_main_v11_apply]
  have h : ∀ i : S2048x1024.Idx, i = ix2 s j → val_main_v3 (F := Ideal) x4 i = x4 (ix2 (row s) j) := fun i hi => hi ▸ x_row x4 s j
  refine congrArg₂ (· * ·) (h _ ?_) (h _ ?_) <;>
  · funext a
    match a with
    | ⟨0, _⟩ => rfl
    | ⟨1, _⟩ => rfl

theorem scale_row (s : Fin 2048) : val_main_v18 (F := Ideal) x4 (ix2 s 0) = Parts.scale x4 (row s) := by
  rw [val_main_v18_apply]
  exact congrArg Ideal.rsqrt (meanSq_row x4 s)

/-- The normalised rows. -/
theorem norm_row (s : Fin 2048) (e : Fin 1024) : val_main_v23 (F := Ideal) x4 (ix2 s e) = x4 (ix2 (row s) e) * Parts.scale x4 (row s) := by
  rw [val_main_v23_apply]
  refine congrArg₂ (· * ·) (x_row x4 s e) ?_
  rw [val_main_v22_apply]
  refine Eq.trans (congrArg (val_main_v18 (F := Ideal) x4) (?_ : _ = ix2 s 0)) (scale_row x4 s)
  funext a
  match a with
  | ⟨0, _⟩ => rfl
  | ⟨1, _⟩ => rfl

theorem dn_row (s : Fin 2048) (e : Fin 1024) : val_main_v32 (F := Ideal) x0 x1 x2 x3 x5 (ix2 s e) = Parts.du x0 x1 x2 x3 (row s) e * x5 (ix2 0 e) := by
  rw [val_main_v32_apply]
  refine congrArg₂ (· * ·) (du_row x0 x1 x2 x3 s e) ?_
  rw [val_main_v31_apply]
  refine congrArg x5 ?_
  funext a
  match a with
  | ⟨0, _⟩ => rfl
  | ⟨1, _⟩ => rfl

/-! ## The two results -/

/-- Of every argument, the reference's gradient of the scale is the kernel's. -/
theorem dg_eq : val_main_v30 (F := Ideal) x0 x1 x2 x3 x4 = Cert.Kernel4Ideal.Own.dgArr x0 x1 x2 x3 x4 := by
  funext y
  obtain ⟨e, rfl⟩ : ∃ e : Fin 1024, y = ix2 0 e :=
    ⟨y 1, funext fun | ⟨0, _⟩ => Fin.ext (by have h : (y 0).val < 1 := (y 0).isLt; show (y 0).val = 0; omega) | ⟨1, _⟩ => rfl⟩
  rw [val_main_v30_apply, val_main_v29_apply]
  refine Eq.trans (congrArg (· + _) (Ideal.ofBits_zero_f32)) ?_
  rw [zero_add]
  refine Finset.sum_congr rfl fun s _ => ?_
  refine Eq.trans (congrArg (val_main_v28 (F := Ideal) x0 x1 x2 x3 x4) (?_ : _ = ix2 s e)) ?_
  · funext a
    match a with
    | ⟨0, _⟩ => rfl
    | ⟨1, _⟩ => exact Fin.ext (by show 0 * 1024 + e.val = e.val; omega)
  · rw [val_main_v28_apply]
    refine Eq.trans (congrArg₂ (· * ·) (norm_row x4 s e) (du_row x0 x1 x2 x3 s e)) ?_
    exact mul_comm _ _

/-- The factor that the reference multiplies a row with, coming through the mean square. -/
def factor (s : Fin 2048) : EReal :=
  Ideal.div ((∑ j : Fin 1024, x4 (ix2 (row s) j) * (Parts.du x0 x1 x2 x3 (row s) j * x5 (ix2 0 j)))
    * (((-(1/2) : ℝ) : EReal) * Ideal.div (Parts.scale x4 (row s)) (Parts.meanSq x4 (row s)))) ((1024 : ℝ) : EReal)

theorem factor_row (s : Fin 2048) (e : Fin 1024) : val_main_v43 (F := Ideal) x0 x1 x2 x3 x4 x5 (ix2 s e) = factor x0 x1 x2 x3 x4 x5 s := by
  rw [val_main_v43_apply, val_main_v42_apply]
  refine Eq.trans (congrArg (· + _) (Ideal.ofBits_zero_f32)) ?_
  rw [zero_add, Fin.sum_univ_one, val_main_v41_apply]
  unfold factor
  refine congrArg₂ Ideal.div ?_ Parts.width_eq
  rw [val_main_v39_apply]
  refine congrArg₂ (· * ·) ?_ ?_
  · rw [val_main_v35_apply, val_main_v34_apply]
    refine Eq.trans (congrArg (· + _) (Ideal.ofBits_zero_f32)) ?_
    rw [zero_add]
    refine Finset.sum_congr rfl fun j _ => ?_
    refine Eq.trans (congrArg (val_main_v33 (F := Ideal) x0 x1 x2 x3 x4 x5) (?_ : _ = ix2 s j)) ?_
    · funext a
      match a with
      | ⟨0, _⟩ => exact Fin.ext (by show s.val * 1 + 0 = s.val; omega)
      | ⟨1, _⟩ => rfl
    · rw [val_main_v33_apply]
      exact congrArg₂ (· * ·) (x_row x4 s j) (dn_row x0 x1 x2 x3 x5 s j)
  · rw [val_main_v21_apply]
    refine congrArg₂ (· * ·) Parts.half_eq ?_
    rw [val_main_v19_apply]
    refine congrArg₂ Ideal.div (Eq.trans (congrArg (val_main_v18 (F := Ideal) x4) (?_ : _ = ix2 s 0)) (scale_row x4 s))
      (Eq.trans (congrArg (val_main_v17 (F := Ideal) x4) (?_ : _ = ix2 s 0)) (meanSq_row x4 s)) <;>
    · funext a
      match a with
      | ⟨0, _⟩ => rfl
      | ⟨1, _⟩ => rfl

/-- Of every argument, the reference's gradient of the rows is the kernel's. -/
theorem gx_eq : val_main_v47 (F := Ideal) x0 x1 x2 x3 x4 x5 x6 = Cert.Kernel4Ideal.Own.gxArr x0 x1 x2 x3 x4 x5 x6 := by
  funext y
  obtain ⟨s, e, rfl⟩ : ∃ (s : Fin 2048) (e : Fin 1024), y = ix2 s e := ⟨y 0, y 1, funext fun | ⟨0, _⟩ => rfl | ⟨1, _⟩ => rfl⟩
  refine Eq.trans (b := ((x6 (ix2 (row s) e) + Parts.du x0 x1 x2 x3 (row s) e * x5 (ix2 0 e) * Parts.scale x4 (row s)) + x4 (ix2 (row s) e) * factor x0 x1 x2 x3 x4 x5 s)
      + factor x0 x1 x2 x3 x4 x5 s * x4 (ix2 (row s) e)) ?_ (?_ : _ = Parts.gxAt x0 x1 x2 x3 x4 x5 x6 (row s) e)
  · rw [val_main_v47_apply]
    refine congrArg₂ (· + ·) ?_ ?_
    · rw [val_main_v45_apply]
      refine congrArg₂ (· + ·) ?_ ?_
      · rw [val_main_v38_apply]
        refine congrArg₂ (· + ·) (dh_row x6 s e) ?_
        rw [val_main_v37_apply]
        refine congrArg₂ (· * ·) (dn_row x0 x1 x2 x3 x5 s e) ?_
        rw [val_main_v36_apply]
        refine Eq.trans (congrArg (val_main_v18 (F := Ideal) x4) (?_ : _ = ix2 s 0)) (scale_row x4 s)
        funext a
        match a with
        | ⟨0, _⟩ => rfl
        | ⟨1, _⟩ => rfl
      · rw [val_main_v44_apply]
        exact congrArg₂ (· * ·) (x_row x4 s e) (factor_row x0 x1 x2 x3 x4 x5 s e)
    · rw [val_main_v46_apply]
      exact congrArg₂ (· * ·) (factor_row x0 x1 x2 x3 x4 x5 s e) (x_row x4 s e)
  · obtain ⟨ε, hε, hs⟩ := Parts.small_eq
    refine Eq.symm ?_
    unfold Parts.gxAt
    rw [Parts.width_eq]
    refine Rms.back (fun j => Parts.du x0 x1 x2 x3 (row s) j * x5 (ix2 0 j)) (fun j => x4 (ix2 (row s) j)) (x6 (ix2 (row s) e))
      (Parts.meanSq x4 (row s)) (Parts.scale x4 (row s)) 1024 ε (by norm_num) hε ?_ rfl e
    unfold Parts.meanSq
    rw [Parts.width_eq, hs]

end Values

/-! ## The claims about the call that computes the second half of the rows' gradient -/

/-- The reference runs, keeps its arguments, and declares no semaphore. -/
theorem frame_ref : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- Kernel and reference end with equal results, of every argument. -/
theorem algebraic : Cert.algebraic_Kernel4Ideal_Reference4Ideal := by
  intro m g m' g' _ hargs
  refine ⟨fun c => Cert.Kernel4Ideal.Own.gxArr (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)),
    fun c => Cert.Kernel4Ideal.Own.dgArr (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)), ?_, ?_⟩
  · refine (θ_run Cert.Kernel4Ideal.defs _ _).mono (fun r h c => ?_) (Cert.Kernel4Ideal.Value.run_blocks (F := Ideal) m g)
    obtain ⟨h7, h8, h⟩ := h c
    exact ⟨h7.trans (Cert.Kernel4Ideal.Own.final7 m c), h8.trans (Cert.Kernel4Ideal.Own.final8 m c), h⟩
  · refine (θ_run Cert.Reference4Ideal.defs _ _).mono (fun r h c => ?_) (Cert.Reference4Ideal.Value.run (F := Ideal) m' g')
    obtain ⟨e7, e8, hk⟩ := h c
    obtain ⟨a0, a1, a2, a3, a4, a5, a6⟩ := hargs c
    refine ⟨e7.trans ?_, e8.trans ?_, hk⟩
    · rw [val_main_v47_eq, a0, a1, a2, a3, a4, a5, a6]
      exact gx_eq _ _ _ _ _ _ _
    · rw [val_main_v30_eq, a0, a1, a2, a3, a4]
      exact dg_eq _ _ _ _ _

end Cert.InClaim4

end
-- ==== Proof.MergeMath.lean ====
module

public import proofs.«01_k».proof.Proof.ConvSpec
public import Idealize.ShloMosaic.Lib.ValueIdx

@[expose] public section

set_option maxRecDepth 16384

noncomputable section

/-! # The gradient of the merge, one row at a time -/

namespace Cert.Merge

open Idealize.ShloMosaic Cert.Conv

/-- What one row of the sequence brings: the gradient that arrives at it, the two branches' outputs, the two gates'
    inputs, the attention's output and the input of its gate. -/
structure Row where
  dh : Fin 1024 → EReal
  yc : Fin 1024 → EReal
  ya : Fin 1024 → EReal
  pc : Fin 1024 → EReal
  pa : Fin 1024 → EReal
  o : Fin 1024 → EReal
  z : Fin 1024 → EReal

/-- The three weights and the two halves of the gates' bias. -/
structure Weights where
  wo : (⟨2, ![1024, 1024]⟩ : Shape).Idx → EReal
  woc : (⟨2, ![1024, 1024]⟩ : Shape).Idx → EReal
  woa : (⟨2, ![1024, 1024]⟩ : Shape).Idx → EReal
  bc : Fin 1024 → EReal
  ba : Fin 1024 → EReal

/-- A row's gradient through a product with `w`. -/
def back (v : Fin 1024 → EReal) (w : (⟨2, ![1024, 1024]⟩ : Shape).Idx → EReal) (k : Fin 1024) : EReal :=
  ∑ d : Fin 1024, v d * w (ix2 k d)

variable (w : Weights) (r : Row) (d : Fin 1024)

/-- The gradient that arrives at the merged row. -/
def dm : EReal := back r.dh w.wo d
/-- The two gates. -/
def gc : EReal := sg (r.pc d + w.bc d)
def ga : EReal := sg (r.pa d + w.ba d)
/-- The gradients with respect to the gates' inputs. -/
def dgc : EReal := dm w r d * r.yc d * gc w r d * (1 - gc w r d)
def dga : EReal := dm w r d * r.ya d * ga w r d * (1 - ga w r d)
/-- The gradients with respect to the branches' outputs. -/
def dyc : EReal := dm w r d * gc w r d
def dya : EReal := dm w r d * ga w r d
/-- The gradients with respect to the branches' inputs to their output projections. -/
def dhc : EReal := back (dyc w r) w.woc d
def dha : EReal := back (dya w r) w.woa d
/-- The gradient with respect to the attention's output, and to its gate's input. -/
def dout : EReal := dha w r d * r.z d * sg (r.z d)
def dza : EReal := dha w r d * r.o d * sg (r.z d) * (1 + r.z d * (1 - sg (r.z d)))
/-- The product of the attention's output with its gradient. -/
def prod : EReal := dout w r d * r.o d

/-- Of that product the sum over the head that lane `l` belongs to. -/
def dsum (l : Fin 128) : EReal := ∑ j : Fin 64, prod w r ⟨64 * (l.val / 8) + j.val, by omega⟩

/-- The same sum as a product with a matrix `e`, in two parts. -/
def ksum (e : (⟨2, ![1024, 128]⟩ : Shape).Idx → EReal) (l : Fin 128) : EReal :=
  (0 + ∑ k : Fin 1024, prod w r k * e (ix2 k l)) + ∑ k : Fin 1024, (prod w r k - prod w r k) * e (ix2 k l)

/-- Every entry that the attention's gradient is computed from is a real number. -/
structure Real' : Prop where
  dh : ∀ d, Fin' (r.dh d)
  pa : ∀ d, Fin' (r.pa d)
  o : ∀ d, Fin' (r.o d)
  z : ∀ d, Fin' (r.z d)
  wo : ∀ y, Fin' (w.wo y)
  woa : ∀ y, Fin' (w.woa y)
  ba : ∀ d, Fin' (w.ba d)

theorem Fin'.sum {ι : Type} (s : Finset ι) (f : ι → EReal) (h : ∀ i, Fin' (f i)) : Fin' (∑ i ∈ s, f i) := by
  classical
  induction s using Finset.induction with
  | empty => rw [Finset.sum_empty]; exact Fin'.zero
  | insert a s ha ih => rw [Finset.sum_insert ha]; exact (h a).add ih

theorem Fin'.back {v : Fin 1024 → EReal} {w : (⟨2, ![1024, 1024]⟩ : Shape).Idx → EReal} (hv : ∀ d, Fin' (v d)) (hw : ∀ y, Fin' (w y))
    (k : Fin 1024) : Fin' (back v w k) := Fin'.sum _ _ fun d => (hv d).mul (hw _)

theorem Fin'.sg {z : EReal} (h : Fin' z) : Fin' (sg z) := by rw [sg_eq]; exact h.rs

variable {w r}

theorem Real'.dha (h : Real' w r) (d : Fin 1024) : Fin' (dha w r d) :=
  Fin'.back (fun d => (Fin'.back h.dh h.wo d).mul (Fin'.sg ((h.pa d).add (h.ba d)))) h.woa d

theorem Real'.prod (h : Real' w r) (d : Fin 1024) : Fin' (prod w r d) :=
  (((h.dha d).mul (h.z d)).mul (Fin'.sg (h.z d))).mul (h.o d)

/-- A real number less itself is zero. -/
theorem sub_self_of_fin {a : EReal} : Fin' a → a - a = 0 := by
  rintro ⟨x, rfl⟩
  rw [← EReal.coe_sub, sub_self, EReal.coe_zero]

/-- Of real numbers, the sum by the matrix of heads is the sum over the head. -/
theorem ksum_eq (h : Real' w r) (e : (⟨2, ![1024, 128]⟩ : Shape).Idx → EReal)
    (he : ∀ (k : Fin 1024) (l : Fin 128), e (ix2 k l) = if k.val / 64 = l.val / 8 then 1 else 0) (l : Fin 128) :
    ksum w r e l = dsum w r l := by
  unfold ksum dsum
  have h0 : ∑ k : Fin 1024, (Merge.prod w r k - Merge.prod w r k) * e (ix2 k l) = 0 :=
    Finset.sum_eq_zero fun k _ => by rw [sub_self_of_fin (h.prod k), zero_mul]
  rw [h0, add_zero, zero_add]
  have hl : l.val < 128 := l.isLt
  rw [← Fintype.sum_equiv (finProdFinEquiv : Fin 16 × Fin 64 ≃ Fin 1024)
    (fun p => Merge.prod w r (finProdFinEquiv p) * e (ix2 (finProdFinEquiv p) l)) _ (fun _ => rfl), Fintype.sum_prod_type]
  rw [Finset.sum_eq_single (⟨l.val / 8, by omega⟩ : Fin 16)]
  · refine Finset.sum_congr rfl fun j _ => ?_
    have hk : (finProdFinEquiv ((⟨l.val / 8, by omega⟩ : Fin 16), j) : Fin 1024) = ⟨64 * (l.val / 8) + j.val, by omega⟩ :=
      Fin.ext (by show j.val + 64 * (l.val / 8) = 64 * (l.val / 8) + j.val; omega)
    rw [hk, he, if_pos (by show (64 * (l.val / 8) + j.val) / 64 = l.val / 8; omega), mul_one]
  · intro a _ ha
    refine Finset.sum_eq_zero fun j _ => ?_
    have hk : ((finProdFinEquiv (a, j) : Fin 1024)).val = j.val + 64 * a.val := rfl
    rw [he, if_neg (by rw [hk]; intro hc; exact ha (Fin.ext (by show a.val = l.val / 8; omega))), mul_zero]
  · intro hn; exact absurd (Finset.mem_univ _) hn

/-- Of real numbers, the derivative of silu factored is the sum of the two products. -/
theorem dza_eq (h : Real' w r) (d : Fin 1024) :
    dza w r d = dha w r d * r.o d * sg (r.z d) + r.z d * (dha w r d * r.o d) * (sg (r.z d) * (1 - sg (r.z d))) := by
  unfold dza
  obtain ⟨a, ha⟩ := h.dha d
  obtain ⟨b, hb⟩ := h.o d
  obtain ⟨s, hs⟩ := Fin'.sg (h.z d)
  obtain ⟨z, hz⟩ := h.z d
  rw [ha, hb, hs, hz, ← EReal.coe_one]
  simp only [← EReal.coe_mul, ← EReal.coe_add, ← EReal.coe_sub]
  exact congrArg _ (by ring)

end Cert.Merge

end
-- ==== Proof.MergePoint.lean ====
module

public import proofs.«01_k».proof.Proof.MergeMath
public import proofs.«01_k».proof.Proof.Gen.Kernel5Ideal.Skeleton
public import Idealize.ShloMosaic.Lib.MatmulPlain
public import Idealize.ShloMosaic.Lib.Pipeline.ValueKit
public import Idealize.ShloMosaic.Lib.Claim

@[expose] public section

set_option maxRecDepth 16384

noncomputable section

namespace Cert.Kernel5Ideal.Own

open Cert.Kernel5Ideal Cert.Kernel5Ideal.Gen Cert.Conv Idealize.ShloMosaic Idealize.ShloMosaic.TcCoe Idealize.SL.Sem
open Cert.Merge (Row Weights)

/-! ## The operations of one chain of 256 rows, entry by entry -/

/-- A product with the transposed weights. -/
theorem back_apply (a : FVec Ideal S256x1024 .bf16) (b : FVec Ideal S1024x1024 .bf16) (l : Fin 256) (k : Fin 1024) :
    matmul (F := Ideal) (φ₁ := .bf16) (φ₂ := .bf16) dot_S256x1024_S1024x1024_S256x1024_1_1_0_0_n_n none a b
      (constant (F := Ideal) S256x1024 .f32 0x00000000#32) (ix2 l k) = Merge.back (fun d => a (ix2 l d)) b k := by
  refine (Ideal.matmul_transposedRhs_apply none _ _ _ l k).trans ?_
  refine Eq.trans (congrArg (· + _) (Ideal.ofBits_zero_f32)) ?_
  rw [zero_add]
  rfl

/-- A product with the matrix of heads. -/
theorem heads_apply (a : FVec Ideal S256x1024 .bf16) (b : FVec Ideal S1024x128 .bf16) (l : Fin 256) (k : Fin 128) :
    matmul (F := Ideal) (φ₁ := .bf16) (φ₂ := .bf16) dot_S256x1024_S1024x128_S256x128_1_0_0_1_n_n none a b
      (constant (F := Ideal) S256x128 .f32 0x00000000#32) (ix2 l k) = ∑ d : Fin 1024, a (ix2 l d) * b (ix2 d k) := by
  refine (Ideal.matmul_plain_apply none _ _ _ l k).trans ?_
  refine Eq.trans (congrArg (· + _) (Ideal.ofBits_zero_f32)) ?_
  rw [zero_add]
  rfl

/-- A product over the 512 rows of a block. -/
theorem outer_apply (a : FVec Ideal S1024x512 .bf16) (b : FVec Ideal S512x1024 .bf16) (l : Fin 1024) (k : Fin 1024) :
    matmul (F := Ideal) (φ₁ := .bf16) (φ₂ := .bf16) dot_S1024x512_S512x1024_S1024x1024_1_0_0_1_n_n none a b
      (constant (F := Ideal) S1024x1024 .f32 0x00000000#32) (ix2 l k) = ∑ d : Fin 512, a (ix2 l d) * b (ix2 d k) := by
  refine (Ideal.matmul_plain_apply none _ _ _ l k).trans ?_
  refine Eq.trans (congrArg (· + _) (Ideal.ofBits_zero_f32)) ?_
  rw [zero_add]
  rfl

/-- A chain's sum over its rows, as a row. -/
theorem sums_apply (v : FVec Ideal S256x1024 .f32) (k : Fin 1024) :
    (shapeCast S1x1024 (multiReduction .add [0] S1024 v 0x00000000#32 reduces_S256x1024_S1024 (.inl rfl) rfl) shapeCasts_S1024_S1x1024 : FVec Ideal S1x1024 .f32)
      (ix2 0 k) = ∑ l : Fin 256, v (ix2 l k) := by
  refine (shapeCast_apply _ shapeCasts_S1024_S1x1024 (ix2 0 k) (ix1 k) ?_).trans ?_
  · rw [Shape.rowMajor_val_one, Shape.rowMajor_val_two]
    show k.val = 0 * 1024 + k.val
    omega
  · refine (Ideal.multiReduction_add_single v _ reduces_S256x1024_S1024 _ _ (ix1 k)).trans ?_
    refine Finset.sum_congr rfl fun j _ => congrArg v ?_
    funext a
    match a with
    | ⟨0, _⟩ => rfl
    | ⟨1, _⟩ => rfl

/-- One of the two halves of the bias, along the rows. -/
theorem bias_apply (v : FVec Ideal S1x2048 .f32) (o : ℕ) (h : S1x2048.Slices ![0, o] S1x1024) (l : Fin 256) (k : Fin 1024) :
    broadcastTo S256x1024 (extractStridedSlice S1x1024 ![0, o] v h) broadcasts_S1x1024_S256x1024 (ix2 l k)
      = v (ix2 0 ⟨(o + k.val) % 2048, by omega⟩) := by
  have ho : o + 1024 ≤ 2048 := h.2 1
  have hk := k.isLt
  rw [broadcastTo_apply _ _ (ix2 l k) (ix2 0 k)]
  · refine extractStridedSlice_apply _ v h _ _ fun a => ?_
    match a with
    | ⟨0, _⟩ => rfl
    | ⟨1, _⟩ => show (o + k.val) % 2048 = o + k.val; omega
  · intro a
    match a with
    | ⟨0, _⟩ => rfl
    | ⟨1, _⟩ => rfl

/-- A chain's rows under one more axis. -/
theorem part_apply (v : FVec Ideal S256x1024 .bf16) (h : S256x1024.ShapeCasts S1x256x1024) (l : Fin 256) (k : Fin 1024) :
    shapeCast S1x256x1024 v h (ix3 0 l k) = v (ix2 l k) := by
  refine shapeCast_apply v h (ix3 0 l k) (ix2 l k) ?_
  rw [Shape.rowMajor_val_two, Shape.rowMajor_val_three]
  show l.val * 1024 + k.val = (0 * 256 + l.val) * 1024 + k.val
  omega

/-! ## What one chain computes -/

def ones : FVec Ideal S256x1024 .f32 := broadcast S256x1024 (Scalar.ofBits (F := Ideal) .f32 0x3F800000#32)

/-- The sigmoid as the body writes it. -/
def sgV (v : FVec Ideal S256x1024 .f32) : FVec Ideal S256x1024 .f32 :=
  divf ones (addf ones (exp (subf (broadcast S256x1024 (Scalar.ofBits (F := Ideal) .f32 0x00000000#32)) v)))

/-- The matrix of heads as the body builds it. -/
def headsV : FVec Ideal S1024x128 .bf16 :=
  truncf .bf16
    (select (cmpi .eq (shrsi (iota .tc S1024x128 32 [0] iota_S1024x128_d0_w32) (broadcast S1024x128 6#32))
        (shrsi (iota .tc S1024x128 32 [1] iota_S1024x128_d1_w32) (broadcast S1024x128 3#32)))
      (broadcast S1024x128 (Scalar.ofBits (F := Ideal) .f32 0x3F800000#32)) (broadcast S1024x128 (Scalar.ofBits (F := Ideal) .f32 0x00000000#32)))
    bitsLt_bf16_f32

/-- The bits of a number shifted right by `k` are those of the number divided by `2 ^ k`. -/
theorem shift_eq (a k : ℕ) (ha : a < 1024) (hk : k < 32) : (BitVec.ofNat 32 a).sshiftRight k = BitVec.ofNat 32 (a / 2 ^ k) := by
  have hm : (BitVec.ofNat 32 a).msb = false := by
    rw [BitVec.msb_eq_false_iff_two_mul_lt, BitVec.toNat_ofNat, Nat.mod_eq_of_lt (by omega)]
    omega
  rw [BitVec.sshiftRight_eq_of_msb_false hm]
  apply BitVec.eq_of_toNat_eq
  rw [BitVec.toNat_ushiftRight, BitVec.toNat_ofNat, BitVec.toNat_ofNat, Nat.shiftRight_eq_div_pow, Nat.mod_eq_of_lt (by omega : a < 2 ^ 32),
    Nat.mod_eq_of_lt (lt_of_le_of_lt (Nat.div_le_self _ _) (by omega))]

section Chain

variable (a0 a4 a5 a6 a7 a9 a10 : FVec Ideal S256x1024 .bf16) (x1 x2 x3 : FVec Ideal S1024x1024 .bf16) (x8 : FVec Ideal S1x2048 .f32)

def dmV : FVec Ideal S256x1024 .f32 :=
  matmul (F := Ideal) (φ₁ := .bf16) (φ₂ := .bf16) dot_S256x1024_S1024x1024_S256x1024_1_1_0_0_n_n none a0 x1 (constant (F := Ideal) S256x1024 .f32 0x00000000#32)

def gcV : FVec Ideal S256x1024 .f32 :=
  sgV (addf (extf .f32 a6 bitsLt_bf16_f32) (broadcastTo S256x1024
    (extractStridedSlice S1x1024 ![0, 0] (shapeCast S1x2048 x8 shapeCasts_S1x2048_S1x2048) slices_S1x2048_o0_0_S1x1024) broadcasts_S1x1024_S256x1024))

def gaV : FVec Ideal S256x1024 .f32 :=
  sgV (addf (extf .f32 a7 bitsLt_bf16_f32) (broadcastTo S256x1024
    (extractStridedSlice S1x1024 ![0, 1024] (shapeCast S1x2048 x8 shapeCasts_S1x2048_S1x2048) slices_S1x2048_o0_1024_S1x1024) broadcasts_S1x1024_S256x1024))

def dgcV : FVec Ideal S256x1024 .f32 :=
  mulf (mulf (mulf (dmV a0 x1) (extf .f32 (shapeCast S256x1024 a4 shapeCasts_S256x1024_S256x1024) bitsLt_bf16_f32)) (gcV a6 x8)) (subf ones (gcV a6 x8))

def dgaV : FVec Ideal S256x1024 .f32 :=
  mulf (mulf (mulf (dmV a0 x1) (extf .f32 (shapeCast S256x1024 a5 shapeCasts_S256x1024_S256x1024) bitsLt_bf16_f32)) (gaV a7 x8)) (subf ones (gaV a7 x8))

/-- To a row of the bias, the sum of a chain's rows is added. -/
def accV (v : FVec Ideal S256x1024 .f32) (acc : FVec Ideal S1x1024 .f32) : FVec Ideal S1x1024 .f32 :=
  addf (shapeCast S1x1024 acc shapeCasts_S1x1024_S1x1024)
    (shapeCast S1x1024 (multiReduction .add [0] S1024 v 0x00000000#32 reduces_S256x1024_S1024 (.inl rfl) rfl) shapeCasts_S1024_S1x1024)

def dycV : FVec Ideal S256x1024 .bf16 := truncf .bf16 (mulf (dmV a0 x1) (gcV a6 x8)) bitsLt_bf16_f32
def dyaV : FVec Ideal S256x1024 .bf16 := truncf .bf16 (mulf (dmV a0 x1) (gaV a7 x8)) bitsLt_bf16_f32

def dhcV : FVec Ideal S256x1024 .bf16 :=
  truncf .bf16 (matmul (F := Ideal) (φ₁ := .bf16) (φ₂ := .bf16) dot_S256x1024_S1024x1024_S256x1024_1_1_0_0_n_n none (dycV a0 a6 x1 x8) x2
    (constant (F := Ideal) S256x1024 .f32 0x00000000#32)) bitsLt_bf16_f32

def dhaV : FVec Ideal S256x1024 .f32 :=
  matmul (F := Ideal) (φ₁ := .bf16) (φ₂ := .bf16) dot_S256x1024_S1024x1024_S256x1024_1_1_0_0_n_n none (dyaV a0 a7 x1 x8) x3
    (constant (F := Ideal) S256x1024 .f32 0x00000000#32)

def doutV : FVec Ideal S256x1024 .f32 :=
  mulf (mulf (dhaV a0 a7 x1 x3 x8) (extf .f32 a10 bitsLt_bf16_f32)) (sgV (extf .f32 a10 bitsLt_bf16_f32))

def dzaV : FVec Ideal S256x1024 .f32 :=
  mulf (mulf (mulf (dhaV a0 a7 x1 x3 x8) (extf .f32 a9 bitsLt_bf16_f32)) (sgV (extf .f32 a10 bitsLt_bf16_f32)))
    (addf ones (mulf (extf .f32 a10 bitsLt_bf16_f32) (subf ones (sgV (extf .f32 a10 bitsLt_bf16_f32)))))

/-- The sum over the heads of a chain's products, in the two parts in which the body sums it. -/
def splitV (v : FVec Ideal S256x1024 .f32) : FVec Ideal S256x128 .f32 :=
  addf (addf (broadcast S256x128 (Scalar.ofBits (F := Ideal) .f32 0x00000000#32))
      (matmul (F := Ideal) (φ₁ := .bf16) (φ₂ := .bf16) dot_S256x1024_S1024x128_S256x128_1_0_0_1_n_n none (truncf .bf16 v bitsLt_bf16_f32) headsV
        (constant (F := Ideal) S256x128 .f32 0x00000000#32)))
    (matmul (F := Ideal) (φ₁ := .bf16) (φ₂ := .bf16) dot_S256x1024_S1024x128_S256x128_1_0_0_1_n_n none
      (truncf .bf16 (subf v (extf .f32 (truncf .bf16 v bitsLt_bf16_f32) bitsLt_bf16_f32)) bitsLt_bf16_f32) headsV
      (constant (F := Ideal) S256x128 .f32 0x00000000#32))

def dsumV : FVec Ideal S256x128 .f32 := splitV (mulf (doutV a0 a7 a10 x1 x3 x8) (extf .f32 a9 bitsLt_bf16_f32))

/-- A chain's rows, rounded, under one more axis. -/
def partV (v : FVec Ideal S256x1024 .f32) : FVec Ideal S1x256x1024 .bf16 :=
  shapeCast S1x256x1024 (truncf .bf16 v bitsLt_bf16_f32) shapeCasts_S256x1024_S1x256x1024

/-- A row of the chain. -/
def rowC (l : Fin 256) : Row :=
  ⟨fun d => a0 (ix2 l d), fun d => a4 (ix2 l d), fun d => a5 (ix2 l d), fun d => a6 (ix2 l d), fun d => a7 (ix2 l d), fun d => a9 (ix2 l d),
    fun d => a10 (ix2 l d)⟩

/-- The weights and the bias. -/
def wts : Weights :=
  ⟨x1, x2, x3, fun d => x8 (ix2 0 ⟨d.val, by omega⟩), fun d => x8 (ix2 0 ⟨1024 + d.val, by omega⟩)⟩

theorem sgV_apply (v : FVec Ideal S256x1024 .f32) (y : S256x1024.Idx) : sgV v y = sg (v y) := by
  show Ideal.div (Ideal.ofBits .f32 0x3F800000#32) (Ideal.ofBits .f32 0x3F800000#32 + Ideal.exp (Ideal.ofBits .f32 0x00000000#32 - v y)) = _
  rw [Ideal.ofBits_one_f32, Ideal.ofBits_zero_f32]; rfl

theorem ones_apply (y : S256x1024.Idx) : ones y = 1 := Ideal.ofBits_one_f32

theorem headsV_apply (k : Fin 1024) (l : Fin 128) : headsV (ix2 k l) = if k.val / 64 = l.val / 8 then 1 else 0 := by
  have hk := k.isLt
  have hl := l.isLt
  have h1 := shift_eq k.val 6 hk (by norm_num)
  have h2 := shift_eq l.val 3 (by omega) (by norm_num)
  have hc : ((BitVec.ofNat 32 k.val).sshiftRight 6 = (BitVec.ofNat 32 l.val).sshiftRight 3) ↔ k.val / 64 = l.val / 8 := by
    rw [h1, h2]
    constructor
    · intro h
      have h' := congrArg BitVec.toNat h
      rw [BitVec.toNat_ofNat, BitVec.toNat_ofNat, Nat.mod_eq_of_lt (by omega), Nat.mod_eq_of_lt (by omega)] at h'
      exact h'
    · intro h
      exact congrArg (BitVec.ofNat 32) h
  show (if BitVec.ofBool ((BitVec.ofNat 32 (0 * 1024 + k.val)).sshiftRight 6 == (BitVec.ofNat 32 (0 * 128 + l.val)).sshiftRight 3) = 1#1
    then Ideal.ofBits .f32 0x3F800000#32 else Ideal.ofBits .f32 0x00000000#32) = _
  rw [zero_mul, zero_mul, zero_add, zero_add, Ideal.ofBits_one_f32, Ideal.ofBits_zero_f32]
  by_cases h : k.val / 64 = l.val / 8
  · rw [if_pos h, beq_iff_eq.2 (hc.2 h)]
    rfl
  · rw [if_neg h, beq_eq_false_iff_ne.2 (fun e => h (hc.1 e))]
    rfl

theorem dm_apply (l : Fin 256) (d : Fin 1024) : dmV a0 x1 (ix2 l d) = Merge.dm (wts x1 x2 x3 x8) (rowC a0 a4 a5 a6 a7 a9 a10 l) d := back_apply a0 x1 l d

theorem gc_apply (l : Fin 256) (d : Fin 1024) : gcV a6 x8 (ix2 l d) = Merge.gc (wts x1 x2 x3 x8) (rowC a0 a4 a5 a6 a7 a9 a10 l) d := by
  refine (sgV_apply _ _).trans (congrArg (fun t => sg (a6 (ix2 l d) + t)) ?_)
  refine (bias_apply _ 0 slices_S1x2048_o0_0_S1x1024 l d).trans ?_
  rw [shapeCast_self]
  refine congrArg x8 (congrArg (ix2 0) (Fin.ext ?_))
  show (0 + d.val) % 2048 = d.val
  have := d.isLt
  omega

theorem ga_apply (l : Fin 256) (d : Fin 1024) : gaV a7 x8 (ix2 l d) = Merge.ga (wts x1 x2 x3 x8) (rowC a0 a4 a5 a6 a7 a9 a10 l) d := by
  refine (sgV_apply _ _).trans (congrArg (fun t => sg (a7 (ix2 l d) + t)) ?_)
  refine (bias_apply _ 1024 slices_S1x2048_o0_1024_S1x1024 l d).trans ?_
  rw [shapeCast_self]
  refine congrArg x8 (congrArg (ix2 0) (Fin.ext ?_))
  show (1024 + d.val) % 2048 = 1024 + d.val
  have := d.isLt
  omega

theorem dgc_apply (l : Fin 256) (d : Fin 1024) : dgcV a0 a4 a6 x1 x8 (ix2 l d) = Merge.dgc (wts x1 x2 x3 x8) (rowC a0 a4 a5 a6 a7 a9 a10 l) d := by
  unfold dgcV
  rw [shapeCast_self]
  show (dmV a0 x1 (ix2 l d) * a4 (ix2 l d) * gcV a6 x8 (ix2 l d)) * (ones (ix2 l d) - gcV a6 x8 (ix2 l d)) = _
  rw [ones_apply, dm_apply a0 a4 a5 a6 a7 a9 a10 x1 x2 x3 x8, gc_apply a0 a4 a5 a6 a7 a9 a10 x1 x2 x3 x8]
  rfl

theorem dyc_apply (l : Fin 256) (d : Fin 1024) : dycV a0 a6 x1 x8 (ix2 l d) = Merge.dyc (wts x1 x2 x3 x8) (rowC a0 a4 a5 a6 a7 a9 a10 l) d :=
  congrArg₂ (· * ·) (dm_apply a0 a4 a5 a6 a7 a9 a10 x1 x2 x3 x8 l d) (gc_apply a0 a4 a5 a6 a7 a9 a10 x1 x2 x3 x8 l d)

theorem dga_apply (l : Fin 256) (d : Fin 1024) : dgaV a0 a5 a7 x1 x8 (ix2 l d) = Merge.dga (wts x1 x2 x3 x8) (rowC a0 a4 a5 a6 a7 a9 a10 l) d := by
  unfold dgaV
  rw [shapeCast_self]
  show (dmV a0 x1 (ix2 l d) * a5 (ix2 l d) * gaV a7 x8 (ix2 l d)) * (ones (ix2 l d) - gaV a7 x8 (ix2 l d)) = _
  rw [ones_apply, dm_apply a0 a4 a5 a6 a7 a9 a10 x1 x2 x3 x8, ga_apply a0 a4 a5 a6 a7 a9 a10 x1 x2 x3 x8]
  rfl

theorem dya_apply (l : Fin 256) (d : Fin 1024) : dyaV a0 a7 x1 x8 (ix2 l d) = Merge.dya (wts x1 x2 x3 x8) (rowC a0 a4 a5 a6 a7 a9 a10 l) d :=
  congrArg₂ (· * ·) (dm_apply a0 a4 a5 a6 a7 a9 a10 x1 x2 x3 x8 l d) (ga_apply a0 a4 a5 a6 a7 a9 a10 x1 x2 x3 x8 l d)

theorem dhc_apply (l : Fin 256) (d : Fin 1024) : dhcV a0 a6 x1 x2 x8 (ix2 l d) = Merge.dhc (wts x1 x2 x3 x8) (rowC a0 a4 a5 a6 a7 a9 a10 l) d :=
  (back_apply _ x2 l d).trans (congrArg (fun v => Merge.back v x2 d) (funext fun e => dyc_apply a0 a4 a5 a6 a7 a9 a10 x1 x2 x3 x8 l e))

theorem dha_apply (l : Fin 256) (d : Fin 1024) : dhaV a0 a7 x1 x3 x8 (ix2 l d) = Merge.dha (wts x1 x2 x3 x8) (rowC a0 a4 a5 a6 a7 a9 a10 l) d :=
  (back_apply _ x3 l d).trans (congrArg (fun v => Merge.back v x3 d) (funext fun e => dya_apply a0 a4 a5 a6 a7 a9 a10 x1 x2 x3 x8 l e))

theorem dout_apply (l : Fin 256) (d : Fin 1024) : doutV a0 a7 a10 x1 x3 x8 (ix2 l d) = Merge.dout (wts x1 x2 x3 x8) (rowC a0 a4 a5 a6 a7 a9 a10 l) d := by
  show dhaV a0 a7 x1 x3 x8 (ix2 l d) * a10 (ix2 l d) * sgV a10 (ix2 l d) = _
  rw [dha_apply a0 a4 a5 a6 a7 a9 a10 x1 x2 x3 x8, sgV_apply]
  rfl

theorem dza_apply (l : Fin 256) (d : Fin 1024) : dzaV a0 a7 a9 a10 x1 x3 x8 (ix2 l d) = Merge.dza (wts x1 x2 x3 x8) (rowC a0 a4 a5 a6 a7 a9 a10 l) d := by
  show dhaV a0 a7 x1 x3 x8 (ix2 l d) * a9 (ix2 l d) * sgV a10 (ix2 l d) * (ones (ix2 l d) + a10 (ix2 l d) * (ones (ix2 l d) - sgV a10 (ix2 l d))) = _
  rw [dha_apply a0 a4 a5 a6 a7 a9 a10 x1 x2 x3 x8, sgV_apply, ones_apply]
  rfl

theorem dsum_apply (l : Fin 256) (k : Fin 128) :
    dsumV a0 a7 a9 a10 x1 x3 x8 (ix2 l k) = Merge.ksum (wts x1 x2 x3 x8) (rowC a0 a4 a5 a6 a7 a9 a10 l) headsV k := by
  refine (congrArg₂ (· + ·) (congrArg₂ (· + ·) Ideal.ofBits_zero_f32 (heads_apply _ headsV l k)) (heads_apply _ headsV l k)).trans ?_
  unfold Merge.ksum Merge.prod
  refine congrArg₂ (· + ·) (congrArg (0 + ·) (Finset.sum_congr rfl fun d _ => ?_)) (Finset.sum_congr rfl fun d _ => ?_)
  · exact congrArg (· * _) (congrArg (· * a9 (ix2 l d)) (dout_apply a0 a4 a5 a6 a7 a9 a10 x1 x2 x3 x8 l d))
  · exact congrArg (· * _) (congrArg (fun t => t * a9 (ix2 l d) - t * a9 (ix2 l d)) (dout_apply a0 a4 a5 a6 a7 a9 a10 x1 x2 x3 x8 l d))

theorem part_dza (l : Fin 256) (d : Fin 1024) : partV (dzaV a0 a7 a9 a10 x1 x3 x8) (ix3 0 l d) = Merge.dza (wts x1 x2 x3 x8) (rowC a0 a4 a5 a6 a7 a9 a10 l) d :=
  (part_apply _ _ l d).trans (dza_apply a0 a4 a5 a6 a7 a9 a10 x1 x2 x3 x8 l d)

theorem part_dgc (l : Fin 256) (d : Fin 1024) : partV (dgcV a0 a4 a6 x1 x8) (ix3 0 l d) = Merge.dgc (wts x1 x2 x3 x8) (rowC a0 a4 a5 a6 a7 a9 a10 l) d :=
  (part_apply _ _ l d).trans (dgc_apply a0 a4 a5 a6 a7 a9 a10 x1 x2 x3 x8 l d)

theorem part_dga (l : Fin 256) (d : Fin 1024) : partV (dgaV a0 a5 a7 x1 x8) (ix3 0 l d) = Merge.dga (wts x1 x2 x3 x8) (rowC a0 a4 a5 a6 a7 a9 a10 l) d :=
  (part_apply _ _ l d).trans (dga_apply a0 a4 a5 a6 a7 a9 a10 x1 x2 x3 x8 l d)

theorem acc_apply (v : FVec Ideal S256x1024 .f32) (acc : FVec Ideal S1x1024 .f32) (d : Fin 1024) :
    accV v acc (ix2 0 d) = acc (ix2 0 d) + ∑ l : Fin 256, v (ix2 l d) := by
  unfold accV
  rw [shapeCast_self]
  exact congrArg (acc (ix2 0 d) + ·) (sums_apply v d)

end Chain

end Cert.Kernel5Ideal.Own
-- ==== Proof.MergeChain.lean ====
module

public import proofs.«01_k».proof.Proof.MergePoint

@[expose] public section

set_option maxRecDepth 16384

noncomputable section

namespace Cert.Kernel5Ideal.Own

open Cert.Kernel5Ideal Cert.Kernel5Ideal.Gen Idealize.ShloMosaic Idealize.ShloMosaic.TcCoe Idealize.SL.Sem

/-! ## What the body stores of a chain

The body works on the first 256 rows of its block and then on the last 256. Each lemma says of one value that a chain
stores which of the functions of `MergePoint` it is; those ending in `1` are of the first chain, those ending in `2` of the second. -/

section Chains

variable (a0 a4 a5 a6 a7 a9 a10 : FVec Ideal S256x1024 .bf16) (x1 x2 x3 : FVec Ideal S1024x1024 .bf16) (x8 : FVec Ideal S1x2048 .f32)
  (acc : FVec Ideal S1x1024 .f32)

theorem dhc1 : k0_pay23 (k0_pay18 (k0_pay8 a0 x1) (k0_pay10 x8 a6)) x2 = dhcV a0 a6 x1 x2 x8 := rfl

theorem dout1 : k0_pay29 (k0_pay19 (k0_pay8 a0 x1) (k0_pay11 x8 a7) k0_pay12) x3 a10 = truncf .bf16 (doutV a0 a7 a10 x1 x3 x8) bitsLt_bf16_f32 := rfl

theorem dsum1 : k0_pay34 k0_pay7 (k0_pay32 (k0_pay19 (k0_pay8 a0 x1) (k0_pay11 x8 a7) k0_pay12) x3 a10 a9) (k0_pay33 k0_pay7 (k0_pay19 (k0_pay8 a0 x1) (k0_pay11 x8 a7) k0_pay12) x3 a10 a9) (FloatOps.ofBits FTy.f32 0#32) = dsumV a0 a7 a9 a10 x1 x3 x8 := rfl

theorem dza1 : k0_pay35 (k0_pay24 (k0_pay19 (k0_pay8 a0 x1) (k0_pay11 x8 a7) k0_pay12) x3) (k0_pay25 a10) (k0_pay26 a10) (k0_pay27 a9) = partV (dzaV a0 a7 a9 a10 x1 x3 x8) := rfl

theorem dgc1 : k0_pay36 (k0_pay14 (k0_pay8 a0 x1) (k0_pay10 x8 a6) a4) = partV (dgcV a0 a4 a6 x1 x8) := rfl

theorem dga1 : k0_pay37 (k0_pay15 (k0_pay8 a0 x1) (k0_pay11 x8 a7) k0_pay12 a5) = partV (dgaV a0 a5 a7 x1 x8) := rfl

theorem accc1 : k0_pay16 (k0_pay8 a0 x1) (k0_pay10 x8 a6) a4 acc = accV (dgcV a0 a4 a6 x1 x8) acc := rfl

theorem acca1 : k0_pay17 (k0_pay8 a0 x1) (k0_pay11 x8 a7) k0_pay12 a5 acc = accV (dgaV a0 a5 a7 x1 x8) acc := rfl

theorem dyc1 : k0_pay21 (k0_pay20 (k0_pay8 a0 x1) (k0_pay10 x8 a6)) = dycV a0 a6 x1 x8 := shapeCast_self _ _

theorem dya1 : k0_pay22 (k0_pay19 (k0_pay8 a0 x1) (k0_pay11 x8 a7) k0_pay12) = dyaV a0 a7 x1 x8 := shapeCast_self _ _

theorem dhc2 : k0_pay52 (k0_pay38 a0 x1) (k0_pay42 (k0_pay40 a6) (k0_pay41 x8)) x2 = dhcV a0 a6 x1 x2 x8 := rfl

theorem dout2 : k0_pay59 (k0_pay53 (k0_pay38 a0 x1) (k0_pay43 (k0_pay39 x8) a7) x3) (k0_pay54 a10) (k0_pay55 a10) (FloatOps.ofBits FTy.f32 1065353216#32) = truncf .bf16 (doutV a0 a7 a10 x1 x3 x8) bitsLt_bf16_f32 := rfl

theorem dsum2 : k0_pay60 k0_pay7 (k0_pay53 (k0_pay38 a0 x1) (k0_pay43 (k0_pay39 x8) a7) x3) (k0_pay54 a10) (k0_pay55 a10) (FloatOps.ofBits FTy.f32 1065353216#32) a9 = dsumV a0 a7 a9 a10 x1 x3 x8 := rfl

theorem dza2 : k0_pay61 (k0_pay53 (k0_pay38 a0 x1) (k0_pay43 (k0_pay39 x8) a7) x3) (k0_pay54 a10) (k0_pay55 a10) (FloatOps.ofBits FTy.f32 1065353216#32) a9 = partV (dzaV a0 a7 a9 a10 x1 x3 x8) := rfl

theorem dgc2 : k0_pay62 (k0_pay44 (k0_pay38 a0 x1) (k0_pay40 a6) (k0_pay41 x8) a4) = partV (dgcV a0 a4 a6 x1 x8) := rfl

theorem dga2 : k0_pay1 (k0_pay63 (k0_pay45 (k0_pay38 a0 x1) (k0_pay39 x8) a7 a5)) = partV (dgaV a0 a5 a7 x1 x8) := rfl

theorem accc2 : k0_pay46 (k0_pay38 a0 x1) (k0_pay40 a6) (k0_pay41 x8) a4 acc = accV (dgcV a0 a4 a6 x1 x8) acc := rfl

theorem acca2 : k0_pay47 (k0_pay45 (k0_pay38 a0 x1) (k0_pay39 x8) a7 a5) acc = accV (dgaV a0 a5 a7 x1 x8) acc := rfl

theorem dyc2 : k0_pay50 (k0_pay38 a0 x1) (k0_pay42 (k0_pay40 a6) (k0_pay41 x8)) = dycV a0 a6 x1 x8 := shapeCast_self _ _

theorem dya2 : k0_pay51 (k0_pay38 a0 x1) (k0_pay43 (k0_pay39 x8) a7) = dyaV a0 a7 x1 x8 := shapeCast_self _ _

end Chains

end Cert.Kernel5Ideal.Own
-- ==== Proof.MergeBlock.lean ====
module

public import proofs.«01_k».proof.Proof.MergeChain
public import proofs.«01_k».proof.Proof.Gen.Kernel5Ideal.Value

@[expose] public section

set_option maxRecDepth 16384

noncomputable section

namespace Cert.Kernel5Ideal.Own

open Cert.Kernel5Ideal Cert.Kernel5Ideal.Gen Idealize.ShloMosaic Idealize.ShloMosaic.TcCoe Idealize.SL.Sem
open Cert.Merge (Row Weights)

theorem hz2 : (![0, 0] : Fin 2 → ℕ) = 0 := by funext a; fin_cases a <;> rfl

/-! ## The parts of the blocks that the body reads -/

/-- 256 rows, from row `o` on, of a block of 512. -/
def sl (x : Vec Ideal S512x1024 .bf16) (o : ℕ) : Vec Ideal S256x1024 .bf16 :=
  fun y => x (ix2 ⟨(o + (y 0).val) % 512, by omega⟩ (y 1))

theorem readRows (M : Memref sig .tc .vmem S512x1024 .bf16) (h : M.IsWhole) (x : Vec Ideal S512x1024 .bf16) (o : ℕ)
    (inb : ∀ a, (![o, 0] : Fin 2 → ℕ) a + S256x1024.size a ≤ S512x1024.size a) :
    View.readAt (Elt Ideal) M.view (Rect.unit ![o, 0] ![256, 1024] inb : Rect S512x1024).toLoadRect (h.unread x) = sl x o := by
  have ho : o + 256 ≤ 512 := inb 0
  rw [View.readAt_eq_ld, h.read_unread]
  funext i
  refine View.ld_unit_apply_of x _ _ inb i _ fun a => ?_
  have h0 : (i 0).val < 256 := (i 0).isLt
  match a with
  | ⟨0, _⟩ => show (o + (i 0).val) % 512 = o + (i 0).val; omega
  | ⟨1, _⟩ => show (i 1).val = 0 + (i 1).val; omega

/-- 1024 columns, from column `o` on, of a row of 2048. -/
def half (x : Vec Ideal S1x2048 .f32) (o : ℕ) : Vec Ideal S1x1024 .f32 :=
  fun y => x (ix2 0 ⟨(o + (y 1).val) % 2048, by omega⟩)

theorem half_at (x : Vec Ideal S1x2048 .f32) (o : ℕ) (inb : ∀ a, (![0, o] : Fin 2 → ℕ) a + S1x1024.size a ≤ S1x2048.size a) :
    View.ld x (Rect.unit ![0, o] ![1, 1024] inb : Rect S1x2048) = half x o := by
  have ho : o + 1024 ≤ 2048 := inb 1
  funext i
  refine View.ld_unit_apply_of x _ _ inb i _ fun a => ?_
  have h0 : (i 0).val < 1 := (i 0).isLt
  have h1 : (i 1).val < 1024 := (i 1).isLt
  match a with
  | ⟨0, _⟩ => show 0 = 0 + (i 0).val; omega
  | ⟨1, _⟩ => show (o + (i 1).val) % 2048 = o + (i 1).val; omega

theorem readHalf (M : Memref sig .tc .vmem S1x2048 .f32) (h : M.IsWhole) (x : Vec Ideal S1x2048 .f32) (o : ℕ)
    (inb : ∀ a, (![0, o] : Fin 2 → ℕ) a + S1x1024.size a ≤ S1x2048.size a) :
    View.readAt (Elt Ideal) M.view (Rect.unit ![0, o] ![1, 1024] inb : Rect S1x2048).toLoadRect (h.unread x) = half x o := by
  rw [View.readAt_eq_ld, h.read_unread]
  exact half_at x o inb

/-! ## The row of the bias that the two chains write, one half after the other -/

/-- The two halves do not meet. -/
theorem apart (h0 : ∀ a, (![0, 0] : Fin 2 → ℕ) a + (![1, 1024] : Fin 2 → ℕ) a ≤ S1x2048.size a)
    (h1 : ∀ a, (![0, 1024] : Fin 2 → ℕ) a + (![1, 1024] : Fin 2 → ℕ) a ≤ S1x2048.size a) :
    Disjoint (Rect.unit ![0, 0] ![1, 1024] h0 : Rect S1x2048).set (Rect.unit ![0, 1024] ![1, 1024] h1 : Rect S1x2048).set :=
  Rect.unit_disjoint (1 : Fin 2) (.inl (show 0 + 1024 ≤ 1024 by omega))

section Halves

variable (M : Memref sig .tc .vmem S1x2048 .f32)
  (h0 : ∀ a, (![0, 0] : Fin 2 → ℕ) a + (![1, 1024] : Fin 2 → ℕ) a ≤ S1x2048.size a)
  (h1 : ∀ a, (![0, 1024] : Fin 2 → ℕ) a + (![1, 1024] : Fin 2 → ℕ) a ≤ S1x2048.size a)
  (hw : ∀ a, (![0, 0] : Fin 2 → ℕ) a + (![1, 2048] : Fin 2 → ℕ) a ≤ S1x2048.size a)
  (wl wr : Vec Ideal S1x1024 .f32) (w : Vec Ideal S1x2048 .f32) (L : List (View.Piece (Elt Ideal) S1x2048 .f32))

/-- What the second write of the left half leaves there, the right half written after it. -/
theorem cov_left :
    M.view.readCov (⟨(Rect.unit ![0, 1024] ![1, 1024] h1 : Rect S1x2048), wr⟩ :: ⟨(Rect.unit ![0, 0] ![1, 1024] h0 : Rect S1x2048), wl⟩ :: L)
      (Rect.unit ![0, 0] ![1, 1024] h0 : Rect S1x2048).toLoadRect = wl := by
  refine (View.readCov_cons_of_disjoint _ _ _ _ ?_).trans ?_
  · exact (apart h0 h1).symm
  · exact View.readCov_cons_toLoadRect _ _ _ _

theorem cov_right :
    M.view.readCov (⟨(Rect.unit ![0, 0] ![1, 1024] h0 : Rect S1x2048), wl⟩ :: ⟨(Rect.unit ![0, 1024] ![1, 1024] h1 : Rect S1x2048), wr⟩ :: L)
      (Rect.unit ![0, 1024] ![1, 1024] h1 : Rect S1x2048).toLoadRect = wr := by
  refine (View.readCov_cons_of_disjoint _ _ _ _ ?_).trans ?_
  · exact apart h0 h1
  · exact View.readCov_cons_toLoadRect _ _ _ _

/-- The halves of a row that was written whole. -/
theorem cov_whole (o : ℕ) (inb : ∀ a, (![0, o] : Fin 2 → ℕ) a + (![1, 1024] : Fin 2 → ℕ) a ≤ S1x2048.size a) :
    M.view.readCov (⟨(Rect.unit ![0, 0] ![1, 2048] hw : Rect S1x2048), w⟩ :: L) (Rect.unit ![0, o] ![1, 1024] inb : Rect S1x2048).toLoadRect = half w o := by
  rw [View.readCov_eq_canon']
  refine Eq.trans ?_ (half_at w o inb)
  funext j
  exact congrFun (View.canon_cons_unit_zero (S := S1x2048) hz2 hw w L) _

theorem cov_whole_right :
    M.view.readCov (⟨(Rect.unit ![0, 0] ![1, 1024] h0 : Rect S1x2048), wl⟩ :: ⟨(Rect.unit ![0, 0] ![1, 2048] hw : Rect S1x2048), w⟩ :: L)
      (Rect.unit ![0, 1024] ![1, 1024] h1 : Rect S1x2048).toLoadRect = half w 1024 := by
  refine (View.readCov_cons_of_disjoint _ _ _ _ ?_).trans ?_
  · exact apart h0 h1
  · exact cov_whole M hw w L 1024 h1

/-- The row after the last write of each half. -/
theorem canon_halves (y : S1x2048.Idx) :
    View.canon (Val := Elt Ideal) (⟨(Rect.unit ![0, 1024] ![1, 1024] h1 : Rect S1x2048), wr⟩ :: ⟨(Rect.unit ![0, 0] ![1, 1024] h0 : Rect S1x2048), wl⟩ :: L) y
      = if (y 1).val < 1024 then wl (ix2 0 ⟨(y 1).val % 1024, by omega⟩) else wr (ix2 0 ⟨(y 1).val % 1024, by omega⟩) := by
  have hy0 : (y 0).val < 1 := (y 0).isLt
  have hy1 : (y 1).val < 2048 := (y 1).isLt
  by_cases h : (y 1).val < 1024
  · rw [if_pos h]
    have hm : y ∉ (Rect.unit ![0, 1024] ![1, 1024] h1 : Rect S1x2048).set := fun hm => absurd (Rect.mem_set_unit.1 hm 1).1 (by show ¬1024 ≤ (y 1).val; omega)
    refine (View.canon_cons_of_not_mem _ _ ?_).trans ?_
    · exact hm
    have he : y = (Rect.unit ![0, 0] ![1, 1024] h0 : Rect S1x2048).emb (ix2 0 ⟨(y 1).val % 1024, by omega⟩ : S1x1024.Idx) := by
      funext a
      match a with
      | ⟨0, _⟩ => exact Fin.ext (show (y 0).val = 0 + 1 * 0 by omega)
      | ⟨1, _⟩ => exact Fin.ext (show (y 1).val = 0 + 1 * ((y 1).val % 1024) by omega)
    exact (congrArg (View.canon _) he).trans (View.canon_cons_emb _ _ _ _)
  · rw [if_neg h]
    have he : y = (Rect.unit ![0, 1024] ![1, 1024] h1 : Rect S1x2048).emb (ix2 0 ⟨(y 1).val % 1024, by omega⟩ : S1x1024.Idx) := by
      funext a
      match a with
      | ⟨0, _⟩ => exact Fin.ext (show (y 0).val = 0 + 1 * 0 by omega)
      | ⟨1, _⟩ => exact Fin.ext (show (y 1).val = 1024 + 1 * ((y 1).val % 1024) by omega)
    exact (congrArg (View.canon _) he).trans (View.canon_cons_emb _ _ _ _)

end Halves

/-- A sum over the rows of a block is the sum over the first chain and then the second. -/
theorem sum_chains (f : Fin 512 → EReal) (b : EReal) :
    b + ∑ l : Fin 256, f ⟨(0 + l.val) % 512, by omega⟩ + ∑ l : Fin 256, f ⟨(256 + l.val) % 512, by omega⟩ = b + ∑ r : Fin 512, f r := by
  rw [add_assoc]
  refine congrArg (b + ·) ?_
  refine Eq.trans ?_ (Fin.sum_univ_add (a := 256) (b := 256) f).symm
  refine congrArg₂ (· + ·) (Finset.sum_congr rfl fun l _ => congrArg f (Fin.ext ?_)) (Finset.sum_congr rfl fun l _ => congrArg f (Fin.ext ?_))
  · show (0 + l.val) % 512 = l.val; have := l.isLt; omega
  · show (256 + l.val) % 512 = 256 + l.val; have := l.isLt; omega

/-! ## The results of a block, row by row -/

section Blocks

variable (x0 : Vec Ideal S512x1024 .bf16) (x1 x2 x3 : Vec Ideal S1024x1024 .bf16) (x4 x5 x6 x7 : Vec Ideal S512x1024 .bf16) (x8 : Vec Ideal S1x2048 .f32)
  (x9 x10 : Vec Ideal S512x1024 .bf16) (x11 x12 : Vec Ideal S1024x512 .bf16)

/-- A row of the block. -/
def rowB (r : Fin 512) : Row :=
  ⟨fun d => x0 (ix2 r d), fun d => x4 (ix2 r d), fun d => x5 (ix2 r d), fun d => x6 (ix2 r d), fun d => x7 (ix2 r d), fun d => x9 (ix2 r d),
    fun d => x10 (ix2 r d)⟩

def dhcB : Vec Ideal S512x1024 .bf16 := fun y => Merge.dhc (wts x1 x2 x3 x8) (rowB x0 x4 x5 x6 x7 x9 x10 (y 0)) (y 1)
def doutB : Vec Ideal S512x1024 .bf16 := fun y => Merge.dout (wts x1 x2 x3 x8) (rowB x0 x4 x5 x6 x7 x9 x10 (y 0)) (y 1)
def dsumB : Vec Ideal S512x128 .f32 := fun y => Merge.ksum (wts x1 x2 x3 x8) (rowB x0 x4 x5 x6 x7 x9 x10 (y 0)) headsV (y 1)

/-- The three gradients of the columns of the projection, by their number. -/
def partR (p : ℕ) (r : Row) (d : Fin 1024) : EReal :=
  if p = 0 then Merge.dza (wts x1 x2 x3 x8) r d else if p = 1 then Merge.dgc (wts x1 x2 x3 x8) r d else Merge.dga (wts x1 x2 x3 x8) r d

def partB : Vec Ideal S3x512x1024 .bf16 := fun y => partR x1 x2 x3 x8 (y 0).val (rowB x0 x4 x5 x6 x7 x9 x10 (y 1)) (y 2)

/-- The gradient of the bias: what was there, and the sum over the rows. -/
def biasB (acc : Vec Ideal S1x2048 .f32) : Vec Ideal S1x2048 .f32 := fun y =>
  acc y + ∑ r : Fin 512, (if (y 1).val < 1024 then Merge.dgc (wts x1 x2 x3 x8) (rowB x0 x4 x5 x6 x7 x9 x10 r) ⟨(y 1).val % 1024, by omega⟩
    else Merge.dga (wts x1 x2 x3 x8) (rowB x0 x4 x5 x6 x7 x9 x10 r) ⟨(y 1).val % 1024, by omega⟩)

/-- The gradients of the two weights: what was there, and the product over the rows. -/
def dwocB (acc : Vec Ideal S1024x1024 .f32) : Vec Ideal S1024x1024 .f32 := fun y =>
  acc y + ∑ m : Fin 512, x11 (ix2 (y 0) m) * Merge.dyc (wts x1 x2 x3 x8) (rowB x0 x4 x5 x6 x7 x9 x10 m) (y 1)
def dwoaB (acc : Vec Ideal S1024x1024 .f32) : Vec Ideal S1024x1024 .f32 := fun y =>
  acc y + ∑ m : Fin 512, x12 (ix2 (y 0) m) * Merge.dya (wts x1 x2 x3 x8) (rowB x0 x4 x5 x6 x7 x9 x10 m) (y 1)

theorem rowC_sl (o : ℕ) (l : Fin 256) :
    rowC (sl x0 o) (sl x4 o) (sl x5 o) (sl x6 o) (sl x7 o) (sl x9 o) (sl x10 o) l = rowB x0 x4 x5 x6 x7 x9 x10 ⟨(o + l.val) % 512, by omega⟩ := rfl

/-- Values of a chain, told by its rows, are those of the block's rows `o + l`. -/
theorem at_rows {n : ℕ} (F : Row → Fin n → EReal) (w : (⟨2, ![256, n]⟩ : Shape).Idx → EReal) (o : ℕ) (ho : o + 256 ≤ 512)
    (hw : ∀ l d, w (ix2 l d) = F (rowC (sl x0 o) (sl x4 o) (sl x5 o) (sl x6 o) (sl x7 o) (sl x9 o) (sl x10 o) l) d)
    (x : (⟨2, ![256, n]⟩ : Shape).Idx) (y : (⟨2, ![512, n]⟩ : Shape).Idx) (h0 : (y 0).val = o + 1 * (x 0).val) (h1 : (y 1).val = 0 + 1 * (x 1).val) :
    w x = F (rowB x0 x4 x5 x6 x7 x9 x10 (y 0)) (y 1) := by
  have hx : x = ix2 (x 0) (x 1) := by
    funext a
    match a with
    | ⟨0, _⟩ => rfl
    | ⟨1, _⟩ => rfl
  have hx0 : (x 0).val < 256 := (x 0).isLt
  refine (congrArg w hx).trans ((hw (x 0) (x 1)).trans (congrArg₂ F ?_ (Fin.ext ?_)))
  · refine (rowC_sl x0 x4 x5 x6 x7 x9 x10 o (x 0)).trans (congrArg _ (Fin.ext ?_))
    show (o + (x 0).val) % 512 = (y 0).val
    omega
  · omega

theorem at_part (w : Vec Ideal S1x256x1024 .bf16) (p o : ℕ) (ho : o + 256 ≤ 512)
    (hw : ∀ l d, w (ix3 0 l d) = partR x1 x2 x3 x8 p (rowC (sl x0 o) (sl x4 o) (sl x5 o) (sl x6 o) (sl x7 o) (sl x9 o) (sl x10 o) l) d)
    (x : S1x256x1024.Idx) (y : S3x512x1024.Idx) (hp : (y 0).val = p + 1 * (x 0).val) (h0 : (y 1).val = o + 1 * (x 1).val) (h1 : (y 2).val = 0 + 1 * (x 2).val) :
    w x = partB x0 x1 x2 x3 x4 x5 x6 x7 x8 x9 x10 y := by
  have hz : (x 0).val < 1 := (x 0).isLt
  have hx : x = ix3 0 (x 1) (x 2) := by
    funext a
    match a with
    | ⟨0, _⟩ => exact Fin.ext (show (x 0).val = 0 by omega)
    | ⟨1, _⟩ => rfl
    | ⟨2, _⟩ => rfl
  have hx0 : (x 1).val < 256 := (x 1).isLt
  have hq : p = (y 0).val := by omega
  subst hq
  refine (congrArg w hx).trans ((hw (x 1) (x 2)).trans ?_)
  unfold partB
  refine congrArg₂ (partR x1 x2 x3 x8 _) ?_ (Fin.ext ?_)
  · refine (rowC_sl x0 x4 x5 x6 x7 x9 x10 o (x 1)).trans (congrArg _ (Fin.ext ?_))
    show (o + (x 1).val) % 512 = (y 1).val
    omega
  · omega

/-- The two chains' sums added to a half of the bias's row. -/
theorem bias_dgc (acc : Vec Ideal S1x2048 .f32) (y : S1x2048.Idx) (h : (y 1).val < 1024) :
    accV (dgcV (sl x0 256) (sl x4 256) (sl x6 256) x1 x8) (accV (dgcV (sl x0 0) (sl x4 0) (sl x6 0) x1 x8) (half acc 0)) (ix2 0 ⟨(y 1).val % 1024, by omega⟩)
      = biasB x0 x1 x2 x3 x4 x5 x6 x7 x8 x9 x10 acc y := by
  have hy0 : (y 0).val < 1 := (y 0).isLt
  rw [acc_apply, acc_apply]
  simp only [dgc_apply (sl x0 256) (sl x4 256) (sl x5 256) (sl x6 256) (sl x7 256) (sl x9 256) (sl x10 256) x1 x2 x3 x8,
    dgc_apply (sl x0 0) (sl x4 0) (sl x5 0) (sl x6 0) (sl x7 0) (sl x9 0) (sl x10 0) x1 x2 x3 x8]
  refine (sum_chains (fun r => Merge.dgc (wts x1 x2 x3 x8) (rowB x0 x4 x5 x6 x7 x9 x10 r) ⟨(y 1).val % 1024, by omega⟩) _).trans ?_
  unfold biasB
  refine congrArg₂ (· + ·) (congrArg acc ?_) (Finset.sum_congr rfl fun r _ => (if_pos h).symm)
  funext a
  match a with
  | ⟨0, _⟩ => exact Fin.ext (show 0 = (y 0).val by omega)
  | ⟨1, _⟩ => exact Fin.ext (show (0 + (y 1).val % 1024) % 2048 = (y 1).val by omega)

theorem bias_dga (acc : Vec Ideal S1x2048 .f32) (y : S1x2048.Idx) (h : ¬(y 1).val < 1024) :
    accV (dgaV (sl x0 256) (sl x5 256) (sl x7 256) x1 x8) (accV (dgaV (sl x0 0) (sl x5 0) (sl x7 0) x1 x8) (half acc 1024)) (ix2 0 ⟨(y 1).val % 1024, by omega⟩)
      = biasB x0 x1 x2 x3 x4 x5 x6 x7 x8 x9 x10 acc y := by
  have hy0 : (y 0).val < 1 := (y 0).isLt
  have hy1 : (y 1).val < 2048 := (y 1).isLt
  rw [acc_apply, acc_apply]
  simp only [dga_apply (sl x0 256) (sl x4 256) (sl x5 256) (sl x6 256) (sl x7 256) (sl x9 256) (sl x10 256) x1 x2 x3 x8,
    dga_apply (sl x0 0) (sl x4 0) (sl x5 0) (sl x6 0) (sl x7 0) (sl x9 0) (sl x10 0) x1 x2 x3 x8]
  refine (sum_chains (fun r => Merge.dga (wts x1 x2 x3 x8) (rowB x0 x4 x5 x6 x7 x9 x10 r) ⟨(y 1).val % 1024, by omega⟩) _).trans ?_
  unfold biasB
  refine congrArg₂ (· + ·) (congrArg acc ?_) (Finset.sum_congr rfl fun r _ => (if_neg h).symm)
  funext a
  match a with
  | ⟨0, _⟩ => exact Fin.ext (show 0 = (y 0).val by omega)
  | ⟨1, _⟩ => exact Fin.ext (show (1024 + (y 1).val % 1024) % 2048 = (y 1).val by omega)

/-- The bias's row after both chains. -/
theorem bias_row (h0 : ∀ a, (![0, 0] : Fin 2 → ℕ) a + (![1, 1024] : Fin 2 → ℕ) a ≤ S1x2048.size a)
    (h1 : ∀ a, (![0, 1024] : Fin 2 → ℕ) a + (![1, 1024] : Fin 2 → ℕ) a ≤ S1x2048.size a) (L : List (View.Piece (Elt Ideal) S1x2048 .f32)) (acc : Vec Ideal S1x2048 .f32) :
    View.canon (Val := Elt Ideal)
        (⟨(Rect.unit ![0, 1024] ![1, 1024] h1 : Rect S1x2048), accV (dgaV (sl x0 256) (sl x5 256) (sl x7 256) x1 x8) (accV (dgaV (sl x0 0) (sl x5 0) (sl x7 0) x1 x8) (half acc 1024))⟩ ::
          ⟨(Rect.unit ![0, 0] ![1, 1024] h0 : Rect S1x2048), accV (dgcV (sl x0 256) (sl x4 256) (sl x6 256) x1 x8) (accV (dgcV (sl x0 0) (sl x4 0) (sl x6 0) x1 x8) (half acc 0))⟩ :: L)
      = biasB x0 x1 x2 x3 x4 x5 x6 x7 x8 x9 x10 acc := by
  funext y
  rw [canon_halves]
  by_cases h : (y 1).val < 1024
  · rw [if_pos h]; exact bias_dgc x0 x1 x2 x3 x4 x5 x6 x7 x8 x9 x10 acc y h
  · rw [if_neg h]; exact bias_dga x0 x1 x2 x3 x4 x5 x6 x7 x8 x9 x10 acc y h

/-! ## The scratch buffers and the two products read from them -/

/-- The scratch of 512 rows, the two chains' parts written. -/
theorem cov_rows (M : Memref sig .tc .vmem S512x1024 .bf16) (F : Row → Fin 1024 → EReal) (w0 w1 : Vec Ideal S256x1024 .bf16)
    (hw0 : ∀ l d, w0 (ix2 l d) = F (rowC (sl x0 0) (sl x4 0) (sl x5 0) (sl x6 0) (sl x7 0) (sl x9 0) (sl x10 0) l) d)
    (hw1 : ∀ l d, w1 (ix2 l d) = F (rowC (sl x0 256) (sl x4 256) (sl x5 256) (sl x6 256) (sl x7 256) (sl x9 256) (sl x10 256) l) d)
    (h0 : ∀ a, (![0, 0] : Fin 2 → ℕ) a + (![256, 1024] : Fin 2 → ℕ) a ≤ S512x1024.size a)
    (h1 : ∀ a, (![256, 0] : Fin 2 → ℕ) a + (![256, 1024] : Fin 2 → ℕ) a ≤ S512x1024.size a)
    (hw : ∀ a, (![0, 0] : Fin 2 → ℕ) a + (![512, 1024] : Fin 2 → ℕ) a ≤ S512x1024.size a) :
    M.view.readCov (Val := Elt Ideal) [⟨(Rect.unit ![256, 0] ![256, 1024] h1 : Rect S512x1024), w1⟩, ⟨(Rect.unit ![0, 0] ![256, 1024] h0 : Rect S512x1024), w0⟩]
        (Rect.unit ![0, 0] ![512, 1024] hw : Rect S512x1024).toLoadRect
      = fun y : S512x1024.Idx => F (rowB x0 x4 x5 x6 x7 x9 x10 (y 0)) (y 1) := by
  rw [View.readCov_eq_canon']
  funext j
  have hj : (Rect.unit ![0, 0] ![512, 1024] hw : Rect S512x1024).toLoadRect.idx j = j := by
    funext a
    match a with
    | ⟨0, _⟩ => exact Fin.ext (show 0 + 1 * (j 0).val = (j 0).val by omega)
    | ⟨1, _⟩ => exact Fin.ext (show 0 + 1 * (j 1).val = (j 1).val by omega)
  rw [hj]
  have hj0 : (j 0).val < 512 := (j 0).isLt
  have hj1 : (j 1).val < 1024 := (j 1).isLt
  refine View.canon_apply_of_pieces (Val := Elt Ideal) (e := .bf16) (fun y : S512x1024.Idx => F (rowB x0 x4 x5 x6 x7 x9 x10 (y 0)) (y 1)) _ ?_ j ?_
  · intro p hp x
    simp only [List.mem_cons, List.not_mem_nil, or_false] at hp
    rcases hp with rfl | rfl
    · exact at_rows x0 x4 x5 x6 x7 x9 x10 F w1 256 (le_refl _) hw1 x _ rfl rfl
    · exact at_rows x0 x4 x5 x6 x7 x9 x10 F w0 0 (by omega) hw0 x _ rfl rfl
  · by_cases h : (j 0).val < 256
    · refine ⟨_, List.mem_cons_of_mem _ List.mem_cons_self, (Rect.mem_set_unit (inb := h0)).2 fun a => ?_⟩
      match a with
      | ⟨0, _⟩ => exact ⟨Nat.zero_le _, show (j 0).val < 0 + 256 by omega⟩
      | ⟨1, _⟩ => exact ⟨Nat.zero_le _, show (j 1).val < 0 + 1024 by omega⟩
    · refine ⟨_, List.mem_cons_self, (Rect.mem_set_unit (inb := h1)).2 fun a => ?_⟩
      match a with
      | ⟨0, _⟩ => exact ⟨show 256 ≤ (j 0).val by omega, show (j 0).val < 256 + 256 by omega⟩
      | ⟨1, _⟩ => exact ⟨Nat.zero_le _, show (j 1).val < 0 + 1024 by omega⟩

theorem dwoc_eq (acc : Vec Ideal S1024x1024 .f32) :
    k0_pay2 acc x11 (fun y => Merge.dyc (wts x1 x2 x3 x8) (rowB x0 x4 x5 x6 x7 x9 x10 (y 0)) (y 1)) = dwocB x0 x1 x2 x3 x4 x5 x6 x7 x8 x9 x10 x11 acc := by
  unfold k0_pay2
  dsimp only
  rw [shapeCast_self, shapeCast_self]
  funext y
  have hy : y = ix2 (y 0) (y 1) := by
    funext a
    match a with
    | ⟨0, _⟩ => rfl
    | ⟨1, _⟩ => rfl
  refine congrArg (acc y + ·) ?_
  exact (congrArg _ hy).trans (outer_apply _ _ (y 0) (y 1))

theorem dwoa_eq (acc : Vec Ideal S1024x1024 .f32) :
    k0_pay3 acc x12 (fun y => Merge.dya (wts x1 x2 x3 x8) (rowB x0 x4 x5 x6 x7 x9 x10 (y 0)) (y 1)) = dwoaB x0 x1 x2 x3 x4 x5 x6 x7 x8 x9 x10 x12 acc := by
  unfold k0_pay3
  dsimp only
  rw [shapeCast_self, shapeCast_self]
  funext y
  have hy : y = ix2 (y 0) (y 1) := by
    funext a
    match a with
    | ⟨0, _⟩ => rfl
    | ⟨1, _⟩ => rfl
  refine congrArg (acc y + ·) ?_
  exact (congrArg _ hy).trans (outer_apply _ _ (y 0) (y 1))

end Blocks

end Cert.Kernel5Ideal.Own
-- ==== Proof.MergeBodyA.lean ====
module

public import proofs.«01_k».proof.Proof.MergeBlock

@[expose] public section

set_option maxRecDepth 16384

noncomputable section

namespace Cert.Kernel5Ideal.Own

open Cert.Kernel5Ideal Cert.Kernel5Ideal.Gen Idealize.ShloMosaic Idealize.ShloMosaic.TcCoe Idealize.SL.Sem

/-! ## What the body leaves in its outputs at the first block, where it clears the sums -/

section Cases

variable (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x2048 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x128 .f32) (harg16 : arg16.IsWhole) (arg17 : Memref sig .tc .vmem S3x512x1024 .bf16) (harg17 : arg17.IsWhole) (arg18 : Memref sig .tc .vmem S1x2048 .f32) (harg18 : arg18.IsWhole) (arg19 : Memref sig .tc .vmem S1024x1024 .f32) (harg19 : arg19.IsWhole) (arg20 : Memref sig .tc .vmem S1024x1024 .f32) (harg20 : arg20.IsWhole) (arg21 : Memref sig .tc .vmem S512x1024 .bf16) (harg21 : arg21.IsWhole) (arg22 : Memref sig .tc .vmem S512x1024 .bf16) (harg22 : arg22.IsWhole)
  (x0 : Vec Ideal S512x1024 .bf16) (x1 x2 x3 : Vec Ideal S1024x1024 .bf16) (x4 x5 x6 x7 : Vec Ideal S512x1024 .bf16) (x8 : Vec Ideal S1x2048 .f32)
  (x9 x10 : Vec Ideal S512x1024 .bf16) (x11 x12 : Vec Ideal S1024x512 .bf16)

theorem out_A_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = dhcB x0 x1 x2 x3 x4 x5 x6 x7 x8 x9 x10 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  funext y
  refine View.canon_apply_of_pieces (dhcB x0 x1 x2 x3 x4 x5 x6 x7 x8 x9 x10) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y)
  unfold kernelRun0_A
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  intro p hp x
  simp only [List.mem_cons, List.not_mem_nil, or_false] at hp
  rcases hp with rfl | rfl
  · exact at_rows x0 x4 x5 x6 x7 x9 x10 (Merge.dhc (wts x1 x2 x3 x8)) _ 256 (by omega) (fun l d => (congrFun (dhc2 (sl x0 256) (sl x6 256) x1 x2 x8) _).trans (dhc_apply (sl x0 256) (sl x4 256) (sl x5 256) (sl x6 256) (sl x7 256) (sl x9 256) (sl x10 256) x1 x2 x3 x8 l d)) x _ rfl rfl
  · exact at_rows x0 x4 x5 x6 x7 x9 x10 (Merge.dhc (wts x1 x2 x3 x8)) _ 0 (by omega) (fun l d => (congrFun (dhc1 (sl x0 0) (sl x6 0) x1 x2 x8) _).trans (dhc_apply (sl x0 0) (sl x4 0) (sl x5 0) (sl x6 0) (sl x7 0) (sl x9 0) (sl x10 0) x1 x2 x3 x8 l d)) x _ rfl rfl

theorem out_A_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = doutB x0 x1 x2 x3 x4 x5 x6 x7 x8 x9 x10 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  funext y
  refine View.canon_apply_of_pieces (doutB x0 x1 x2 x3 x4 x5 x6 x7 x8 x9 x10) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y)
  unfold kernelRun0_A
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  intro p hp x
  simp only [List.mem_cons, List.not_mem_nil, or_false] at hp
  rcases hp with rfl | rfl
  · exact at_rows x0 x4 x5 x6 x7 x9 x10 (Merge.dout (wts x1 x2 x3 x8)) _ 256 (by omega) (fun l d => (congrFun (dout2 (sl x0 256) (sl x7 256) (sl x10 256) x1 x3 x8) _).trans (dout_apply (sl x0 256) (sl x4 256) (sl x5 256) (sl x6 256) (sl x7 256) (sl x9 256) (sl x10 256) x1 x2 x3 x8 l d)) x _ rfl rfl
  · exact at_rows x0 x4 x5 x6 x7 x9 x10 (Merge.dout (wts x1 x2 x3 x8)) _ 0 (by omega) (fun l d => (congrFun (dout1 (sl x0 0) (sl x7 0) (sl x10 0) x1 x3 x8) _).trans (dout_apply (sl x0 0) (sl x4 0) (sl x5 0) (sl x6 0) (sl x7 0) (sl x9 0) (sl x10 0) x1 x2 x3 x8 l d)) x _ rfl rfl

theorem out_A_15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = dsumB x0 x1 x2 x3 x4 x5 x6 x7 x8 x9 x10 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  funext y
  refine View.canon_apply_of_pieces (dsumB x0 x1 x2 x3 x4 x5 x6 x7 x8 x9 x10) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y)
  unfold kernelRun0_A
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  intro p hp x
  simp only [List.mem_cons, List.not_mem_nil, or_false] at hp
  rcases hp with rfl | rfl
  · exact at_rows x0 x4 x5 x6 x7 x9 x10 (fun r l => Merge.ksum (wts x1 x2 x3 x8) r headsV l) _ 256 (by omega) (fun l d => (congrFun (dsum2 (sl x0 256) (sl x7 256) (sl x9 256) (sl x10 256) x1 x3 x8) _).trans (dsum_apply (sl x0 256) (sl x4 256) (sl x5 256) (sl x6 256) (sl x7 256) (sl x9 256) (sl x10 256) x1 x2 x3 x8 l d)) x _ rfl rfl
  · exact at_rows x0 x4 x5 x6 x7 x9 x10 (fun r l => Merge.ksum (wts x1 x2 x3 x8) r headsV l) _ 0 (by omega) (fun l d => (congrFun (dsum1 (sl x0 0) (sl x7 0) (sl x9 0) (sl x10 0) x1 x3 x8) _).trans (dsum_apply (sl x0 0) (sl x4 0) (sl x5 0) (sl x6 0) (sl x7 0) (sl x9 0) (sl x10 0) x1 x2 x3 x8 l d)) x _ rfl rfl

theorem out_A_16 (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = partB x0 x1 x2 x3 x4 x5 x6 x7 x8 x9 x10 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  funext y
  refine View.canon_apply_of_pieces (partB x0 x1 x2 x3 x4 x5 x6 x7 x8 x9 x10) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 y)
  unfold kernelRun0_A
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  intro p hp x
  simp only [List.mem_cons, List.not_mem_nil, or_false] at hp
  rcases hp with rfl | rfl | rfl | rfl | rfl | rfl
  · exact at_part x0 x1 x2 x3 x4 x5 x6 x7 x8 x9 x10 _ 2 256 (by omega) (fun l d => (congrFun (dga2 (sl x0 256) (sl x5 256) (sl x7 256) x1 x8) _).trans (part_dga (sl x0 256) (sl x4 256) (sl x5 256) (sl x6 256) (sl x7 256) (sl x9 256) (sl x10 256) x1 x2 x3 x8 l d)) x _ rfl rfl rfl
  · exact at_part x0 x1 x2 x3 x4 x5 x6 x7 x8 x9 x10 _ 1 256 (by omega) (fun l d => (congrFun (dgc2 (sl x0 256) (sl x4 256) (sl x6 256) x1 x8) _).trans (part_dgc (sl x0 256) (sl x4 256) (sl x5 256) (sl x6 256) (sl x7 256) (sl x9 256) (sl x10 256) x1 x2 x3 x8 l d)) x _ rfl rfl rfl
  · exact at_part x0 x1 x2 x3 x4 x5 x6 x7 x8 x9 x10 _ 0 256 (by omega) (fun l d => (congrFun (dza2 (sl x0 256) (sl x7 256) (sl x9 256) (sl x10 256) x1 x3 x8) _).trans (part_dza (sl x0 256) (sl x4 256) (sl x5 256) (sl x6 256) (sl x7 256) (sl x9 256) (sl x10 256) x1 x2 x3 x8 l d)) x _ rfl rfl rfl
  · exact at_part x0 x1 x2 x3 x4 x5 x6 x7 x8 x9 x10 _ 2 0 (by omega) (fun l d => (congrFun (dga1 (sl x0 0) (sl x5 0) (sl x7 0) x1 x8) _).trans (part_dga (sl x0 0) (sl x4 0) (sl x5 0) (sl x6 0) (sl x7 0) (sl x9 0) (sl x10 0) x1 x2 x3 x8 l d)) x _ rfl rfl rfl
  · exact at_part x0 x1 x2 x3 x4 x5 x6 x7 x8 x9 x10 _ 1 0 (by omega) (fun l d => (congrFun (dgc1 (sl x0 0) (sl x4 0) (sl x6 0) x1 x8) _).trans (part_dgc (sl x0 0) (sl x4 0) (sl x5 0) (sl x6 0) (sl x7 0) (sl x9 0) (sl x10 0) x1 x2 x3 x8 l d)) x _ rfl rfl rfl
  · exact at_part x0 x1 x2 x3 x4 x5 x6 x7 x8 x9 x10 _ 0 0 (by omega) (fun l d => (congrFun (dza1 (sl x0 0) (sl x7 0) (sl x9 0) (sl x10 0) x1 x3 x8) _).trans (part_dza (sl x0 0) (sl x4 0) (sl x5 0) (sl x6 0) (sl x7 0) (sl x9 0) (sl x10 0) x1 x2 x3 x8 l d)) x _ rfl rfl rfl

theorem out_A_17 (hc0 : cond0_0 i) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = biasB x0 x1 x2 x3 x4 x5 x6 x7 x8 x9 x10 (k0_pay4 (F := Ideal)) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  unfold kernelRun0_A
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  simp only [dhc1, dout1, dsum1, dza1, dgc1, dga1, accc1, acca1, dyc1, dya1, dhc2, dout2, dsum2, dza2, dgc2, dga2, accc2, acca2, dyc2, dya2]
  simp only [cov_left, cov_right, cov_whole, cov_whole_right]
  exact bias_row x0 x1 x2 x3 x4 x5 x6 x7 x8 x9 x10 _ _ _ (k0_pay4 (F := Ideal))

theorem out_A_18 (hc0 : cond0_0 i) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = dwocB x0 x1 x2 x3 x4 x5 x6 x7 x8 x9 x10 x11 (k0_pay5 (F := Ideal)) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  unfold kernelRun0_A
  dsimp only
  sl_unfold_words
  rw [View.canon_cons_unit_zero (S := S1024x1024) hz2, View.readCov_unit_zero (S := S1024x1024) _ hz2]
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  simp only [dhc1, dout1, dsum1, dza1, dgc1, dga1, accc1, acca1, dyc1, dya1, dhc2, dout2, dsum2, dza2, dgc2, dga2, accc2, acca2, dyc2, dya2]
  rw [cov_rows x0 x4 x5 x6 x7 x9 x10 _ (Merge.dyc (wts x1 x2 x3 x8)) _ _ (fun l d => dyc_apply (sl x0 0) (sl x4 0) (sl x5 0) (sl x6 0) (sl x7 0) (sl x9 0) (sl x10 0) x1 x2 x3 x8 l d) (fun l d => dyc_apply (sl x0 256) (sl x4 256) (sl x5 256) (sl x6 256) (sl x7 256) (sl x9 256) (sl x10 256) x1 x2 x3 x8 l d)]
  exact dwoc_eq x0 x1 x2 x3 x4 x5 x6 x7 x8 x9 x10 x11 (k0_pay5 (F := Ideal))

theorem out_A_19 (hc0 : cond0_0 i) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = dwoaB x0 x1 x2 x3 x4 x5 x6 x7 x8 x9 x10 x12 (k0_pay6 (F := Ideal)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12)]
  unfold kernelRun0_A
  dsimp only
  sl_unfold_words
  rw [View.canon_cons_unit_zero (S := S1024x1024) hz2, View.readCov_unit_zero (S := S1024x1024) _ hz2]
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  simp only [dhc1, dout1, dsum1, dza1, dgc1, dga1, accc1, acca1, dyc1, dya1, dhc2, dout2, dsum2, dza2, dgc2, dga2, accc2, acca2, dyc2, dya2]
  rw [cov_rows x0 x4 x5 x6 x7 x9 x10 _ (Merge.dya (wts x1 x2 x3 x8)) _ _ (fun l d => dya_apply (sl x0 0) (sl x4 0) (sl x5 0) (sl x6 0) (sl x7 0) (sl x9 0) (sl x10 0) x1 x2 x3 x8 l d) (fun l d => dya_apply (sl x0 256) (sl x4 256) (sl x5 256) (sl x6 256) (sl x7 256) (sl x9 256) (sl x10 256) x1 x2 x3 x8 l d)]
  exact dwoa_eq x0 x1 x2 x3 x4 x5 x6 x7 x8 x9 x10 x12 (k0_pay6 (F := Ideal))

end Cases

end Cert.Kernel5Ideal.Own
-- ==== Proof.MergeBodyB.lean ====
module

public import proofs.«01_k».proof.Proof.MergeBlock

@[expose] public section

set_option maxRecDepth 16384

noncomputable section

namespace Cert.Kernel5Ideal.Own

open Cert.Kernel5Ideal Cert.Kernel5Ideal.Gen Idealize.ShloMosaic Idealize.ShloMosaic.TcCoe Idealize.SL.Sem

/-! ## What the body leaves in its outputs at every later block -/

section Cases

variable (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S1x2048 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x128 .f32) (harg16 : arg16.IsWhole) (arg17 : Memref sig .tc .vmem S3x512x1024 .bf16) (harg17 : arg17.IsWhole) (arg18 : Memref sig .tc .vmem S1x2048 .f32) (harg18 : arg18.IsWhole) (arg19 : Memref sig .tc .vmem S1024x1024 .f32) (harg19 : arg19.IsWhole) (arg20 : Memref sig .tc .vmem S1024x1024 .f32) (harg20 : arg20.IsWhole) (arg21 : Memref sig .tc .vmem S512x1024 .bf16) (harg21 : arg21.IsWhole) (arg22 : Memref sig .tc .vmem S512x1024 .bf16) (harg22 : arg22.IsWhole)
  (x0 : Vec Ideal S512x1024 .bf16) (x1 x2 x3 : Vec Ideal S1024x1024 .bf16) (x4 x5 x6 x7 : Vec Ideal S512x1024 .bf16) (x8 : Vec Ideal S1x2048 .f32)
  (x9 x10 : Vec Ideal S512x1024 .bf16) (x11 x12 : Vec Ideal S1024x512 .bf16)

theorem out_B_13 (hc0 : ¬cond0_0 i) (xo17 : Vec Ideal S1x2048 .f32) (xo18 xo19 : Vec Ideal S1024x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 = dhcB x0 x1 x2 x3 x4 x5 x6 x7 x8 x9 x10 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19)]
  funext y
  refine View.canon_apply_of_pieces (dhcB x0 x1 x2 x3 x4 x5 x6 x7 x8 x9 x10) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 y)
  unfold kernelRun0_B
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  intro p hp x
  simp only [List.mem_cons, List.not_mem_nil, or_false] at hp
  rcases hp with rfl | rfl
  · exact at_rows x0 x4 x5 x6 x7 x9 x10 (Merge.dhc (wts x1 x2 x3 x8)) _ 256 (by omega) (fun l d => (congrFun (dhc2 (sl x0 256) (sl x6 256) x1 x2 x8) _).trans (dhc_apply (sl x0 256) (sl x4 256) (sl x5 256) (sl x6 256) (sl x7 256) (sl x9 256) (sl x10 256) x1 x2 x3 x8 l d)) x _ rfl rfl
  · exact at_rows x0 x4 x5 x6 x7 x9 x10 (Merge.dhc (wts x1 x2 x3 x8)) _ 0 (by omega) (fun l d => (congrFun (dhc1 (sl x0 0) (sl x6 0) x1 x2 x8) _).trans (dhc_apply (sl x0 0) (sl x4 0) (sl x5 0) (sl x6 0) (sl x7 0) (sl x9 0) (sl x10 0) x1 x2 x3 x8 l d)) x _ rfl rfl

theorem out_B_14 (hc0 : ¬cond0_0 i) (xo17 : Vec Ideal S1x2048 .f32) (xo18 xo19 : Vec Ideal S1024x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 = doutB x0 x1 x2 x3 x4 x5 x6 x7 x8 x9 x10 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19)]
  funext y
  refine View.canon_apply_of_pieces (doutB x0 x1 x2 x3 x4 x5 x6 x7 x8 x9 x10) _ ?_ y (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 y)
  unfold kernelRun0_B
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  intro p hp x
  simp only [List.mem_cons, List.not_mem_nil, or_false] at hp
  rcases hp with rfl | rfl
  · exact at_rows x0 x4 x5 x6 x7 x9 x10 (Merge.dout (wts x1 x2 x3 x8)) _ 256 (by omega) (fun l d => (congrFun (dout2 (sl x0 256) (sl x7 256) (sl x10 256) x1 x3 x8) _).trans (dout_apply (sl x0 256) (sl x4 256) (sl x5 256) (sl x6 256) (sl x7 256) (sl x9 256) (sl x10 256) x1 x2 x3 x8 l d)) x _ rfl rfl
  · exact at_rows x0 x4 x5 x6 x7 x9 x10 (Merge.dout (wts x1 x2 x3 x8)) _ 0 (by omega) (fun l d => (congrFun (dout1 (sl x0 0) (sl x7 0) (sl x10 0) x1 x3 x8) _).trans (dout_apply (sl x0 0) (sl x4 0) (sl x5 0) (sl x6 0) (sl x7 0) (sl x9 0) (sl x10 0) x1 x2 x3 x8 l d)) x _ rfl rfl

theorem out_B_15 (hc0 : ¬cond0_0 i) (xo17 : Vec Ideal S1x2048 .f32) (xo18 xo19 : Vec Ideal S1024x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 = dsumB x0 x1 x2 x3 x4 x5 x6 x7 x8 x9 x10 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19)]
  funext y
  refine View.canon_apply_of_pieces (dsumB x0 x1 x2 x3 x4 x5 x6 x7 x8 x9 x10) _ ?_ y (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 y)
  unfold kernelRun0_B
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  intro p hp x
  simp only [List.mem_cons, List.not_mem_nil, or_false] at hp
  rcases hp with rfl | rfl
  · exact at_rows x0 x4 x5 x6 x7 x9 x10 (fun r l => Merge.ksum (wts x1 x2 x3 x8) r headsV l) _ 256 (by omega) (fun l d => (congrFun (dsum2 (sl x0 256) (sl x7 256) (sl x9 256) (sl x10 256) x1 x3 x8) _).trans (dsum_apply (sl x0 256) (sl x4 256) (sl x5 256) (sl x6 256) (sl x7 256) (sl x9 256) (sl x10 256) x1 x2 x3 x8 l d)) x _ rfl rfl
  · exact at_rows x0 x4 x5 x6 x7 x9 x10 (fun r l => Merge.ksum (wts x1 x2 x3 x8) r headsV l) _ 0 (by omega) (fun l d => (congrFun (dsum1 (sl x0 0) (sl x7 0) (sl x9 0) (sl x10 0) x1 x3 x8) _).trans (dsum_apply (sl x0 0) (sl x4 0) (sl x5 0) (sl x6 0) (sl x7 0) (sl x9 0) (sl x10 0) x1 x2 x3 x8 l d)) x _ rfl rfl

theorem out_B_16 (hc0 : ¬cond0_0 i) (xo17 : Vec Ideal S1x2048 .f32) (xo18 xo19 : Vec Ideal S1024x1024 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 = partB x0 x1 x2 x3 x4 x5 x6 x7 x8 x9 x10 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19)]
  funext y
  refine View.canon_apply_of_pieces (partB x0 x1 x2 x3 x4 x5 x6 x7 x8 x9 x10) _ ?_ y (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 y)
  unfold kernelRun0_B
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  intro p hp x
  simp only [List.mem_cons, List.not_mem_nil, or_false] at hp
  rcases hp with rfl | rfl | rfl | rfl | rfl | rfl
  · exact at_part x0 x1 x2 x3 x4 x5 x6 x7 x8 x9 x10 _ 2 256 (by omega) (fun l d => (congrFun (dga2 (sl x0 256) (sl x5 256) (sl x7 256) x1 x8) _).trans (part_dga (sl x0 256) (sl x4 256) (sl x5 256) (sl x6 256) (sl x7 256) (sl x9 256) (sl x10 256) x1 x2 x3 x8 l d)) x _ rfl rfl rfl
  · exact at_part x0 x1 x2 x3 x4 x5 x6 x7 x8 x9 x10 _ 1 256 (by omega) (fun l d => (congrFun (dgc2 (sl x0 256) (sl x4 256) (sl x6 256) x1 x8) _).trans (part_dgc (sl x0 256) (sl x4 256) (sl x5 256) (sl x6 256) (sl x7 256) (sl x9 256) (sl x10 256) x1 x2 x3 x8 l d)) x _ rfl rfl rfl
  · exact at_part x0 x1 x2 x3 x4 x5 x6 x7 x8 x9 x10 _ 0 256 (by omega) (fun l d => (congrFun (dza2 (sl x0 256) (sl x7 256) (sl x9 256) (sl x10 256) x1 x3 x8) _).trans (part_dza (sl x0 256) (sl x4 256) (sl x5 256) (sl x6 256) (sl x7 256) (sl x9 256) (sl x10 256) x1 x2 x3 x8 l d)) x _ rfl rfl rfl
  · exact at_part x0 x1 x2 x3 x4 x5 x6 x7 x8 x9 x10 _ 2 0 (by omega) (fun l d => (congrFun (dga1 (sl x0 0) (sl x5 0) (sl x7 0) x1 x8) _).trans (part_dga (sl x0 0) (sl x4 0) (sl x5 0) (sl x6 0) (sl x7 0) (sl x9 0) (sl x10 0) x1 x2 x3 x8 l d)) x _ rfl rfl rfl
  · exact at_part x0 x1 x2 x3 x4 x5 x6 x7 x8 x9 x10 _ 1 0 (by omega) (fun l d => (congrFun (dgc1 (sl x0 0) (sl x4 0) (sl x6 0) x1 x8) _).trans (part_dgc (sl x0 0) (sl x4 0) (sl x5 0) (sl x6 0) (sl x7 0) (sl x9 0) (sl x10 0) x1 x2 x3 x8 l d)) x _ rfl rfl rfl
  · exact at_part x0 x1 x2 x3 x4 x5 x6 x7 x8 x9 x10 _ 0 0 (by omega) (fun l d => (congrFun (dza1 (sl x0 0) (sl x7 0) (sl x9 0) (sl x10 0) x1 x3 x8) _).trans (part_dza (sl x0 0) (sl x4 0) (sl x5 0) (sl x6 0) (sl x7 0) (sl x9 0) (sl x10 0) x1 x2 x3 x8 l d)) x _ rfl rfl rfl

theorem out_B_17 (hc0 : ¬cond0_0 i) (xo17 : Vec Ideal S1x2048 .f32) (xo18 xo19 : Vec Ideal S1024x1024 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 = biasB x0 x1 x2 x3 x4 x5 x6 x7 x8 x9 x10 xo17 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19)]
  unfold kernelRun0_B
  dsimp only
  sl_unfold_words
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  simp only [dhc1, dout1, dsum1, dza1, dgc1, dga1, accc1, acca1, dyc1, dya1, dhc2, dout2, dsum2, dza2, dgc2, dga2, accc2, acca2, dyc2, dya2]
  simp only [cov_left, cov_right]
  exact bias_row x0 x1 x2 x3 x4 x5 x6 x7 x8 x9 x10 _ _ _ xo17

theorem out_B_18 (hc0 : ¬cond0_0 i) (xo17 : Vec Ideal S1x2048 .f32) (xo18 xo19 : Vec Ideal S1024x1024 .f32) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 = dwocB x0 x1 x2 x3 x4 x5 x6 x7 x8 x9 x10 x11 xo18 := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19)]
  unfold kernelRun0_B
  dsimp only
  sl_unfold_words
  rw [View.canon_unit_zero (S := S1024x1024) hz2]
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  simp only [dhc1, dout1, dsum1, dza1, dgc1, dga1, accc1, acca1, dyc1, dya1, dhc2, dout2, dsum2, dza2, dgc2, dga2, accc2, acca2, dyc2, dya2]
  rw [cov_rows x0 x4 x5 x6 x7 x9 x10 _ (Merge.dyc (wts x1 x2 x3 x8)) _ _ (fun l d => dyc_apply (sl x0 0) (sl x4 0) (sl x5 0) (sl x6 0) (sl x7 0) (sl x9 0) (sl x10 0) x1 x2 x3 x8 l d) (fun l d => dyc_apply (sl x0 256) (sl x4 256) (sl x5 256) (sl x6 256) (sl x7 256) (sl x9 256) (sl x10 256) x1 x2 x3 x8 l d)]
  exact dwoc_eq x0 x1 x2 x3 x4 x5 x6 x7 x8 x9 x10 x11 xo18

theorem out_B_19 (hc0 : ¬cond0_0 i) (xo17 : Vec Ideal S1x2048 .f32) (xo18 xo19 : Vec Ideal S1024x1024 .f32) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 = dwoaB x0 x1 x2 x3 x4 x5 x6 x7 x8 x9 x10 x12 xo19 := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19)]
  unfold kernelRun0_B
  dsimp only
  sl_unfold_words
  rw [View.canon_unit_zero (S := S1024x1024) hz2]
  simp only [readRows, readHalf]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S1024x1024) hz2, View.ld_unit_zero (S := S1x2048) hz2, View.ld_unit_zero (S := S1024x512) hz2]
  simp only [dhc1, dout1, dsum1, dza1, dgc1, dga1, accc1, acca1, dyc1, dya1, dhc2, dout2, dsum2, dza2, dgc2, dga2, accc2, acca2, dyc2, dya2]
  rw [cov_rows x0 x4 x5 x6 x7 x9 x10 _ (Merge.dya (wts x1 x2 x3 x8)) _ _ (fun l d => dya_apply (sl x0 0) (sl x4 0) (sl x5 0) (sl x6 0) (sl x7 0) (sl x9 0) (sl x10 0) x1 x2 x3 x8 l d) (fun l d => dya_apply (sl x0 256) (sl x4 256) (sl x5 256) (sl x6 256) (sl x7 256) (sl x9 256) (sl x10 256) x1 x2 x3 x8 l d)]
  exact dwoa_eq x0 x1 x2 x3 x4 x5 x6 x7 x8 x9 x10 x12 xo19

end Cases

end Cert.Kernel5Ideal.Own
-- ==== Proof.MergeRef.lean ====
module

public import proofs.«01_k».proof.Proof.MergeMath
public import proofs.«01_k».proof.Proof.Gen.Reference5Ideal.Read
public import Idealize.ShloMosaic.Lib.KernelVsHost

@[expose] public section

set_option maxRecDepth 16384

noncomputable section

/-! # The reference, read entry by entry -/

namespace Cert.MergeRef

open Cert.Reference5Ideal Cert.Reference5Ideal.Read Idealize.ShloMosaic Cert.Conv
open Cert.Merge (Row Weights)

variable (x0 : Vec Ideal S4096x1024 .bf16) (x1 x2 x3 : Vec Ideal S1024x1024 .bf16) (x4 x5 : Vec Ideal S4096x1024 .bf16)
  (x6 : Vec Ideal S4096x10240 .bf16) (x7 : Vec Ideal S2048 .f32)

/-- A row of the arrays that the branches meet in. -/
def row (n : Fin 4096) : Row :=
  ⟨fun d => x0 (ix2 n d), fun d => val_main_v10 (F := Ideal) x2 x4 (ix2 n d), fun d => val_main_v13 (F := Ideal) x3 x5 x6 (ix2 n d),
    fun d => x6 (ix2 n ⟨8192 + d.val, by omega⟩), fun d => x6 (ix2 n ⟨9216 + d.val, by omega⟩), fun d => x5 (ix2 n d),
    fun d => x6 (ix2 n ⟨7168 + d.val, by omega⟩)⟩

/-- The weights and the bias. -/
def wt : Weights := ⟨x1, x2, x3, fun d => x7 (ix1 ⟨d.val, by omega⟩), fun d => x7 (ix1 ⟨1024 + d.val, by omega⟩)⟩

variable (n : Fin 4096) (d : Fin 1024)

theorem under {z : (⟨S4096x1024, .f32⟩ : BufTy).Contents (Elt Ideal)} {i : S4096x1024.Idx} (hi : i = ix2 n d) : z i = z (ix2 n d) := congrArg z hi

/-- The words of one and of zero. -/
theorem one_word : (FloatOps.ofBits (F := Ideal) .f32 0x3F800000#32 : EReal) = 1 := Ideal.ofBits_one_f32
theorem zero_word : (FloatOps.ofBits (F := Ideal) .f32 0x00000000#32 : EReal) = 0 := Ideal.ofBits_zero_f32

theorem v7_at : val_main_v7 (F := Ideal) x6 (ix2 n d) = x6 (ix2 n ⟨7168 + d.val, by omega⟩) := by
  rw [val_main_v7_apply, val_main_v6_apply]
  refine congrArg x6 (funext fun a => Fin.ext ?_)
  match a with
  | ⟨0, _⟩ => rfl
  | ⟨1, _⟩ => rfl

theorem v8_at : val_main_v8 (F := Ideal) x6 (ix2 n d) = x6 (ix2 n ⟨8192 + d.val, by omega⟩) := by
  rw [val_main_v8_apply, val_main_v6_apply]
  refine congrArg x6 (funext fun a => Fin.ext ?_)
  match a with
  | ⟨0, _⟩ => rfl
  | ⟨1, _⟩ => rfl

theorem v9_at : val_main_v9 (F := Ideal) x6 (ix2 n d) = x6 (ix2 n ⟨9216 + d.val, by omega⟩) := by
  rw [val_main_v9_apply, val_main_v6_apply]
  refine congrArg x6 (funext fun a => Fin.ext ?_)
  match a with
  | ⟨0, _⟩ => rfl
  | ⟨1, _⟩ => rfl

theorem v16_at : val_main_v16 (F := Ideal) x7 (ix2 n d) = x7 (ix1 ⟨d.val, by omega⟩) := by
  rw [val_main_v16_apply, val_main_v15_apply, val_main_v14_apply]
  refine congrArg x7 (funext fun a => Fin.ext ?_)
  match a with
  | ⟨0, _⟩ => rfl

theorem v29_at : val_main_v29 (F := Ideal) x7 (ix2 n d) = x7 (ix1 ⟨1024 + d.val, by omega⟩) := by
  rw [val_main_v29_apply, val_main_v28_apply, val_main_v27_apply]
  refine congrArg x7 (funext fun a => Fin.ext ?_)
  match a with
  | ⟨0, _⟩ => rfl

/-- The sigmoid of the attention's gate. -/
theorem sgz_at : val_main_v11_2 (F := Ideal) x6 (ix2 n d) = sg (x6 (ix2 n ⟨7168 + d.val, by omega⟩)) := by
  rw [val_main_v11_2_apply, val_main_call0_v4_apply, val_main_call0_v3_apply, val_main_call0_v2_apply, val_main_call0_v1_apply,
    val_main_call0_v0_apply, v7_at, val_main_call0_cst_apply, val_main_call0_cst_0_apply, one_word, sg_eq]
  rfl

/-- The two gates. -/
theorem gc_at : val_main_v23 (F := Ideal) x6 x7 (ix2 n d) = Merge.gc (wt x1 x2 x3 x7) (row x0 x2 x3 x4 x5 x6 n) d := by
  unfold Merge.gc
  rw [val_main_v23_apply, val_main_v22_apply, val_main_v21_apply, val_main_v20_apply, val_main_v19_apply, val_main_v18_apply, val_main_v17_apply,
    v8_at, v16_at, val_main_cst_apply, val_main_cst_0_apply, one_word, sg_eq]
  rfl

theorem ga_at : val_main_v36 (F := Ideal) x6 x7 (ix2 n d) = Merge.ga (wt x1 x2 x3 x7) (row x0 x2 x3 x4 x5 x6 n) d := by
  unfold Merge.ga
  rw [val_main_v36_apply, val_main_v35_apply, val_main_v34_apply, val_main_v33_apply, val_main_v32_apply, val_main_v31_apply, val_main_v30_apply,
    v9_at, v29_at, val_main_cst_2_apply, val_main_cst_3_apply, one_word, sg_eq]
  rfl

theorem dm_at : val_main_v44 (F := Ideal) x0 x1 (ix2 n d) = Merge.dm (wt x1 x2 x3 x7) (row x0 x2 x3 x4 x5 x6 n) d := by
  rw [val_main_v44_apply]
  unfold Merge.dm Merge.back
  refine Finset.sum_congr rfl fun k _ => ?_
  rw [val_main_v0_apply, val_main_v1_apply]
  refine congrArg₂ (· * ·) (congrArg x0 ?_) (congrArg x1 ?_)
  · funext a; match a with
    | ⟨0, _⟩ => rfl
    | ⟨1, _⟩ => rfl
  · funext a; match a with
    | ⟨0, _⟩ => rfl
    | ⟨1, _⟩ => rfl

theorem dyc_at : val_main_v47 (F := Ideal) x0 x1 x6 x7 (ix2 n d) = Merge.dyc (wt x1 x2 x3 x7) (row x0 x2 x3 x4 x5 x6 n) d := by
  rw [val_main_v47_apply, gc_at x0 x1 x2 x3 x4 x5, dm_at x0 x1 x2 x3 x4 x5 x6 x7]
  exact mul_comm _ _

theorem dya_at : val_main_v45 (F := Ideal) x0 x1 x6 x7 (ix2 n d) = Merge.dya (wt x1 x2 x3 x7) (row x0 x2 x3 x4 x5 x6 n) d := by
  rw [val_main_v45_apply, ga_at x0 x1 x2 x3 x4 x5, dm_at x0 x1 x2 x3 x4 x5 x6 x7]
  exact mul_comm _ _

theorem dgc_at : val_main_v54 (F := Ideal) x0 x1 x2 x4 x6 x7 (ix2 n d) = Merge.dgc (wt x1 x2 x3 x7) (row x0 x2 x3 x4 x5 x6 n) d := by
  rw [val_main_v54_apply, val_main_v48_apply, val_main_v26_apply, val_main_v25_apply, val_main_v24_apply, val_main_cst_1_apply, one_word,
    gc_at x0 x1 x2 x3 x4 x5, dm_at x0 x1 x2 x3 x4 x5 x6 x7]
  exact (mul_assoc _ _ _).symm

theorem dga_at : val_main_v49 (F := Ideal) x0 x1 x3 x5 x6 x7 (ix2 n d) = Merge.dga (wt x1 x2 x3 x7) (row x0 x2 x3 x4 x5 x6 n) d := by
  rw [val_main_v49_apply, val_main_v46_apply, val_main_v39_apply, val_main_v38_apply, val_main_v37_apply, val_main_cst_4_apply, one_word,
    ga_at x0 x1 x2 x3 x4 x5, dm_at x0 x1 x2 x3 x4 x5 x6 x7]
  exact (mul_assoc _ _ _).symm

theorem dhc_at : val_main_v75 (F := Ideal) x0 x1 x2 x6 x7 (ix2 n d) = Merge.dhc (wt x1 x2 x3 x7) (row x0 x2 x3 x4 x5 x6 n) d := by
  rw [val_main_v75_apply, val_main_v68_apply]
  unfold Merge.dhc Merge.back
  refine Finset.sum_congr rfl fun k _ => congrArg₂ (· * ·) ?_ ?_
  · refine (under n k (funext fun a => ?_)).trans (dyc_at x0 x1 x2 x3 x4 x5 x6 x7 n k)
    match a with
    | ⟨0, _⟩ => rfl
    | ⟨1, _⟩ => rfl
  · rw [val_main_v2_apply]
    exact congrArg x2 (funext fun a => match a with | ⟨0, _⟩ => rfl | ⟨1, _⟩ => rfl)

theorem dha_at : val_main_v62 (F := Ideal) x0 x1 x3 x6 x7 (ix2 n d) = Merge.dha (wt x1 x2 x3 x7) (row x0 x2 x3 x4 x5 x6 n) d := by
  rw [val_main_v62_apply]
  unfold Merge.dha Merge.back
  refine Finset.sum_congr rfl fun k _ => congrArg₂ (· * ·) ?_ ?_
  · refine (under n k (funext fun a => ?_)).trans (dya_at x0 x1 x2 x3 x4 x5 x6 x7 n k)
    match a with
    | ⟨0, _⟩ => rfl
    | ⟨1, _⟩ => rfl
  · rw [val_main_v3_apply]
    exact congrArg x3 (funext fun a => match a with | ⟨0, _⟩ => rfl | ⟨1, _⟩ => rfl)

theorem dout_at : val_main_v63 (F := Ideal) x0 x1 x3 x6 x7 (ix2 n d) = Merge.dout (wt x1 x2 x3 x7) (row x0 x2 x3 x4 x5 x6 n) d := by
  rw [val_main_v63_apply, val_main_v11_0_apply, dha_at x0 x1 x2 x3 x4 x5, v7_at, sgz_at]
  exact (mul_comm _ _).trans (mul_assoc _ _ _).symm

theorem dza_at (h : Merge.Real' (wt x1 x2 x3 x7) (row x0 x2 x3 x4 x5 x6 n)) :
    val_main_v65 (F := Ideal) x0 x1 x3 x5 x6 x7 (ix2 n d) = Merge.dza (wt x1 x2 x3 x7) (row x0 x2 x3 x4 x5 x6 n) d := by
  rw [Merge.dza_eq h, val_main_v65_apply, val_main_call1_v1_apply, val_main_call1_v2_apply, val_main_call1_v0_apply, val_main_v64_apply,
    val_main_v5_apply, val_main_v11_1_apply, val_main_call0_v7_apply, val_main_call0_v6_apply, val_main_call0_cst_1_apply, one_word,
    dha_at x0 x1 x2 x3 x4 x5, v7_at, sgz_at]
  rfl

theorem prod_at : val_main_v69 (F := Ideal) x0 x1 x3 x5 x6 x7 (ix2 n d) = Merge.prod (wt x1 x2 x3 x7) (row x0 x2 x3 x4 x5 x6 n) d := by
  rw [val_main_v69_apply, dout_at x0 x1 x2 x3 x4 x5, val_main_v5_apply]
  rfl

theorem dsum_at (l : Fin 128) : val_main_v74 (F := Ideal) x0 x1 x3 x5 x6 x7 (ix2 n l) = Merge.dsum (wt x1 x2 x3 x7) (row x0 x2 x3 x4 x5 x6 n) l := by
  have hn := n.isLt
  have hl := l.isLt
  rw [val_main_v74_apply, val_main_v73_apply, val_main_v72_apply, val_main_v71_apply, val_main_cst_11_apply, zero_word, zero_add]
  unfold Merge.dsum
  refine Finset.sum_congr rfl fun j _ => ?_
  rw [val_main_v70_apply, ← prod_at x0 x1 x2 x3 x4 x5 x6 x7]
  have hj := j.isLt
  refine congrArg (val_main_v69 (F := Ideal) x0 x1 x3 x5 x6 x7) (funext fun a => Fin.ext ?_)
  match a with
  | ⟨0, _⟩ => show (((n.val * 128 + l.val) / 128 * 16 + (n.val * 128 + l.val) / 8 % 16) * 64 + j.val) / 1024 = n.val; omega
  | ⟨1, _⟩ => show (((n.val * 128 + l.val) / 128 * 16 + (n.val * 128 + l.val) / 8 % 16) * 64 + j.val) % 1024 = 64 * (l.val / 8) + j.val; omega

/-- Three arrays, one after the other along a new first axis. -/
theorem cat3 (y0 y1 y2 : S1x4096x1024.Idx → EReal)
    (h : Shape.Concatenates ([⟨S1x4096x1024, y0⟩, ⟨S1x4096x1024, y1⟩, ⟨S1x4096x1024, y2⟩].map
      fun z : (s : Shape) × (s.Idx → EReal) => z.1) S3x4096x1024 0) (p : Fin 3) :
    concatenate S3x4096x1024 0 [⟨S1x4096x1024, y0⟩, ⟨S1x4096x1024, y1⟩, ⟨S1x4096x1024, y2⟩] h (ix3 p n d)
      = (match p with | 0 => y0 | 1 => y1 | 2 => y2) (ix3 0 n d) := by
  have hb : ∀ b : Fin S1x4096x1024.rank, b.cast rfl ≠ (0 : Fin S3x4096x1024.rank)
      → ((ix3 (0 : Fin 1) n d : S1x4096x1024.Idx) b).val = ((ix3 p n d : S3x4096x1024.Idx) (b.cast rfl)).val := by
    intro b hb
    match b with
    | ⟨0, _⟩ => exact absurd rfl hb
    | ⟨1, _⟩ => rfl
    | ⟨2, _⟩ => rfl
  match p with
  | 0 => exact concatenate_apply_piece 0 _ h _ 0 (by simp) S1x4096x1024 y0 rfl rfl 0 rfl (ix3 0 n d) hb rfl
  | 1 => exact concatenate_apply_piece 0 _ h _ 1 (by simp) S1x4096x1024 y1 rfl rfl 1 rfl (ix3 0 n d) hb rfl
  | 2 => exact concatenate_apply_piece 0 _ h _ 2 (by simp) S1x4096x1024 y2 rfl rfl 2 rfl (ix3 0 n d) hb rfl

/-- The three gradients that are handed on, one under the other. -/
theorem part_at (p : Fin 3) (h : Merge.Real' (wt x1 x2 x3 x7) (row x0 x2 x3 x4 x5 x6 n)) :
    val_main_v81 (F := Ideal) x0 x1 x2 x3 x4 x5 x6 x7 (ix3 p n d)
      = (match p with | 0 => Merge.dza | 1 => Merge.dgc | 2 => Merge.dga) (wt x1 x2 x3 x7) (row x0 x2 x3 x4 x5 x6 n) d := by
  rw [val_main_v81_apply]
  unfold val_main_v80
  refine (cat3 n d _ _ _ _ p).trans ?_
  match p with
  | 0 =>
    refine (val_main_v77_apply x0 x1 x3 x5 x6 x7 _).trans ((under n d (funext fun a => ?_)).trans (dza_at x0 x1 x2 x3 x4 x5 x6 x7 n d h))
    match a with
    | ⟨0, _⟩ => rfl
    | ⟨1, _⟩ => rfl
  | 1 =>
    refine (val_main_v78_apply x0 x1 x2 x4 x6 x7 _).trans ((under n d (funext fun a => ?_)).trans (dgc_at x0 x1 x2 x3 x4 x5 x6 x7 n d))
    match a with
    | ⟨0, _⟩ => rfl
    | ⟨1, _⟩ => rfl
  | 2 =>
    refine (val_main_v79_apply x0 x1 x3 x5 x6 x7 _).trans ((under n d (funext fun a => ?_)).trans (dga_at x0 x1 x2 x3 x4 x5 x6 x7 n d))
    match a with
    | ⟨0, _⟩ => rfl
    | ⟨1, _⟩ => rfl

/-! ## The bias and the two weights -/

theorem sumc_at : val_main_v57 (F := Ideal) x0 x1 x2 x4 x6 x7 (ix1 d) = ∑ m : Fin 4096, Merge.dgc (wt x1 x2 x3 x7) (row x0 x2 x3 x4 x5 x6 m) d := by
  rw [val_main_v57_apply, val_main_cst_9_apply, zero_word, zero_add, Fin.sum_univ_one, val_main_v56_apply, val_main_v55_apply, val_main_cst_8_apply,
    zero_word, zero_add]
  refine Finset.sum_congr rfl fun m _ => (under m d (funext fun a => Fin.ext ?_)).trans (dgc_at x0 x1 x2 x3 x4 x5 x6 x7 m d)
  match a with
  | ⟨0, _⟩ => rfl
  | ⟨1, _⟩ => show 0 * 1024 + d.val = d.val; omega

theorem suma_at : val_main_v52 (F := Ideal) x0 x1 x3 x5 x6 x7 (ix1 d) = ∑ m : Fin 4096, Merge.dga (wt x1 x2 x3 x7) (row x0 x2 x3 x4 x5 x6 m) d := by
  rw [val_main_v52_apply, val_main_cst_6_apply, zero_word, zero_add, Fin.sum_univ_one, val_main_v51_apply, val_main_v50_apply, val_main_cst_5_apply,
    zero_word, zero_add]
  refine Finset.sum_congr rfl fun m _ => (under m d (funext fun a => Fin.ext ?_)).trans (dga_at x0 x1 x2 x3 x4 x5 x6 x7 m d)
  match a with
  | ⟨0, _⟩ => rfl
  | ⟨1, _⟩ => show 0 * 1024 + d.val = d.val; omega

/-- A vector with a stretch of padding before or after it. -/
theorem pad_vec {lo hi : ℕ} {S : Shape} (x : S1024.Idx → EReal) (v : S.Idx → EReal) (h : S1024.Pads ![lo] ![hi] ![0] S2048) (hu : 0 < S.numel)
    (r : Fin 2048) :
    pad S2048 ![lo] ![hi] ![0] x v h hu (ix1 r) = if hr : lo ≤ r.val ∧ r.val - lo < 1024 then x (ix1 ⟨r.val - lo, hr.2⟩) else v (Shape.Idx.first hu) := by
  by_cases hr : lo ≤ r.val ∧ r.val - lo < 1024
  · rw [dif_pos hr]
    refine pad_apply_of_inside _ _ _ x v h hu _ _ fun a => ?_
    match a with
    | ⟨0, _⟩ => show r.val = lo + (r.val - lo) * 1; omega
  · rw [dif_neg hr]
    unfold pad
    refine dif_neg fun hin => hr ?_
    have h0 := hin 0
    have h1 : lo ≤ r.val := h0.1
    have h2 : (r.val - lo) / 1 < 1024 := h0.2.2
    rw [Nat.div_one] at h2
    exact ⟨h1, h2⟩

theorem bias_at (r : Fin 2048) :
    val_main_v82 (F := Ideal) x0 x1 x2 x3 x4 x5 x6 x7 (ix2 0 r)
      = if r.val < 1024 then ∑ m : Fin 4096, Merge.dgc (wt x1 x2 x3 x7) (row x0 x2 x3 x4 x5 x6 m) ⟨r.val % 1024, Nat.mod_lt _ (by norm_num)⟩
        else ∑ m : Fin 4096, Merge.dga (wt x1 x2 x3 x7) (row x0 x2 x3 x4 x5 x6 m) ⟨r.val % 1024, Nat.mod_lt _ (by norm_num)⟩ := by
  have hr := r.isLt
  rw [val_main_v82_apply]
  have hi : idx_main_v82 (ix2 0 r) = ix1 r := funext fun a => Fin.ext (by
    match a with
    | ⟨0, _⟩ => show 0 * 2048 + r.val = r.val; omega)
  rw [hi]
  · rw [val_main_v59_apply]
    have hp : val_main_v53 (F := Ideal) x0 x1 x3 x5 x6 x7 (ix1 r) = _ := pad_vec _ _ _ _ r
    have hq : val_main_v58 (F := Ideal) x0 x1 x2 x4 x6 x7 (ix1 r) = _ := pad_vec _ _ _ _ r
    rw [hp, hq]
    by_cases h : r.val < 1024
    · rw [if_pos h, dif_neg (by omega), dif_pos ⟨by omega, by omega⟩, val_main_cst_7_apply, zero_word]
      refine (zero_add _).trans ((congrArg _ (congrArg ix1 (Fin.ext ?_))).trans (sumc_at x0 x1 x2 x3 x4 x5 x6 x7 _))
      show r.val - 0 = r.val % 1024
      omega
    · rw [if_neg h, dif_pos ⟨by omega, by omega⟩, dif_neg (by omega), val_main_cst_10_apply, zero_word]
      refine (add_zero _).trans ((congrArg _ (congrArg ix1 (Fin.ext ?_))).trans (suma_at x0 x1 x2 x3 x4 x5 x6 x7 _))
      show r.val - 1024 = r.val % 1024
      omega

theorem dwoc_at (k : Fin 1024) : val_main_v67 (F := Ideal) x0 x1 x4 x6 x7 (ix2 k d)
    = ∑ m : Fin 4096, x4 (ix2 m k) * Merge.dyc (wt x1 x2 x3 x7) (row x0 x2 x3 x4 x5 x6 m) d := by
  rw [val_main_v67_apply, val_main_v66_apply]
  refine Finset.sum_congr rfl fun m _ => ?_
  refine (mul_comm _ _).trans (congrArg₂ (· * ·) ?_ ((under m d (funext fun a => ?_)).trans (dyc_at x0 x1 x2 x3 x4 x5 x6 x7 m d)))
  · rw [val_main_v4_apply]
    exact congrArg x4 (funext fun a => match a with | ⟨0, _⟩ => rfl | ⟨1, _⟩ => rfl)
  · match a with
    | ⟨0, _⟩ => rfl
    | ⟨1, _⟩ => rfl

theorem dwoa_at (k : Fin 1024) : val_main_v61 (F := Ideal) x0 x1 x5 x6 x7 (ix2 k d)
    = ∑ m : Fin 4096, val_main_v12 (F := Ideal) x5 x6 (ix2 m k) * Merge.dya (wt x1 x2 x3 x7) (row x0 x2 x3 x4 x5 x6 m) d := by
  rw [val_main_v61_apply, val_main_v60_apply]
  refine Finset.sum_congr rfl fun m _ => ?_
  refine (mul_comm _ _).trans (congrArg₂ (· * ·) ?_ ((under m d (funext fun a => ?_)).trans (dya_at x0 x1 x2 x3 x4 x5 x6 x7 m d)))
  · exact congrArg (val_main_v12 (F := Ideal) x5 x6) (funext fun a => match a with | ⟨0, _⟩ => rfl | ⟨1, _⟩ => rfl)
  · match a with
    | ⟨0, _⟩ => rfl
    | ⟨1, _⟩ => rfl

end Cert.MergeRef
-- ==== Proof.MergeKernel.lean ====
module

public import proofs.«01_k».proof.Proof.MergeBodyA
public import proofs.«01_k».proof.Proof.MergeBodyB
public import proofs.«01_k».proof.Proof.MergeRef

@[expose] public section

set_option maxRecDepth 16384

noncomputable section

namespace Cert.Kernel5Ideal.Own

open Cert.Kernel5Ideal Cert.Kernel5Ideal.Gen Idealize.ShloMosaic Idealize.ShloMosaic.TcCoe Idealize.SL.Sem
open Cert.Merge (Row Weights)
open Idealize.ShloMosaic.Pipeline (Dat)

/-! ## The results as arrays, row by row -/

section Arrays

variable (x0 : S4096x1024.Idx → EReal) (x1 x2 x3 : S1024x1024.Idx → EReal) (x4 x5 : S4096x1024.Idx → EReal) (x6 : S4096x10240.Idx → EReal)
  (x7 : S2048.Idx → EReal)

def dhcArr : S4096x1024.Idx → EReal := fun y => Merge.dhc (MergeRef.wt x1 x2 x3 x7) (MergeRef.row x0 x2 x3 x4 x5 x6 (y 0)) (y 1)
def doutArr : S4096x1024.Idx → EReal := fun y => Merge.dout (MergeRef.wt x1 x2 x3 x7) (MergeRef.row x0 x2 x3 x4 x5 x6 (y 0)) (y 1)
def dsumArr : S4096x128.Idx → EReal := fun y => Merge.ksum (MergeRef.wt x1 x2 x3 x7) (MergeRef.row x0 x2 x3 x4 x5 x6 (y 0)) headsV (y 1)
def partArr : S3x4096x1024.Idx → EReal := fun y =>
  if (y 0).val = 0 then Merge.dza (MergeRef.wt x1 x2 x3 x7) (MergeRef.row x0 x2 x3 x4 x5 x6 (y 1)) (y 2) else if (y 0).val = 1 then Merge.dgc (MergeRef.wt x1 x2 x3 x7) (MergeRef.row x0 x2 x3 x4 x5 x6 (y 1)) (y 2) else Merge.dga (MergeRef.wt x1 x2 x3 x7) (MergeRef.row x0 x2 x3 x4 x5 x6 (y 1)) (y 2)

/-- A row's term of the bias's gradient. -/
def biasTerm (r : Fin 2048) (n : Fin 4096) : EReal :=
  if r.val < 1024 then Merge.dgc (MergeRef.wt x1 x2 x3 x7) (MergeRef.row x0 x2 x3 x4 x5 x6 n) ⟨r.val % 1024, Nat.mod_lt _ (by norm_num)⟩ else Merge.dga (MergeRef.wt x1 x2 x3 x7) (MergeRef.row x0 x2 x3 x4 x5 x6 n) ⟨r.val % 1024, Nat.mod_lt _ (by norm_num)⟩

def biasArr : S1x2048.Idx → EReal := fun y => ∑ n : Fin 4096, biasTerm x0 x1 x2 x3 x4 x5 x6 x7 (y 1) n

/-- A row's term of the gradients of the two weights. -/
def dwocTerm (k d : Fin 1024) (n : Fin 4096) : EReal := x4 (ix2 n k) * Merge.dyc (MergeRef.wt x1 x2 x3 x7) (MergeRef.row x0 x2 x3 x4 x5 x6 n) d
def dwoaTerm (k d : Fin 1024) (n : Fin 4096) : EReal := Cert.Reference5Ideal.Read.val_main_v12 (F := Ideal) x5 x6 (ix2 n k) * Merge.dya (MergeRef.wt x1 x2 x3 x7) (MergeRef.row x0 x2 x3 x4 x5 x6 n) d
def dwocArr : S1024x1024.Idx → EReal := fun y => ∑ n : Fin 4096, dwocTerm x0 x1 x2 x3 x4 x5 x6 x7 (y 0) (y 1) n
def dwoaArr : S1024x1024.Idx → EReal := fun y => ∑ n : Fin 4096, dwoaTerm x0 x1 x2 x3 x4 x5 x6 x7 (y 0) (y 1) n

end Arrays

variable (m : (ℓ : Loc nD τ sig) → Buf (Elt Ideal) ℓ)

/-! ## What the host prepares -/

/-- The products that the forward pass forms, as the reference forms them. -/
theorem yc_eq (c : Dev nD) : V m c main_v9 = Cert.Reference5Ideal.Read.val_main_v10 (F := Ideal) (m ((c : Thread nD τ).loc main_arg2)) (m ((c : Thread nD τ).loc main_arg4)) := by
  entry_read
  rfl

theorem ya_eq (c : Dev nD) : V m c main_v13 = Cert.Reference5Ideal.Read.val_main_v13 (F := Ideal) (m ((c : Thread nD τ).loc main_arg3)) (m ((c : Thread nD τ).loc main_arg5)) (m ((c : Thread nD τ).loc main_arg6)) := by
  entry_read
  rfl

theorem bias_read (c : Dev nD) (r : Fin 2048) : V m c main_v14 (ix2 0 r) = (m ((c : Thread nD τ).loc main_arg7)) (ix1 r) := by
  entry_read
  refine shapeCast_apply _ _ (ix2 0 r) (ix1 r) ?_
  rw [Shape.rowMajor_val_one, Shape.rowMajor_val_two]
  show r.val = 0 * 2048 + r.val
  omega

theorem hct_read (c : Dev nD) (k : Fin 1024) (n : Fin 4096) : V m c main_v15 (ix2 k n) = (m ((c : Thread nD τ).loc main_arg4)) (ix2 n k) := by
  entry_read
  exact transpose_apply [1, 0] _ _ (ix2 k n) (ix2 n k) (fun b => match b with
    | ⟨0, _⟩ => rfl
    | ⟨1, _⟩ => rfl)

theorem ha_eq (c : Dev nD) : V m c main_v5 = Cert.Reference5Ideal.Read.val_main_v12 (F := Ideal) (m ((c : Thread nD τ).loc main_arg5)) (m ((c : Thread nD τ).loc main_arg6)) := by
  entry_read
  rfl

theorem hat_eq (c : Dev nD) : V m c main_v16 = transpose S1024x4096 [1, 0] (V m c main_v5) transposes_S4096x1024_S1024x4096_1_0 := rfl

theorem hat_read (c : Dev nD) (k : Fin 1024) (n : Fin 4096) : V m c main_v16 (ix2 k n) = Cert.Reference5Ideal.Read.val_main_v12 (F := Ideal) (m ((c : Thread nD τ).loc main_arg5)) (m ((c : Thread nD τ).loc main_arg6)) (ix2 n k) := by
  rw [hat_eq, ha_eq]
  exact transpose_apply [1, 0] _ _ (ix2 k n) (ix2 n k) (fun b => match b with
    | ⟨0, _⟩ => rfl
    | ⟨1, _⟩ => rfl)

/-! ## What the blocks of a grid point hold -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 8] := (by decide +kernel : ∀ t : Fin grid0.N, _)
theorem index7 : ∀ t : Fin cfg0.N, win0_7.index t = ![t.val, 9] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 7] := (by decide +kernel : ∀ t : Fin grid0.N, _)
theorem index11 : ∀ t : Fin cfg0.N, win0_11.index t = ![0, t.val] := (by decide +kernel : ∀ t : Fin grid0.N, _)
theorem index12 : ∀ t : Fin cfg0.N, win0_12.index t = ![0, t.val] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![t.val, 0] := (by decide +kernel : ∀ t : Fin grid0.N, _)
theorem index15 : ∀ t : Fin cfg0.N, win0_15.index t = ![t.val, 0] := (by decide +kernel : ∀ t : Fin grid0.N, _)
theorem index16 : ∀ t : Fin cfg0.N, win0_16.index t = ![0, t.val, 0] := (by decide +kernel : ∀ t : Fin grid0.N, _)
theorem index17 : ∀ t : Fin cfg0.N, win0_17.index t = ![0, 0] := (by decide +kernel : ∀ t : Fin grid0.N, _)
theorem index18 : ∀ t : Fin cfg0.N, win0_18.index t = ![0, 0] := (by decide +kernel : ∀ t : Fin grid0.N, _)
theorem index19 : ∀ t : Fin cfg0.N, win0_19.index t = ![0, 0] := (by decide +kernel : ∀ t : Fin grid0.N, _)

/-- Row `l` of block `t` among all rows. -/
def rowOf (t : Fin cfg0.N) (l : Fin 512) : Fin 4096 := ⟨512 * t.val + l.val, by have ht : t.val < 8 := t.isLt; omega⟩

theorem block0 (c : Dev nD) (t : Fin cfg0.N) (l : Fin 512) (q : Fin 1024) : iblk m c 0 t (ix2 l q) = (m ((c : Thread nD τ).loc main_arg0)) (ix2 (rowOf t l) q) := by
  refine Eq.trans ?_ (congrFun (V_main_arg0 m c) _)
  blk_simp [iblk]
  refine congrArg (V m c main_arg0) ?_
  blk_ext [index0, rowOf]

theorem block1 (c : Dev nD) (t : Fin cfg0.N) : iblk m c 1 t = (m ((c : Thread nD τ).loc main_arg1)) := by
  funext y
  refine Eq.trans ?_ (congrFun (V_main_arg1 m c) _)
  blk_simp [iblk]
  refine congrArg (V m c main_arg1) ?_
  blk_ext [index1]

theorem block2 (c : Dev nD) (t : Fin cfg0.N) : iblk m c 2 t = (m ((c : Thread nD τ).loc main_arg2)) := by
  funext y
  refine Eq.trans ?_ (congrFun (V_main_arg2 m c) _)
  blk_simp [iblk]
  refine congrArg (V m c main_arg2) ?_
  blk_ext [index2]

theorem block3 (c : Dev nD) (t : Fin cfg0.N) : iblk m c 3 t = (m ((c : Thread nD τ).loc main_arg3)) := by
  funext y
  refine Eq.trans ?_ (congrFun (V_main_arg3 m c) _)
  blk_simp [iblk]
  refine congrArg (V m c main_arg3) ?_
  blk_ext [index3]

theorem block4 (c : Dev nD) (t : Fin cfg0.N) (l : Fin 512) (q : Fin 1024) : iblk m c 4 t (ix2 l q) = Cert.Reference5Ideal.Read.val_main_v10 (F := Ideal) (m ((c : Thread nD τ).loc main_arg2)) (m ((c : Thread nD τ).loc main_arg4)) (ix2 (rowOf t l) q) := by
  refine Eq.trans ?_ (congrFun (yc_eq m c) _)
  blk_simp [iblk]
  refine congrArg (V m c main_v9) ?_
  blk_ext [index4, rowOf]

theorem block5 (c : Dev nD) (t : Fin cfg0.N) (l : Fin 512) (q : Fin 1024) : iblk m c 5 t (ix2 l q) = Cert.Reference5Ideal.Read.val_main_v13 (F := Ideal) (m ((c : Thread nD τ).loc main_arg3)) (m ((c : Thread nD τ).loc main_arg5)) (m ((c : Thread nD τ).loc main_arg6)) (ix2 (rowOf t l) q) := by
  refine Eq.trans ?_ (congrFun (ya_eq m c) _)
  blk_simp [iblk]
  refine congrArg (V m c main_v13) ?_
  blk_ext [index5, rowOf]

theorem block6 (c : Dev nD) (t : Fin cfg0.N) (l : Fin 512) (q : Fin 1024) : iblk m c 6 t (ix2 l q) = (m ((c : Thread nD τ).loc main_arg6)) (ix2 (rowOf t l) ⟨8192 + q.val, by omega⟩) := by
  refine Eq.trans ?_ (congrFun (V_main_arg6 m c) _)
  blk_simp [iblk]
  refine congrArg (V m c main_arg6) ?_
  blk_ext [index6, rowOf]

theorem block7 (c : Dev nD) (t : Fin cfg0.N) (l : Fin 512) (q : Fin 1024) : iblk m c 7 t (ix2 l q) = (m ((c : Thread nD τ).loc main_arg6)) (ix2 (rowOf t l) ⟨9216 + q.val, by omega⟩) := by
  refine Eq.trans ?_ (congrFun (V_main_arg6 m c) _)
  blk_simp [iblk]
  refine congrArg (V m c main_arg6) ?_
  blk_ext [index7, rowOf]

theorem block10 (c : Dev nD) (t : Fin cfg0.N) (l : Fin 512) (q : Fin 1024) : iblk m c 10 t (ix2 l q) = (m ((c : Thread nD τ).loc main_arg6)) (ix2 (rowOf t l) ⟨7168 + q.val, by omega⟩) := by
  refine Eq.trans ?_ (congrFun (V_main_arg6 m c) _)
  blk_simp [iblk]
  refine congrArg (V m c main_arg6) ?_
  blk_ext [index10, rowOf]

theorem block8 (c : Dev nD) (t : Fin cfg0.N) (r : Fin 2048) : iblk m c 8 t (ix2 0 r) = (m ((c : Thread nD τ).loc main_arg7)) (ix1 r) := by
  refine Eq.trans ?_ (bias_read m c r)
  blk_simp [iblk]
  refine congrArg (V m c main_v14) ?_
  blk_ext [index8, rowOf]

theorem block9 (c : Dev nD) (t : Fin cfg0.N) (l : Fin 512) (q : Fin 1024) : iblk m c 9 t (ix2 l q) = (m ((c : Thread nD τ).loc main_arg5)) (ix2 (rowOf t l) q) := by
  refine Eq.trans ?_ (congrFun (V_main_arg5 m c) _)
  blk_simp [iblk]
  refine congrArg (V m c main_arg5) ?_
  blk_ext [index9, rowOf]

theorem block11 (c : Dev nD) (t : Fin cfg0.N) (k : Fin 1024) (l : Fin 512) : iblk m c 11 t (ix2 k l) = (m ((c : Thread nD τ).loc main_arg4)) (ix2 (rowOf t l) k) := by
  refine Eq.trans ?_ (hct_read m c k (rowOf t l))
  blk_simp [iblk]
  refine congrArg (V m c main_v15) ?_
  blk_ext [index11, rowOf]

theorem block12 (c : Dev nD) (t : Fin cfg0.N) (k : Fin 1024) (l : Fin 512) : iblk m c 12 t (ix2 k l) = Cert.Reference5Ideal.Read.val_main_v12 (F := Ideal) (m ((c : Thread nD τ).loc main_arg5)) (m ((c : Thread nD τ).loc main_arg6)) (ix2 (rowOf t l) k) := by
  refine Eq.trans ?_ (hat_read m c k (rowOf t l))
  blk_simp [iblk]
  refine congrArg (V m c main_v16) ?_
  blk_ext [index12, rowOf]

/-- A row of a block is a row of the arguments. -/
theorem row_eq (c : Dev nD) (t : Fin cfg0.N) (l : Fin 512) :
    rowB (iblk m c 0 t) (iblk m c 4 t) (iblk m c 5 t) (iblk m c 6 t) (iblk m c 7 t) (iblk m c 9 t) (iblk m c 10 t) l = MergeRef.row (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (rowOf t l) :=
  (Row.mk.injEq ..).mpr ⟨funext fun d => block0 m c t l d, funext fun d => block4 m c t l d, funext fun d => block5 m c t l d, funext fun d => block6 m c t l d,
    funext fun d => block7 m c t l d, funext fun d => block9 m c t l d, funext fun d => block10 m c t l d⟩

theorem wts_eq (c : Dev nD) (t : Fin cfg0.N) : wts (iblk m c 1 t) (iblk m c 2 t) (iblk m c 3 t) (iblk m c 8 t) = MergeRef.wt (m ((c : Thread nD τ).loc main_arg1)) (m ((c : Thread nD τ).loc main_arg2)) (m ((c : Thread nD τ).loc main_arg3)) (m ((c : Thread nD τ).loc main_arg7)) := by
  rw [block1, block2, block3]
  exact (Weights.mk.injEq ..).mpr ⟨rfl, rfl, rfl, funext fun d => block8 m c t _, funext fun d => block8 m c t _⟩

/-! ## What the body leaves at a point -/

theorem outs13 (c : Dev nD) (t : Fin cfg0.N) : (outsAt0 m c t.val t.isLt).1 = dhcB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [outsAt0_A m c t h]
    dsimp only
    rw [out_A_13]
  · rw [outsAt0_B m c t h]
    dsimp only
    rw [out_B_13]

theorem outs14 (c : Dev nD) (t : Fin cfg0.N) : (outsAt0 m c t.val t.isLt).2.1 = doutB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [outsAt0_A m c t h]
    dsimp only
    rw [out_A_14]
  · rw [outsAt0_B m c t h]
    dsimp only
    rw [out_B_14]

theorem outs15 (c : Dev nD) (t : Fin cfg0.N) : (outsAt0 m c t.val t.isLt).2.2.1 = dsumB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [outsAt0_A m c t h]
    dsimp only
    rw [out_A_15]
  · rw [outsAt0_B m c t h]
    dsimp only
    rw [out_B_15]

theorem outs16 (c : Dev nD) (t : Fin cfg0.N) : (outsAt0 m c t.val t.isLt).2.2.2.1 = partB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [outsAt0_A m c t h]
    dsimp only
    rw [out_A_16]
  · rw [outsAt0_B m c t h]
    dsimp only
    rw [out_B_16]

theorem outs17_A (c : Dev nD) (t : Fin cfg0.N) (h : t.val % 8 = 0) : (outsAt0 m c t.val t.isLt).2.2.2.2.1 = biasB (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay4 (F := Ideal)) := by
  rw [outsAt0_A m c t h]
  dsimp only
  rw [out_A_17]

theorem outs17_B (c : Dev nD) (t : Fin cfg0.N) (h : ¬t.val % 8 = 0) :
    (outsAt0 m c t.val t.isLt).2.2.2.2.1 = biasB (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (by have := t.isLt; omega)).2.2.2.2.1 := by
  rw [outsAt0_B m c t h]
  dsimp only
  rw [out_B_17]

theorem outs18_A (c : Dev nD) (t : Fin cfg0.N) (h : t.val % 8 = 0) : (outsAt0 m c t.val t.isLt).2.2.2.2.2.1 = dwocB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (k0_pay5 (F := Ideal)) := by
  rw [outsAt0_A m c t h]
  dsimp only
  rw [out_A_18]

theorem outs18_B (c : Dev nD) (t : Fin cfg0.N) (h : ¬t.val % 8 = 0) :
    (outsAt0 m c t.val t.isLt).2.2.2.2.2.1 = dwocB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (by have := t.isLt; omega)).2.2.2.2.2.1 := by
  rw [outsAt0_B m c t h]
  dsimp only
  rw [out_B_18]

theorem outs19_A (c : Dev nD) (t : Fin cfg0.N) (h : t.val % 8 = 0) : (outsAt0 m c t.val t.isLt).2.2.2.2.2.2 = dwoaB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 12 t) (k0_pay6 (F := Ideal)) := by
  rw [outsAt0_A m c t h]
  dsimp only
  rw [out_A_19]

theorem outs19_B (c : Dev nD) (t : Fin cfg0.N) (h : ¬t.val % 8 = 0) :
    (outsAt0 m c t.val t.isLt).2.2.2.2.2.2 = dwoaB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 12 t) (outsAt0 m c (t.val - 1) (by have := t.isLt; omega)).2.2.2.2.2.2 := by
  rw [outsAt0_B m c t h]
  dsimp only
  rw [out_B_19]

/-! ## Sums kept over the grid -/

/-- Terms by their row's number. -/
def byNumber (f : Fin 4096 → EReal) (i : ℕ) : EReal := f ⟨i % 4096, by omega⟩

theorem chunk (f : Fin 4096 → EReal) (t : Fin cfg0.N) : ∑ l : Fin 512, f (rowOf t l) = ∑ l ∈ Finset.range 512, byNumber f (512 * t.val + l) := by
  rw [← Fin.sum_univ_eq_sum_range (fun l => byNumber f (512 * t.val + l)) 512]
  refine Finset.sum_congr rfl fun l _ => congrArg f (Fin.ext ?_)
  have ht : t.val < 8 := t.isLt
  have hl := l.isLt
  show 512 * t.val + l.val = (512 * t.val + l.val) % 4096
  omega

theorem sum_upto (f : Fin 4096 → EReal) (a : (n : ℕ) → n < cfg0.N → EReal) (h0 : ∀ h : 0 < cfg0.N, a 0 h = ∑ l : Fin 512, f (rowOf ⟨0, h⟩ l))
    (hs : ∀ (n : ℕ) (h : n + 1 < cfg0.N), a (n + 1) h = a n (Nat.lt_of_succ_lt h) + ∑ l : Fin 512, f (rowOf ⟨n + 1, h⟩ l)) :
    ∀ (n : ℕ) (h : n < cfg0.N), a n h = ∑ i ∈ Finset.range (512 * (n + 1)), byNumber f i
  | 0, h => by
    rw [h0 h, chunk]
    simp only [Nat.mul_zero, Nat.zero_add, Nat.mul_one]
  | n + 1, h => by
    rw [hs n h, chunk, sum_upto f a h0 hs n (Nat.lt_of_succ_lt h), show 512 * (n + 1 + 1) = 512 * (n + 1) + 512 from rfl, Finset.sum_range_add]

/-- A sum that starts at the first block and to which each block adds its rows ends as the sum over all rows. -/
theorem sum_all (f : Fin 4096 → EReal) (a : (n : ℕ) → n < cfg0.N → EReal) (h0 : ∀ h : 0 < cfg0.N, a 0 h = ∑ l : Fin 512, f (rowOf ⟨0, h⟩ l))
    (hs : ∀ (n : ℕ) (h : n + 1 < cfg0.N), a (n + 1) h = a n (Nat.lt_of_succ_lt h) + ∑ l : Fin 512, f (rowOf ⟨n + 1, h⟩ l)) (h7 : 7 < cfg0.N) :
    a 7 h7 = ∑ n : Fin 4096, f n := by
  rw [sum_upto f a h0 hs 7 h7, show 512 * (7 + 1) = 4096 from rfl, ← Fin.sum_univ_eq_sum_range (fun i => byNumber f i) 4096]
  refine Finset.sum_congr rfl fun s _ => congrArg f (Fin.ext ?_)
  have hs := s.isLt
  show s.val % 4096 = s.val
  omega

theorem biasB_at (c : Dev nD) (t : Fin cfg0.N) (acc : Vec Ideal S1x2048 .f32) (r : Fin 2048) :
    biasB (iblk m c 0 t) (iblk m c 1 t) (iblk m c 2 t) (iblk m c 3 t) (iblk m c 4 t) (iblk m c 5 t) (iblk m c 6 t) (iblk m c 7 t) (iblk m c 8 t) (iblk m c 9 t) (iblk m c 10 t) acc (ix2 0 r) = acc (ix2 0 r) + ∑ l : Fin 512, biasTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r (rowOf t l) := by
  unfold biasB biasTerm
  rw [wts_eq m c t]
  simp only [row_eq m c t]
  exact congrArg (acc (ix2 0 r) + ·) (Finset.sum_congr rfl fun l _ => rfl)

/-- What the buffer holds after the last point. -/
theorem bias_last (c : Dev nD) (r : Fin 2048) (h7 : 7 < cfg0.N) : (outsAt0 m c 7 h7).2.2.2.2.1 (ix2 0 r) = ∑ n : Fin 4096, biasTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r n := by
  refine sum_all (biasTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r) (fun n h => (outsAt0 m c n h).2.2.2.2.1 (ix2 0 r)) (fun h => ?_) (fun n h => ?_) h7
  · refine (congrFun (outs17_A m c ⟨0, h⟩ rfl) _).trans ((biasB_at m c ⟨0, h⟩ _ r).trans ?_)
    refine Eq.trans (congrArg (· + _) (Ideal.ofBits_zero_f32)) ?_
    rw [zero_add]
  · have h8 : n + 1 < 8 := h
    exact (congrFun (outs17_B m c ⟨n + 1, h⟩ (by dsimp only; omega)) _).trans (biasB_at m c ⟨n + 1, h⟩ _ r)

theorem dwocB_at (c : Dev nD) (t : Fin cfg0.N) (acc : Vec Ideal S1024x1024 .f32) (k d : Fin 1024) :
    dwocB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) acc (ix2 k d) = acc (ix2 k d) + ∑ l : Fin 512, dwocTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) k d (rowOf t l) := by
  unfold dwocB dwocTerm
  rw [wts_eq m c t]
  simp only [row_eq m c t]
  exact congrArg (acc (ix2 k d) + ·) (Finset.sum_congr rfl fun l _ => congrArg (· * _) (block11 m c t k l))

/-- What the buffer holds after the last point. -/
theorem dwoc_last (c : Dev nD) (k d : Fin 1024) (h7 : 7 < cfg0.N) : (outsAt0 m c 7 h7).2.2.2.2.2.1 (ix2 k d) = ∑ n : Fin 4096, dwocTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) k d n := by
  refine sum_all (dwocTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) k d) (fun n h => (outsAt0 m c n h).2.2.2.2.2.1 (ix2 k d)) (fun h => ?_) (fun n h => ?_) h7
  · refine (congrFun (outs18_A m c ⟨0, h⟩ rfl) _).trans ((dwocB_at m c ⟨0, h⟩ _ k d).trans ?_)
    refine Eq.trans (congrArg (· + _) (Ideal.ofBits_zero_f32)) ?_
    rw [zero_add]
  · have h8 : n + 1 < 8 := h
    exact (congrFun (outs18_B m c ⟨n + 1, h⟩ (by dsimp only; omega)) _).trans (dwocB_at m c ⟨n + 1, h⟩ _ k d)

theorem dwoaB_at (c : Dev nD) (t : Fin cfg0.N) (acc : Vec Ideal S1024x1024 .f32) (k d : Fin 1024) :
    dwoaB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 12 t) acc (ix2 k d) = acc (ix2 k d) + ∑ l : Fin 512, dwoaTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) k d (rowOf t l) := by
  unfold dwoaB dwoaTerm
  rw [wts_eq m c t]
  simp only [row_eq m c t]
  exact congrArg (acc (ix2 k d) + ·) (Finset.sum_congr rfl fun l _ => congrArg (· * _) (block12 m c t k l))

/-- What the buffer holds after the last point. -/
theorem dwoa_last (c : Dev nD) (k d : Fin 1024) (h7 : 7 < cfg0.N) : (outsAt0 m c 7 h7).2.2.2.2.2.2 (ix2 k d) = ∑ n : Fin 4096, dwoaTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) k d n := by
  refine sum_all (dwoaTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) k d) (fun n h => (outsAt0 m c n h).2.2.2.2.2.2 (ix2 k d)) (fun h => ?_) (fun n h => ?_) h7
  · refine (congrFun (outs19_A m c ⟨0, h⟩ rfl) _).trans ((dwoaB_at m c ⟨0, h⟩ _ k d).trans ?_)
    refine Eq.trans (congrArg (· + _) (Ideal.ofBits_zero_f32)) ?_
    rw [zero_add]
  · have h8 : n + 1 < 8 := h
    exact (congrFun (outs19_B m c ⟨n + 1, h⟩ (by dsimp only; omega)) _).trans (dwoaB_at m c ⟨n + 1, h⟩ _ k d)

/-! ## The results after the run -/

theorem dhc_point (c : Dev nD) (t : Fin cfg0.N) (l : Fin 512) (e : Fin 1024) :
    (outsAt0 m c t.val t.isLt).1 (ix2 l e) = dhcArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (rowOf t l) e) := by
  refine (congrFun (outs13 m c t) (ix2 l e)).trans (Eq.trans (b := Merge.dhc (wts (iblk m c 1 t) (iblk m c 2 t) (iblk m c 3 t) (iblk m c 8 t)) (rowB (iblk m c 0 t) (iblk m c 4 t) (iblk m c 5 t) (iblk m c 6 t) (iblk m c 7 t) (iblk m c 9 t) (iblk m c 10 t) l) e) rfl ?_)
  rw [wts_eq m c t, row_eq m c t l]
  rfl

theorem final13 (c : Dev nD) : (dats m 0 c).arrAt 13 cfg0.N = dhcArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t hf y => ?_
  blk_simp
  rw [after0_13]
  have ht : t.val < 8 := t.isLt
  obtain ⟨l, e, rfl⟩ : ∃ (l : Fin 512) (e : Fin 1024), y = ix2 l e := ⟨y 0, y 1, by blk_ext []⟩
  refine (dhc_point m c t l e).trans (congrArg (dhcArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  blk_ext [index13, rowOf]

theorem dout_point (c : Dev nD) (t : Fin cfg0.N) (l : Fin 512) (e : Fin 1024) :
    (outsAt0 m c t.val t.isLt).2.1 (ix2 l e) = doutArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (rowOf t l) e) := by
  refine (congrFun (outs14 m c t) (ix2 l e)).trans (Eq.trans (b := Merge.dout (wts (iblk m c 1 t) (iblk m c 2 t) (iblk m c 3 t) (iblk m c 8 t)) (rowB (iblk m c 0 t) (iblk m c 4 t) (iblk m c 5 t) (iblk m c 6 t) (iblk m c 7 t) (iblk m c 9 t) (iblk m c 10 t) l) e) rfl ?_)
  rw [wts_eq m c t, row_eq m c t l]
  rfl

theorem final14 (c : Dev nD) : (dats m 0 c).arrAt 14 cfg0.N = doutArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 14 _ (by decide +kernel) fun t hf y => ?_
  blk_simp
  rw [after0_14]
  have ht : t.val < 8 := t.isLt
  obtain ⟨l, e, rfl⟩ : ∃ (l : Fin 512) (e : Fin 1024), y = ix2 l e := ⟨y 0, y 1, by blk_ext []⟩
  refine (dout_point m c t l e).trans (congrArg (doutArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  blk_ext [index14, rowOf]

theorem dsum_point (c : Dev nD) (t : Fin cfg0.N) (l : Fin 512) (e : Fin 128) :
    (outsAt0 m c t.val t.isLt).2.2.1 (ix2 l e) = dsumArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (rowOf t l) e) := by
  refine (congrFun (outs15 m c t) (ix2 l e)).trans (Eq.trans (b := Merge.ksum (wts (iblk m c 1 t) (iblk m c 2 t) (iblk m c 3 t) (iblk m c 8 t)) (rowB (iblk m c 0 t) (iblk m c 4 t) (iblk m c 5 t) (iblk m c 6 t) (iblk m c 7 t) (iblk m c 9 t) (iblk m c 10 t) l) headsV e) rfl ?_)
  rw [wts_eq m c t, row_eq m c t l]
  rfl

theorem final15 (c : Dev nD) : (dats m 0 c).arrAt 15 cfg0.N = dsumArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  have ht : t.val < 8 := t.isLt
  obtain ⟨l, e, rfl⟩ : ∃ (l : Fin 512) (e : Fin 128), y = ix2 l e := ⟨y 0, y 1, by blk_ext []⟩
  refine (dsum_point m c t l e).trans (congrArg (dsumArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  blk_ext [index15, rowOf]

theorem part_point (c : Dev nD) (t : Fin cfg0.N) (p : Fin 3) (l : Fin 512) (e : Fin 1024) :
    (outsAt0 m c t.val t.isLt).2.2.2.1 (ix3 p l e) = partArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 p (rowOf t l) e) := by
  refine (congrFun (outs16 m c t) (ix3 p l e)).trans (Eq.trans (b := if p.val = 0 then Merge.dza (wts (iblk m c 1 t) (iblk m c 2 t) (iblk m c 3 t) (iblk m c 8 t)) (rowB (iblk m c 0 t) (iblk m c 4 t) (iblk m c 5 t) (iblk m c 6 t) (iblk m c 7 t) (iblk m c 9 t) (iblk m c 10 t) l) e else if p.val = 1 then Merge.dgc (wts (iblk m c 1 t) (iblk m c 2 t) (iblk m c 3 t) (iblk m c 8 t)) (rowB (iblk m c 0 t) (iblk m c 4 t) (iblk m c 5 t) (iblk m c 6 t) (iblk m c 7 t) (iblk m c 9 t) (iblk m c 10 t) l) e
    else Merge.dga (wts (iblk m c 1 t) (iblk m c 2 t) (iblk m c 3 t) (iblk m c 8 t)) (rowB (iblk m c 0 t) (iblk m c 4 t) (iblk m c 5 t) (iblk m c 6 t) (iblk m c 7 t) (iblk m c 9 t) (iblk m c 10 t) l) e) rfl ?_)
  rw [wts_eq m c t, row_eq m c t l]
  rfl

theorem final16 (c : Dev nD) : (dats m 0 c).arrAt 16 cfg0.N = partArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 16 _ (by decide +kernel) fun t hf y => ?_
  blk_simp
  rw [after0_16]
  have ht : t.val < 8 := t.isLt
  obtain ⟨p, l, e, rfl⟩ : ∃ (p : Fin 3) (l : Fin 512) (e : Fin 1024), y = ix3 p l e := ⟨y 0, y 1, y 2, by blk_ext []⟩
  refine (part_point m c t p l e).trans (congrArg (partArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  blk_ext [index16, rowOf]

theorem final17 (c : Dev nD) : (dats m 0 c).arrAt 17 cfg0.N = biasArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 17 t0_7 (by decide +kernel) _ (fun y => ?_)
  blk_simp
  rw [after0_17]
  obtain ⟨r, rfl⟩ : ∃ r : Fin 2048, y = ix2 0 r := ⟨y 1, by blk_ext []⟩
  refine (bias_last m c r t0_7.isLt).trans ?_
  refine Eq.trans (?_ : _ = biasArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 0 r)) (congrArg (biasArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  · rfl
  · blk_ext [index17]

theorem final18 (c : Dev nD) : (dats m 0 c).arrAt 18 cfg0.N = dwocArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 18 t0_7 (by decide +kernel) _ (fun y => ?_)
  blk_simp
  rw [after0_18]
  obtain ⟨k, d, rfl⟩ : ∃ (k d : Fin 1024), y = ix2 k d := ⟨y 0, y 1, by blk_ext []⟩
  refine (dwoc_last m c k d t0_7.isLt).trans ?_
  refine Eq.trans (?_ : _ = dwocArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 k d)) (congrArg (dwocArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  · rfl
  · blk_ext [index18]

theorem final19 (c : Dev nD) : (dats m 0 c).arrAt 19 cfg0.N = dwoaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 19 t0_7 (by decide +kernel) _ (fun y => ?_)
  blk_simp
  rw [after0_19]
  obtain ⟨k, d, rfl⟩ : ∃ (k d : Fin 1024), y = ix2 k d := ⟨y 0, y 1, by blk_ext []⟩
  refine (dwoa_last m c k d t0_7.isLt).trans ?_
  refine Eq.trans (?_ : _ = dwoaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 k d)) (congrArg (dwoaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  · rfl
  · blk_ext [index19]

end Cert.Kernel5Ideal.Own

end
-- ==== Proof.FiniteMerge.lean ====
module

public import proofs.«01_k».proof.Proof.Finite
public import proofs.«01_k».proof.Pre_finite_merge

@[expose] public section

set_option maxRecDepth 16384

noncomputable section

namespace Cert.Pre_finite_merge.Own

open Cert.Pre_finite_merge Idealize.ShloMosaic
open Cert.Pre_finite.Own (inf_word real_of_lt)

/-- The shape facts of the printed precondition. -/
instance facts : Facts where
  bitsLt_bf16_f32 := by decide
  bcast_S_S4096x1024 := by decide
  reducesTo_S4096x1024_S_d0_1 := by decide
  h_S_ := by decide
  bcast_S_S1024x1024 := by decide
  reducesTo_S1024x1024_S_d0_1 := by decide
  bcast_S_S4096x10240 := by decide
  reducesTo_S4096x10240_S_d0_1 := by decide
  bcast_S_S2048 := by decide
  reducesTo_S2048_S_d0 := by decide

variable [Facts]

/-- Where the precondition holds, every entry of the arguments that the proof needs is a real number. -/
theorem finite (x0 : S4096x1024.Idx → EReal) (x1 x2 x3 : S1024x1024.Idx → EReal) (x4 x5 : S4096x1024.Idx → EReal) (x6 : S4096x10240.Idx → EReal)
    (x7 : S2048.Idx → EReal) (j : S_.Idx) (h : fn (F := Ideal) x0 x1 x2 x3 x4 x5 x6 x7 j = 1#1) :
    (∀ i, Conv.Fin' (x0 i)) ∧ (∀ i, Conv.Fin' (x1 i)) ∧ (∀ i, Conv.Fin' (x3 i)) ∧ (∀ i, Conv.Fin' (x5 i)) ∧ (∀ i, Conv.Fin' (x6 i)) ∧
      ∀ i, Conv.Fin' (x7 i) := by
  haveI : Subsingleton S_.Idx := ⟨fun a b => funext fun k => k.elim0⟩
  unfold fn fn_part1 at h
  obtain ⟨h, h7⟩ := IntOp.andi_eq_one.1 h
  obtain ⟨h, h6⟩ := IntOp.andi_eq_one.1 h
  obtain ⟨h, h5⟩ := IntOp.andi_eq_one.1 h
  obtain ⟨h, h3⟩ := IntOp.andi_eq_one.1 h
  obtain ⟨h0, h1⟩ := IntOp.andi_eq_one.1 h
  refine ⟨fun i => real_of_lt _ ?_, fun i => real_of_lt _ ?_, fun i => real_of_lt _ ?_, fun i => real_of_lt _ ?_, fun i => real_of_lt _ ?_,
    fun i => real_of_lt _ ?_⟩
  · have := Host.reduce_andi_all _ _ _ _ j h0 i
    rw [← inf_word]; exact this
  · have := Host.reduce_andi_all _ _ _ _ j h1 i
    rw [← inf_word]; exact this
  · have := Host.reduce_andi_all _ _ _ _ j h3 i
    rw [← inf_word]; exact this
  · have := Host.reduce_andi_all _ _ _ _ j h5 i
    rw [← inf_word]; exact this
  · have := Host.reduce_andi_all _ _ _ _ j h6 i
    rw [← inf_word]; exact this
  · have := Host.reduce_andi_all _ _ _ _ j h7 i
    rw [← inf_word]; exact this

end Cert.Pre_finite_merge.Own

end
-- ==== Proof.MergeClaim.lean ====
module

public import proofs.«01_k».proof.Defs
public import proofs.«01_k».proof.Proof.MergeKernel
public import proofs.«01_k».proof.Proof.FiniteMerge
public import proofs.«01_k».proof.Proof.Gen.Reference5Ideal.Run
public import Idealize.ShloMosaic.Lib.Quiescent

@[expose] public section

set_option maxRecDepth 16384

noncomputable section

namespace Cert.MergeClaim

open Idealize.ShloMosaic Idealize.ShloMosaic.TcCoe Idealize.SL.Sem
open Cert.Conv (Fin')

/-! ## The claims about the backward call of the merge -/

/-- The reference runs, keeps its arguments, and declares no semaphore. -/
theorem frame_ref : Cert.quiescent_Reference5Ideal := fun m g _ =>
  (θ_run Cert.Reference5Ideal.defs _ _).mono (fun r h => ⟨fun c => (h c).2.2.2.2.2.2.2, sem_eq_zero_of_no_sems (by decide) r.2⟩)
    (Cert.Reference5Ideal.Value.run (F := Ideal) m g)

/-- A two-axis index is its coordinates. -/
theorem eta2 {a b : ℕ} (y : (⟨2, ![a, b]⟩ : Shape).Idx) : y = ix2 (y 0) (y 1) :=
  funext fun | ⟨0, _⟩ => rfl | ⟨1, _⟩ => rfl

/-- An index of one row is its column. -/
theorem eta1 {b : ℕ} (y : (⟨2, ![1, b]⟩ : Shape).Idx) : y = ix2 0 (y 1) :=
  funext fun | ⟨0, _⟩ => Subsingleton.elim (α := Fin 1) _ _ | ⟨1, _⟩ => rfl

/-- A three-axis index is its coordinates. -/
theorem eta3 {a b d : ℕ} (y : (⟨3, ![a, b, d]⟩ : Shape).Idx) : y = ix3 (y 0) (y 1) (y 2) :=
  funext fun | ⟨0, _⟩ => rfl | ⟨1, _⟩ => rfl | ⟨2, _⟩ => rfl

variable (x0 : Cert.Kernel5Ideal.S4096x1024.Idx → EReal) (x1 x2 x3 : Cert.Kernel5Ideal.S1024x1024.Idx → EReal) (x4 x5 : Cert.Kernel5Ideal.S4096x1024.Idx → EReal)
  (x6 : Cert.Kernel5Ideal.S4096x10240.Idx → EReal) (x7 : Cert.Kernel5Ideal.S2048.Idx → EReal)

/-- Where the arguments are real numbers, so is all that a row's gradients are computed from. -/
theorem real_row (h0 : ∀ i, Fin' (x0 i)) (h1 : ∀ i, Fin' (x1 i)) (h3 : ∀ i, Fin' (x3 i)) (h5 : ∀ i, Fin' (x5 i)) (h6 : ∀ i, Fin' (x6 i))
    (h7 : ∀ i, Fin' (x7 i)) (n : Fin 4096) : Merge.Real' (MergeRef.wt x1 x2 x3 x7) (MergeRef.row x0 x2 x3 x4 x5 x6 n) where
  dh _ := h0 _
  pa _ := h6 _
  o _ := h5 _
  z _ := h6 _
  wo _ := h1 _
  woa _ := h3 _
  ba _ := h7 _

/-- The gradient with respect to the convolution's branch. -/
theorem dhc_eq : Cert.Reference5Ideal.Read.val_main_v75 (F := Ideal) x0 x1 x2 x6 x7 = Cert.Kernel5Ideal.Own.dhcArr x0 x1 x2 x3 x4 x5 x6 x7 := by
  funext y
  obtain ⟨n, d, rfl⟩ : ∃ (n : Fin 4096) (d : Fin 1024), y = ix2 n d := ⟨y 0, y 1, eta2 y⟩
  exact MergeRef.dhc_at x0 x1 x2 x3 x4 x5 x6 x7 n d

/-- The gradient with respect to the attention's output. -/
theorem dout_eq : Cert.Reference5Ideal.Read.val_main_v76 (F := Ideal) x0 x1 x3 x6 x7 = Cert.Kernel5Ideal.Own.doutArr x0 x1 x2 x3 x4 x5 x6 x7 := by
  funext y
  obtain ⟨n, d, rfl⟩ : ∃ (n : Fin 4096) (d : Fin 1024), y = ix2 n d := ⟨y 0, y 1, eta2 y⟩
  exact MergeRef.dout_at x0 x1 x2 x3 x4 x5 x6 x7 n d

/-- The sums over a head, of real numbers. -/
theorem dsum_eq (h : ∀ n, Merge.Real' (MergeRef.wt x1 x2 x3 x7) (MergeRef.row x0 x2 x3 x4 x5 x6 n)) :
    Cert.Reference5Ideal.Read.val_main_v74 (F := Ideal) x0 x1 x3 x5 x6 x7 = Cert.Kernel5Ideal.Own.dsumArr x0 x1 x2 x3 x4 x5 x6 x7 := by
  funext y
  obtain ⟨n, l, rfl⟩ : ∃ (n : Fin 4096) (l : Fin 128), y = ix2 n l := ⟨y 0, y 1, eta2 y⟩
  refine (MergeRef.dsum_at x0 x1 x2 x3 x4 x5 x6 x7 n l).trans ?_
  exact (Merge.ksum_eq (h n) Cert.Kernel5Ideal.Own.headsV Cert.Kernel5Ideal.Own.headsV_apply l).symm

/-- The gradients with respect to the three parts of the projection, of real numbers. -/
theorem part_eq (h : ∀ n, Merge.Real' (MergeRef.wt x1 x2 x3 x7) (MergeRef.row x0 x2 x3 x4 x5 x6 n)) :
    Cert.Reference5Ideal.Read.val_main_v81 (F := Ideal) x0 x1 x2 x3 x4 x5 x6 x7 = Cert.Kernel5Ideal.Own.partArr x0 x1 x2 x3 x4 x5 x6 x7 := by
  funext y
  obtain ⟨p, n, d, rfl⟩ : ∃ (p : Fin 3) (n : Fin 4096) (d : Fin 1024), y = ix3 p n d := ⟨y 0, y 1, y 2, eta3 y⟩
  refine (MergeRef.part_at x0 x1 x2 x3 x4 x5 x6 x7 n d p (h n)).trans ?_
  match p with
  | 0 => rfl
  | 1 => rfl
  | 2 => rfl

/-- The gradient with respect to the bias. -/
theorem bias_eq : Cert.Reference5Ideal.Read.val_main_v82 (F := Ideal) x0 x1 x2 x3 x4 x5 x6 x7 = Cert.Kernel5Ideal.Own.biasArr x0 x1 x2 x3 x4 x5 x6 x7 := by
  funext y
  obtain ⟨r, rfl⟩ : ∃ r : Fin 2048, y = ix2 0 r := ⟨y 1, eta1 y⟩
  refine (MergeRef.bias_at x0 x1 x2 x3 x4 x5 x6 x7 r).trans ?_
  show _ = ∑ n : Fin 4096, Cert.Kernel5Ideal.Own.biasTerm x0 x1 x2 x3 x4 x5 x6 x7 r n
  unfold Cert.Kernel5Ideal.Own.biasTerm
  by_cases hr : r.val < 1024
  · simp only [if_pos hr]
  · simp only [if_neg hr]

/-- The gradients with respect to the two weights. -/
theorem dwoc_eq : Cert.Reference5Ideal.Read.val_main_v67 (F := Ideal) x0 x1 x4 x6 x7 = Cert.Kernel5Ideal.Own.dwocArr x0 x1 x2 x3 x4 x5 x6 x7 := by
  funext y
  obtain ⟨k, d, rfl⟩ : ∃ (k d : Fin 1024), y = ix2 k d := ⟨y 0, y 1, eta2 y⟩
  exact MergeRef.dwoc_at x0 x1 x2 x3 x4 x5 x6 x7 d k

theorem dwoa_eq : Cert.Reference5Ideal.Read.val_main_v61 (F := Ideal) x0 x1 x5 x6 x7 = Cert.Kernel5Ideal.Own.dwoaArr x0 x1 x2 x3 x4 x5 x6 x7 := by
  funext y
  obtain ⟨k, d, rfl⟩ : ∃ (k d : Fin 1024), y = ix2 k d := ⟨y 0, y 1, eta2 y⟩
  exact MergeRef.dwoa_at x0 x1 x2 x3 x4 x5 x6 x7 d k

set_option maxHeartbeats 2000000 in
/-- Kernel and reference end with equal results wherever every entry of the arguments is a real number. -/
theorem algebraic : Cert.algebraic_Kernel5Ideal_Reference5Ideal_pre_finite_merge := by
  intro m g m' g' hpre hargs
  refine ⟨fun c => Cert.Kernel5Ideal.Own.dhcArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)), fun c => Cert.Kernel5Ideal.Own.doutArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)), fun c => Cert.Kernel5Ideal.Own.dsumArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)), fun c => Cert.Kernel5Ideal.Own.partArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)), fun c => Cert.Kernel5Ideal.Own.biasArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)), fun c => Cert.Kernel5Ideal.Own.dwocArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)), fun c => Cert.Kernel5Ideal.Own.dwoaArr (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)), ?_, ?_⟩
  · refine (θ_run Cert.Kernel5Ideal.defs _ _).mono (fun r h c => ?_) (Cert.Kernel5Ideal.Value.run_blocks (F := Ideal) m g)
    obtain ⟨h13, h14, h15, h16, h17, h18, h19, h⟩ := h c
    exact ⟨h13.trans (Cert.Kernel5Ideal.Own.final13 m c), h14.trans (Cert.Kernel5Ideal.Own.final14 m c), h15.trans (Cert.Kernel5Ideal.Own.final15 m c), h16.trans (Cert.Kernel5Ideal.Own.final16 m c), h17.trans (Cert.Kernel5Ideal.Own.final17 m c), h18.trans (Cert.Kernel5Ideal.Own.final18 m c), h19.trans (Cert.Kernel5Ideal.Own.final19 m c), h⟩
  · refine (θ_run Cert.Reference5Ideal.defs _ _).mono (fun r h c => ?_) (Cert.Reference5Ideal.Value.run (F := Ideal) m' g')
    obtain ⟨e75, e76, e74, e81, e82, e67, e61, hk⟩ := h c
    obtain ⟨a0, a1, a2, a3, a4, a5, a6, a7⟩ := hargs c
    obtain ⟨f0, f1, f3, f5, f6, f7⟩ := Cert.Pre_finite_merge.Own.finite _ _ _ _ _ _ _ _ ix0 (congrFun (hpre c) _)
    refine ⟨e75.trans ?_, e76.trans ?_, e74.trans ?_, e81.trans ?_, e82.trans ?_, e67.trans ?_, e61.trans ?_, hk⟩
    · rw [Cert.Reference5Ideal.Read.val_main_v75_eq, a0, a1, a2, a6, a7]
      exact dhc_eq _ _ _ _ _ _ _ _
    · rw [Cert.Reference5Ideal.Read.val_main_v76_eq, a0, a1, a3, a6, a7]
      exact dout_eq _ _ _ _ _ _ _ _
    · rw [Cert.Reference5Ideal.Read.val_main_v74_eq, a0, a1, a3, a5, a6, a7]
      exact dsum_eq _ _ _ _ _ _ _ _ (real_row _ _ _ _ _ _ _ _ f0 f1 f3 f5 f6 f7)
    · rw [Cert.Reference5Ideal.Read.val_main_v81_eq, a0, a1, a2, a3, a4, a5, a6, a7]
      exact part_eq _ _ _ _ _ _ _ _ (real_row _ _ _ _ _ _ _ _ f0 f1 f3 f5 f6 f7)
    · rw [Cert.Reference5Ideal.Read.val_main_v82_eq, a0, a1, a2, a3, a4, a5, a6, a7]
      exact bias_eq _ _ _ _ _ _ _ _
    · rw [Cert.Reference5Ideal.Read.val_main_v67_eq, a0, a1, a4, a6, a7]
      exact dwoc_eq _ _ _ _ _ _ _ _
    · rw [Cert.Reference5Ideal.Read.val_main_v61_eq, a0, a1, a5, a6, a7]
      exact dwoa_eq _ _ _ _ _ _ _ _

end Cert.MergeClaim

end
-- ==== Proof.LossMath.lean ====
module

public import proofs.«01_k».proof.Proof.ConvSpec
public import proofs.«01_k».proof.Proof.InMath

@[expose] public section

noncomputable section

namespace Cert.Loss

open Idealize.ShloMosaic Cert.Conv
open Cert.Parts (width small width_eq small_eq)

/-! ## The merge, the norm and the loss of one row, and their gradients -/

/-- What a row takes: the two branches, the columns of the projection that the gates are computed from, the row that is
added to, and the target. -/
structure Row where
  (hc ha pc pa x t : Fin 1024 → EReal)

/-- The weights of the three projections, the two halves of the bias, and the norm's scale. -/
structure Weights where
  (woc woa wo : (⟨2, ![1024, 1024]⟩ : Shape).Idx → EReal)
  (bc ba g : Fin 1024 → EReal)

/-- A row times weights. -/
def times (v : Fin 1024 → EReal) (w : (⟨2, ![1024, 1024]⟩ : Shape).Idx → EReal) (d : Fin 1024) : EReal := ∑ k : Fin 1024, v k * w (ix2 k d)

/-- The factor of the mean over the columns, as a number of its own. -/
def inv : EReal := Ideal.ofBits .f32 0x3A800000#32

theorem inv_eq : inv = ((1 / 1024 : ℝ) : EReal) := by
  unfold inv; simp [Ideal.ofBits, Ideal.ieee, -EReal.coe_mul]; norm_num

/-- Every eighth row, from row `b` on. -/
theorem every_eighth (n : ℕ) (f : Fin (n * 8) → EReal) (b : Fin 8) :
    ∑ a : Fin n, f ⟨8 * a.val + b.val, by omega⟩ = ∑ l : Fin (n * 8), if l.val % 8 = b.val then f l else 0 := by
  rw [← Equiv.sum_comp finProdFinEquiv, Fintype.sum_prod_type]
  refine Finset.sum_congr rfl fun a _ => ?_
  refine Eq.trans ?_ (Finset.sum_eq_single (a := b) ?_ ?_).symm
  · have h : (finProdFinEquiv (a, b)).val % 8 = b.val := by
      show (b.val + 8 * a.val) % 8 = b.val
      omega
    rw [if_pos h]
    exact congrArg f (Fin.ext (show 8 * a.val + b.val = b.val + 8 * a.val by omega))
  · intro j _ hj
    refine if_neg fun h => hj (Fin.ext ?_)
    have h' : (j.val + 8 * a.val) % 8 = b.val := h
    omega
  · exact fun h => absurd (Finset.mem_univ b) h

variable (w : Weights) (r : Row)

def yc (d : Fin 1024) : EReal := times r.hc w.woc d
def ya (d : Fin 1024) : EReal := times r.ha w.woa d
def gc (d : Fin 1024) : EReal := sg (r.pc d + w.bc d)
def ga (d : Fin 1024) : EReal := sg (r.pa d + w.ba d)
def mg (d : Fin 1024) : EReal := gc w r d * yc w r d + ga w r d * ya w r d
def h2 (d : Fin 1024) : EReal := r.x d + times (mg w r) w.wo d

/-- The mean square, with the small number, and the reciprocal of its root. -/
def ms : EReal := Ideal.div (∑ j : Fin 1024, h2 w r j * h2 w r j) width + small
def rs : EReal := Ideal.rsqrt (ms w r)
def nrm (d : Fin 1024) : EReal := h2 w r d * rs w r
def err (d : Fin 1024) : EReal := nrm w r d * w.g d - r.t d
def sq (d : Fin 1024) : EReal := err w r d * err w r d

/-- The gradients: of the norm's result, of the scale's row, of the normalised row, and of the row. -/
def dy (d : Fin 1024) : EReal := err w r d * inv
def dg (d : Fin 1024) : EReal := dy w r d * nrm w r d
def dn (d : Fin 1024) : EReal := dy w r d * w.g d
def dh (d : Fin 1024) : EReal := rs w r * (dn w r d - nrm w r d * Ideal.div (∑ j : Fin 1024, dn w r j * nrm w r j) width)

/-- Differentiating the norm gives the same row. -/
theorem dh_eq (d : Fin 1024) :
    dh w r d = (dn w r d * rs w r
        + h2 w r d * Ideal.div ((∑ j, h2 w r j * dn w r j) * (((-(1 / 2) : ℝ) : EReal) * Ideal.div (rs w r) (ms w r))) width)
      + Ideal.div ((∑ j, h2 w r j * dn w r j) * (((-(1 / 2) : ℝ) : EReal) * Ideal.div (rs w r) (ms w r))) width * h2 w r d := by
  obtain ⟨e, he, hs⟩ := small_eq
  have h := Rms.back (dn w r) (h2 w r) 0 (ms w r) (rs w r) 1024 e (by norm_num) he (by unfold ms; rw [width_eq, hs]) rfl d
  rw [zero_add, zero_add] at h
  unfold dh nrm
  rw [width_eq]
  exact h

/-- Of a row's squared errors, the sum of those at the columns `d`, `128 + d`, and so on. -/
def sqs (d : Fin 128) : EReal := ∑ c : Fin 8, sq w r ⟨128 * c.val + d.val, by omega⟩

end Cert.Loss
-- ==== Proof.LossPoint.lean ====
module

public import proofs.«01_k».proof.Proof.LossMath
public import proofs.«01_k».proof.Proof.Gen.Kernel6Ideal.Skeleton
public import Idealize.ShloMosaic.Lib.MatmulPlain
public import Idealize.ShloMosaic.Lib.Pipeline.ValueKit
public import Idealize.ShloMosaic.Lib.Claim

@[expose] public section

set_option maxRecDepth 16384

noncomputable section

namespace Cert.Kernel6Ideal.Own

open Cert.Kernel6Ideal Cert.Kernel6Ideal.Gen Cert.Conv Idealize.ShloMosaic Idealize.ShloMosaic.TcCoe Idealize.SL.Sem
open Cert.Loss (Row Weights)

/-! ## The operations of one chain of 256 rows, entry by entry -/

theorem times_apply (a : FVec Ideal S256x1024 .bf16) (b : FVec Ideal S1024x1024 .bf16) (l : Fin 256) (k : Fin 1024) :
    matmul (F := Ideal) (φ₁ := .bf16) (φ₂ := .bf16) dot_S256x1024_S1024x1024_S256x1024_1_0_0_1_n_n none a b
      (constant (F := Ideal) S256x1024 .f32 0x00000000#32) (ix2 l k) = Loss.times (fun d => a (ix2 l d)) b k := by
  refine (Ideal.matmul_plain_apply none _ _ _ l k).trans ?_
  refine Eq.trans (congrArg (· + _) (Ideal.ofBits_zero_f32)) ?_
  rw [zero_add]
  rfl

/-- A product over the 512 rows of a block. -/
theorem outer_apply (a : FVec Ideal S1024x512 .bf16) (b : FVec Ideal S512x1024 .bf16) (l : Fin 1024) (k : Fin 1024) :
    matmul (F := Ideal) (φ₁ := .bf16) (φ₂ := .bf16) dot_S1024x512_S512x1024_S1024x1024_1_0_0_1_n_n none a b
      (constant (F := Ideal) S1024x1024 .f32 0x00000000#32) (ix2 l k) = ∑ d : Fin 512, a (ix2 l d) * b (ix2 d k) := by
  refine (Ideal.matmul_plain_apply none _ _ _ l k).trans ?_
  refine Eq.trans (congrArg (· + _) (Ideal.ofBits_zero_f32)) ?_
  rw [zero_add]
  rfl

/-- A chain's sum over its rows, as a row. -/
theorem sums_apply (v : FVec Ideal S256x1024 .f32) (k : Fin 1024) :
    (shapeCast S1x1024 (multiReduction .add [0] S1024 v 0x00000000#32 reduces_S256x1024_S1024 (.inl rfl) rfl) shapeCasts_S1024_S1x1024 : FVec Ideal S1x1024 .f32)
      (ix2 0 k) = ∑ l : Fin 256, v (ix2 l k) := by
  refine (shapeCast_apply _ shapeCasts_S1024_S1x1024 (ix2 0 k) (ix1 k) ?_).trans ?_
  · rw [Shape.rowMajor_val_one, Shape.rowMajor_val_two]
    show k.val = 0 * 1024 + k.val
    omega
  · refine (Ideal.multiReduction_add_single v _ reduces_S256x1024_S1024 _ _ (ix1 k)).trans ?_
    refine Finset.sum_congr rfl fun j _ => congrArg v ?_
    funext a
    match a with
    | ⟨0, _⟩ => rfl
    | ⟨1, _⟩ => rfl

/-- A row's sum, kept as a column. -/
theorem rowSum_apply (v : FVec Ideal S256x1024 .f32) (l : Fin 256) :
    (shapeCast S256x1 (multiReduction .add [1] S256 v 0x00000000#32 reduces_S256x1024_S256 (.inl rfl) rfl) shapeCasts_S256_S256x1 : FVec Ideal S256x1 .f32)
      (ix2 l 0) = ∑ j : Fin 1024, v (ix2 l j) := by
  refine (shapeCast_apply _ shapeCasts_S256_S256x1 (ix2 l 0) (ix1 l) ?_).trans ?_
  · rw [Shape.rowMajor_val_one, Shape.rowMajor_val_two]
    show l.val = l.val * 1 + 0
    omega
  · refine (Ideal.multiReduction_add_single v _ reduces_S256x1024_S256 _ _ (ix1 l)).trans ?_
    refine Finset.sum_congr rfl fun j _ => congrArg v ?_
    funext a
    match a with
    | ⟨0, _⟩ => rfl
    | ⟨1, _⟩ => rfl

/-- The sum of every eighth row. -/
theorem eighths_apply (v : FVec Ideal S256x1024 .f32) (b : Fin 8) (k : Fin 1024) :
    (multiReduction .add [0] S8x1024 (shapeCast S32x8x1024 v shapeCasts_S256x1024_S32x8x1024) 0x00000000#32 reduces_S32x8x1024_S8x1024 (.inl rfl) rfl
      : FVec Ideal S8x1024 .f32) (ix2 b k) = ∑ a : Fin 32, v (ix2 ⟨8 * a.val + b.val, by omega⟩ k) := by
  refine (Ideal.multiReduction_add_single _ _ reduces_S32x8x1024_S8x1024 _ _ (ix2 b k)).trans ?_
  refine Finset.sum_congr rfl fun a _ => ?_
  refine shapeCast_apply v shapeCasts_S256x1024_S32x8x1024 _ _ ?_
  refine (Shape.rowMajor_val_two _).trans (Eq.trans ?_ (Shape.rowMajor_val_three _).symm)
  show (8 * a.val + b.val) * 1024 + k.val = (a.val * 8 + b.val) * 1024 + k.val
  omega

theorem column_at (v : FVec Ideal S256x1 .f32) (l : Fin 256) (e : Fin 1024) : broadcastTo S256x1024 v broadcasts_S256x1_S256x1024 (ix2 l e) = v (ix2 l 0) :=
  broadcastTo_apply v _ (ix2 l e) (ix2 l 0) fun a => match a with
    | ⟨0, _⟩ => rfl
    | ⟨1, _⟩ => rfl

theorem row_at (v : FVec Ideal S1x1024 .f32) (l : Fin 256) (e : Fin 1024) : broadcastTo S256x1024 v broadcasts_S1x1024_S256x1024 (ix2 l e) = v (ix2 0 e) :=
  broadcastTo_apply v _ (ix2 l e) (ix2 0 e) fun a => match a with
    | ⟨0, _⟩ => rfl
    | ⟨1, _⟩ => rfl

/-- One of the two halves of the bias, along the rows. -/
theorem bias_apply (v : FVec Ideal S1x2048 .f32) (o : ℕ) (h : S1x2048.Slices ![0, o] S1x1024) (l : Fin 256) (k : Fin 1024) :
    broadcastTo S256x1024 (extractStridedSlice S1x1024 ![0, o] v h) broadcasts_S1x1024_S256x1024 (ix2 l k)
      = v (ix2 0 ⟨(o + k.val) % 2048, by omega⟩) := by
  have ho : o + 1024 ≤ 2048 := h.2 1
  have hk := k.isLt
  rw [row_at]
  refine extractStridedSlice_apply _ v h _ _ fun a => ?_
  match a with
  | ⟨0, _⟩ => rfl
  | ⟨1, _⟩ => show (o + k.val) % 2048 = o + k.val; omega

/-- A stretch of 128 columns. -/
theorem cut_apply (v : FVec Ideal S8x1024 .f32) (o : ℕ) (h : S8x1024.Slices ![0, o] S8x128) (b : Fin 8) (d : Fin 128) (k : Fin 1024) (hk : k.val = o + d.val) :
    extractStridedSlice S8x128 ![0, o] v h (ix2 b d) = v (ix2 b k) := by
  refine extractStridedSlice_apply _ v h _ _ fun a => ?_
  match a with
  | ⟨0, _⟩ => show b.val = 0 + b.val; omega
  | ⟨1, _⟩ => exact hk

/-- A chain's rows, turned. -/
theorem turn_apply (v : FVec Ideal S256x1024 .f32) (k : Fin 1024) (l : Fin 256) :
    transpose S1024x256 [1, 0] v transposes_S256x1024_p1_0_S1024x256 (ix2 k l) = v (ix2 l k) := by
  refine transpose_apply _ _ _ _ _ fun a => ?_
  match a with
  | ⟨0, _⟩ => rfl
  | ⟨1, _⟩ => rfl

/-! ## What one chain computes -/

def ones : FVec Ideal S256x1024 .f32 := broadcast S256x1024 (Scalar.ofBits (F := Ideal) .f32 0x3F800000#32)

/-- The sigmoid as the body writes it. -/
def sgV (v : FVec Ideal S256x1024 .f32) : FVec Ideal S256x1024 .f32 :=
  divf ones (addf ones (exp (subf (broadcast S256x1024 (Scalar.ofBits (F := Ideal) .f32 0x00000000#32)) v)))

/-- A chain times weights. -/
def timesV (a : FVec Ideal S256x1024 .bf16) (b : FVec Ideal S1024x1024 .bf16) : FVec Ideal S256x1024 .f32 :=
  matmul (F := Ideal) (φ₁ := .bf16) (φ₂ := .bf16) dot_S256x1024_S1024x1024_S256x1024_1_0_0_1_n_n none a b (constant (F := Ideal) S256x1024 .f32 0x00000000#32)

/-- The mean over the columns, as a column. -/
def meanV (v : FVec Ideal S256x1024 .f32) : FVec Ideal S256x1 .f32 :=
  divf (shapeCast S256x1 (multiReduction .add [1] S256 v 0x00000000#32 reduces_S256x1024_S256 (.inl rfl) rfl) shapeCasts_S256_S256x1)
    (broadcast S256x1 (Scalar.ofBits (F := Ideal) .f32 0x44800000#32))

theorem sgV_apply (v : FVec Ideal S256x1024 .f32) (y : S256x1024.Idx) : sgV v y = sg (v y) := by
  show Ideal.div (Ideal.ofBits .f32 0x3F800000#32) (Ideal.ofBits .f32 0x3F800000#32 + Ideal.exp (Ideal.ofBits .f32 0x00000000#32 - v y)) = _
  rw [Ideal.ofBits_one_f32, Ideal.ofBits_zero_f32]; rfl

theorem meanV_apply (v : FVec Ideal S256x1024 .f32) (l : Fin 256) : meanV v (ix2 l 0) = Ideal.div (∑ j : Fin 1024, v (ix2 l j)) Parts.width :=
  congrArg (Ideal.div · Parts.width) (rowSum_apply v l)

section Chain

variable (a0 a1 a5 a6 : FVec Ideal S256x1024 .bf16) (a8 a10 : FVec Ideal S256x1024 .f32) (x2 x3 x4 : FVec Ideal S1024x1024 .bf16)
  (x7 : FVec Ideal S1x2048 .f32) (x9 : FVec Ideal S1x1024 .f32)

def yaV : FVec Ideal S256x1024 .f32 := timesV (shapeCast S256x1024 a1 shapeCasts_S256x1024_S256x1024) x3

def gcV : FVec Ideal S256x1024 .f32 :=
  sgV (addf (extf .f32 a5 bitsLt_bf16_f32) (broadcastTo S256x1024
    (extractStridedSlice S1x1024 ![0, 0] (shapeCast S1x2048 x7 shapeCasts_S1x2048_S1x2048) slices_S1x2048_o0_0_S1x1024) broadcasts_S1x1024_S256x1024))

def gaV : FVec Ideal S256x1024 .f32 :=
  sgV (addf (extf .f32 a6 bitsLt_bf16_f32) (broadcastTo S256x1024
    (extractStridedSlice S1x1024 ![0, 1024] (shapeCast S1x2048 x7 shapeCasts_S1x2048_S1x2048) slices_S1x2048_o0_1024_S1x1024) broadcasts_S1x1024_S256x1024))

def mgV : FVec Ideal S256x1024 .f32 := addf (mulf (gcV a5 x7) (timesV a0 x2)) (mulf (gaV a6 x7) (yaV a1 x3))

/-- The merged rows, rounded and turned. -/
def mgtV : FVec Ideal S1024x256 .bf16 :=
  shapeCast S1024x256 (truncf .bf16 (transpose S1024x256 [1, 0] (mgV a0 a1 a5 a6 x2 x3 x7) transposes_S256x1024_p1_0_S1024x256) bitsLt_bf16_f32)
    shapeCasts_S1024x256_S1024x256

def h2V : FVec Ideal S256x1024 .f32 := addf a8 (timesV (truncf .bf16 (mgV a0 a1 a5 a6 x2 x3 x7) bitsLt_bf16_f32) x4)

def rsV : FVec Ideal S256x1 .f32 :=
  rsqrt (addf (meanV (mulf (h2V a0 a1 a5 a6 a8 x2 x3 x4 x7) (h2V a0 a1 a5 a6 a8 x2 x3 x4 x7)))
    (broadcast S256x1 (Scalar.ofBits (F := Ideal) .f32 0x358637BD#32)))

def nrmV : FVec Ideal S256x1024 .f32 :=
  mulf (h2V a0 a1 a5 a6 a8 x2 x3 x4 x7) (broadcastTo S256x1024 (rsV a0 a1 a5 a6 a8 x2 x3 x4 x7) broadcasts_S256x1_S256x1024)

def errV : FVec Ideal S256x1024 .f32 :=
  subf (mulf (nrmV a0 a1 a5 a6 a8 x2 x3 x4 x7) (broadcastTo S256x1024 (shapeCast S1x1024 x9 shapeCasts_S1x1024_S1x1024) broadcasts_S1x1024_S256x1024)) a10

def dyV : FVec Ideal S256x1024 .f32 :=
  mulf (errV a0 a1 a5 a6 a8 a10 x2 x3 x4 x7 x9) (broadcast S256x1024 (Scalar.ofBits (F := Ideal) .f32 0x3A800000#32))

def dnV : FVec Ideal S256x1024 .f32 :=
  mulf (dyV a0 a1 a5 a6 a8 a10 x2 x3 x4 x7 x9) (broadcastTo S256x1024 (shapeCast S1x1024 x9 shapeCasts_S1x1024_S1x1024) broadcasts_S1x1024_S256x1024)

/-- The gradient of the merged rows' sum, rounded. -/
def dhV : FVec Ideal S256x1024 .bf16 :=
  truncf .bf16 (mulf (broadcastTo S256x1024 (rsV a0 a1 a5 a6 a8 x2 x3 x4 x7) broadcasts_S256x1_S256x1024)
    (subf (dnV a0 a1 a5 a6 a8 a10 x2 x3 x4 x7 x9)
      (mulf (nrmV a0 a1 a5 a6 a8 x2 x3 x4 x7)
        (broadcastTo S256x1024 (meanV (mulf (dnV a0 a1 a5 a6 a8 a10 x2 x3 x4 x7 x9) (nrmV a0 a1 a5 a6 a8 x2 x3 x4 x7))) broadcasts_S256x1_S256x1024))))
    bitsLt_bf16_f32

/-- To the gradient of the scale, what a chain adds. -/
def dgV (acc : FVec Ideal S1x1024 .f32) : FVec Ideal S1x1024 .f32 :=
  addf (shapeCast S1x1024 acc shapeCasts_S1x1024_S1x1024)
    (shapeCast S1x1024 (multiReduction .add [0] S1024 (mulf (dyV a0 a1 a5 a6 a8 a10 x2 x3 x4 x7 x9) (nrmV a0 a1 a5 a6 a8 x2 x3 x4 x7)) 0x00000000#32
      reduces_S256x1024_S1024 (.inl rfl) rfl) shapeCasts_S1024_S1x1024)

/-- The squared errors of every eighth row. -/
def sqV : FVec Ideal S8x1024 .f32 :=
  multiReduction .add [0] S8x1024
    (shapeCast S32x8x1024 (mulf (errV a0 a1 a5 a6 a8 a10 x2 x3 x4 x7 x9) (errV a0 a1 a5 a6 a8 a10 x2 x3 x4 x7 x9)) shapeCasts_S256x1024_S32x8x1024)
    0x00000000#32 reduces_S32x8x1024_S8x1024 (.inl rfl) rfl

/-- To the sums of the loss, eight stretches of columns are added. -/
def addV (v : FVec Ideal S8x1024 .f32) (acc : FVec Ideal S8x128 .f32) : FVec Ideal S8x128 .f32 :=
  addf (shapeCast S8x128 acc shapeCasts_S8x128_S8x128)
    (addf (addf (addf (addf (addf (addf (addf (addf (broadcast S8x128 (Scalar.ofBits (F := Ideal) .f32 0x00000000#32))
      (extractStridedSlice S8x128 ![0, 0] v slices_S8x1024_o0_0_S8x128))
      (extractStridedSlice S8x128 ![0, 128] v slices_S8x1024_o0_128_S8x128))
      (extractStridedSlice S8x128 ![0, 256] v slices_S8x1024_o0_256_S8x128))
      (extractStridedSlice S8x128 ![0, 384] v slices_S8x1024_o0_384_S8x128))
      (extractStridedSlice S8x128 ![0, 512] v slices_S8x1024_o0_512_S8x128))
      (extractStridedSlice S8x128 ![0, 640] v slices_S8x1024_o0_640_S8x128))
      (extractStridedSlice S8x128 ![0, 768] v slices_S8x1024_o0_768_S8x128))
      (extractStridedSlice S8x128 ![0, 896] v slices_S8x1024_o0_896_S8x128))

theorem addV_apply (v : FVec Ideal S8x1024 .f32) (acc : FVec Ideal S8x128 .f32) (b : Fin 8) (d : Fin 128) :
    addV v acc (ix2 b d) = acc (ix2 b d) + ∑ c : Fin 8, v (ix2 b ⟨128 * c.val + d.val, by omega⟩) := by
  unfold addV
  rw [shapeCast_self, Fin.sum_univ_eight]
  refine congrArg (acc (ix2 b d) + ·) ?_
  refine (congrArg₂ (· + ·) (congrArg₂ (· + ·) (congrArg₂ (· + ·) (congrArg₂ (· + ·) (congrArg₂ (· + ·) (congrArg₂ (· + ·) (congrArg₂ (· + ·)
    ((congrArg₂ (· + ·) Ideal.ofBits_zero_f32 (cut_apply v 0 _ b d ⟨128 * 0 + d.val, by omega⟩ (by show 128 * 0 + d.val = 0 + d.val; omega))).trans (zero_add _))
    (cut_apply v 128 _ b d ⟨128 * 1 + d.val, by omega⟩ rfl)) (cut_apply v 256 _ b d ⟨128 * 2 + d.val, by omega⟩ rfl))
    (cut_apply v 384 _ b d ⟨128 * 3 + d.val, by omega⟩ rfl)) (cut_apply v 512 _ b d ⟨128 * 4 + d.val, by omega⟩ rfl))
    (cut_apply v 640 _ b d ⟨128 * 5 + d.val, by omega⟩ rfl)) (cut_apply v 768 _ b d ⟨128 * 6 + d.val, by omega⟩ rfl))
    (cut_apply v 896 _ b d ⟨128 * 7 + d.val, by omega⟩ rfl)).trans ?_
  rfl

/-- A row of the chain. -/
def rowC (l : Fin 256) : Row :=
  ⟨fun d => a0 (ix2 l d), fun d => a1 (ix2 l d), fun d => a5 (ix2 l d), fun d => a6 (ix2 l d), fun d => a8 (ix2 l d), fun d => a10 (ix2 l d)⟩

/-- The weights, the bias and the scale. -/
def wts : Weights :=
  ⟨x2, x3, x4, fun d => x7 (ix2 0 ⟨d.val, by omega⟩), fun d => x7 (ix2 0 ⟨1024 + d.val, by omega⟩), fun d => x9 (ix2 0 d)⟩

variable (l : Fin 256) (d : Fin 1024)

theorem yc_apply : timesV a0 x2 (ix2 l d) = Loss.yc (wts x2 x3 x4 x7 x9) (rowC a0 a1 a5 a6 a8 a10 l) d := times_apply a0 x2 l d

theorem ya_apply : yaV a1 x3 (ix2 l d) = Loss.ya (wts x2 x3 x4 x7 x9) (rowC a0 a1 a5 a6 a8 a10 l) d := by
  unfold yaV
  rw [shapeCast_self]
  exact times_apply a1 x3 l d

theorem gc_apply : gcV a5 x7 (ix2 l d) = Loss.gc (wts x2 x3 x4 x7 x9) (rowC a0 a1 a5 a6 a8 a10 l) d := by
  refine (sgV_apply _ _).trans (congrArg (fun t => sg (a5 (ix2 l d) + t)) ?_)
  refine (bias_apply _ 0 slices_S1x2048_o0_0_S1x1024 l d).trans ?_
  rw [shapeCast_self]
  refine congrArg x7 (congrArg (ix2 0) (Fin.ext ?_))
  show (0 + d.val) % 2048 = d.val
  have := d.isLt
  omega

theorem ga_apply : gaV a6 x7 (ix2 l d) = Loss.ga (wts x2 x3 x4 x7 x9) (rowC a0 a1 a5 a6 a8 a10 l) d := by
  refine (sgV_apply _ _).trans (congrArg (fun t => sg (a6 (ix2 l d) + t)) ?_)
  refine (bias_apply _ 1024 slices_S1x2048_o0_1024_S1x1024 l d).trans ?_
  rw [shapeCast_self]
  refine congrArg x7 (congrArg (ix2 0) (Fin.ext ?_))
  show (1024 + d.val) % 2048 = 1024 + d.val
  have := d.isLt
  omega

theorem mg_apply : mgV a0 a1 a5 a6 x2 x3 x7 (ix2 l d) = Loss.mg (wts x2 x3 x4 x7 x9) (rowC a0 a1 a5 a6 a8 a10 l) d :=
  congrArg₂ (· + ·) (congrArg₂ (· * ·) (gc_apply a0 a1 a5 a6 a8 a10 x2 x3 x4 x7 x9 l d) (yc_apply a0 a1 a5 a6 a8 a10 x2 x3 x4 x7 x9 l d)) (congrArg₂ (· * ·) (ga_apply a0 a1 a5 a6 a8 a10 x2 x3 x4 x7 x9 l d) (ya_apply a0 a1 a5 a6 a8 a10 x2 x3 x4 x7 x9 l d))

theorem mgt_apply : mgtV a0 a1 a5 a6 x2 x3 x7 (ix2 d l) = Loss.mg (wts x2 x3 x4 x7 x9) (rowC a0 a1 a5 a6 a8 a10 l) d := by
  unfold mgtV
  rw [shapeCast_self]
  exact (turn_apply _ d l).trans (mg_apply a0 a1 a5 a6 a8 a10 x2 x3 x4 x7 x9 l d)

theorem h2_apply : h2V a0 a1 a5 a6 a8 x2 x3 x4 x7 (ix2 l d) = Loss.h2 (wts x2 x3 x4 x7 x9) (rowC a0 a1 a5 a6 a8 a10 l) d :=
  congrArg (a8 (ix2 l d) + ·) ((times_apply _ x4 l d).trans (congrArg (fun v => Loss.times v x4 d) (funext fun e => mg_apply a0 a1 a5 a6 a8 a10 x2 x3 x4 x7 x9 l e)))

theorem rs_apply : rsV a0 a1 a5 a6 a8 x2 x3 x4 x7 (ix2 l 0) = Loss.rs (wts x2 x3 x4 x7 x9) (rowC a0 a1 a5 a6 a8 a10 l) := by
  refine congrArg Ideal.rsqrt (congrArg (· + Parts.small) ((meanV_apply _ l).trans (congrArg (Ideal.div · Parts.width) ?_)))
  exact Finset.sum_congr rfl fun j _ => congrArg₂ (· * ·) (h2_apply a0 a1 a5 a6 a8 a10 x2 x3 x4 x7 x9 l j) (h2_apply a0 a1 a5 a6 a8 a10 x2 x3 x4 x7 x9 l j)

theorem nrm_apply : nrmV a0 a1 a5 a6 a8 x2 x3 x4 x7 (ix2 l d) = Loss.nrm (wts x2 x3 x4 x7 x9) (rowC a0 a1 a5 a6 a8 a10 l) d :=
  congrArg₂ (· * ·) (h2_apply a0 a1 a5 a6 a8 a10 x2 x3 x4 x7 x9 l d) ((column_at _ l d).trans (rs_apply a0 a1 a5 a6 a8 a10 x2 x3 x4 x7 x9 l))

theorem err_apply : errV a0 a1 a5 a6 a8 a10 x2 x3 x4 x7 x9 (ix2 l d) = Loss.err (wts x2 x3 x4 x7 x9) (rowC a0 a1 a5 a6 a8 a10 l) d := by
  unfold errV
  rw [shapeCast_self]
  exact congrArg (· - a10 (ix2 l d)) (congrArg₂ (· * ·) (nrm_apply a0 a1 a5 a6 a8 a10 x2 x3 x4 x7 x9 l d) (row_at x9 l d))

theorem dy_apply : dyV a0 a1 a5 a6 a8 a10 x2 x3 x4 x7 x9 (ix2 l d) = Loss.dy (wts x2 x3 x4 x7 x9) (rowC a0 a1 a5 a6 a8 a10 l) d := congrArg (· * Loss.inv) (err_apply a0 a1 a5 a6 a8 a10 x2 x3 x4 x7 x9 l d)

theorem dn_apply : dnV a0 a1 a5 a6 a8 a10 x2 x3 x4 x7 x9 (ix2 l d) = Loss.dn (wts x2 x3 x4 x7 x9) (rowC a0 a1 a5 a6 a8 a10 l) d := by
  unfold dnV
  rw [shapeCast_self]
  exact congrArg₂ (· * ·) (dy_apply a0 a1 a5 a6 a8 a10 x2 x3 x4 x7 x9 l d) (row_at x9 l d)

theorem dh_apply : dhV a0 a1 a5 a6 a8 a10 x2 x3 x4 x7 x9 (ix2 l d) = Loss.dh (wts x2 x3 x4 x7 x9) (rowC a0 a1 a5 a6 a8 a10 l) d := by
  refine congrArg₂ (· * ·) ((column_at _ l d).trans (rs_apply a0 a1 a5 a6 a8 a10 x2 x3 x4 x7 x9 l)) (congrArg₂ (· - ·) (dn_apply a0 a1 a5 a6 a8 a10 x2 x3 x4 x7 x9 l d)
    (congrArg₂ (· * ·) (nrm_apply a0 a1 a5 a6 a8 a10 x2 x3 x4 x7 x9 l d) ((column_at _ l d).trans ((meanV_apply _ l).trans (congrArg (Ideal.div · Parts.width) ?_)))))
  exact Finset.sum_congr rfl fun j _ => congrArg₂ (· * ·) (dn_apply a0 a1 a5 a6 a8 a10 x2 x3 x4 x7 x9 l j) (nrm_apply a0 a1 a5 a6 a8 a10 x2 x3 x4 x7 x9 l j)

theorem dg_apply (acc : FVec Ideal S1x1024 .f32) (d : Fin 1024) :
    dgV a0 a1 a5 a6 a8 a10 x2 x3 x4 x7 x9 acc (ix2 0 d) = acc (ix2 0 d) + ∑ l : Fin 256, Loss.dg (wts x2 x3 x4 x7 x9) (rowC a0 a1 a5 a6 a8 a10 l) d := by
  unfold dgV
  rw [shapeCast_self]
  refine congrArg (acc (ix2 0 d) + ·) ((sums_apply _ d).trans (Finset.sum_congr rfl fun l _ => ?_))
  exact congrArg₂ (· * ·) (dy_apply a0 a1 a5 a6 a8 a10 x2 x3 x4 x7 x9 l d) (nrm_apply a0 a1 a5 a6 a8 a10 x2 x3 x4 x7 x9 l d)

theorem sq_apply (b : Fin 8) (k : Fin 1024) :
    sqV a0 a1 a5 a6 a8 a10 x2 x3 x4 x7 x9 (ix2 b k) = ∑ l : Fin 256, if l.val % 8 = b.val then Loss.sq (wts x2 x3 x4 x7 x9) (rowC a0 a1 a5 a6 a8 a10 l) k else 0 := by
  refine ((eighths_apply _ b k).trans (Finset.sum_congr rfl fun a _ => ?_)).trans (Loss.every_eighth 32 (fun l => Loss.sq (wts x2 x3 x4 x7 x9) (rowC a0 a1 a5 a6 a8 a10 l) k) b)
  exact congrArg₂ (· * ·) (err_apply a0 a1 a5 a6 a8 a10 x2 x3 x4 x7 x9 _ k) (err_apply a0 a1 a5 a6 a8 a10 x2 x3 x4 x7 x9 _ k)

/-- To the sums of the loss, what a chain adds. -/
theorem loss_apply (acc : FVec Ideal S8x128 .f32) (b : Fin 8) (d : Fin 128) :
    addV (sqV a0 a1 a5 a6 a8 a10 x2 x3 x4 x7 x9) acc (ix2 b d) = acc (ix2 b d) + ∑ l : Fin 256, if l.val % 8 = b.val then Loss.sqs (wts x2 x3 x4 x7 x9) (rowC a0 a1 a5 a6 a8 a10 l) d else 0 := by
  refine (addV_apply _ acc b d).trans (congrArg (acc (ix2 b d) + ·) ?_)
  simp only [sq_apply]
  rw [Finset.sum_comm]
  refine Finset.sum_congr rfl fun l _ => ?_
  by_cases h : l.val % 8 = b.val
  · simp only [if_pos h]
    rfl
  · simp only [if_neg h]
    exact Finset.sum_const_zero

end Chain

end Cert.Kernel6Ideal.Own
-- ==== Proof.LossChain.lean ====
module

public import proofs.«01_k».proof.Proof.LossPoint

@[expose] public section

set_option maxRecDepth 16384

noncomputable section

namespace Cert.Kernel6Ideal.Own

open Cert.Kernel6Ideal Cert.Kernel6Ideal.Gen Idealize.ShloMosaic Idealize.ShloMosaic.TcCoe Idealize.SL.Sem

/-! ## What the body stores of a chain

Each lemma says of one value that a chain stores which of the functions of `LossPoint` it is; those ending in `1` are of
the first 256 rows of the block, those ending in `2` of the last 256. -/

section Chains

variable (a0 a1 a5 a6 : FVec Ideal S256x1024 .bf16) (a8 a10 : FVec Ideal S256x1024 .f32) (x2 x3 x4 : FVec Ideal S1024x1024 .bf16)
  (x7 : FVec Ideal S1x2048 .f32) (x9 accg : FVec Ideal S1x1024 .f32) (accl : FVec Ideal S8x128 .f32)

theorem yc1 : k0_pay12 (k0_pay6 a0 x2) = truncf .bf16 (timesV a0 x2) bitsLt_bf16_f32 := rfl

theorem ya1 : k0_pay13 (k0_pay7 a1 x3) = truncf .bf16 (yaV a1 x3) bitsLt_bf16_f32 := rfl

theorem mgt1 : k0_pay14 (k0_pay6 a0 x2) (k0_pay7 a1 x3) (k0_pay9 x7 a5) (k0_pay10 x7 a6) = mgtV a0 a1 a5 a6 x2 x3 x7 := rfl

theorem loss1 : k0_pay20 (k0_pay19 (k0_pay5 x9) (k0_pay6 a0 x2) (k0_pay7 a1 x3) (k0_pay9 x7 a5) (k0_pay10 x7 a6) a8 x4 a10) accl = addV (sqV a0 a1 a5 a6 a8 a10 x2 x3 x4 x7 x9) accl := rfl

theorem dg1 : k0_pay22 (k0_pay17 (k0_pay6 a0 x2) (k0_pay7 a1 x3) (k0_pay9 x7 a5) (k0_pay10 x7 a6) a8 x4) (k0_pay18 (k0_pay5 x9) (k0_pay6 a0 x2) (k0_pay7 a1 x3) (k0_pay9 x7 a5) (k0_pay10 x7 a6) a8 x4 a10) accg = dgV a0 a1 a5 a6 a8 a10 x2 x3 x4 x7 x9 accg := rfl

theorem dh1 : k0_pay23 (k0_pay5 x9) (k0_pay16 (k0_pay6 a0 x2) (k0_pay7 a1 x3) (k0_pay9 x7 a5) (k0_pay10 x7 a6) a8 x4) (k0_pay17 (k0_pay6 a0 x2) (k0_pay7 a1 x3) (k0_pay9 x7 a5) (k0_pay10 x7 a6) a8 x4) (k0_pay18 (k0_pay5 x9) (k0_pay6 a0 x2) (k0_pay7 a1 x3) (k0_pay9 x7 a5) (k0_pay10 x7 a6) a8 x4 a10) = dhV a0 a1 a5 a6 a8 a10 x2 x3 x4 x7 x9 := rfl

theorem yc2 : k0_pay27 (k0_pay24 a0 x2) = truncf .bf16 (timesV a0 x2) bitsLt_bf16_f32 := rfl

theorem ya2 : k0_pay28 (k0_pay25 a1 x3) = truncf .bf16 (yaV a1 x3) bitsLt_bf16_f32 := rfl

theorem mgt2 : k0_pay29 (k0_pay26 a0 x2 a1 x3 x7 a5 a6) = mgtV a0 a1 a5 a6 x2 x3 x7 := rfl

theorem loss2 : k0_pay38 (k0_pay34 (k0_pay5 x9) (k0_pay26 a0 x2 a1 x3 x7 a5 a6) a8 x4 a10) (k0_pay35 accl) (k0_pay36 (k0_pay5 x9) (k0_pay26 a0 x2 a1 x3 x7 a5 a6) a8 x4 a10) (k0_pay37 (k0_pay5 x9) (k0_pay26 a0 x2 a1 x3 x7 a5 a6) a8 x4 a10) = addV (sqV a0 a1 a5 a6 a8 a10 x2 x3 x4 x7 x9) accl := rfl

theorem dg2 : k0_pay40 (k0_pay32 (k0_pay26 a0 x2 a1 x3 x7 a5 a6) a8 x4) (k0_pay33 (k0_pay5 x9) (k0_pay26 a0 x2 a1 x3 x7 a5 a6) a8 x4 a10) accg = dgV a0 a1 a5 a6 a8 a10 x2 x3 x4 x7 x9 accg := rfl

theorem dh2 : k0_pay41 (k0_pay5 x9) (k0_pay31 (k0_pay26 a0 x2 a1 x3 x7 a5 a6) a8 x4) (k0_pay32 (k0_pay26 a0 x2 a1 x3 x7 a5 a6) a8 x4) (k0_pay33 (k0_pay5 x9) (k0_pay26 a0 x2 a1 x3 x7 a5 a6) a8 x4 a10) = dhV a0 a1 a5 a6 a8 a10 x2 x3 x4 x7 x9 := rfl

end Chains

end Cert.Kernel6Ideal.Own
-- ==== Proof.LossBlock.lean ====
module

public import proofs.«01_k».proof.Proof.LossChain
public import proofs.«01_k».proof.Proof.Gen.Kernel6Ideal.Value

@[expose] public section

set_option maxRecDepth 16384

noncomputable section

namespace Cert.Kernel6Ideal.Own

open Cert.Kernel6Ideal Cert.Kernel6Ideal.Gen Idealize.ShloMosaic Idealize.ShloMosaic.TcCoe Idealize.SL.Sem
open Cert.Loss (Row Weights)

theorem hz2 : (![0, 0] : Fin 2 → ℕ) = 0 := by funext a; fin_cases a <;> rfl

/-! ## The parts of the blocks that the body reads -/

/-- 256 rows, from row `o` on, of a block of 512. -/
def sl (x : Vec Ideal S512x1024 .bf16) (o : ℕ) : Vec Ideal S256x1024 .bf16 :=
  fun y => x (ix2 ⟨(o + (y 0).val) % 512, by omega⟩ (y 1))

theorem readRows (M : Memref sig .tc .vmem S512x1024 .bf16) (h : M.IsWhole) (x : Vec Ideal S512x1024 .bf16) (o : ℕ)
    (inb : ∀ a, (![o, 0] : Fin 2 → ℕ) a + S256x1024.size a ≤ S512x1024.size a) :
    View.readAt (Elt Ideal) M.view (Rect.unit ![o, 0] ![256, 1024] inb : Rect S512x1024).toLoadRect (h.unread x) = sl x o := by
  have ho : o + 256 ≤ 512 := inb 0
  rw [View.readAt_eq_ld, h.read_unread]
  funext i
  refine View.ld_unit_apply_of x _ _ inb i _ fun a => ?_
  have h0 : (i 0).val < 256 := (i 0).isLt
  match a with
  | ⟨0, _⟩ => show (o + (i 0).val) % 512 = o + (i 0).val; omega
  | ⟨1, _⟩ => show (i 1).val = 0 + (i 1).val; omega

/-- The same of a block of wide numbers. -/
def slf (x : Vec Ideal S512x1024 .f32) (o : ℕ) : Vec Ideal S256x1024 .f32 :=
  fun y => x (ix2 ⟨(o + (y 0).val) % 512, by omega⟩ (y 1))

theorem readRowsF (M : Memref sig .tc .vmem S512x1024 .f32) (h : M.IsWhole) (x : Vec Ideal S512x1024 .f32) (o : ℕ)
    (inb : ∀ a, (![o, 0] : Fin 2 → ℕ) a + S256x1024.size a ≤ S512x1024.size a) :
    View.readAt (Elt Ideal) M.view (Rect.unit ![o, 0] ![256, 1024] inb : Rect S512x1024).toLoadRect (h.unread x) = slf x o := by
  have ho : o + 256 ≤ 512 := inb 0
  rw [View.readAt_eq_ld, h.read_unread]
  funext i
  refine View.ld_unit_apply_of x _ _ inb i _ fun a => ?_
  have h0 : (i 0).val < 256 := (i 0).isLt
  match a with
  | ⟨0, _⟩ => show (o + (i 0).val) % 512 = o + (i 0).val; omega
  | ⟨1, _⟩ => show (i 1).val = 0 + (i 1).val; omega

/-- A sum over the rows of a block is the sum over the first chain and then the second. -/
theorem sum_chains (f : Fin 512 → EReal) (b : EReal) :
    b + ∑ l : Fin 256, f ⟨(0 + l.val) % 512, by omega⟩ + ∑ l : Fin 256, f ⟨(256 + l.val) % 512, by omega⟩ = b + ∑ r : Fin 512, f r := by
  rw [add_assoc]
  refine congrArg (b + ·) ?_
  refine Eq.trans ?_ (Fin.sum_univ_add (a := 256) (b := 256) f).symm
  refine congrArg₂ (· + ·) (Finset.sum_congr rfl fun l _ => congrArg f (Fin.ext ?_)) (Finset.sum_congr rfl fun l _ => congrArg f (Fin.ext ?_))
  · show (0 + l.val) % 512 = l.val; have := l.isLt; omega
  · show (256 + l.val) % 512 = 256 + l.val; have := l.isLt; omega

/-! ## The results of a block, row by row -/

section Blocks

variable (x0 x1 : Vec Ideal S512x1024 .bf16) (x2 x3 x4 : Vec Ideal S1024x1024 .bf16) (x5 x6 : Vec Ideal S512x1024 .bf16) (x7 : Vec Ideal S1x2048 .f32)
  (x8 : Vec Ideal S512x1024 .f32) (x9 : Vec Ideal S1x1024 .f32) (x10 : Vec Ideal S512x1024 .f32)

/-- A row of the block. -/
def rowB (r : Fin 512) : Row :=
  ⟨fun d => x0 (ix2 r d), fun d => x1 (ix2 r d), fun d => x5 (ix2 r d), fun d => x6 (ix2 r d), fun d => x8 (ix2 r d), fun d => x10 (ix2 r d)⟩

def ycB : Vec Ideal S512x1024 .bf16 := fun y => Loss.yc (wts x2 x3 x4 x7 x9) (rowB x0 x1 x5 x6 x8 x10 (y 0)) (y 1)
def yaB : Vec Ideal S512x1024 .bf16 := fun y => Loss.ya (wts x2 x3 x4 x7 x9) (rowB x0 x1 x5 x6 x8 x10 (y 0)) (y 1)
def dhB : Vec Ideal S512x1024 .bf16 := fun y => Loss.dh (wts x2 x3 x4 x7 x9) (rowB x0 x1 x5 x6 x8 x10 (y 0)) (y 1)

/-- The gradient of the scale: what was there, and the sum over the rows. -/
def dgB (acc : Vec Ideal S1x1024 .f32) : Vec Ideal S1x1024 .f32 := fun y => acc y + ∑ r : Fin 512, Loss.dg (wts x2 x3 x4 x7 x9) (rowB x0 x1 x5 x6 x8 x10 r) (y 1)

/-- The sums of the loss: what was there, and the squared errors of every eighth row at every 128th column. -/
def lossB (acc : Vec Ideal S8x128 .f32) : Vec Ideal S8x128 .f32 := fun y =>
  acc y + ∑ r : Fin 512, if r.val % 8 = (y 0).val then Loss.sqs (wts x2 x3 x4 x7 x9) (rowB x0 x1 x5 x6 x8 x10 r) (y 1) else 0

/-- The gradient of the weights: what was there, and the product over the rows. -/
def dwoB (acc : Vec Ideal S1024x1024 .f32) : Vec Ideal S1024x1024 .f32 := fun y =>
  acc y + ∑ n : Fin 512, Loss.mg (wts x2 x3 x4 x7 x9) (rowB x0 x1 x5 x6 x8 x10 n) (y 0) * Loss.dh (wts x2 x3 x4 x7 x9) (rowB x0 x1 x5 x6 x8 x10 n) (y 1)

theorem rowC_sl (o : ℕ) (l : Fin 256) : rowC (sl x0 o) (sl x1 o) (sl x5 o) (sl x6 o) (slf x8 o) (slf x10 o) l = rowB x0 x1 x5 x6 x8 x10 ⟨(o + l.val) % 512, by omega⟩ := rfl

/-- Values of a chain, told by its rows, are those of the block's rows `o + l`. -/
theorem at_rows (F : Row → Fin 1024 → EReal) (w : S256x1024.Idx → EReal) (o : ℕ) (ho : o + 256 ≤ 512)
    (hw : ∀ l d, w (ix2 l d) = F (rowC (sl x0 o) (sl x1 o) (sl x5 o) (sl x6 o) (slf x8 o) (slf x10 o) l) d)
    (x : S256x1024.Idx) (y : S512x1024.Idx) (h0 : (y 0).val = o + 1 * (x 0).val) (h1 : (y 1).val = 0 + 1 * (x 1).val) :
    w x = F (rowB x0 x1 x5 x6 x8 x10 (y 0)) (y 1) := by
  have hx : x = ix2 (x 0) (x 1) := by
    funext a
    match a with
    | ⟨0, _⟩ => rfl
    | ⟨1, _⟩ => rfl
  have hx0 : (x 0).val < 256 := (x 0).isLt
  refine (congrArg w hx).trans ((hw (x 0) (x 1)).trans (congrArg₂ F ?_ (Fin.ext ?_)))
  · refine (rowC_sl x0 x1 x5 x6 x8 x10 o (x 0)).trans (congrArg _ (Fin.ext ?_))
    show (o + (x 0).val) % 512 = (y 0).val
    omega
  · omega

/-- The same of values that are turned. -/
theorem at_cols (F : Row → Fin 1024 → EReal) (w : S1024x256.Idx → EReal) (o : ℕ) (ho : o + 256 ≤ 512)
    (hw : ∀ l d, w (ix2 d l) = F (rowC (sl x0 o) (sl x1 o) (sl x5 o) (sl x6 o) (slf x8 o) (slf x10 o) l) d)
    (x : S1024x256.Idx) (y : S1024x512.Idx) (h0 : (y 0).val = 0 + 1 * (x 0).val) (h1 : (y 1).val = o + 1 * (x 1).val) :
    w x = F (rowB x0 x1 x5 x6 x8 x10 (y 1)) (y 0) := by
  have hx : x = ix2 (x 0) (x 1) := by
    funext a
    match a with
    | ⟨0, _⟩ => rfl
    | ⟨1, _⟩ => rfl
  have hx0 : (x 1).val < 256 := (x 1).isLt
  refine (congrArg w hx).trans ((hw (x 1) (x 0)).trans (congrArg₂ F ?_ (Fin.ext ?_)))
  · refine (rowC_sl x0 x1 x5 x6 x8 x10 o (x 1)).trans (congrArg _ (Fin.ext ?_))
    show (o + (x 1).val) % 512 = (y 1).val
    omega
  · omega

/-- The two chains' parts of the scale's gradient. -/
theorem dg_chains (acc : Vec Ideal S1x1024 .f32) :
    dgV (sl x0 256) (sl x1 256) (sl x5 256) (sl x6 256) (slf x8 256) (slf x10 256) x2 x3 x4 x7 x9 (dgV (sl x0 0) (sl x1 0) (sl x5 0) (sl x6 0) (slf x8 0) (slf x10 0) x2 x3 x4 x7 x9 acc) = dgB x0 x1 x2 x3 x4 x5 x6 x7 x8 x9 x10 acc := by
  funext y
  obtain ⟨e, rfl⟩ : ∃ e : Fin 1024, y = ix2 0 e := ⟨y 1, by
    funext a
    match a with
    | ⟨0, _⟩ => exact Fin.ext (show (y 0).val = 0 by have h : (y 0).val < 1 := (y 0).isLt; omega)
    | ⟨1, _⟩ => rfl⟩
  rw [dg_apply, dg_apply]
  exact sum_chains (fun r => Loss.dg (wts x2 x3 x4 x7 x9) (rowB x0 x1 x5 x6 x8 x10 r) e) _

/-- The two chains' parts of the sums of the loss. -/
theorem loss_chains (acc : Vec Ideal S8x128 .f32) :
    addV (sqV (sl x0 256) (sl x1 256) (sl x5 256) (sl x6 256) (slf x8 256) (slf x10 256) x2 x3 x4 x7 x9) (addV (sqV (sl x0 0) (sl x1 0) (sl x5 0) (sl x6 0) (slf x8 0) (slf x10 0) x2 x3 x4 x7 x9) acc) = lossB x0 x1 x2 x3 x4 x5 x6 x7 x8 x9 x10 acc := by
  funext y
  obtain ⟨b, e, rfl⟩ : ∃ (b : Fin 8) (e : Fin 128), y = ix2 b e := ⟨y 0, y 1, by
    funext a
    match a with
    | ⟨0, _⟩ => rfl
    | ⟨1, _⟩ => rfl⟩
  rw [loss_apply, loss_apply]
  refine Eq.trans ?_ (sum_chains (fun r => if r.val % 8 = b.val then Loss.sqs (wts x2 x3 x4 x7 x9) (rowB x0 x1 x5 x6 x8 x10 r) e else 0) _)
  refine congrArg₂ (· + ·) (congrArg (acc (ix2 b e) + ·) (Finset.sum_congr rfl fun l _ => ?_)) (Finset.sum_congr rfl fun l _ => ?_)
  · have hl := l.isLt
    refine if_congr ?_ rfl rfl
    show l.val % 8 = b.val ↔ (0 + l.val) % 512 % 8 = b.val
    omega
  · have hl := l.isLt
    refine if_congr ?_ rfl rfl
    show l.val % 8 = b.val ↔ (256 + l.val) % 512 % 8 = b.val
    omega

/-! ## The buffers that the last product reads -/

/-- The gradient's block, the two chains' rows written. -/
theorem cov_rows (M : Memref sig .tc .vmem S512x1024 .bf16) (w0 w1 : Vec Ideal S256x1024 .bf16)
    (hw0 : ∀ l d, w0 (ix2 l d) = Loss.dh (wts x2 x3 x4 x7 x9) (rowC (sl x0 0) (sl x1 0) (sl x5 0) (sl x6 0) (slf x8 0) (slf x10 0) l) d)
    (hw1 : ∀ l d, w1 (ix2 l d) = Loss.dh (wts x2 x3 x4 x7 x9) (rowC (sl x0 256) (sl x1 256) (sl x5 256) (sl x6 256) (slf x8 256) (slf x10 256) l) d)
    (h0 : ∀ a, (![0, 0] : Fin 2 → ℕ) a + (![256, 1024] : Fin 2 → ℕ) a ≤ S512x1024.size a)
    (h1 : ∀ a, (![256, 0] : Fin 2 → ℕ) a + (![256, 1024] : Fin 2 → ℕ) a ≤ S512x1024.size a)
    (hw : ∀ a, (![0, 0] : Fin 2 → ℕ) a + (![512, 1024] : Fin 2 → ℕ) a ≤ S512x1024.size a) :
    M.view.readCov (Val := Elt Ideal) [⟨(Rect.unit ![256, 0] ![256, 1024] h1 : Rect S512x1024), w1⟩, ⟨(Rect.unit ![0, 0] ![256, 1024] h0 : Rect S512x1024), w0⟩]
        (Rect.unit ![0, 0] ![512, 1024] hw : Rect S512x1024).toLoadRect
      = fun y : S512x1024.Idx => Loss.dh (wts x2 x3 x4 x7 x9) (rowB x0 x1 x5 x6 x8 x10 (y 0)) (y 1) := by
  rw [View.readCov_eq_canon']
  funext j
  have hj : (Rect.unit ![0, 0] ![512, 1024] hw : Rect S512x1024).toLoadRect.idx j = j := by
    funext a
    match a with
    | ⟨0, _⟩ => exact Fin.ext (show 0 + 1 * (j 0).val = (j 0).val by omega)
    | ⟨1, _⟩ => exact Fin.ext (show 0 + 1 * (j 1).val = (j 1).val by omega)
  rw [hj]
  have hj0 : (j 0).val < 512 := (j 0).isLt
  have hj1 : (j 1).val < 1024 := (j 1).isLt
  refine View.canon_apply_of_pieces (Val := Elt Ideal) (e := .bf16) (fun y : S512x1024.Idx => Loss.dh (wts x2 x3 x4 x7 x9) (rowB x0 x1 x5 x6 x8 x10 (y 0)) (y 1)) _ ?_ j ?_
  · intro p hp x
    simp only [List.mem_cons, List.not_mem_nil, or_false] at hp
    rcases hp with rfl | rfl
    · exact at_rows x0 x1 x5 x6 x8 x10 (Loss.dh (wts x2 x3 x4 x7 x9)) w1 256 (le_refl _) hw1 x _ rfl rfl
    · exact at_rows x0 x1 x5 x6 x8 x10 (Loss.dh (wts x2 x3 x4 x7 x9)) w0 0 (by omega) hw0 x _ rfl rfl
  · by_cases h : (j 0).val < 256
    · refine ⟨_, List.mem_cons_of_mem _ List.mem_cons_self, (Rect.mem_set_unit (inb := h0)).2 fun a => ?_⟩
      match a with
      | ⟨0, _⟩ => exact ⟨Nat.zero_le _, show (j 0).val < 0 + 256 by omega⟩
      | ⟨1, _⟩ => exact ⟨Nat.zero_le _, show (j 1).val < 0 + 1024 by omega⟩
    · refine ⟨_, List.mem_cons_self, (Rect.mem_set_unit (inb := h1)).2 fun a => ?_⟩
      match a with
      | ⟨0, _⟩ => exact ⟨show 256 ≤ (j 0).val by omega, show (j 0).val < 256 + 256 by omega⟩
      | ⟨1, _⟩ => exact ⟨Nat.zero_le _, show (j 1).val < 0 + 1024 by omega⟩

/-- The scratch buffer of the merged rows, the two chains' columns written. -/
theorem cov_cols (M : Memref sig .tc .vmem S1024x512 .bf16) (w0 w1 : Vec Ideal S1024x256 .bf16)
    (hw0 : ∀ l d, w0 (ix2 d l) = Loss.mg (wts x2 x3 x4 x7 x9) (rowC (sl x0 0) (sl x1 0) (sl x5 0) (sl x6 0) (slf x8 0) (slf x10 0) l) d)
    (hw1 : ∀ l d, w1 (ix2 d l) = Loss.mg (wts x2 x3 x4 x7 x9) (rowC (sl x0 256) (sl x1 256) (sl x5 256) (sl x6 256) (slf x8 256) (slf x10 256) l) d)
    (h0 : ∀ a, (![0, 0] : Fin 2 → ℕ) a + (![1024, 256] : Fin 2 → ℕ) a ≤ S1024x512.size a)
    (h1 : ∀ a, (![0, 256] : Fin 2 → ℕ) a + (![1024, 256] : Fin 2 → ℕ) a ≤ S1024x512.size a)
    (hw : ∀ a, (![0, 0] : Fin 2 → ℕ) a + (![1024, 512] : Fin 2 → ℕ) a ≤ S1024x512.size a) :
    M.view.readCov (Val := Elt Ideal) [⟨(Rect.unit ![0, 256] ![1024, 256] h1 : Rect S1024x512), w1⟩, ⟨(Rect.unit ![0, 0] ![1024, 256] h0 : Rect S1024x512), w0⟩]
        (Rect.unit ![0, 0] ![1024, 512] hw : Rect S1024x512).toLoadRect
      = fun y : S1024x512.Idx => Loss.mg (wts x2 x3 x4 x7 x9) (rowB x0 x1 x5 x6 x8 x10 (y 1)) (y 0) := by
  rw [View.readCov_eq_canon']
  funext j
  have hj : (Rect.unit ![0, 0] ![1024, 512] hw : Rect S1024x512).toLoadRect.idx j = j := by
    funext a
    match a with
    | ⟨0, _⟩ => exact Fin.ext (show 0 + 1 * (j 0).val = (j 0).val by omega)
    | ⟨1, _⟩ => exact Fin.ext (show 0 + 1 * (j 1).val = (j 1).val by omega)
  rw [hj]
  have hj0 : (j 1).val < 512 := (j 1).isLt
  have hj1 : (j 0).val < 1024 := (j 0).isLt
  refine View.canon_apply_of_pieces (Val := Elt Ideal) (e := .bf16) (fun y : S1024x512.Idx => Loss.mg (wts x2 x3 x4 x7 x9) (rowB x0 x1 x5 x6 x8 x10 (y 1)) (y 0)) _ ?_ j ?_
  · intro p hp x
    simp only [List.mem_cons, List.not_mem_nil, or_false] at hp
    rcases hp with rfl | rfl
    · exact at_cols x0 x1 x5 x6 x8 x10 (Loss.mg (wts x2 x3 x4 x7 x9)) w1 256 (le_refl _) hw1 x _ rfl rfl
    · exact at_cols x0 x1 x5 x6 x8 x10 (Loss.mg (wts x2 x3 x4 x7 x9)) w0 0 (by omega) hw0 x _ rfl rfl
  · by_cases h : (j 1).val < 256
    · refine ⟨_, List.mem_cons_of_mem _ List.mem_cons_self, (Rect.mem_set_unit (inb := h0)).2 fun a => ?_⟩
      match a with
      | ⟨1, _⟩ => exact ⟨Nat.zero_le _, show (j 1).val < 0 + 256 by omega⟩
      | ⟨0, _⟩ => exact ⟨Nat.zero_le _, show (j 0).val < 0 + 1024 by omega⟩
    · refine ⟨_, List.mem_cons_self, (Rect.mem_set_unit (inb := h1)).2 fun a => ?_⟩
      match a with
      | ⟨1, _⟩ => exact ⟨show 256 ≤ (j 1).val by omega, show (j 1).val < 256 + 256 by omega⟩
      | ⟨0, _⟩ => exact ⟨Nat.zero_le _, show (j 0).val < 0 + 1024 by omega⟩

theorem dwo_eq (acc : Vec Ideal S1024x1024 .f32) :
    k0_pay1 (k0_pay42 acc) (fun y => Loss.mg (wts x2 x3 x4 x7 x9) (rowB x0 x1 x5 x6 x8 x10 (y 1)) (y 0)) (fun y => Loss.dh (wts x2 x3 x4 x7 x9) (rowB x0 x1 x5 x6 x8 x10 (y 0)) (y 1)) = dwoB x0 x1 x2 x3 x4 x5 x6 x7 x8 x9 x10 acc := by
  unfold k0_pay1 k0_pay42
  dsimp only
  rw [shapeCast_self, shapeCast_self]
  funext y
  have hy : y = ix2 (y 0) (y 1) := by
    funext a
    match a with
    | ⟨0, _⟩ => rfl
    | ⟨1, _⟩ => rfl
  refine congrArg (acc y + ·) ?_
  exact (congrArg _ hy).trans (outer_apply _ _ (y 0) (y 1))

end Blocks

end Cert.Kernel6Ideal.Own
-- ==== Proof.LossBodyA.lean ====
module

public import proofs.«01_k».proof.Proof.LossBlock

@[expose] public section

set_option maxRecDepth 16384

noncomputable section

namespace Cert.Kernel6Ideal.Own

open Cert.Kernel6Ideal Cert.Kernel6Ideal.Gen Idealize.ShloMosaic Idealize.ShloMosaic.TcCoe Idealize.SL.Sem

/-! ## What the body leaves in its outputs at the first block, where it clears the sums -/

section Cases

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x2048 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1x1024 .f32) (harg15 : arg15.IsWhole) (arg16 : Memref sig .tc .vmem S8x128 .f32) (harg16 : arg16.IsWhole) (arg17 : Memref sig .tc .vmem S1024x1024 .f32) (harg17 : arg17.IsWhole) (arg18 : Memref sig .tc .vmem S1024x512 .bf16) (harg18 : arg18.IsWhole)
  (x0 x1 : Vec Ideal S512x1024 .bf16) (x2 x3 x4 : Vec Ideal S1024x1024 .bf16) (x5 x6 : Vec Ideal S512x1024 .bf16) (x7 : Vec Ideal S1x2048 .f32)
  (x8 : Vec Ideal S512x1024 .f32) (x9 : Vec Ideal S1x1024 .f32) (x10 : Vec Ideal S512x1024 .f32)

theorem out_A_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = ycB x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  funext y
  refine View.canon_apply_of_pieces (ycB x0 x1 x2 x3 x4 x5 x6 x7 x8 x9 x10) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 y)
  unfold kernelRun0_A
  dsimp only
  sl_unfold_words
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  intro p hp x
  simp only [List.mem_cons, List.not_mem_nil, or_false] at hp
  rcases hp with rfl | rfl
  · exact at_rows x0 x1 x5 x6 x8 x10 (Loss.yc (wts x2 x3 x4 x7 x9)) _ 256 (by omega) (fun l d => (congrFun (yc2 (sl x0 256) x2) _).trans (yc_apply (sl x0 256) (sl x1 256) (sl x5 256) (sl x6 256) (slf x8 256) (slf x10 256) x2 x3 x4 x7 x9 l d)) x _ rfl rfl
  · exact at_rows x0 x1 x5 x6 x8 x10 (Loss.yc (wts x2 x3 x4 x7 x9)) _ 0 (by omega) (fun l d => (congrFun (yc1 (sl x0 0) x2) _).trans (yc_apply (sl x0 0) (sl x1 0) (sl x5 0) (sl x6 0) (slf x8 0) (slf x10 0) x2 x3 x4 x7 x9 l d)) x _ rfl rfl

theorem out_A_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = yaB x0 x1 x2 x3 x4 x5 x6 x7 x8 x9 x10 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  funext y
  refine View.canon_apply_of_pieces (yaB x0 x1 x2 x3 x4 x5 x6 x7 x8 x9 x10) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 y)
  unfold kernelRun0_A
  dsimp only
  sl_unfold_words
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  intro p hp x
  simp only [List.mem_cons, List.not_mem_nil, or_false] at hp
  rcases hp with rfl | rfl
  · exact at_rows x0 x1 x5 x6 x8 x10 (Loss.ya (wts x2 x3 x4 x7 x9)) _ 256 (by omega) (fun l d => (congrFun (ya2 (sl x1 256) x3) _).trans (ya_apply (sl x0 256) (sl x1 256) (sl x5 256) (sl x6 256) (slf x8 256) (slf x10 256) x2 x3 x4 x7 x9 l d)) x _ rfl rfl
  · exact at_rows x0 x1 x5 x6 x8 x10 (Loss.ya (wts x2 x3 x4 x7 x9)) _ 0 (by omega) (fun l d => (congrFun (ya1 (sl x1 0) x3) _).trans (ya_apply (sl x0 0) (sl x1 0) (sl x5 0) (sl x6 0) (slf x8 0) (slf x10 0) x2 x3 x4 x7 x9 l d)) x _ rfl rfl

theorem out_A_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = dhB x0 x1 x2 x3 x4 x5 x6 x7 x8 x9 x10 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  funext y
  refine View.canon_apply_of_pieces (dhB x0 x1 x2 x3 x4 x5 x6 x7 x8 x9 x10) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 y)
  unfold kernelRun0_A
  dsimp only
  sl_unfold_words
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  intro p hp x
  simp only [List.mem_cons, List.not_mem_nil, or_false] at hp
  rcases hp with rfl | rfl
  · exact at_rows x0 x1 x5 x6 x8 x10 (Loss.dh (wts x2 x3 x4 x7 x9)) _ 256 (by omega) (fun l d => (congrFun (dh2 (sl x0 256) (sl x1 256) (sl x5 256) (sl x6 256) (slf x8 256) (slf x10 256) x2 x3 x4 x7 x9) _).trans (dh_apply (sl x0 256) (sl x1 256) (sl x5 256) (sl x6 256) (slf x8 256) (slf x10 256) x2 x3 x4 x7 x9 l d)) x _ rfl rfl
  · exact at_rows x0 x1 x5 x6 x8 x10 (Loss.dh (wts x2 x3 x4 x7 x9)) _ 0 (by omega) (fun l d => (congrFun (dh1 (sl x0 0) (sl x1 0) (sl x5 0) (sl x6 0) (slf x8 0) (slf x10 0) x2 x3 x4 x7 x9) _).trans (dh_apply (sl x0 0) (sl x1 0) (sl x5 0) (sl x6 0) (slf x8 0) (slf x10 0) x2 x3 x4 x7 x9 l d)) x _ rfl rfl

theorem out_A_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = dgB x0 x1 x2 x3 x4 x5 x6 x7 x8 x9 x10 (k0_pay2 (F := Ideal)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  sl_unfold_words
  rw [View.canon_cons_unit_zero (S := S1x1024) hz2]
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  simp only [yc1, ya1, mgt1, loss1, dg1, dh1, yc2, ya2, mgt2, loss2, dg2, dh2]
  simp only [View.readCov_cons_toLoadRect]
  exact dg_chains x0 x1 x2 x3 x4 x5 x6 x7 x8 x9 x10 (k0_pay2 (F := Ideal))

theorem out_A_15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = lossB x0 x1 x2 x3 x4 x5 x6 x7 x8 x9 x10 (k0_pay3 (F := Ideal)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  sl_unfold_words
  rw [View.canon_cons_unit_zero (S := S8x128) hz2]
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  simp only [yc1, ya1, mgt1, loss1, dg1, dh1, yc2, ya2, mgt2, loss2, dg2, dh2]
  simp only [View.readCov_cons_toLoadRect]
  exact loss_chains x0 x1 x2 x3 x4 x5 x6 x7 x8 x9 x10 (k0_pay3 (F := Ideal))

theorem out_A_16 (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 = dwoB x0 x1 x2 x3 x4 x5 x6 x7 x8 x9 x10 (k0_pay4 (F := Ideal)) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10)]
  unfold kernelRun0_A
  dsimp only
  sl_unfold_words
  rw [View.canon_cons_unit_zero (S := S1024x1024) hz2, View.readCov_unit_zero (S := S1024x1024) _ hz2]
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  simp only [yc1, ya1, mgt1, loss1, dg1, dh1, yc2, ya2, mgt2, loss2, dg2, dh2]
  rw [cov_rows x0 x1 x2 x3 x4 x5 x6 x7 x8 x9 x10 _ _ _ (fun l d => dh_apply (sl x0 0) (sl x1 0) (sl x5 0) (sl x6 0) (slf x8 0) (slf x10 0) x2 x3 x4 x7 x9 l d) (fun l d => dh_apply (sl x0 256) (sl x1 256) (sl x5 256) (sl x6 256) (slf x8 256) (slf x10 256) x2 x3 x4 x7 x9 l d),
    cov_cols x0 x1 x2 x3 x4 x5 x6 x7 x8 x9 x10 _ _ _ (fun l d => mgt_apply (sl x0 0) (sl x1 0) (sl x5 0) (sl x6 0) (slf x8 0) (slf x10 0) x2 x3 x4 x7 x9 l d) (fun l d => mgt_apply (sl x0 256) (sl x1 256) (sl x5 256) (sl x6 256) (slf x8 256) (slf x10 256) x2 x3 x4 x7 x9 l d)]
  exact dwo_eq x0 x1 x2 x3 x4 x5 x6 x7 x8 x9 x10 (k0_pay4 (F := Ideal))

end Cases

end Cert.Kernel6Ideal.Own
-- ==== Proof.LossBodyB.lean ====
module

public import proofs.«01_k».proof.Proof.LossBlock

@[expose] public section

set_option maxRecDepth 16384

noncomputable section

namespace Cert.Kernel6Ideal.Own

open Cert.Kernel6Ideal Cert.Kernel6Ideal.Gen Idealize.ShloMosaic Idealize.ShloMosaic.TcCoe Idealize.SL.Sem

/-! ## What the body leaves in its outputs at every later block -/

section Cases

variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x2048 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1x1024 .f32) (harg15 : arg15.IsWhole) (arg16 : Memref sig .tc .vmem S8x128 .f32) (harg16 : arg16.IsWhole) (arg17 : Memref sig .tc .vmem S1024x1024 .f32) (harg17 : arg17.IsWhole) (arg18 : Memref sig .tc .vmem S1024x512 .bf16) (harg18 : arg18.IsWhole)
  (x0 x1 : Vec Ideal S512x1024 .bf16) (x2 x3 x4 : Vec Ideal S1024x1024 .bf16) (x5 x6 : Vec Ideal S512x1024 .bf16) (x7 : Vec Ideal S1x2048 .f32)
  (x8 : Vec Ideal S512x1024 .f32) (x9 : Vec Ideal S1x1024 .f32) (x10 : Vec Ideal S512x1024 .f32)

theorem out_B_11 (hc0 : ¬cond0_0 i) (xo14 : Vec Ideal S1x1024 .f32) (xo15 : Vec Ideal S8x128 .f32) (xo16 : Vec Ideal S1024x1024 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 = ycB x0 x1 x2 x3 x4 x5 x6 x7 x8 x9 x10 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16)]
  funext y
  refine View.canon_apply_of_pieces (ycB x0 x1 x2 x3 x4 x5 x6 x7 x8 x9 x10) _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 y)
  unfold kernelRun0_B
  dsimp only
  sl_unfold_words
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  intro p hp x
  simp only [List.mem_cons, List.not_mem_nil, or_false] at hp
  rcases hp with rfl | rfl
  · exact at_rows x0 x1 x5 x6 x8 x10 (Loss.yc (wts x2 x3 x4 x7 x9)) _ 256 (by omega) (fun l d => (congrFun (yc2 (sl x0 256) x2) _).trans (yc_apply (sl x0 256) (sl x1 256) (sl x5 256) (sl x6 256) (slf x8 256) (slf x10 256) x2 x3 x4 x7 x9 l d)) x _ rfl rfl
  · exact at_rows x0 x1 x5 x6 x8 x10 (Loss.yc (wts x2 x3 x4 x7 x9)) _ 0 (by omega) (fun l d => (congrFun (yc1 (sl x0 0) x2) _).trans (yc_apply (sl x0 0) (sl x1 0) (sl x5 0) (sl x6 0) (slf x8 0) (slf x10 0) x2 x3 x4 x7 x9 l d)) x _ rfl rfl

theorem out_B_12 (hc0 : ¬cond0_0 i) (xo14 : Vec Ideal S1x1024 .f32) (xo15 : Vec Ideal S8x128 .f32) (xo16 : Vec Ideal S1024x1024 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 = yaB x0 x1 x2 x3 x4 x5 x6 x7 x8 x9 x10 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16)]
  funext y
  refine View.canon_apply_of_pieces (yaB x0 x1 x2 x3 x4 x5 x6 x7 x8 x9 x10) _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 y)
  unfold kernelRun0_B
  dsimp only
  sl_unfold_words
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  intro p hp x
  simp only [List.mem_cons, List.not_mem_nil, or_false] at hp
  rcases hp with rfl | rfl
  · exact at_rows x0 x1 x5 x6 x8 x10 (Loss.ya (wts x2 x3 x4 x7 x9)) _ 256 (by omega) (fun l d => (congrFun (ya2 (sl x1 256) x3) _).trans (ya_apply (sl x0 256) (sl x1 256) (sl x5 256) (sl x6 256) (slf x8 256) (slf x10 256) x2 x3 x4 x7 x9 l d)) x _ rfl rfl
  · exact at_rows x0 x1 x5 x6 x8 x10 (Loss.ya (wts x2 x3 x4 x7 x9)) _ 0 (by omega) (fun l d => (congrFun (ya1 (sl x1 0) x3) _).trans (ya_apply (sl x0 0) (sl x1 0) (sl x5 0) (sl x6 0) (slf x8 0) (slf x10 0) x2 x3 x4 x7 x9 l d)) x _ rfl rfl

theorem out_B_13 (hc0 : ¬cond0_0 i) (xo14 : Vec Ideal S1x1024 .f32) (xo15 : Vec Ideal S8x128 .f32) (xo16 : Vec Ideal S1024x1024 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 = dhB x0 x1 x2 x3 x4 x5 x6 x7 x8 x9 x10 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16)]
  funext y
  refine View.canon_apply_of_pieces (dhB x0 x1 x2 x3 x4 x5 x6 x7 x8 x9 x10) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 y)
  unfold kernelRun0_B
  dsimp only
  sl_unfold_words
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  intro p hp x
  simp only [List.mem_cons, List.not_mem_nil, or_false] at hp
  rcases hp with rfl | rfl
  · exact at_rows x0 x1 x5 x6 x8 x10 (Loss.dh (wts x2 x3 x4 x7 x9)) _ 256 (by omega) (fun l d => (congrFun (dh2 (sl x0 256) (sl x1 256) (sl x5 256) (sl x6 256) (slf x8 256) (slf x10 256) x2 x3 x4 x7 x9) _).trans (dh_apply (sl x0 256) (sl x1 256) (sl x5 256) (sl x6 256) (slf x8 256) (slf x10 256) x2 x3 x4 x7 x9 l d)) x _ rfl rfl
  · exact at_rows x0 x1 x5 x6 x8 x10 (Loss.dh (wts x2 x3 x4 x7 x9)) _ 0 (by omega) (fun l d => (congrFun (dh1 (sl x0 0) (sl x1 0) (sl x5 0) (sl x6 0) (slf x8 0) (slf x10 0) x2 x3 x4 x7 x9) _).trans (dh_apply (sl x0 0) (sl x1 0) (sl x5 0) (sl x6 0) (slf x8 0) (slf x10 0) x2 x3 x4 x7 x9 l d)) x _ rfl rfl

theorem out_B_14 (hc0 : ¬cond0_0 i) (xo14 : Vec Ideal S1x1024 .f32) (xo15 : Vec Ideal S8x128 .f32) (xo16 : Vec Ideal S1024x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 = dgB x0 x1 x2 x3 x4 x5 x6 x7 x8 x9 x10 xo14 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16)]
  unfold kernelRun0_B
  dsimp only
  sl_unfold_words
  rw [View.canon_cons_unit_zero (S := S1x1024) hz2]
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  simp only [yc1, ya1, mgt1, loss1, dg1, dh1, yc2, ya2, mgt2, loss2, dg2, dh2]
  simp only [View.readCov_cons_toLoadRect]
  exact dg_chains x0 x1 x2 x3 x4 x5 x6 x7 x8 x9 x10 xo14

theorem out_B_15 (hc0 : ¬cond0_0 i) (xo14 : Vec Ideal S1x1024 .f32) (xo15 : Vec Ideal S8x128 .f32) (xo16 : Vec Ideal S1024x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 = lossB x0 x1 x2 x3 x4 x5 x6 x7 x8 x9 x10 xo15 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16)]
  unfold kernelRun0_B
  dsimp only
  sl_unfold_words
  rw [View.canon_cons_unit_zero (S := S8x128) hz2]
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  simp only [yc1, ya1, mgt1, loss1, dg1, dh1, yc2, ya2, mgt2, loss2, dg2, dh2]
  simp only [View.readCov_cons_toLoadRect]
  exact loss_chains x0 x1 x2 x3 x4 x5 x6 x7 x8 x9 x10 xo15

theorem out_B_16 (hc0 : ¬cond0_0 i) (xo14 : Vec Ideal S1x1024 .f32) (xo15 : Vec Ideal S8x128 .f32) (xo16 : Vec Ideal S1024x1024 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16 = dwoB x0 x1 x2 x3 x4 x5 x6 x7 x8 x9 x10 xo16 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 xo14 xo15 xo16)]
  unfold kernelRun0_B
  dsimp only
  sl_unfold_words
  rw [View.canon_unit_zero (S := S1024x1024) hz2]
  simp only [readRows, readRowsF]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S1024x1024) hz2, View.ld_unit_zero (S := S1x2048) hz2, View.ld_unit_zero (S := S1x1024) hz2, View.ld_unit_zero (S := S8x128) hz2]
  simp only [yc1, ya1, mgt1, loss1, dg1, dh1, yc2, ya2, mgt2, loss2, dg2, dh2]
  rw [cov_rows x0 x1 x2 x3 x4 x5 x6 x7 x8 x9 x10 _ _ _ (fun l d => dh_apply (sl x0 0) (sl x1 0) (sl x5 0) (sl x6 0) (slf x8 0) (slf x10 0) x2 x3 x4 x7 x9 l d) (fun l d => dh_apply (sl x0 256) (sl x1 256) (sl x5 256) (sl x6 256) (slf x8 256) (slf x10 256) x2 x3 x4 x7 x9 l d),
    cov_cols x0 x1 x2 x3 x4 x5 x6 x7 x8 x9 x10 _ _ _ (fun l d => mgt_apply (sl x0 0) (sl x1 0) (sl x5 0) (sl x6 0) (slf x8 0) (slf x10 0) x2 x3 x4 x7 x9 l d) (fun l d => mgt_apply (sl x0 256) (sl x1 256) (sl x5 256) (sl x6 256) (slf x8 256) (slf x10 256) x2 x3 x4 x7 x9 l d)]
  exact dwo_eq x0 x1 x2 x3 x4 x5 x6 x7 x8 x9 x10 xo16

end Cases

end Cert.Kernel6Ideal.Own
-- ==== Proof.LossRef.lean ====
module

public import proofs.«01_k».proof.Proof.LossMath
public import proofs.«01_k».proof.Proof.Gen.Reference6Ideal.Read
public import Idealize.ShloMosaic.Lib.KernelVsHost

@[expose] public section

set_option maxRecDepth 16384

noncomputable section

/-! # The reference, read entry by entry -/

namespace Cert.LossRef

open Cert.Reference6Ideal Cert.Reference6Ideal.Read Idealize.ShloMosaic Cert.Conv
open Cert.Loss (Row Weights)

variable (x0 x1 : Vec Ideal S4096x1024 .bf16) (x2 : Vec Ideal S4096x10240 .bf16) (x3 x4 x5 : Vec Ideal S1024x1024 .bf16)
  (x6 : Vec Ideal S2048 .f32) (x7 : Vec Ideal S4096x1024 .f32) (x8 : Vec Ideal S1024 .f32) (x9 : Vec Ideal S4096x1024 .f32)

/-- A row of the arrays that the loss is computed from. -/
def row (n : Fin 4096) : Row :=
  ⟨fun d => x0 (ix2 n d), fun d => val_main_v9 (F := Ideal) x1 x2 (ix2 n d), fun d => x2 (ix2 n ⟨8192 + d.val, by omega⟩),
    fun d => x2 (ix2 n ⟨9216 + d.val, by omega⟩), fun d => x7 (ix2 n d), fun d => x9 (ix2 n d)⟩

/-- The weights, the bias and the scale. -/
def wt : Weights := ⟨x3, x4, x5, fun d => x6 (ix1 ⟨d.val, by omega⟩), fun d => x6 (ix1 ⟨1024 + d.val, by omega⟩), fun d => x8 (ix1 d)⟩

variable (n : Fin 4096) (d : Fin 1024)

theorem under {z : (⟨S4096x1024, .f32⟩ : BufTy).Contents (Elt Ideal)} {i : S4096x1024.Idx} (hi : i = ix2 n d) : z i = z (ix2 n d) := congrArg z hi

/-- The words of one and of zero. -/
theorem one_word : (FloatOps.ofBits (F := Ideal) .f32 0x3F800000#32 : EReal) = 1 := Ideal.ofBits_one_f32
theorem zero_word : (FloatOps.ofBits (F := Ideal) .f32 0x00000000#32 : EReal) = 0 := Ideal.ofBits_zero_f32

/-- A half, divided by the number of columns and doubled, is the inverse of that number. -/
theorem inv_word (e : EReal) :
    Ideal.div (Ideal.ofBits .f32 0x3F000000#32 * 1) (Ideal.ofBits .f32 0x44800000#32) * (Ideal.ofBits .f32 0x40000000#32 * e) = e * Loss.inv := by
  have hh : Ideal.ofBits .f32 0x3F000000#32 = ((1 / 2 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hw : Ideal.ofBits .f32 0x44800000#32 = ((1024 : ℝ) : EReal) := Parts.width_eq
  rw [hh, h2, hw, mul_one, Loss.inv_eq, Ideal.div_coe (by norm_num : (1024 : ℝ) ≠ 0), ← mul_assoc, ← EReal.coe_mul, ← EReal.coe_mul, mul_comm]
  norm_num

theorem v11_at : val_main_v11 (F := Ideal) x2 (ix2 n d) = x2 (ix2 n ⟨8192 + d.val, by omega⟩) := by
  rw [val_main_v11_apply, val_main_v2_apply]
  exact congrArg x2 (funext fun a => match a with | ⟨0, _⟩ => rfl | ⟨1, _⟩ => rfl)

theorem v22_at : val_main_v22 (F := Ideal) x2 (ix2 n d) = x2 (ix2 n ⟨9216 + d.val, by omega⟩) := by
  rw [val_main_v22_apply, val_main_v2_apply]
  exact congrArg x2 (funext fun a => match a with | ⟨0, _⟩ => rfl | ⟨1, _⟩ => rfl)

theorem v14_at : val_main_v14 (F := Ideal) x6 (ix2 n d) = x6 (ix1 ⟨d.val, by omega⟩) := by
  rw [val_main_v14_apply, val_main_v13_apply, val_main_v12_apply]
  refine congrArg x6 (funext fun a => Fin.ext ?_)
  match a with
  | ⟨0, _⟩ => rfl

theorem v25_at : val_main_v25 (F := Ideal) x6 (ix2 n d) = x6 (ix1 ⟨1024 + d.val, by omega⟩) := by
  rw [val_main_v25_apply, val_main_v24_apply, val_main_v23_apply]
  refine congrArg x6 (funext fun a => Fin.ext ?_)
  match a with
  | ⟨0, _⟩ => rfl

theorem yc_at : val_main_v6 (F := Ideal) x0 x3 (ix2 n d) = Loss.yc (wt x3 x4 x5 x6 x8) (row x0 x1 x2 x7 x9 n) d := by
  rw [val_main_v6_apply]
  unfold Loss.yc Loss.times
  refine Finset.sum_congr rfl fun k _ => ?_
  rw [val_main_v0_apply, val_main_v3_apply]
  exact congrArg₂ (· * ·) (congrArg x0 (funext fun a => match a with | ⟨0, _⟩ => rfl | ⟨1, _⟩ => rfl)) (congrArg x3 (funext fun a => match a with | ⟨0, _⟩ => rfl | ⟨1, _⟩ => rfl))

theorem ya_at : val_main_v10 (F := Ideal) x1 x2 x4 (ix2 n d) = Loss.ya (wt x3 x4 x5 x6 x8) (row x0 x1 x2 x7 x9 n) d := by
  rw [val_main_v10_apply]
  unfold Loss.ya Loss.times
  refine Finset.sum_congr rfl fun k _ => ?_
  rw [val_main_v4_apply]
  exact congrArg₂ (· * ·) (congrArg (val_main_v9 (F := Ideal) x1 x2) (funext fun a => match a with | ⟨0, _⟩ => rfl | ⟨1, _⟩ => rfl)) (congrArg x4 (funext fun a => match a with | ⟨0, _⟩ => rfl | ⟨1, _⟩ => rfl))

/-- The two gates. -/
theorem gc_at : val_main_v21 (F := Ideal) x2 x6 (ix2 n d) = Loss.gc (wt x3 x4 x5 x6 x8) (row x0 x1 x2 x7 x9 n) d := by
  unfold Loss.gc
  rw [val_main_v21_apply, val_main_v20_apply, val_main_v19_apply, val_main_v18_apply, val_main_v17_apply, val_main_v16_apply, val_main_v15_apply,
    v11_at, v14_at, val_main_cst_apply, val_main_cst_0_apply, one_word, sg_eq]
  rfl

theorem ga_at : val_main_v32 (F := Ideal) x2 x6 (ix2 n d) = Loss.ga (wt x3 x4 x5 x6 x8) (row x0 x1 x2 x7 x9 n) d := by
  unfold Loss.ga
  rw [val_main_v32_apply, val_main_v31_apply, val_main_v30_apply, val_main_v29_apply, val_main_v28_apply, val_main_v27_apply, val_main_v26_apply,
    v22_at, v25_at, val_main_cst_1_apply, val_main_cst_2_apply, one_word, sg_eq]
  rfl

theorem mg_at : val_main_v35 (F := Ideal) x0 x1 x2 x3 x4 x6 (ix2 n d) = Loss.mg (wt x3 x4 x5 x6 x8) (row x0 x1 x2 x7 x9 n) d := by
  rw [val_main_v35_apply, val_main_v33_apply, val_main_v34_apply, gc_at x0 x1 x2 x3 x4 x5 x6 x7 x8 x9, yc_at x0 x1 x2 x3 x4 x5 x6 x7 x8 x9, ga_at x0 x1 x2 x3 x4 x5 x6 x7 x8 x9, ya_at x0 x1 x2 x3 x4 x5 x6 x7 x8 x9]
  rfl

theorem h2_at : val_main_v37 (F := Ideal) x0 x1 x2 x3 x4 x5 x6 x7 (ix2 n d) = Loss.h2 (wt x3 x4 x5 x6 x8) (row x0 x1 x2 x7 x9 n) d := by
  rw [val_main_v37_apply, val_main_v36_apply]
  unfold Loss.h2 Loss.times
  refine congrArg (x7 (ix2 n d) + ·) (Finset.sum_congr rfl fun k _ => ?_)
  rw [val_main_v5_apply]
  have hk : lidx_main_v36 (ix2 n d) k = ix2 n k := (funext fun a => match a with | ⟨0, _⟩ => rfl | ⟨1, _⟩ => rfl)
  rw [hk, mg_at x0 x1 x2 x3 x4 x5 x6 x7 x8 x9]
  exact congrArg₂ (· * ·) rfl (congrArg x5 (funext fun a => match a with | ⟨0, _⟩ => rfl | ⟨1, _⟩ => rfl))

theorem ms_at : val_main_v44 (F := Ideal) x0 x1 x2 x3 x4 x5 x6 x7 (ix2 n 0) = Loss.ms (wt x3 x4 x5 x6 x8) (row x0 x1 x2 x7 x9 n) := by
  rw [val_main_v44_apply, val_main_v43_apply, val_main_cst_5_apply, val_main_v42_apply, val_main_v41_apply, val_main_cst_4_apply, val_main_v40_apply,
    val_main_v39_apply, val_main_cst_3_apply, zero_word, zero_add]
  unfold Loss.ms
  refine congrArg (Ideal.div · Parts.width + Parts.small) (Finset.sum_congr rfl fun j _ => ?_)
  rw [val_main_v38_apply]
  have hj : idx_main_v39 (idx_main_v40 (ix2 n 0)) j = ix2 n j := (funext fun a => match a with | ⟨0, _⟩ => rfl | ⟨1, _⟩ => rfl)
  rw [hj, h2_at x0 x1 x2 x3 x4 x5 x6 x7 x8 x9]
  rfl

theorem rs_at : val_main_v45 (F := Ideal) x0 x1 x2 x3 x4 x5 x6 x7 (ix2 n 0) = Loss.rs (wt x3 x4 x5 x6 x8) (row x0 x1 x2 x7 x9 n) := by
  rw [val_main_v45_apply, ms_at x0 x1 x2 x3 x4 x5 x6 x7 x8 x9]
  rfl

/-- A column's entry under any of its names. -/
theorem under0 {z : (⟨S4096x1, .f32⟩ : BufTy).Contents (Elt Ideal)} {i : S4096x1.Idx} (hi : (i 0).val = n.val) : z i = z (ix2 n 0) :=
  congrArg z (funext fun a => Fin.ext (match a with
    | ⟨0, _⟩ => hi
    | ⟨1, _⟩ => by have h : (i 1).val < 1 := (i 1).isLt; show (i 1).val = 0; omega))

theorem nrm_at : val_main_v50 (F := Ideal) x0 x1 x2 x3 x4 x5 x6 x7 (ix2 n d) = Loss.nrm (wt x3 x4 x5 x6 x8) (row x0 x1 x2 x7 x9 n) d := by
  rw [val_main_v50_apply, val_main_v49_apply, h2_at x0 x1 x2 x3 x4 x5 x6 x7 x8 x9]
  exact congrArg (_ * ·) ((under0 n rfl).trans (rs_at x0 x1 x2 x3 x4 x5 x6 x7 x8 x9 n))

theorem g_at : val_main_v52 (F := Ideal) x8 (ix2 n d) = x8 (ix1 d) := by
  rw [val_main_v52_apply, val_main_v51_apply]
  refine congrArg x8 (funext fun a => Fin.ext ?_)
  match a with
  | ⟨0, _⟩ => rfl

theorem g_at' : val_main_v72 (F := Ideal) x8 (ix2 n d) = x8 (ix1 d) := by
  rw [val_main_v72_apply, val_main_v51_apply]
  refine congrArg x8 (funext fun a => Fin.ext ?_)
  match a with
  | ⟨0, _⟩ => rfl

theorem err_at : val_main_v54 (F := Ideal) x0 x1 x2 x3 x4 x5 x6 x7 x8 x9 (ix2 n d) = Loss.err (wt x3 x4 x5 x6 x8) (row x0 x1 x2 x7 x9 n) d := by
  rw [val_main_v54_apply, val_main_v53_apply, nrm_at x0 x1 x2 x3 x4 x5 x6 x7 x8 x9, g_at]
  rfl

theorem dy_at : val_main_v68 (F := Ideal) x0 x1 x2 x3 x4 x5 x6 x7 x8 x9 (ix2 n d) = Loss.dy (wt x3 x4 x5 x6 x8) (row x0 x1 x2 x7 x9 n) d := by
  rw [val_main_v68_apply, val_main_v67_apply, val_main_v66_apply, val_main_v65_apply, val_main_v64_apply, val_main_v63_apply, val_main_cst_12_apply,
    val_main_cst_13_apply, val_main_cst_14_apply, val_main_v57_apply, val_main_v56_apply, val_main_cst_7_apply, err_at x0 x1 x2 x3 x4 x5 x6 x7 x8 x9, one_word]
  exact inv_word _

theorem dg_at : val_main_v110 (F := Ideal) x0 x1 x2 x3 x4 x5 x6 x7 x8 x9 (ix2 0 d) = ∑ m : Fin 4096, Loss.dg (wt x3 x4 x5 x6 x8) (row x0 x1 x2 x7 x9 m) d := by
  rw [val_main_v110_apply, val_main_v74_apply, val_main_cst_16_apply, zero_word, zero_add, Fin.sum_univ_one, val_main_v71_apply, val_main_v70_apply,
    val_main_cst_15_apply, zero_word, zero_add]
  refine Finset.sum_congr rfl fun m _ => (under m d (funext fun a => Fin.ext ?_)).trans ?_
  · match a with
    | ⟨0, _⟩ => rfl
    | ⟨1, _⟩ => show 0 * 1024 + (0 * 1024 + d.val) = d.val; omega
  · rw [val_main_v69_apply, nrm_at x0 x1 x2 x3 x4 x5 x6 x7 x8 x9, dy_at x0 x1 x2 x3 x4 x5 x6 x7 x8 x9]
    exact mul_comm _ _

theorem dn_at : val_main_v73 (F := Ideal) x0 x1 x2 x3 x4 x5 x6 x7 x8 x9 (ix2 n d) = Loss.dn (wt x3 x4 x5 x6 x8) (row x0 x1 x2 x7 x9 n) d := by
  rw [val_main_v73_apply, dy_at x0 x1 x2 x3 x4 x5 x6 x7 x8 x9, g_at']
  rfl

theorem dot_at : val_main_v76 (F := Ideal) x0 x1 x2 x3 x4 x5 x6 x7 x8 x9 (ix1 n) = ∑ j : Fin 1024, Loss.h2 (wt x3 x4 x5 x6 x8) (row x0 x1 x2 x7 x9 n) j * Loss.dn (wt x3 x4 x5 x6 x8) (row x0 x1 x2 x7 x9 n) j := by
  rw [val_main_v76_apply, val_main_cst_17_apply, zero_word, zero_add]
  refine Finset.sum_congr rfl fun j _ => ?_
  have hj : idx_main_v76 (ix1 n) j = ix2 n j := (funext fun a => match a with | ⟨0, _⟩ => rfl | ⟨1, _⟩ => rfl)
  rw [hj, val_main_v75_apply, h2_at x0 x1 x2 x3 x4 x5 x6 x7 x8 x9, dn_at x0 x1 x2 x3 x4 x5 x6 x7 x8 x9]
  rfl

/-- The part of the gradient that goes through the mean square. -/
theorem mean_at : val_main_v84 (F := Ideal) x0 x1 x2 x3 x4 x5 x6 x7 x8 x9 (ix2 n d)
    = Ideal.div ((∑ j, Loss.h2 (wt x3 x4 x5 x6 x8) (row x0 x1 x2 x7 x9 n) j * Loss.dn (wt x3 x4 x5 x6 x8) (row x0 x1 x2 x7 x9 n) j)
        * (((-(1 / 2) : ℝ) : EReal) * Ideal.div (Loss.rs (wt x3 x4 x5 x6 x8) (row x0 x1 x2 x7 x9 n)) (Loss.ms (wt x3 x4 x5 x6 x8) (row x0 x1 x2 x7 x9 n)))) Parts.width := by
  rw [val_main_v84_apply, val_main_v83_apply, val_main_cst_19_apply, zero_word, zero_add, Fin.sum_univ_one]
  refine (under0 n rfl).trans ?_
  rw [val_main_v82_apply, val_main_v81_apply, val_main_cst_18_apply, val_main_v80_apply, val_main_v77_apply, val_main_v48_apply, val_main_v47_apply,
    val_main_cst_6_apply, val_main_v46_apply, rs_at x0 x1 x2 x3 x4 x5 x6 x7 x8 x9, ms_at x0 x1 x2 x3 x4 x5 x6 x7 x8 x9]
  have hi : idx_main_v77 (ix2 n 0) = ix1 n := funext fun a => Fin.ext (match a with
    | ⟨0, _⟩ => by show n.val * 1 + 0 = n.val; omega)
  rw [hi, dot_at x0 x1 x2 x3 x4 x5 x6 x7 x8 x9]
  exact congrArg (fun z => Ideal.div (_ * (z * _)) Parts.width) Parts.half_eq

theorem dh_at : val_main_v88 (F := Ideal) x0 x1 x2 x3 x4 x5 x6 x7 x8 x9 (ix2 n d) = Loss.dh (wt x3 x4 x5 x6 x8) (row x0 x1 x2 x7 x9 n) d := by
  rw [Loss.dh_eq, val_main_v88_apply, val_main_v87_apply, val_main_v86_apply, val_main_v85_apply, val_main_v79_apply, val_main_v78_apply, mean_at x0 x1 x2 x3 x4 x5 x6 x7 x8 x9, h2_at x0 x1 x2 x3 x4 x5 x6 x7 x8 x9,
    dn_at x0 x1 x2 x3 x4 x5 x6 x7 x8 x9]
  exact congrArg (fun z => _ * z + _ + _) ((under0 n rfl).trans (rs_at x0 x1 x2 x3 x4 x5 x6 x7 x8 x9 n))

theorem err_again : val_main_v102 (F := Ideal) x0 x1 x2 x3 x4 x5 x6 x7 x8 x9 = val_main_v54 (F := Ideal) x0 x1 x2 x3 x4 x5 x6 x7 x8 x9 := rfl

theorem sq_at : val_main_v103 (F := Ideal) x0 x1 x2 x3 x4 x5 x6 x7 x8 x9 (ix2 n d) = Loss.sq (wt x3 x4 x5 x6 x8) (row x0 x1 x2 x7 x9 n) d := by
  rw [val_main_v103_apply, err_again, err_at x0 x1 x2 x3 x4 x5 x6 x7 x8 x9]
  rfl

/-- The sums of the loss: every eighth row, every 128th column. -/
theorem loss_at (b : Fin 8) (e : Fin 128) : val_main_v106 (F := Ideal) x0 x1 x2 x3 x4 x5 x6 x7 x8 x9 (ix2 b e)
    = ∑ m : Fin 4096, if m.val % 8 = b.val then Loss.sqs (wt x3 x4 x5 x6 x8) (row x0 x1 x2 x7 x9 m) e else 0 := by
  refine Eq.trans ?_ (Loss.every_eighth 512 (fun m => Loss.sqs (wt x3 x4 x5 x6 x8) (row x0 x1 x2 x7 x9 m) e) b)
  rw [val_main_v106_apply, val_main_cst_24_apply, zero_word, zero_add]
  simp only [val_main_v105_apply, val_main_cst_23_apply, zero_word, zero_add, val_main_v104_apply]
  rw [Finset.sum_comm]
  refine Finset.sum_congr rfl fun a _ => ?_
  unfold Loss.sqs
  refine Finset.sum_congr rfl fun c _ => (under ⟨8 * a.val + b.val, by omega⟩ ⟨128 * c.val + e.val, by omega⟩ (funext fun z => Fin.ext ?_)).trans (sq_at x0 x1 x2 x3 x4 x5 x6 x7 x8 x9 _ _)
  have hb := b.isLt
  have he := e.isLt
  have hc := c.isLt
  match z with
  | ⟨0, _⟩ => show (((a.val * 8 + b.val) * 8 + c.val) * 128 + e.val) / 1024 = 8 * a.val + b.val; omega
  | ⟨1, _⟩ => show (((a.val * 8 + b.val) * 8 + c.val) * 128 + e.val) % 1024 = 128 * c.val + e.val; omega

theorem dwo_at (k : Fin 1024) : val_main_v112 (F := Ideal) x0 x1 x2 x3 x4 x5 x6 x7 x8 x9 (ix2 k d)
    = ∑ m : Fin 4096, Loss.mg (wt x3 x4 x5 x6 x8) (row x0 x1 x2 x7 x9 m) k * Loss.dh (wt x3 x4 x5 x6 x8) (row x0 x1 x2 x7 x9 m) d := by
  rw [val_main_v112_apply, val_main_v111_apply]
  refine Finset.sum_congr rfl fun m _ => ?_
  have hl : lidx_main_v111 (idx_main_v112 (ix2 k d)) m = ix2 m d := (funext fun a => match a with | ⟨0, _⟩ => rfl | ⟨1, _⟩ => rfl)
  have hr : ridx_main_v111 (idx_main_v112 (ix2 k d)) m = ix2 m k := (funext fun a => match a with | ⟨0, _⟩ => rfl | ⟨1, _⟩ => rfl)
  rw [hl, hr, mg_at x0 x1 x2 x3 x4 x5 x6 x7 x8 x9, dh_at x0 x1 x2 x3 x4 x5 x6 x7 x8 x9]
  exact mul_comm _ _

end Cert.LossRef
-- ==== Proof.LossKernel.lean ====
module

public import proofs.«01_k».proof.Proof.LossBodyA
public import proofs.«01_k».proof.Proof.LossBodyB
public import proofs.«01_k».proof.Proof.LossRef

@[expose] public section

set_option maxRecDepth 16384

noncomputable section

namespace Cert.Kernel6Ideal.Own

open Cert.Kernel6Ideal Cert.Kernel6Ideal.Gen Idealize.ShloMosaic Idealize.ShloMosaic.TcCoe Idealize.SL.Sem
open Cert.Loss (Row Weights)
open Idealize.ShloMosaic.Pipeline (Dat)

/-! ## The results as arrays, row by row -/

section Arrays

variable (x0 x1 : S4096x1024.Idx → EReal) (x2 : S4096x10240.Idx → EReal) (x3 x4 x5 : S1024x1024.Idx → EReal) (x6 : S2048.Idx → EReal)
  (x7 : S4096x1024.Idx → EReal) (x8 : S1024.Idx → EReal) (x9 : S4096x1024.Idx → EReal)

def ycArr : S4096x1024.Idx → EReal := fun y => Loss.yc (LossRef.wt x3 x4 x5 x6 x8) (LossRef.row x0 x1 x2 x7 x9 (y 0)) (y 1)
def yaArr : S4096x1024.Idx → EReal := fun y => Loss.ya (LossRef.wt x3 x4 x5 x6 x8) (LossRef.row x0 x1 x2 x7 x9 (y 0)) (y 1)
def dhArr : S4096x1024.Idx → EReal := fun y => Loss.dh (LossRef.wt x3 x4 x5 x6 x8) (LossRef.row x0 x1 x2 x7 x9 (y 0)) (y 1)

/-- A row's terms of the gradient of the scale, of the sums of the loss, and of the gradient of the weights. -/
def dgTerm (e : Fin 1024) (n : Fin 4096) : EReal := Loss.dg (LossRef.wt x3 x4 x5 x6 x8) (LossRef.row x0 x1 x2 x7 x9 n) e
def lossTerm (b : Fin 8) (e : Fin 128) (n : Fin 4096) : EReal := if n.val % 8 = b.val then Loss.sqs (LossRef.wt x3 x4 x5 x6 x8) (LossRef.row x0 x1 x2 x7 x9 n) e else 0
def dwoTerm (k d : Fin 1024) (n : Fin 4096) : EReal := Loss.mg (LossRef.wt x3 x4 x5 x6 x8) (LossRef.row x0 x1 x2 x7 x9 n) k * Loss.dh (LossRef.wt x3 x4 x5 x6 x8) (LossRef.row x0 x1 x2 x7 x9 n) d

def dgArr : S1x1024.Idx → EReal := fun y => ∑ n : Fin 4096, dgTerm x0 x1 x2 x3 x4 x5 x6 x7 x8 x9 (y 1) n
def lossArr : S8x128.Idx → EReal := fun y => ∑ n : Fin 4096, lossTerm x0 x1 x2 x3 x4 x5 x6 x7 x8 x9 (y 0) (y 1) n
def dwoArr : S1024x1024.Idx → EReal := fun y => ∑ n : Fin 4096, dwoTerm x0 x1 x2 x3 x4 x5 x6 x7 x8 x9 (y 0) (y 1) n

end Arrays

variable (m : (ℓ : Loc nD τ sig) → Buf (Elt Ideal) ℓ)

/-! ## What the host prepares -/

/-- The attention's branch, as the reference forms it. -/
theorem ha_eq (c : Dev nD) : V m c main_v5 = Cert.Reference6Ideal.Read.val_main_v9 (F := Ideal) (m ((c : Thread nD τ).loc main_arg1)) (m ((c : Thread nD τ).loc main_arg2)) := by
  entry_read
  rfl

theorem bias_read (c : Dev nD) (r : Fin 2048) : V m c main_v6 (ix2 0 r) = (m ((c : Thread nD τ).loc main_arg6)) (ix1 r) := by
  entry_read
  refine shapeCast_apply _ _ (ix2 0 r) (ix1 r) ?_
  rw [Shape.rowMajor_val_one, Shape.rowMajor_val_two]
  show r.val = 0 * 2048 + r.val
  omega

theorem scale_read (c : Dev nD) (e : Fin 1024) : V m c main_v7 (ix2 0 e) = (m ((c : Thread nD τ).loc main_arg8)) (ix1 e) := by
  entry_read
  refine shapeCast_apply _ _ (ix2 0 e) (ix1 e) ?_
  rw [Shape.rowMajor_val_one, Shape.rowMajor_val_two]
  show e.val = 0 * 1024 + e.val
  omega

/-! ## What the blocks of a grid point hold -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 8] := (by decide +kernel : ∀ t : Fin grid0.N, _)
theorem index6 : ∀ t : Fin cfg0.N, win0_6.index t = ![t.val, 9] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![0, 0] := (by decide +kernel : ∀ t : Fin grid0.N, _)
theorem index15 : ∀ t : Fin cfg0.N, win0_15.index t = ![0, 0] := (by decide +kernel : ∀ t : Fin grid0.N, _)
theorem index16 : ∀ t : Fin cfg0.N, win0_16.index t = ![0, 0] := (by decide +kernel : ∀ t : Fin grid0.N, _)

/-- Row `l` of block `t` among all rows. -/
def rowOf (t : Fin cfg0.N) (l : Fin 512) : Fin 4096 := ⟨512 * t.val + l.val, by have ht : t.val < 8 := t.isLt; omega⟩

theorem block0 (c : Dev nD) (t : Fin cfg0.N) (l : Fin 512) (q : Fin 1024) : iblk m c 0 t (ix2 l q) = (m ((c : Thread nD τ).loc main_arg0)) (ix2 (rowOf t l) q) := by
  refine Eq.trans ?_ (congrFun (V_main_arg0 m c) _)
  blk_simp [iblk]
  refine congrArg (V m c main_arg0) ?_
  blk_ext [index0, rowOf]

theorem block8 (c : Dev nD) (t : Fin cfg0.N) (l : Fin 512) (q : Fin 1024) : iblk m c 8 t (ix2 l q) = (m ((c : Thread nD τ).loc main_arg7)) (ix2 (rowOf t l) q) := by
  refine Eq.trans ?_ (congrFun (V_main_arg7 m c) _)
  blk_simp [iblk]
  refine congrArg (V m c main_arg7) ?_
  blk_ext [index8, rowOf]

theorem block10 (c : Dev nD) (t : Fin cfg0.N) (l : Fin 512) (q : Fin 1024) : iblk m c 10 t (ix2 l q) = (m ((c : Thread nD τ).loc main_arg9)) (ix2 (rowOf t l) q) := by
  refine Eq.trans ?_ (congrFun (V_main_arg9 m c) _)
  blk_simp [iblk]
  refine congrArg (V m c main_arg9) ?_
  blk_ext [index10, rowOf]

theorem block1 (c : Dev nD) (t : Fin cfg0.N) (l : Fin 512) (q : Fin 1024) : iblk m c 1 t (ix2 l q) = Cert.Reference6Ideal.Read.val_main_v9 (F := Ideal) (m ((c : Thread nD τ).loc main_arg1)) (m ((c : Thread nD τ).loc main_arg2)) (ix2 (rowOf t l) q) := by
  refine Eq.trans ?_ (congrFun (ha_eq m c) _)
  blk_simp [iblk]
  refine congrArg (V m c main_v5) ?_
  blk_ext [index1, rowOf]

theorem block2 (c : Dev nD) (t : Fin cfg0.N) : iblk m c 2 t = (m ((c : Thread nD τ).loc main_arg3)) := by
  funext y
  refine Eq.trans ?_ (congrFun (V_main_arg3 m c) _)
  blk_simp [iblk]
  refine congrArg (V m c main_arg3) ?_
  blk_ext [index2]

theorem block3 (c : Dev nD) (t : Fin cfg0.N) : iblk m c 3 t = (m ((c : Thread nD τ).loc main_arg4)) := by
  funext y
  refine Eq.trans ?_ (congrFun (V_main_arg4 m c) _)
  blk_simp [iblk]
  refine congrArg (V m c main_arg4) ?_
  blk_ext [index3]

theorem block4 (c : Dev nD) (t : Fin cfg0.N) : iblk m c 4 t = (m ((c : Thread nD τ).loc main_arg5)) := by
  funext y
  refine Eq.trans ?_ (congrFun (V_main_arg5 m c) _)
  blk_simp [iblk]
  refine congrArg (V m c main_arg5) ?_
  blk_ext [index4]

theorem block5 (c : Dev nD) (t : Fin cfg0.N) (l : Fin 512) (q : Fin 1024) : iblk m c 5 t (ix2 l q) = (m ((c : Thread nD τ).loc main_arg2)) (ix2 (rowOf t l) ⟨8192 + q.val, by omega⟩) := by
  refine Eq.trans ?_ (congrFun (V_main_arg2 m c) _)
  blk_simp [iblk]
  refine congrArg (V m c main_arg2) ?_
  blk_ext [index5, rowOf]

theorem block6 (c : Dev nD) (t : Fin cfg0.N) (l : Fin 512) (q : Fin 1024) : iblk m c 6 t (ix2 l q) = (m ((c : Thread nD τ).loc main_arg2)) (ix2 (rowOf t l) ⟨9216 + q.val, by omega⟩) := by
  refine Eq.trans ?_ (congrFun (V_main_arg2 m c) _)
  blk_simp [iblk]
  refine congrArg (V m c main_arg2) ?_
  blk_ext [index6, rowOf]

theorem block7 (c : Dev nD) (t : Fin cfg0.N) (r : Fin 2048) : iblk m c 7 t (ix2 0 r) = (m ((c : Thread nD τ).loc main_arg6)) (ix1 r) := by
  refine Eq.trans ?_ (bias_read m c r)
  blk_simp [iblk]
  refine congrArg (V m c main_v6) ?_
  blk_ext [index7, rowOf]

theorem block9 (c : Dev nD) (t : Fin cfg0.N) (e : Fin 1024) : iblk m c 9 t (ix2 0 e) = (m ((c : Thread nD τ).loc main_arg8)) (ix1 e) := by
  refine Eq.trans ?_ (scale_read m c e)
  blk_simp [iblk]
  refine congrArg (V m c main_v7) ?_
  blk_ext [index9, rowOf]

/-- A row of a block is a row of the arguments. -/
theorem row_eq (c : Dev nD) (t : Fin cfg0.N) (l : Fin 512) :
    rowB (iblk m c 0 t) (iblk m c 1 t) (iblk m c 5 t) (iblk m c 6 t) (iblk m c 8 t) (iblk m c 10 t) l = LossRef.row (m ((c : Thread nD τ).loc main_arg0)) (m ((c : Thread nD τ).loc main_arg1)) (m ((c : Thread nD τ).loc main_arg2)) (m ((c : Thread nD τ).loc main_arg7)) (m ((c : Thread nD τ).loc main_arg9)) (rowOf t l) :=
  (Row.mk.injEq ..).mpr ⟨funext fun d => block0 m c t l d, funext fun d => block1 m c t l d, funext fun d => block5 m c t l d, funext fun d => block6 m c t l d,
    funext fun d => block8 m c t l d, funext fun d => block10 m c t l d⟩

theorem wts_eq (c : Dev nD) (t : Fin cfg0.N) : wts (iblk m c 2 t) (iblk m c 3 t) (iblk m c 4 t) (iblk m c 7 t) (iblk m c 9 t) = LossRef.wt (m ((c : Thread nD τ).loc main_arg3)) (m ((c : Thread nD τ).loc main_arg4)) (m ((c : Thread nD τ).loc main_arg5)) (m ((c : Thread nD τ).loc main_arg6)) (m ((c : Thread nD τ).loc main_arg8)) := by
  rw [block2, block3, block4]
  exact (Weights.mk.injEq ..).mpr ⟨rfl, rfl, rfl, funext fun d => block7 m c t _, funext fun d => block7 m c t _, funext fun d => block9 m c t d⟩

/-! ## What the body leaves at a point -/

theorem outs11 (c : Dev nD) (t : Fin cfg0.N) : (outsAt0 m c t.val t.isLt).1 = ycB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [outsAt0_A m c t h]
    dsimp only
    rw [out_A_11]
  · rw [outsAt0_B m c t h]
    dsimp only
    rw [out_B_11]

theorem outs12 (c : Dev nD) (t : Fin cfg0.N) : (outsAt0 m c t.val t.isLt).2.1 = yaB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [outsAt0_A m c t h]
    dsimp only
    rw [out_A_12]
  · rw [outsAt0_B m c t h]
    dsimp only
    rw [out_B_12]

theorem outs13 (c : Dev nD) (t : Fin cfg0.N) : (outsAt0 m c t.val t.isLt).2.2.1 = dhB (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  by_cases h : t.val % 8 = 0
  · rw [outsAt0_A m c t h]
    dsimp only
    rw [out_A_13]
  · rw [outsAt0_B m c t h]
    dsimp only
    rw [out_B_13]

theorem outs14_A (c : Dev nD) (t : Fin cfg0.N) (h : t.val % 8 = 0) : (outsAt0 m c t.val t.isLt).2.2.2.1 = dgB (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 (F := Ideal)) := by
  rw [outsAt0_A m c t h]
  dsimp only
  rw [out_A_14]

theorem outs14_B (c : Dev nD) (t : Fin cfg0.N) (h : ¬t.val % 8 = 0) :
    (outsAt0 m c t.val t.isLt).2.2.2.1 = dgB (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (by have := t.isLt; omega)).2.2.2.1 := by
  rw [outsAt0_B m c t h]
  dsimp only
  rw [out_B_14]

theorem outs15_A (c : Dev nD) (t : Fin cfg0.N) (h : t.val % 8 = 0) : (outsAt0 m c t.val t.isLt).2.2.2.2.1 = lossB (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay3 (F := Ideal)) := by
  rw [outsAt0_A m c t h]
  dsimp only
  rw [out_A_15]

theorem outs15_B (c : Dev nD) (t : Fin cfg0.N) (h : ¬t.val % 8 = 0) :
    (outsAt0 m c t.val t.isLt).2.2.2.2.1 = lossB (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (by have := t.isLt; omega)).2.2.2.2.1 := by
  rw [outsAt0_B m c t h]
  dsimp only
  rw [out_B_15]

theorem outs16_A (c : Dev nD) (t : Fin cfg0.N) (h : t.val % 8 = 0) : (outsAt0 m c t.val t.isLt).2.2.2.2.2 = dwoB (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay4 (F := Ideal)) := by
  rw [outsAt0_A m c t h]
  dsimp only
  rw [out_A_16]

theorem outs16_B (c : Dev nD) (t : Fin cfg0.N) (h : ¬t.val % 8 = 0) :
    (outsAt0 m c t.val t.isLt).2.2.2.2.2 = dwoB (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (by have := t.isLt; omega)).2.2.2.2.2 := by
  rw [outsAt0_B m c t h]
  dsimp only
  rw [out_B_16]

/-! ## Sums kept over the grid -/

/-- Terms by their row's number. -/
def byNumber (f : Fin 4096 → EReal) (i : ℕ) : EReal := f ⟨i % 4096, by omega⟩

theorem chunk (f : Fin 4096 → EReal) (t : Fin cfg0.N) : ∑ l : Fin 512, f (rowOf t l) = ∑ l ∈ Finset.range 512, byNumber f (512 * t.val + l) := by
  rw [← Fin.sum_univ_eq_sum_range (fun l => byNumber f (512 * t.val + l)) 512]
  refine Finset.sum_congr rfl fun l _ => congrArg f (Fin.ext ?_)
  have ht : t.val < 8 := t.isLt
  have hl := l.isLt
  show 512 * t.val + l.val = (512 * t.val + l.val) % 4096
  omega

theorem sum_upto (f : Fin 4096 → EReal) (a : (n : ℕ) → n < cfg0.N → EReal) (h0 : ∀ h : 0 < cfg0.N, a 0 h = ∑ l : Fin 512, f (rowOf ⟨0, h⟩ l))
    (hs : ∀ (n : ℕ) (h : n + 1 < cfg0.N), a (n + 1) h = a n (Nat.lt_of_succ_lt h) + ∑ l : Fin 512, f (rowOf ⟨n + 1, h⟩ l)) :
    ∀ (n : ℕ) (h : n < cfg0.N), a n h = ∑ i ∈ Finset.range (512 * (n + 1)), byNumber f i
  | 0, h => by
    rw [h0 h, chunk]
    simp only [Nat.mul_zero, Nat.zero_add, Nat.mul_one]
  | n + 1, h => by
    rw [hs n h, chunk, sum_upto f a h0 hs n (Nat.lt_of_succ_lt h), show 512 * (n + 1 + 1) = 512 * (n + 1) + 512 from rfl, Finset.sum_range_add]

/-- A sum that starts at the first block and to which each block adds its rows ends as the sum over all rows. -/
theorem sum_all (f : Fin 4096 → EReal) (a : (n : ℕ) → n < cfg0.N → EReal) (h0 : ∀ h : 0 < cfg0.N, a 0 h = ∑ l : Fin 512, f (rowOf ⟨0, h⟩ l))
    (hs : ∀ (n : ℕ) (h : n + 1 < cfg0.N), a (n + 1) h = a n (Nat.lt_of_succ_lt h) + ∑ l : Fin 512, f (rowOf ⟨n + 1, h⟩ l)) (h7 : 7 < cfg0.N) :
    a 7 h7 = ∑ n : Fin 4096, f n := by
  rw [sum_upto f a h0 hs 7 h7, show 512 * (7 + 1) = 4096 from rfl, ← Fin.sum_univ_eq_sum_range (fun i => byNumber f i) 4096]
  refine Finset.sum_congr rfl fun s _ => congrArg f (Fin.ext ?_)
  have hs := s.isLt
  show s.val % 4096 = s.val
  omega

theorem dgB_at (c : Dev nD) (t : Fin cfg0.N) (acc : Vec Ideal S1x1024 .f32) (e : Fin 1024) :
    dgB (iblk m c 0 t) (iblk m c 1 t) (iblk m c 2 t) (iblk m c 3 t) (iblk m c 4 t) (iblk m c 5 t) (iblk m c 6 t) (iblk m c 7 t) (iblk m c 8 t) (iblk m c 9 t) (iblk m c 10 t) acc (ix2 0 e) = acc (ix2 0 e) + ∑ l : Fin 512, dgTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e (rowOf t l) := by
  unfold dgB dgTerm
  rw [wts_eq m c t]
  simp only [row_eq m c t]
  exact congrArg (acc (ix2 0 e) + ·) (Finset.sum_congr rfl fun l _ => rfl)

/-- What the buffer holds after the last point. -/
theorem dg_last (c : Dev nD) (e : Fin 1024) (h7 : 7 < cfg0.N) : (outsAt0 m c 7 h7).2.2.2.1 (ix2 0 e) = ∑ n : Fin 4096, dgTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e n := by
  refine sum_all (dgTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e) (fun n h => (outsAt0 m c n h).2.2.2.1 (ix2 0 e)) (fun h => ?_) (fun n h => ?_) h7
  · refine (congrFun (outs14_A m c ⟨0, h⟩ rfl) _).trans ((dgB_at m c ⟨0, h⟩ _ e).trans ?_)
    refine Eq.trans (congrArg (· + _) (Ideal.ofBits_zero_f32)) ?_
    rw [zero_add]
  · have h8 : n + 1 < 8 := h
    exact (congrFun (outs14_B m c ⟨n + 1, h⟩ (by dsimp only; omega)) _).trans (dgB_at m c ⟨n + 1, h⟩ _ e)

theorem lossB_at (c : Dev nD) (t : Fin cfg0.N) (acc : Vec Ideal S8x128 .f32) (b : Fin 8) (e : Fin 128) :
    lossB (iblk m c 0 t) (iblk m c 1 t) (iblk m c 2 t) (iblk m c 3 t) (iblk m c 4 t) (iblk m c 5 t) (iblk m c 6 t) (iblk m c 7 t) (iblk m c 8 t) (iblk m c 9 t) (iblk m c 10 t) acc (ix2 b e) = acc (ix2 b e) + ∑ l : Fin 512, lossTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b e (rowOf t l) := by
  unfold lossB lossTerm
  rw [wts_eq m c t]
  simp only [row_eq m c t]
  exact congrArg (acc (ix2 b e) + ·) (Finset.sum_congr rfl fun l _ => if_congr (by show l.val % 8 = b.val ↔ (512 * t.val + l.val) % 8 = b.val; omega) rfl rfl)

/-- What the buffer holds after the last point. -/
theorem loss_last (c : Dev nD) (b : Fin 8) (e : Fin 128) (h7 : 7 < cfg0.N) : (outsAt0 m c 7 h7).2.2.2.2.1 (ix2 b e) = ∑ n : Fin 4096, lossTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b e n := by
  refine sum_all (lossTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b e) (fun n h => (outsAt0 m c n h).2.2.2.2.1 (ix2 b e)) (fun h => ?_) (fun n h => ?_) h7
  · refine (congrFun (outs15_A m c ⟨0, h⟩ rfl) _).trans ((lossB_at m c ⟨0, h⟩ _ b e).trans ?_)
    refine Eq.trans (congrArg (· + _) (Ideal.ofBits_zero_f32)) ?_
    rw [zero_add]
  · have h8 : n + 1 < 8 := h
    exact (congrFun (outs15_B m c ⟨n + 1, h⟩ (by dsimp only; omega)) _).trans (lossB_at m c ⟨n + 1, h⟩ _ b e)

theorem dwoB_at (c : Dev nD) (t : Fin cfg0.N) (acc : Vec Ideal S1024x1024 .f32) (k d : Fin 1024) :
    dwoB (iblk m c 0 t) (iblk m c 1 t) (iblk m c 2 t) (iblk m c 3 t) (iblk m c 4 t) (iblk m c 5 t) (iblk m c 6 t) (iblk m c 7 t) (iblk m c 8 t) (iblk m c 9 t) (iblk m c 10 t) acc (ix2 k d) = acc (ix2 k d) + ∑ l : Fin 512, dwoTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) k d (rowOf t l) := by
  unfold dwoB dwoTerm
  rw [wts_eq m c t]
  simp only [row_eq m c t]
  exact congrArg (acc (ix2 k d) + ·) (Finset.sum_congr rfl fun l _ => rfl)

/-- What the buffer holds after the last point. -/
theorem dwo_last (c : Dev nD) (k d : Fin 1024) (h7 : 7 < cfg0.N) : (outsAt0 m c 7 h7).2.2.2.2.2 (ix2 k d) = ∑ n : Fin 4096, dwoTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) k d n := by
  refine sum_all (dwoTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) k d) (fun n h => (outsAt0 m c n h).2.2.2.2.2 (ix2 k d)) (fun h => ?_) (fun n h => ?_) h7
  · refine (congrFun (outs16_A m c ⟨0, h⟩ rfl) _).trans ((dwoB_at m c ⟨0, h⟩ _ k d).trans ?_)
    refine Eq.trans (congrArg (· + _) (Ideal.ofBits_zero_f32)) ?_
    rw [zero_add]
  · have h8 : n + 1 < 8 := h
    exact (congrFun (outs16_B m c ⟨n + 1, h⟩ (by dsimp only; omega)) _).trans (dwoB_at m c ⟨n + 1, h⟩ _ k d)

/-! ## The results after the run -/

theorem yc_point (c : Dev nD) (t : Fin cfg0.N) (l : Fin 512) (e : Fin 1024) :
    (outsAt0 m c t.val t.isLt).1 (ix2 l e) = ycArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (rowOf t l) e) := by
  refine (congrFun (outs11 m c t) (ix2 l e)).trans (Eq.trans (b := Loss.yc (wts (iblk m c 2 t) (iblk m c 3 t) (iblk m c 4 t) (iblk m c 7 t) (iblk m c 9 t)) (rowB (iblk m c 0 t) (iblk m c 1 t) (iblk m c 5 t) (iblk m c 6 t) (iblk m c 8 t) (iblk m c 10 t) l) e) rfl ?_)
  rw [wts_eq m c t, row_eq m c t l]
  rfl

theorem final11 (c : Dev nD) : (dats m 0 c).arrAt 11 cfg0.N = ycArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  blk_simp
  rw [after0_11]
  have ht : t.val < 8 := t.isLt
  obtain ⟨l, e, rfl⟩ : ∃ (l : Fin 512) (e : Fin 1024), y = ix2 l e := ⟨y 0, y 1, by blk_ext []⟩
  refine (yc_point m c t l e).trans (congrArg (ycArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
  blk_ext [index11, rowOf]

theorem ya_point (c : Dev nD) (t : Fin cfg0.N) (l : Fin 512) (e : Fin 1024) :
    (outsAt0 m c t.val t.isLt).2.1 (ix2 l e) = yaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (rowOf t l) e) := by
  refine (congrFun (outs12 m c t) (ix2 l e)).trans (Eq.trans (b := Loss.ya (wts (iblk m c 2 t) (iblk m c 3 t) (iblk m c 4 t) (iblk m c 7 t) (iblk m c 9 t)) (rowB (iblk m c 0 t) (iblk m c 1 t) (iblk m c 5 t) (iblk m c 6 t) (iblk m c 8 t) (iblk m c 10 t) l) e) rfl ?_)
  rw [wts_eq m c t, row_eq m c t l]
  rfl

theorem final12 (c : Dev nD) : (dats m 0 c).arrAt 12 cfg0.N = yaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  blk_simp
  rw [after0_12]
  have ht : t.val < 8 := t.isLt
  obtain ⟨l, e, rfl⟩ : ∃ (l : Fin 512) (e : Fin 1024), y = ix2 l e := ⟨y 0, y 1, by blk_ext []⟩
  refine (ya_point m c t l e).trans (congrArg (yaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
  blk_ext [index12, rowOf]

theorem dh_point (c : Dev nD) (t : Fin cfg0.N) (l : Fin 512) (e : Fin 1024) :
    (outsAt0 m c t.val t.isLt).2.2.1 (ix2 l e) = dhArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (rowOf t l) e) := by
  refine (congrFun (outs13 m c t) (ix2 l e)).trans (Eq.trans (b := Loss.dh (wts (iblk m c 2 t) (iblk m c 3 t) (iblk m c 4 t) (iblk m c 7 t) (iblk m c 9 t)) (rowB (iblk m c 0 t) (iblk m c 1 t) (iblk m c 5 t) (iblk m c 6 t) (iblk m c 8 t) (iblk m c 10 t) l) e) rfl ?_)
  rw [wts_eq m c t, row_eq m c t l]
  rfl

theorem final13 (c : Dev nD) : (dats m 0 c).arrAt 13 cfg0.N = dhArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  rw [after0_13]
  have ht : t.val < 8 := t.isLt
  obtain ⟨l, e, rfl⟩ : ∃ (l : Fin 512) (e : Fin 1024), y = ix2 l e := ⟨y 0, y 1, by blk_ext []⟩
  refine (dh_point m c t l e).trans (congrArg (dhArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
  blk_ext [index13, rowOf]

theorem final14 (c : Dev nD) : (dats m 0 c).arrAt 14 cfg0.N = dgArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 14 t0_7 (by decide +kernel) _ (fun y => ?_)
  blk_simp
  rw [after0_14]
  obtain ⟨e, rfl⟩ : ∃ e : Fin 1024, y = ix2 0 e := ⟨y 1, by blk_ext []⟩
  refine (dg_last m c e t0_7.isLt).trans ?_
  refine Eq.trans (?_ : _ = dgArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 0 e)) (congrArg (dgArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
  · rfl
  · blk_ext [index14]

theorem final15 (c : Dev nD) : (dats m 0 c).arrAt 15 cfg0.N = lossArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 15 t0_7 (by decide +kernel) _ (fun y => ?_)
  blk_simp
  rw [after0_15]
  obtain ⟨b, e, rfl⟩ : ∃ (b : Fin 8) (e : Fin 128), y = ix2 b e := ⟨y 0, y 1, by blk_ext []⟩
  refine (loss_last m c b e t0_7.isLt).trans ?_
  refine Eq.trans (?_ : _ = lossArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 b e)) (congrArg (lossArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
  · rfl
  · blk_ext [index15]

theorem final16 (c : Dev nD) : (dats m 0 c).arrAt 16 cfg0.N = dwoArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 16 t0_7 (by decide +kernel) _ (fun y => ?_)
  blk_simp
  rw [after0_16]
  obtain ⟨k, d, rfl⟩ : ∃ (k d : Fin 1024), y = ix2 k d := ⟨y 0, y 1, by blk_ext []⟩
  refine (dwo_last m c k d t0_7.isLt).trans ?_
  refine Eq.trans (?_ : _ = dwoArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 k d)) (congrArg (dwoArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_)
  · rfl
  · blk_ext [index16]

end Cert.Kernel6Ideal.Own

end
-- ==== Proof.LossClaim.lean ====
module

public import proofs.«01_k».proof.Defs
public import proofs.«01_k».proof.Proof.LossKernel
public import proofs.«01_k».proof.Proof.Gen.Reference6Ideal.Run
public import Idealize.ShloMosaic.Lib.Quiescent

@[expose] public section

set_option maxRecDepth 16384

noncomputable section

namespace Cert.LossClaim

open Idealize.ShloMosaic Idealize.ShloMosaic.TcCoe Idealize.SL.Sem

/-! ## The claims about the call of the merge and the loss -/

/-- The reference runs, keeps its arguments, and declares no semaphore. -/
theorem frame_ref : Cert.quiescent_Reference6Ideal := fun m g _ =>
  (θ_run Cert.Reference6Ideal.defs _ _).mono (fun r h => ⟨fun c => (h c).2.2.2.2.2.2, sem_eq_zero_of_no_sems (by decide) r.2⟩)
    (Cert.Reference6Ideal.Value.run (F := Ideal) m g)

/-- A two-axis index is its coordinates. -/
theorem eta2 {a b : ℕ} (y : (⟨2, ![a, b]⟩ : Shape).Idx) : y = ix2 (y 0) (y 1) :=
  funext fun | ⟨0, _⟩ => rfl | ⟨1, _⟩ => rfl

/-- An index of one row is its column. -/
theorem eta1 {b : ℕ} (y : (⟨2, ![1, b]⟩ : Shape).Idx) : y = ix2 0 (y 1) :=
  funext fun | ⟨0, _⟩ => Subsingleton.elim (α := Fin 1) _ _ | ⟨1, _⟩ => rfl

variable (x0 x1 : Cert.Kernel6Ideal.S4096x1024.Idx → EReal) (x2 : Cert.Kernel6Ideal.S4096x10240.Idx → EReal) (x3 x4 x5 : Cert.Kernel6Ideal.S1024x1024.Idx → EReal)
  (x6 : Cert.Kernel6Ideal.S2048.Idx → EReal) (x7 : Cert.Kernel6Ideal.S4096x1024.Idx → EReal) (x8 : Cert.Kernel6Ideal.S1024.Idx → EReal) (x9 : Cert.Kernel6Ideal.S4096x1024.Idx → EReal)

/-- The convolution's branch. -/
theorem yc_eq : Cert.Reference6Ideal.Read.val_main_v107 (F := Ideal) x0 x3 = Cert.Kernel6Ideal.Own.ycArr x0 x1 x2 x3 x4 x5 x6 x7 x8 x9 := by
  funext y
  obtain ⟨n, d, rfl⟩ : ∃ (n : Fin 4096) (d : Fin 1024), y = ix2 n d := ⟨y 0, y 1, eta2 y⟩
  exact LossRef.yc_at x0 x1 x2 x3 x4 x5 x6 x7 x8 x9 n d

/-- The attention's branch. -/
theorem ya_eq : Cert.Reference6Ideal.Read.val_main_v108 (F := Ideal) x1 x2 x4 = Cert.Kernel6Ideal.Own.yaArr x0 x1 x2 x3 x4 x5 x6 x7 x8 x9 := by
  funext y
  obtain ⟨n, d, rfl⟩ : ∃ (n : Fin 4096) (d : Fin 1024), y = ix2 n d := ⟨y 0, y 1, eta2 y⟩
  exact LossRef.ya_at x0 x1 x2 x3 x4 x5 x6 x7 x8 x9 n d

/-- The gradient with respect to the residual stream. -/
theorem dh_eq : Cert.Reference6Ideal.Read.val_main_v109 (F := Ideal) x0 x1 x2 x3 x4 x5 x6 x7 x8 x9 = Cert.Kernel6Ideal.Own.dhArr x0 x1 x2 x3 x4 x5 x6 x7 x8 x9 := by
  funext y
  obtain ⟨n, d, rfl⟩ : ∃ (n : Fin 4096) (d : Fin 1024), y = ix2 n d := ⟨y 0, y 1, eta2 y⟩
  exact LossRef.dh_at x0 x1 x2 x3 x4 x5 x6 x7 x8 x9 n d

/-- The gradient with respect to the scale. -/
theorem dg_eq : Cert.Reference6Ideal.Read.val_main_v110 (F := Ideal) x0 x1 x2 x3 x4 x5 x6 x7 x8 x9 = Cert.Kernel6Ideal.Own.dgArr x0 x1 x2 x3 x4 x5 x6 x7 x8 x9 := by
  funext y
  obtain ⟨d, rfl⟩ : ∃ d : Fin 1024, y = ix2 0 d := ⟨y 1, eta1 y⟩
  exact LossRef.dg_at x0 x1 x2 x3 x4 x5 x6 x7 x8 x9 d

/-- The sums of the loss. -/
theorem loss_eq : Cert.Reference6Ideal.Read.val_main_v106 (F := Ideal) x0 x1 x2 x3 x4 x5 x6 x7 x8 x9 = Cert.Kernel6Ideal.Own.lossArr x0 x1 x2 x3 x4 x5 x6 x7 x8 x9 := by
  funext y
  obtain ⟨b, e, rfl⟩ : ∃ (b : Fin 8) (e : Fin 128), y = ix2 b e := ⟨y 0, y 1, eta2 y⟩
  exact LossRef.loss_at x0 x1 x2 x3 x4 x5 x6 x7 x8 x9 b e

/-- The gradient with respect to the weights. -/
theorem dwo_eq : Cert.Reference6Ideal.Read.val_main_v112 (F := Ideal) x0 x1 x2 x3 x4 x5 x6 x7 x8 x9 = Cert.Kernel6Ideal.Own.dwoArr x0 x1 x2 x3 x4 x5 x6 x7 x8 x9 := by
  funext y
  obtain ⟨k, d, rfl⟩ : ∃ (k d : Fin 1024), y = ix2 k d := ⟨y 0, y 1, eta2 y⟩
  exact LossRef.dwo_at x0 x1 x2 x3 x4 x5 x6 x7 x8 x9 d k

set_option maxHeartbeats 2000000 in
/-- Kernel and reference end with equal results, whatever the arguments. -/
theorem algebraic : Cert.algebraic_Kernel6Ideal_Reference6Ideal := by
  intro m g m' g' hpre hargs
  refine ⟨fun c => Cert.Kernel6Ideal.Own.ycArr (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)), fun c => Cert.Kernel6Ideal.Own.yaArr (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)), fun c => Cert.Kernel6Ideal.Own.dhArr (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)), fun c => Cert.Kernel6Ideal.Own.dgArr (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)), fun c => Cert.Kernel6Ideal.Own.lossArr (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)), fun c => Cert.Kernel6Ideal.Own.dwoArr (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)), ?_, ?_⟩
  · refine (θ_run Cert.Kernel6Ideal.defs _ _).mono (fun r h c => ?_) (Cert.Kernel6Ideal.Value.run_blocks (F := Ideal) m g)
    obtain ⟨h11, h12, h13, h14, h15, h16, h⟩ := h c
    exact ⟨h11.trans (Cert.Kernel6Ideal.Own.final11 m c), h12.trans (Cert.Kernel6Ideal.Own.final12 m c), h13.trans (Cert.Kernel6Ideal.Own.final13 m c), h14.trans (Cert.Kernel6Ideal.Own.final14 m c), h15.trans (Cert.Kernel6Ideal.Own.final15 m c), h16.trans (Cert.Kernel6Ideal.Own.final16 m c), h⟩
  · refine (θ_run Cert.Reference6Ideal.defs _ _).mono (fun r h c => ?_) (Cert.Reference6Ideal.Value.run (F := Ideal) m' g')
    obtain ⟨e107, e108, e109, e110, e106, e112, hk⟩ := h c
    obtain ⟨a0, a1, a2, a3, a4, a5, a6, a7, a8, a9⟩ := hargs c
    refine ⟨e107.trans ?_, e108.trans ?_, e109.trans ?_, e110.trans ?_, e106.trans ?_, e112.trans ?_, hk⟩
    · rw [Cert.Reference6Ideal.Read.val_main_v107_eq, a0, a3]
      exact yc_eq _ _ _ _ _ _ _ _ _ _
    · rw [Cert.Reference6Ideal.Read.val_main_v108_eq, a1, a2, a4]
      exact ya_eq _ _ _ _ _ _ _ _ _ _
    · rw [Cert.Reference6Ideal.Read.val_main_v109_eq, a0, a1, a2, a3, a4, a5, a6, a7, a8, a9]
      exact dh_eq _ _ _ _ _ _ _ _ _ _
    · rw [Cert.Reference6Ideal.Read.val_main_v110_eq, a0, a1, a2, a3, a4, a5, a6, a7, a8, a9]
      exact dg_eq _ _ _ _ _ _ _ _ _ _
    · rw [Cert.Reference6Ideal.Read.val_main_v106_eq, a0, a1, a2, a3, a4, a5, a6, a7, a8, a9]
      exact loss_eq _ _ _ _ _ _ _ _ _ _
    · rw [Cert.Reference6Ideal.Read.val_main_v112_eq, a0, a1, a2, a3, a4, a5, a6, a7, a8, a9]
      exact dwo_eq _ _ _ _ _ _ _ _ _ _

end Cert.LossClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.ConvClaim
public import proofs.«01_k».proof.Proof.DwClaim
public import proofs.«01_k».proof.Proof.InClaim
public import proofs.«01_k».proof.Proof.InClaim4
public import proofs.«01_k».proof.Proof.MergeClaim
public import proofs.«01_k».proof.Proof.LossClaim
public import Idealize.ShloMosaic.Adequacy
public import Idealize.ShloMosaic.Init

@[expose] public section

noncomputable section

namespace Cert.Proof

open Idealize.ShloMosaic Idealize.SL.Sem Cert.Kernel

/-- Every claim, under the programs' shape facts. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Own.facts, Cert.Pre_finite_merge.Own.facts,
  fun m ρ _ => Cert.Kernel.Gen.frame m ρ, fun m ρ _ => Cert.KernelIdeal.Gen.frame m ρ, fun m ρ _ => Cert.KernelIdeal.Gen.frame m ρ,
  Cert.ConvClaim.frame_ref, fun m ρ _ => Cert.ConvClaim.frame_ref m ρ trivial,
  fun m ρ _ => Cert.Kernel2.Gen.frame m ρ, fun m ρ _ => Cert.Kernel2Ideal.Gen.frame m ρ, Cert.DwClaim.frame_ref,
  fun m ρ _ => Cert.Kernel3.Gen.frame m ρ, fun m ρ _ => Cert.Kernel3Ideal.Gen.frame m ρ, Cert.InClaim.frame_ref,
  fun m ρ _ => Cert.Kernel4.Gen.frame m ρ, fun m ρ _ => Cert.Kernel4Ideal.Gen.frame m ρ, Cert.InClaim4.frame_ref,
  fun m ρ _ => Cert.Kernel5.Gen.frame m ρ, fun m ρ _ => Cert.Kernel5Ideal.Gen.frame m ρ, fun m ρ _ => Cert.Kernel5Ideal.Gen.frame m ρ,
  Cert.MergeClaim.frame_ref, fun m ρ _ => Cert.MergeClaim.frame_ref m ρ trivial,
  fun m ρ _ => Cert.Kernel6.Gen.frame m ρ, fun m ρ _ => Cert.Kernel6Ideal.Gen.frame m ρ, Cert.LossClaim.frame_ref,
  trivial, Cert.ConvClaim.algebraic, trivial, Cert.DwClaim.algebraic, trivial, Cert.InClaim.algebraic,
  trivial, Cert.InClaim4.algebraic,
  trivial, Cert.MergeClaim.algebraic, trivial, Cert.LossClaim.algebraic⟩

end Cert.Proof

end
